-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_1 [hPre_finite_1 : Cert.Pre_finite_1.Facts] (m : (ℓ : Loc Cert.KernelIdeal.nD Cert.KernelIdeal.τ Cert.KernelIdeal.sig) → Buf (Elt Ideal) ℓ) : Prop :=
  ∀ c : Dev Cert.KernelIdeal.nD,
    (Cert.Pre_finite_1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_1 [hPre_finite_1 : Cert.Pre_finite_1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_4 [hPre_finite_4 : Cert.Pre_finite_4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_4 [hPre_finite_4 : Cert.Pre_finite_4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_1 [hKernelIdeal : Cert.KernelIdeal.Facts] [hPre_finite_1 : Cert.Pre_finite_1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_1 [hReferenceIdeal : Cert.ReferenceIdeal.Facts] [hPre_finite_1 : Cert.Pre_finite_1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_4 [hKernel4Ideal : Cert.Kernel4Ideal.Facts] [hPre_finite_4 : Cert.Pre_finite_4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_4 [hReference4Ideal : Cert.Reference4Ideal.Facts] [hPre_finite_4 : Cert.Pre_finite_4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite_1 [hKernelIdeal : Cert.KernelIdeal.Facts] [hReferenceIdeal : Cert.ReferenceIdeal.Facts] [hPre_finite_1 : Cert.Pre_finite_1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v16)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)) (v5 : (c : Dev Cert.Kernel3Ideal.nD) → Buf (Elt Ideal) ((c.tc : Thread Cert.Kernel3Ideal.nD Cert.Kernel3Ideal.τ).loc Cert.Kernel3Ideal.main_v15_5)) (v6 : (c : Dev Cert.Kernel3Ideal.nD) → Buf (Elt Ideal) ((c.tc : Thread Cert.Kernel3Ideal.nD Cert.Kernel3Ideal.τ).loc Cert.Kernel3Ideal.main_v15_6)) (v7 : (c : Dev Cert.Kernel3Ideal.nD) → Buf (Elt Ideal) ((c.tc : Thread Cert.Kernel3Ideal.nD Cert.Kernel3Ideal.τ).loc Cert.Kernel3Ideal.main_v17)) (v8 : (c : Dev Cert.Kernel3Ideal.nD) → Buf (Elt Ideal) ((c.tc : Thread Cert.Kernel3Ideal.nD Cert.Kernel3Ideal.τ).loc Cert.Kernel3Ideal.main_v15_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v16) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_v15_5) = v5 c
          ∧ r.2.mem ((c.tc : Thread Cert.Kernel3Ideal.nD Cert.Kernel3Ideal.τ).loc Cert.Kernel3Ideal.main_v15_6) = v6 c
          ∧ r.2.mem ((c.tc : Thread Cert.Kernel3Ideal.nD Cert.Kernel3Ideal.τ).loc Cert.Kernel3Ideal.main_v17) = v7 c
          ∧ r.2.mem ((c.tc : Thread Cert.Kernel3Ideal.nD Cert.Kernel3Ideal.τ).loc Cert.Kernel3Ideal.main_v15_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v186) = v0 c
          ∧ r.2.mem ((c.tc : Thread Cert.Reference3Ideal.nD Cert.Reference3Ideal.τ).loc Cert.Reference3Ideal.main_v188) = v1 c
          ∧ r.2.mem ((c.tc : Thread Cert.Reference3Ideal.nD Cert.Reference3Ideal.τ).loc Cert.Reference3Ideal.main_v189) = v2 c
          ∧ r.2.mem ((c.tc : Thread Cert.Reference3Ideal.nD Cert.Reference3Ideal.τ).loc Cert.Reference3Ideal.main_v190) = v3 c
          ∧ r.2.mem ((c.tc : Thread Cert.Reference3Ideal.nD Cert.Reference3Ideal.τ).loc Cert.Reference3Ideal.main_v191) = v4 c
          ∧ r.2.mem ((c.tc : Thread Cert.Reference3Ideal.nD Cert.Reference3Ideal.τ).loc Cert.Reference3Ideal.main_v192) = v5 c
          ∧ r.2.mem ((c.tc : Thread Cert.Reference3Ideal.nD Cert.Reference3Ideal.τ).loc Cert.Reference3Ideal.main_v167) = v6 c
          ∧ r.2.mem ((c.tc : Thread Cert.Reference3Ideal.nD Cert.Reference3Ideal.τ).loc Cert.Reference3Ideal.main_v193) = v7 c
          ∧ r.2.mem ((c.tc : Thread Cert.Reference3Ideal.nD Cert.Reference3Ideal.τ).loc Cert.Reference3Ideal.main_v194) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite_4 [hKernel4Ideal : Cert.Kernel4Ideal.Facts] [hReference4Ideal : Cert.Reference4Ideal.Facts] [hPre_finite_4 : Cert.Pre_finite_4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)) (v5 : (c : Dev Cert.Kernel4Ideal.nD) → Buf (Elt Ideal) ((c.tc : Thread Cert.Kernel4Ideal.nD Cert.Kernel4Ideal.τ).loc Cert.Kernel4Ideal.main_v10_5)) (v6 : (c : Dev Cert.Kernel4Ideal.nD) → Buf (Elt Ideal) ((c.tc : Thread Cert.Kernel4Ideal.nD Cert.Kernel4Ideal.τ).loc Cert.Kernel4Ideal.main_v10_6)) (v7 : (c : Dev Cert.Kernel4Ideal.nD) → Buf (Elt Ideal) ((c.tc : Thread Cert.Kernel4Ideal.nD Cert.Kernel4Ideal.τ).loc Cert.Kernel4Ideal.main_v10_7)) (v8 : (c : Dev Cert.Kernel4Ideal.nD) → Buf (Elt Ideal) ((c.tc : Thread Cert.Kernel4Ideal.nD Cert.Kernel4Ideal.τ).loc Cert.Kernel4Ideal.main_v10_8)) (v9 : (c : Dev Cert.Kernel4Ideal.nD) → Buf (Elt Ideal) ((c.tc : Thread Cert.Kernel4Ideal.nD Cert.Kernel4Ideal.τ).loc Cert.Kernel4Ideal.main_v10_9)) (v10 : (c : Dev Cert.Kernel4Ideal.nD) → Buf (Elt Ideal) ((c.tc : Thread Cert.Kernel4Ideal.nD Cert.Kernel4Ideal.τ).loc Cert.Kernel4Ideal.main_v10_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_v10_5) = v5 c
          ∧ r.2.mem ((c.tc : Thread Cert.Kernel4Ideal.nD Cert.Kernel4Ideal.τ).loc Cert.Kernel4Ideal.main_v10_6) = v6 c
          ∧ r.2.mem ((c.tc : Thread Cert.Kernel4Ideal.nD Cert.Kernel4Ideal.τ).loc Cert.Kernel4Ideal.main_v10_7) = v7 c
          ∧ r.2.mem ((c.tc : Thread Cert.Kernel4Ideal.nD Cert.Kernel4Ideal.τ).loc Cert.Kernel4Ideal.main_v10_8) = v8 c
          ∧ r.2.mem ((c.tc : Thread Cert.Kernel4Ideal.nD Cert.Kernel4Ideal.τ).loc Cert.Kernel4Ideal.main_v10_9) = v9 c
          ∧ r.2.mem ((c.tc : Thread Cert.Kernel4Ideal.nD Cert.Kernel4Ideal.τ).loc Cert.Kernel4Ideal.main_v10_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v133) = v0 c
          ∧ r.2.mem ((c.tc : Thread Cert.Reference4Ideal.nD Cert.Reference4Ideal.τ).loc Cert.Reference4Ideal.main_v135) = v1 c
          ∧ r.2.mem ((c.tc : Thread Cert.Reference4Ideal.nD Cert.Reference4Ideal.τ).loc Cert.Reference4Ideal.main_v137) = v2 c
          ∧ r.2.mem ((c.tc : Thread Cert.Reference4Ideal.nD Cert.Reference4Ideal.τ).loc Cert.Reference4Ideal.main_v139) = v3 c
          ∧ r.2.mem ((c.tc : Thread Cert.Reference4Ideal.nD Cert.Reference4Ideal.τ).loc Cert.Reference4Ideal.main_v141) = v4 c
          ∧ r.2.mem ((c.tc : Thread Cert.Reference4Ideal.nD Cert.Reference4Ideal.τ).loc Cert.Reference4Ideal.main_v142) = v5 c
          ∧ r.2.mem ((c.tc : Thread Cert.Reference4Ideal.nD Cert.Reference4Ideal.τ).loc Cert.Reference4Ideal.main_v143) = v6 c
          ∧ r.2.mem ((c.tc : Thread Cert.Reference4Ideal.nD Cert.Reference4Ideal.τ).loc Cert.Reference4Ideal.main_v131) = v7 c
          ∧ r.2.mem ((c.tc : Thread Cert.Reference4Ideal.nD Cert.Reference4Ideal.τ).loc Cert.Reference4Ideal.main_v144) = v8 c
          ∧ r.2.mem ((c.tc : Thread Cert.Reference4Ideal.nD Cert.Reference4Ideal.τ).loc Cert.Reference4Ideal.main_v145) = v9 c
          ∧ r.2.mem ((c.tc : Thread Cert.Reference4Ideal.nD Cert.Reference4Ideal.τ).loc Cert.Reference4Ideal.main_v146) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v11)) (v3 : (c : Dev Cert.Kernel5Ideal.nD) → Buf (Elt Ideal) ((c.tc : Thread Cert.Kernel5Ideal.nD Cert.Kernel5Ideal.τ).loc Cert.Kernel5Ideal.main_v12)) (v4 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v11) = v2 c
          ∧ r.2.mem ((c.tc : Thread Cert.Kernel5Ideal.nD Cert.Kernel5Ideal.τ).loc Cert.Kernel5Ideal.main_v12) = v3 c
          ∧ r.2.mem ((c.tc : Thread Cert.Kernel5Ideal.nD Cert.Kernel5Ideal.τ).loc Cert.Kernel5Ideal.main_v13) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v143) = v0 c
          ∧ r.2.mem ((c.tc : Thread Cert.Reference5Ideal.nD Cert.Reference5Ideal.τ).loc Cert.Reference5Ideal.main_v135) = v1 c
          ∧ r.2.mem ((c.tc : Thread Cert.Reference5Ideal.nD Cert.Reference5Ideal.τ).loc Cert.Reference5Ideal.main_v146) = v2 c
          ∧ r.2.mem ((c.tc : Thread Cert.Reference5Ideal.nD Cert.Reference5Ideal.τ).loc Cert.Reference5Ideal.main_v76) = v3 c
          ∧ r.2.mem ((c.tc : Thread Cert.Reference5Ideal.nD Cert.Reference5Ideal.τ).loc Cert.Reference5Ideal.main_v69) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v82) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_1 : Cert.Pre_finite_1.Facts) (hPre_finite_4 : Cert.Pre_finite_4.Facts),
    quiescent_Kernel (hKernel := hKernel)
    ∧ quiescent_KernelIdeal (hKernelIdeal := hKernelIdeal)
    ∧ quiescent_KernelIdeal_pre_finite_1 (hKernelIdeal := hKernelIdeal) (hPre_finite_1 := hPre_finite_1)
    ∧ quiescent_ReferenceIdeal (hReferenceIdeal := hReferenceIdeal)
    ∧ quiescent_ReferenceIdeal_pre_finite_1 (hReferenceIdeal := hReferenceIdeal) (hPre_finite_1 := hPre_finite_1)
    ∧ quiescent_Kernel2 (hKernel2 := hKernel2)
    ∧ quiescent_Kernel2Ideal (hKernel2Ideal := hKernel2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_4 (hKernel4Ideal := hKernel4Ideal) (hPre_finite_4 := hPre_finite_4)
    ∧ quiescent_Reference4Ideal (hReference4Ideal := hReference4Ideal)
    ∧ quiescent_Reference4Ideal_pre_finite_4 (hReference4Ideal := hReference4Ideal) (hPre_finite_4 := hPre_finite_4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_1 (hKernelIdeal := hKernelIdeal) (hReferenceIdeal := hReferenceIdeal) (hPre_finite_1 := hPre_finite_1)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_4 (hKernel4Ideal := hKernel4Ideal) (hReference4Ideal := hReference4Ideal) (hPre_finite_4 := hPre_finite_4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_1.lean ====
abbrev S4x2048x1024 : Shape := ⟨3, ![4, 2048, 1024]⟩
abbrev S4x2048x4096 : Shape := ⟨3, ![4, 2048, 4096]⟩
abbrev S4x1024 : Shape := ⟨2, ![4, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x4096 : S_.BroadcastsInDim S4x2048x4096 (![] : Fin 0 → Fin S4x2048x4096.rank)
  reducesTo_S4x2048x4096_S_d0_1_2 : S4x2048x4096.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_

variable [Facts]

def fn_part1 {F : FTy → Type} [FloatOps F] (main_arg6 : FVec F S1x1024x4096 .f32) (main_v3 : IVec S_ 1) (main_v7 : IVec S_ 1) (main_v11 : IVec S_ 1) (main_v15 : IVec S_ 1) : IVec S_ 1 :=
  let main_v16 : FVec F S1x1024x4096 .f32 := Host.absf main_arg6
  let main_cst_6 : FVec F S_ .f32 := constant S_ .f32 0x7F800000#32
  let main_v17 : FVec F S1x1024x4096 .f32 := broadcastInDim S1x1024x4096 ![] bcast_S_S1x1024x4096 main_cst_6
  let main_v18 : IVec S1x1024x4096 1 := cmpf .olt main_v16 main_v17
  let main_c_7 : IVec S_ 1 := constantI S_ 1 1#1
  let main_v19 : IVec S_ 1 := (fun x v => Host.reduce IntOp.andi x v reducesTo_S1x1024x4096_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4x2048x1024 .f32) (main_arg1 : FVec F S4x2048x1024 .f32) (main_arg2 : FVec F S4x2048x4096 .f32) (main_arg3 : FVec F S4x1024 .f32) (main_arg4 : FVec F S4x1024 .f32) (main_arg5 : FVec F S1x1024 .f32) (main_arg6 : FVec F S1x1024x4096 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x4096 .f32 := Host.absf main_arg2
  let main_cst_0 : FVec F S_ .f32 := constant S_ .f32 0x7F800000#32
  let main_v5 : FVec F S4x2048x4096 .f32 := broadcastInDim S4x2048x4096 ![] bcast_S_S4x2048x4096 main_cst_0
  let main_v6 : IVec S4x2048x4096 1 := cmpf .olt main_v4 main_v5
  let main_c_1 : IVec S_ 1 := constantI S_ 1 1#1
  let main_v7 : IVec S_ 1 := (fun x v => Host.reduce IntOp.andi x v reducesTo_S4x2048x4096_S_d0_1_2 h_S_) main_v6 main_c_1
  let main_v8 : FVec F S4x1024 .f32 := Host.absf main_arg4
  let main_cst_2 : FVec F S_ .f32 := constant S_ .f32 0x7F800000#32
  let main_v9 : FVec F S4x1024 .f32 := broadcastInDim S4x1024 ![] bcast_S_S4x1024 main_cst_2
  let main_v10 : IVec S4x1024 1 := cmpf .olt main_v8 main_v9
  let main_c_3 : IVec S_ 1 := constantI S_ 1 1#1
  let main_v11 : IVec S_ 1 := (fun x v => Host.reduce IntOp.andi x v reducesTo_S4x1024_S_d0_1 h_S_) main_v10 main_c_3
  let main_v12 : FVec F S1x1024 .f32 := Host.absf main_arg5
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg6 main_v3 main_v7 main_v11 main_v15
-- ==== Pre_finite_4.lean ====
abbrev S4x2048x1024 : Shape := ⟨3, ![4, 2048, 1024]⟩
abbrev S4x1024 : Shape := ⟨2, ![4, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part2 {F : FTy → Type} [FloatOps F] (main_arg8 : FVec F S1x4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x4096x1024 .f32 := Host.absf main_arg8
  let main_cst_14 : FVec F S_ .f32 := constant S_ .f32 0x7F800000#32
  let main_v33 : FVec F S1x4096x1024 .f32 := broadcastInDim S1x4096x1024 ![] bcast_S_S1x4096x1024 main_cst_14
  let main_v34 : IVec S1x4096x1024 1 := cmpf .olt main_v32 main_v33
  let main_c_15 : IVec S_ 1 := constantI S_ 1 1#1
  let main_v35 : IVec S_ 1 := (fun x v => Host.reduce IntOp.andi x v reducesTo_S1x4096x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S4x1024 .f32) (main_arg5 : FVec F S1x1024 .f32) (main_arg6 : FVec F S1024 .f32) (main_arg7 : FVec F S1x1024x4096 .f32) (main_arg8 : FVec F S1x4096x1024 .f32) (main_v3 : IVec S_ 1) (main_v7 : IVec S_ 1) (main_v11 : IVec S_ 1) (main_v15 : IVec S_ 1) : IVec S_ 1 :=
  let main_v16 : FVec F S4x1024 .f32 := Host.absf main_arg4
  let main_cst_6 : FVec F S_ .f32 := constant S_ .f32 0x7F800000#32
  let main_v17 : FVec F S4x1024 .f32 := broadcastInDim S4x1024 ![] bcast_S_S4x1024 main_cst_6
  let main_v18 : IVec S4x1024 1 := cmpf .olt main_v16 main_v17
  let main_c_7 : IVec S_ 1 := constantI S_ 1 1#1
  let main_v19 : IVec S_ 1 := (fun x v => Host.reduce IntOp.andi x v reducesTo_S4x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S1x1024x4096 .f32 := Host.absf main_arg7
  let main_cst_12 : FVec F S_ .f32 := constant S_ .f32 0x7F800000#32
  let main_v29 : FVec F S1x1024x4096 .f32 := broadcastInDim S1x1024x4096 ![] bcast_S_S1x1024x4096 main_cst_12
  let main_v30 : IVec S1x1024x4096 1 := cmpf .olt main_v28 main_v29
  let main_c_13 : IVec S_ 1 := constantI S_ 1 1#1
  let main_v31 : IVec S_ 1 := (fun x v => Host.reduce IntOp.andi x v reducesTo_S1x1024x4096_S_d0_1_2 h_S_) main_v30 main_c_13
  fn_part2 (F := F) main_arg8 main_v3 main_v7 main_v11 main_v15 main_v19 main_v23 main_v27 main_v31

def fn {F : FTy → Type} [FloatOps F] (main_arg0 : FVec F S4x2048x1024 .f32) (main_arg1 : FVec F S4x2048x1024 .f32) (main_arg2 : FVec F S4x1024 .f32) (main_arg3 : FVec F S4x1024 .f32) (main_arg4 : FVec F S4x1024 .f32) (main_arg5 : FVec F S1x1024 .f32) (main_arg6 : FVec F S1024 .f32) (main_arg7 : FVec F S1x1024x4096 .f32) (main_arg8 : FVec F S1x4096x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S4x1024 .f32 := Host.absf main_arg2
  let main_cst_2 : FVec F S_ .f32 := constant S_ .f32 0x7F800000#32
  let main_v9 : FVec F S4x1024 .f32 := broadcastInDim S4x1024 ![] bcast_S_S4x1024 main_cst_2
  let main_v10 : IVec S4x1024 1 := cmpf .olt main_v8 main_v9
  let main_c_3 : IVec S_ 1 := constantI S_ 1 1#1
  let main_v11 : IVec S_ 1 := (fun x v => Host.reduce IntOp.andi x v reducesTo_S4x1024_S_d0_1 h_S_) main_v10 main_c_3
  let main_v12 : FVec F S4x1024 .f32 := Host.absf main_arg3
  let main_cst_4 : FVec F S_ .f32 := constant S_ .f32 0x7F800000#32
  let main_v13 : FVec F S4x1024 .f32 := broadcastInDim S4x1024 ![] bcast_S_S4x1024 main_cst_4
  let main_v14 : IVec S4x1024 1 := cmpf .olt main_v12 main_v13
  let main_c_5 : IVec S_ 1 := constantI S_ 1 1#1
  let main_v15 : IVec S_ 1 := (fun x v => Host.reduce IntOp.andi x v reducesTo_S4x1024_S_d0_1 h_S_) main_v14 main_c_5
  fn_part1 (F := F) main_arg4 main_arg5 main_arg6 main_arg7 main_arg8 main_v3 main_v7 main_v11 main_v15
-- ==== Kernel.lean ====
abbrev S4x2048x1024 : Shape := ⟨3, ![4, 2048, 1024]⟩
abbrev S4x2048x4096 : Shape := ⟨3, ![4, 2048, 4096]⟩
abbrev S4x1024 : Shape := ⟨2, ![4, 1024]⟩
abbrev S1x1024 : Shape := ⟨2, ![1, 1024]⟩
abbrev S1x1024x4096 : Shape := ⟨3, ![1, 1024, 4096]⟩
abbrev S8192x1024 : Shape := ⟨2, ![8192, 1024]⟩
abbrev S8192x4096 : Shape := ⟨2, ![8192, 4096]⟩
abbrev S4x1x1024 : Shape := ⟨3, ![4, 1, 1024]⟩
abbrev S1024x4096 : Shape := ⟨2, ![1024, 4096]⟩
abbrev S512x1024 : Shape := ⟨2, ![512, 1024]⟩
abbrev S512x4096 : Shape := ⟨2, ![512, 4096]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x4096, .f32⟩
  | .hbm, ⟨3, _⟩ => ⟨S4x1024, .f32⟩
  | .hbm, ⟨4, _⟩ => ⟨S4x1024, .f32⟩
  | .hbm, ⟨5, _⟩ => ⟨S1x1024, .f32⟩
  | .hbm, ⟨6, _⟩ => ⟨S1x1024x4096, .f32⟩
  | .hbm, ⟨7, _⟩ => ⟨S8192x1024, .f32⟩
  | .hbm, ⟨8, _⟩ => ⟨S8192x1024, .f32⟩
  | .hbm, ⟨9, _⟩ => ⟨S8192x4096, .f32⟩
  | .hbm, ⟨10, _⟩ => ⟨S8192x4096, .bf16⟩
  | .hbm, ⟨11, _⟩ => ⟨S4x1x1024, .f32⟩
  | .hbm, ⟨12, _⟩ => ⟨S4x1x1024, .f32⟩
  | .hbm, ⟨13, _⟩ => ⟨S1024x4096, .f32⟩
  | .hbm, ⟨14, _⟩ => ⟨S1024x4096, .bf16⟩
  | .hbm, ⟨15, _⟩ => ⟨S8192x1024, .f32⟩
  | .hbm, ⟨16, _⟩ => ⟨S8192x1024, .bf16⟩
  | .hbm, ⟨17, _⟩ => ⟨S1x1024, .f32⟩
  | .hbm, ⟨18, _⟩ => ⟨S4x1x1024, .f32⟩
  | .hbm, ⟨19, _⟩ => ⟨S4x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x4096, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x2048x1024 : Shape := ⟨3, ![4, 2048, 1024]⟩
abbrev S4x2048x4096 : Shape := ⟨3, ![4, 2048, 4096]⟩
abbrev S4x1024 : Shape := ⟨2, ![4, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x4096 : Shape := ⟨2, ![1024, 4096]⟩
abbrev S8192x1024 : Shape := ⟨2, ![8192, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x4096, .f32⟩
  | .hbm, ⟨3, _⟩ => ⟨S4x1024, .f32⟩
  | .hbm, ⟨4, _⟩ => ⟨S4x1024, .f32⟩
  | .hbm, ⟨5, _⟩ => ⟨S1x1024, .f32⟩
  | .hbm, ⟨6, _⟩ => ⟨S1x1024x4096, .f32⟩
  | .hbm, ⟨7, _⟩ => ⟨S1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x1x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S4x1x1024, .f32⟩
  | .hbm, ⟨35, _⟩ => ⟨S4x2048x1024, .f32⟩
  | .hbm, ⟨36, _⟩ => ⟨S4x2048x1024, .f32⟩
  | .hbm, ⟨37, _⟩ => ⟨S1024x4096, .f32⟩
  | .hbm, ⟨38, _⟩ => ⟨S4x2048x4096, .f32⟩
  | .hbm, ⟨39, _⟩ => ⟨S4x2048x1024, .f32⟩
  | .hbm, ⟨40, _⟩ => ⟨S_, .f32⟩
  | .hbm, ⟨41, _⟩ => ⟨S4x1024, .f32⟩
  | .hbm, ⟨42, _⟩ => ⟨S4x1x1024, .f32⟩
  | .hbm, ⟨43, _⟩ => ⟨S_, .f32⟩
  | .hbm, ⟨44, _⟩ => ⟨S4x1024, .f32⟩
  | .hbm, ⟨45, _⟩ => ⟨S4x2048x1024, .f32⟩
  | .hbm, ⟨46, _⟩ => ⟨S_, .f32⟩
  | .hbm, ⟨47, _⟩ => ⟨S4x1024, .f32⟩
  | .hbm, ⟨48, _⟩ => ⟨S4x1x1024, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x1024, .f32⟩
  | .hbm, ⟨53, _⟩ => ⟨S4x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S1024, .f32⟩
  | .hbm, ⟨61, _⟩ => ⟨S4x2048x1024, .f32⟩
  | .hbm, ⟨62, _⟩ => ⟨S_, .f32⟩
  | .hbm, ⟨63, _⟩ => ⟨S4x2048, .f32⟩
  | .hbm, ⟨64, _⟩ => ⟨S4x2048x1, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S_, .f32⟩
  | .hbm, ⟨73, _⟩ => ⟨S4x2048, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S1x1024, .f32⟩
  | .hbm, ⟨80, _⟩ => ⟨S1024, .f32⟩
  | .hbm, ⟨81, _⟩ => ⟨S4x2048x1024, .f32⟩
  | .hbm, ⟨82, _⟩ => ⟨S_, .f32⟩
  | .hbm, ⟨83, _⟩ => ⟨S4x2048, .f32⟩
  | .hbm, ⟨84, _⟩ => ⟨S4x2048x1, .f32⟩
  | .hbm, ⟨85, _⟩ => ⟨S_, .f32⟩
  | .hbm, ⟨86, _⟩ => ⟨S4x2048x1, .f32⟩
  | .hbm, ⟨87, _⟩ => ⟨S4x2048x1, .f32⟩
  | .hbm, ⟨88, _⟩ => ⟨S_, .f32⟩
  | .hbm, ⟨89, _⟩ => ⟨S4x2048x1, .f32⟩
  | .hbm, ⟨90, _⟩ => ⟨S4x2048x1, .f32⟩
  | .hbm, ⟨91, _⟩ => ⟨S4x2048x1, .f32⟩
  | .hbm, ⟨92, _⟩ => ⟨S4x2048x1024, .f32⟩
  | .hbm, ⟨93, _⟩ => ⟨S4x2048x1024, .f32⟩
  | .hbm, ⟨94, _⟩ => ⟨S1x1x1024, .f32⟩
  | .hbm, ⟨95, _⟩ => ⟨S4x2048x1024, .f32⟩
  | .hbm, ⟨96, _⟩ => ⟨S4x2048x1024, .f32⟩
  | .hbm, ⟨97, _⟩ => ⟨S4x1x1024, .f32⟩
  | .hbm, ⟨98, _⟩ => ⟨S_, .f32⟩
  | .hbm, ⟨99, _⟩ => ⟨S4x1x1024, .f32⟩
  | .hbm, ⟨100, _⟩ => ⟨S4x1x1024, .f32⟩
  | .hbm, ⟨101, _⟩ => ⟨S4x2048x1024, .f32⟩
  | .hbm, ⟨102, _⟩ => ⟨S4x2048x1024, .f32⟩
  | .hbm, ⟨103, _⟩ => ⟨S4x1x1024, .f32⟩
  | .hbm, ⟨104, _⟩ => ⟨S4x2048x1024, .f32⟩
  | .hbm, ⟨105, _⟩ => ⟨S4x2048x1024, .f32⟩
  | .hbm, ⟨106, _⟩ => ⟨S8192x1024, .f32⟩
  | .hbm, ⟨107, _⟩ => ⟨S8192x1024, .f32⟩
  | .hbm, ⟨108, _⟩ => ⟨S8192x1024, .bf16⟩
  | .hbm, ⟨109, _⟩ => ⟨S4x1x1024, .f32⟩
  | .hbm, ⟨110, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Kernel2.lean ====
abbrev S4x2048x512 : Shape := ⟨3, ![4, 2048, 512]⟩
abbrev S4x2048x4096 : Shape := ⟨3, ![4, 2048, 4096]⟩
abbrev S32x4352x128 : Shape := ⟨3, ![32, 4352, 128]⟩
abbrev S32x128x128 : Shape := ⟨3, ![32, 128, 128]⟩
abbrev S2x256x1024 : Shape := ⟨3, ![2, 256, 1024]⟩
abbrev S16x128 : Shape := ⟨2, ![16, 128]⟩
abbrev S1x512 : Shape := ⟨2, ![1, 512]⟩
abbrev S4x64x512 : Shape := ⟨3, ![4, 64, 512]⟩
abbrev S1x4352x128 : Shape := ⟨3, ![1, 4352, 128]⟩
abbrev S1x128x128 : Shape := ⟨3, ![1, 128, 128]⟩
abbrev S4352x128 : Shape := ⟨2, ![4352, 128]⟩
abbrev S128x128 : Shape := ⟨2, ![128, 128]⟩
abbrev S272x512 : Shape := ⟨2, ![272, 512]⟩
abbrev S1x64x512 : Shape := ⟨3, ![1, 64, 512]⟩
abbrev S64x512 : Shape := ⟨2, ![64, 512]⟩
abbrev S272x256 : Shape := ⟨2, ![272, 256]⟩
abbrev S1x256x1024 : Shape := ⟨3, ![1, 256, 1024]⟩
abbrev S256x1024 : Shape := ⟨2, ![256, 1024]⟩
abbrev S272x1024 : Shape := ⟨2, ![272, 1024]⟩
abbrev S272x128 : Shape := ⟨2, ![272, 128]⟩
abbrev S1x128 : Shape := ⟨2, ![1, 128]⟩
abbrev S4x128 : Shape := ⟨2, ![4, 128]⟩
abbrev S1x272x128 : Shape := ⟨3, ![1, 272, 128]⟩
abbrev S8x128 : Shape := ⟨2, ![8, 128]⟩
abbrev S34x8x128 : Shape := ⟨3, ![34, 8, 128]⟩
abbrev S1x4x128 : Shape := ⟨3, ![1, 4, 128]⟩
abbrev S512 : Shape := ⟨1, ![512]⟩
abbrev S1x256 : Shape := ⟨2, ![1, 256]⟩
abbrev S128 : Shape := ⟨1, ![128]⟩

abbrev nBuf : Space → Nat
  | .hbm => 22
  | .vmem => 39
  | .smem => 0
  | _ => 0

abbrev bufTy : (tb : Table) → Fin (tcTables nBuf tb) → BufTy
  | .hbm, ⟨0, _⟩ => ⟨S4x2048x512, .f32⟩
  | .hbm, ⟨1, _⟩ => ⟨S4x2048x4096, .bf16⟩
  | .hbm, ⟨2, _⟩ => ⟨S4x2048x4096, .bf16⟩
  | .hbm, ⟨3, _⟩ => ⟨S32x4352x128, .f32⟩
  | .hbm, ⟨4, _⟩ => ⟨S32x4352x128, .f32⟩
  | .hbm, ⟨5, _⟩ => ⟨S32x128x128, .f32⟩
  | .hbm, ⟨6, _⟩ => ⟨S32x128x128, .f32⟩
  | .hbm, ⟨7, _⟩ => ⟨S2x256x1024, .bf16⟩
  | .hbm, ⟨8, _⟩ => ⟨S2x256x1024, .bf16⟩
  | .hbm, ⟨9, _⟩ => ⟨S2x256x1024, .bf16⟩
  | .hbm, ⟨10, _⟩ => ⟨S2x256x1024, .bf16⟩
  | .hbm, ⟨11, _⟩ => ⟨S16x128, .f32⟩
  | .hbm, ⟨12, _⟩ => ⟨S16x128, .f32⟩
  | .hbm, ⟨13, _⟩ => ⟨S1x512, .f32⟩
  | .hbm, ⟨14, _⟩ => ⟨S4x2048x4096, .bf16⟩
  | .hbm, ⟨15, _⟩ => ⟨S2x256x1024, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S16x128, .f32⟩
  | .hbm, ⟨20, _⟩ => ⟨S16x128, .f32⟩
  | .hbm, ⟨21, _⟩ => ⟨S1x512, .f32⟩
  | .local _ .vmem, ⟨0, _⟩ => ⟨S4x64x512, .f32⟩
  | .local _ .vmem, ⟨1, _⟩ => ⟨S4x64x512, .f32⟩
  | .local _ .vmem, ⟨2, _⟩ => ⟨S4x64x512, .bf16⟩
  | .local _ .vmem, ⟨3, _⟩ => ⟨S4x64x512, .bf16⟩
  | .local _ .vmem, ⟨4, _⟩ => ⟨S1x4352x128, .f32⟩
  | .local _ .vmem, ⟨5, _⟩ => ⟨S1x4352x128, .f32⟩
  | .local _ .vmem, ⟨6, _⟩ => ⟨S1x4352x128, .f32⟩
  | .local _ .vmem, ⟨7, _⟩ => ⟨S1x4352x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S2x256x1024, .bf16⟩
  | .local _ .vmem, ⟨13, _⟩ => ⟨S2x256x1024, .bf16⟩
  | .local _ .vmem, ⟨14, _⟩ => ⟨S2x256x1024, .bf16⟩
  | .local _ .vmem, ⟨15, _⟩ => ⟨S2x256x1024, .bf16⟩
  | .local _ .vmem, ⟨16, _⟩ => ⟨S16x128, .f32⟩
  | .local _ .vmem, ⟨17, _⟩ => ⟨S16x128, .f32⟩
  | .local _ .vmem, ⟨18, _⟩ => ⟨S1x512, .f32⟩
  | .local _ .vmem, ⟨19, _⟩ => ⟨S4x64x512, .bf16⟩
  | .local _ .vmem, ⟨20, _⟩ => ⟨S4x64x512, .bf16⟩
  | .local _ .vmem, ⟨21, _⟩ => ⟨S2x256x1024, .f32⟩
  | .local _ .vmem, ⟨22, _⟩ => ⟨S2x256x1024, .f32⟩
  | .local _ .vmem, ⟨23, _⟩ => ⟨S2x256x1024, .f32⟩
  | .local _ .vmem, ⟨24, _⟩ => ⟨S2x256x1024, .f32⟩
  | .local _ .vmem, ⟨25, _⟩ => ⟨S16x128, .f32⟩
  | .local _ .vmem, ⟨26, _⟩ => ⟨S16x128, .f32⟩
  | .local _ .vmem, ⟨27, _⟩ => ⟨S1x512, .f32⟩
  | .local _ .vmem, ⟨28, _⟩ => ⟨S4352x128, .f32⟩
  | .local _ .vmem, ⟨29, _⟩ => ⟨S4352x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S272x512, .f32⟩
  | .local _ .vmem, ⟨35, _⟩ => ⟨S272x512, .f32⟩
  | .local _ .vmem, ⟨36, _⟩ => ⟨S272x512, .f32⟩
  | .local _ .vmem, ⟨37, _⟩ => ⟨S4352x128, .f32⟩
  | .local _ .vmem, ⟨38, _⟩ => ⟨S4352x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_131 : BitVec 32 := 0#32
  let c16_i32 : BitVec 32 := 16#32
  let v225 : BitVec 32 := Scalar.addi c0_i32_131 c16_i32
  let c1_i32 : BitVec 32 := 1#32
  ⟨c0_i32_131, v225, c1_i32⟩
def k0_off1 (k0_t1 : Fin k0_t1_loop.trips) (c0_i32_1222 : BitVec 32) (c3_i32 : BitVec 32) : Fin 2 → Nat :=
  let c15_i32 : BitVec 32 := 15#32
  let c0_i32_131 : BitVec 32 := 0#32
  let c1_i32 : BitVec 32 := 1#32
  let arg34 : BitVec 32 := Scf.iv c0_i32_131 c1_i32 k0_t1
  let v1526 : BitVec 32 := Scalar.subi c15_i32 arg34
  let c4_i32 : BitVec 32 := 4#32
  let v1527 : BitVec 32 := Scalar.muli v1526 c4_i32
  let v1528 : BitVec 32 := Scalar.addi v1527 c3_i32
  let v1532 : BitVec 32 := Scalar.addi c0_i32_1222 v1528
  let v1548 : Index := Scalar.indexCast v1532
  let c0_1235 : Index := 0#32
  ![v1548.toNat, 0]
@[reducible] def k0_t2_loop : Scf.Loop 32 :=
  let c0_i32_173 : BitVec 32 := 0#32
  let c16_i32_174 : BitVec 32 := 16#32
  let v283 : BitVec 32 := Scalar.addi c0_i32_173 c16_i32_174
  let c1_i32_175 : BitVec 32 := 1#32
  ⟨c0_i32_173, v283, c1_i32_175⟩
def k0_off2 (k0_t2 : Fin k0_t2_loop.trips) (c1088_i32 : BitVec 32) (c3_i32 : BitVec 32) : Fin 2 → Nat :=
  let c15_i32 : BitVec 32 := 15#32
  let c0_i32_173 : BitVec 32 := 0#32
  let c1_i32_175 : BitVec 32 := 1#32
  let arg34 : BitVec 32 := Scf.iv c0_i32_173 c1_i32_175 k0_t2
  let v1526 : BitVec 32 := Scalar.subi c15_i32 arg34
  let c4_i32 : BitVec 32 := 4#32
  let v1527 : BitVec 32 := Scalar.muli v1526 c4_i32
  let v1528 : BitVec 32 := Scalar.addi v1527 c3_i32
  let v1532 : BitVec 32 := Scalar.addi c1088_i32 v1528
  let v1548 : Index := Scalar.indexCast v1532
  let c0_1234 : Index := 0#32
  ![v1548.toNat, 0]
@[reducible] def k0_t3_loop : Scf.Loop 32 :=
  let c0_i32_218 : BitVec 32 := 0#32
  let c16_i32_219 : BitVec 32 := 16#32
  let v341 : BitVec 32 := Scalar.addi c0_i32_218 c16_i32_219
  let c1_i32_220 : BitVec 32 := 1#32
  ⟨c0_i32_218, v341, c1_i32_220⟩
def k0_off3 (k0_t3 : Fin k0_t3_loop.trips) (c2176_i32 : BitVec 32) (c3_i32 : BitVec 32) : Fin 2 → Nat :=
  let c15_i32 : BitVec 32 := 15#32
  let c0_i32_218 : BitVec 32 := 0#32
  let c1_i32_220 : BitVec 32 := 1#32
  let arg34 : BitVec 32 := Scf.iv c0_i32_218 c1_i32_220 k0_t3
  let v1526 : BitVec 32 := Scalar.subi c15_i32 arg34
  let c4_i32 : BitVec 32 := 4#32
  let v1527 : BitVec 32 := Scalar.muli v1526 c4_i32
  let v1528 : BitVec 32 := Scalar.addi v1527 c3_i32
  let v1532 : BitVec 32 := Scalar.addi c2176_i32 v1528
  let v1548 : Index := Scalar.indexCast v1532
  let c0_1234 : Index := 0#32
  ![v1548.toNat, 0]
@[reducible] def k0_t4_loop : Scf.Loop 32 :=
  let c0_i32_262 : BitVec 32 := 0#32
  let c16_i32_263 : BitVec 32 := 16#32
  let v399 : BitVec 32 := Scalar.addi c0_i32_262 c16_i32_263
  let c1_i32_264 : BitVec 32 := 1#32
  ⟨c0_i32_262, v399, c1_i32_264⟩
def k0_off4 (k0_t4 : Fin k0_t4_loop.trips) (c3264_i32 : BitVec 32) (c3_i32 : BitVec 32) : Fin 2 → Nat :=
  let c15_i32 : BitVec 32 := 15#32
  let c0_i32_262 : BitVec 32 := 0#32
  let c1_i32_264 : BitVec 32 := 1#32
  let arg34 : BitVec 32 := Scf.iv c0_i32_262 c1_i32_264 k0_t4
  let v1526 : BitVec 32 := Scalar.subi c15_i32 arg34
  let c4_i32 : BitVec 32 := 4#32
  let v1527 : BitVec 32 := Scalar.muli v1526 c4_i32
  let v1528 : BitVec 32 := Scalar.addi v1527 c3_i32
  let v1532 : BitVec 32 := Scalar.addi c3264_i32 v1528
  let v1548 : Index := Scalar.indexCast v1532
  let c0_1234 : Index := 0#32
  ![v1548.toNat, 0]
def k0_cond2 (i : grid0.Coords) : BitVec 1 :=
  let arg0 : BitVec 32 := BitVec.ofNat 32 (i 0).val
  let c31_i32_1218 : BitVec 32 := 31#32
  let v1523 : BitVec 1 := Scalar.cmpi .eq arg0 c31_i32_1218
  let v1524 : BitVec 32 := Scalar.extui v1523
  let c0_i32_1219 : BitVec 32 := 0#32
  let v1525 : BitVec 1 := Scalar.cmpi .ne v1524 c0_i32_1219
  v1525

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4352x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Kernel3.lean ====
abbrev S4x2048x4096 : Shape := ⟨3, ![4, 2048, 4096]⟩
abbrev S4x2048x512 : Shape := ⟨3, ![4, 2048, 512]⟩
abbrev S4x2048x1024 : Shape := ⟨3, ![4, 2048, 1024]⟩
abbrev S4x1024 : Shape := ⟨2, ![4, 1024]⟩
abbrev S1x512x512 : Shape := ⟨3, ![1, 512, 512]⟩
abbrev S1x512 : Shape := ⟨2, ![1, 512]⟩
abbrev S1x3x512 : Shape := ⟨3, ![1, 3, 512]⟩
abbrev S1x512x1024 : Shape := ⟨3, ![1, 512, 1024]⟩
abbrev S1x1024x1024 : Shape := ⟨3, ![1, 1024, 1024]⟩
abbrev S3x512 : Shape := ⟨2, ![3, 512]⟩
abbrev S_ : Shape := ⟨0, ![]⟩
abbrev S8x512 : Shape := ⟨2, ![8, 512]⟩
abbrev S8192x4096 : Shape := ⟨2, ![8192, 4096]⟩
abbrev S8192x512 : Shape := ⟨2, ![8192, 512]⟩
abbrev S8192x1024 : Shape := ⟨2, ![8192, 1024]⟩
abbrev S4x1x1024 : Shape := ⟨3, ![4, 1, 1024]⟩
abbrev S512x512 : Shape := ⟨2, ![512, 512]⟩
abbrev S512x1024 : Shape := ⟨2, ![512, 1024]⟩
abbrev S1024x1024 : Shape := ⟨2, ![1024, 1024]⟩
abbrev S16x512 : Shape := ⟨2, ![16, 512]⟩
abbrev S1x1x1024 : Shape := ⟨3, ![1, 1, 1024]⟩
abbrev S512x4096 : Shape := ⟨2, ![512, 4096]⟩
abbrev S1x1024 : Shape := ⟨2, ![1, 1024]⟩
abbrev S1024 : Shape := ⟨1, ![1024]⟩
abbrev S2x512 : Shape := ⟨2, ![2, 512]⟩
abbrev S512 : Shape := ⟨1, ![512]⟩
abbrev S8192x3584 : Shape := ⟨2, ![8192, 3584]⟩

abbrev nBuf : Space → Nat
  | .hbm => 38
  | .vmem => 39
  | .smem => 0
  | _ => 0

abbrev bufTy : (tb : Table) → Fin (tcTables nBuf tb) → BufTy
  | .hbm, ⟨0, _⟩ => ⟨S4x2048x4096, .f32⟩
  | .hbm, ⟨1, _⟩ => ⟨S4x2048x512, .f32⟩
  | .hbm, ⟨2, _⟩ => ⟨S4x2048x1024, .f32⟩
  | .hbm, ⟨3, _⟩ => ⟨S4x1024, .f32⟩
  | .hbm, ⟨4, _⟩ => ⟨S1x512x512, .f32⟩
  | .hbm, ⟨5, _⟩ => ⟨S1x512, .f32⟩
  | .hbm, ⟨6, _⟩ => ⟨S1x3x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S3x512, .f32⟩
  | .hbm, ⟨11, _⟩ => ⟨S_, .i32⟩
  | .hbm, ⟨12, _⟩ => ⟨S_, .f32⟩
  | .hbm, ⟨13, _⟩ => ⟨S8x512, .f32⟩
  | .hbm, ⟨14, _⟩ => ⟨S8192x4096, .f32⟩
  | .hbm, ⟨15, _⟩ => ⟨S8192x4096, .bf16⟩
  | .hbm, ⟨16, _⟩ => ⟨S8192x512, .f32⟩
  | .hbm, ⟨17, _⟩ => ⟨S8192x1024, .f32⟩
  | .hbm, ⟨18, _⟩ => ⟨S4x1x1024, .f32⟩
  | .hbm, ⟨19, _⟩ => ⟨S512x512, .f32⟩
  | .hbm, ⟨20, _⟩ => ⟨S512x512, .bf16⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S8192x512, .f32⟩
  | .hbm, ⟨28, _⟩ => ⟨S8192x4096, .bf16⟩
  | .hbm, ⟨29, _⟩ => ⟨S1024x1024, .f32⟩
  | .hbm, ⟨30, _⟩ => ⟨S512x1024, .f32⟩
  | .hbm, ⟨31, _⟩ => ⟨S512x1024, .f32⟩
  | .hbm, ⟨32, _⟩ => ⟨S512x512, .f32⟩
  | .hbm, ⟨33, _⟩ => ⟨S1x512, .f32⟩
  | .hbm, ⟨34, _⟩ => ⟨S8x512, .f32⟩
  | .hbm, ⟨35, _⟩ => ⟨S4x1x1024, .f32⟩
  | .hbm, ⟨36, _⟩ => ⟨S8192x3584, .bf16⟩
  | .hbm, ⟨37, _⟩ => ⟨S3x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | .local _ .vmem, ⟨18, _⟩ => ⟨S1x1x1024, .f32⟩
  | .local _ .vmem, ⟨19, _⟩ => ⟨S1x1x1024, .f32⟩
  | .local _ .vmem, ⟨20, _⟩ => ⟨S512x512, .bf16⟩
  | .local _ .vmem, ⟨21, _⟩ => ⟨S1x512, .f32⟩
  | .local _ .vmem, ⟨22, _⟩ => ⟨S8x512, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x512, .f32⟩
  | .local _ .vmem, ⟨27, _⟩ => ⟨S512x512, .f32⟩
  | .local _ .vmem, ⟨28, _⟩ => ⟨S512x4096, .bf16⟩
  | .local _ .vmem, ⟨29, _⟩ => ⟨S512x4096, .bf16⟩
  | .local _ .vmem, ⟨30, _⟩ => ⟨S1024x1024, .f32⟩
  | .local _ .vmem, ⟨31, _⟩ => ⟨S512x1024, .f32⟩
  | .local _ .vmem, ⟨32, _⟩ => ⟨S512x1024, .f32⟩
  | .local _ .vmem, ⟨33, _⟩ => ⟨S512x512, .f32⟩
  | .local _ .vmem, ⟨34, _⟩ => ⟨S1x512, .f32⟩
  | .local _ .vmem, ⟨35, _⟩ => ⟨S8x512, .f32⟩
  | .local _ .vmem, ⟨36, _⟩ => ⟨S1x1x1024, .f32⟩
  | .local _ .vmem, ⟨37, _⟩ => ⟨S1x1x1024, .f32⟩
  | .local _ .vmem, ⟨38, _⟩ => ⟨S8x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev main_v15_7 : Ref sig .tc := ⟨.hbm, 34, rfl⟩
abbrev main_v15_8 : Ref sig .tc := ⟨.hbm, 35, rfl⟩
abbrev main_v16 : Ref sig .tc := ⟨.hbm, 36, rfl⟩
abbrev main_v17 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg24_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem24_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1024x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x1x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference3Ideal.lean ====
abbrev S4x2048x4096 : Shape := ⟨3, ![4, 2048, 4096]⟩
abbrev S4x2048x512 : Shape := ⟨3, ![4, 2048, 512]⟩
abbrev S4x2048x1024 : Shape := ⟨3, ![4, 2048, 1024]⟩
abbrev S4x1024 : Shape := ⟨2, ![4, 1024]⟩
abbrev S1x512x512 : Shape := ⟨3, ![1, 512, 512]⟩
abbrev S1x512 : Shape := ⟨2, ![1, 512]⟩
abbrev S1x3x512 : Shape := ⟨3, ![1, 3, 512]⟩
abbrev S1x512x1024 : Shape := ⟨3, ![1, 512, 1024]⟩
abbrev S1x1024x1024 : Shape := ⟨3, ![1, 1024, 1024]⟩
abbrev S4x2048x3584 : Shape := ⟨3, ![4, 2048, 3584]⟩
abbrev S_ : Shape := ⟨0, ![]⟩
abbrev S512x512 : Shape := ⟨2, ![512, 512]⟩
abbrev S512 : Shape := ⟨1, ![512]⟩
abbrev S1x1x512 : Shape := ⟨3, ![1, 1, 512]⟩
abbrev S3x512 : Shape := ⟨2, ![3, 512]⟩
abbrev S4x2x512 : Shape := ⟨3, ![4, 2, 512]⟩
abbrev S4x2050x512 : Shape := ⟨3, ![4, 2050, 512]⟩
abbrev S512x1024 : Shape := ⟨2, ![512, 1024]⟩
abbrev S4x1x1024 : Shape := ⟨3, ![4, 1, 1024]⟩
abbrev S1024x1024 : Shape := ⟨2, ![1024, 1024]⟩
abbrev S1024x512 : Shape := ⟨2, ![1024, 512]⟩
abbrev S8192x512 : Shape := ⟨2, ![8192, 512]⟩
abbrev S8192x3584 : Shape := ⟨2, ![8192, 3584]⟩

abbrev nBuf : Space → Nat
  | .hbm => 242
  | .vmem => 0
  | .smem => 0
  | _ => 0

abbrev hbmTy0_0 (i : Nat) : BufTy := match i % 128 with
  | 0 => ⟨S4x2048x4096, .f32⟩
  | 1 => ⟨S4x2048x512, .f32⟩
  | 2 => ⟨S4x2048x1024, .f32⟩
  | 3 => ⟨S4x1024, .f32⟩
  | 4 => ⟨S1x512x512, .f32⟩
  | 5 => ⟨S1x512, .f32⟩
  | 6 => ⟨S1x3x512, .f32⟩
  | 7 => ⟨S1x512x1024, .f32⟩
  | 8 => ⟨S1x512x1024, .f32⟩
  | 9 => ⟨S1x1024x1024, .f32⟩
  | 10 => ⟨S4x2048x3584, .f32⟩
  | 11 => ⟨S4x2048x512, .f32⟩
  | 12 => ⟨S4x2048x512, .f32⟩
  | 13 => ⟨S4x2048x512, .f32⟩
  | 14 => ⟨S4x2048x1024, .f32⟩
  | 15 => ⟨S4x2048x1024, .f32⟩
  | 16 => ⟨S4x2048x512, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S_, .f32⟩
  | 23 => ⟨S4x2048x512, .f32⟩
  | 24 => ⟨S4x2048x512, .f32⟩
  | 25 => ⟨S4x2048x512, .f32⟩
  | 26 => ⟨S_, .f32⟩
  | 27 => ⟨S4x2048x512, .f32⟩
  | 28 => ⟨S4x2048x512, .f32⟩
  | 29 => ⟨S4x2048x512, .f32⟩
  | 30 => ⟨S_, .f32⟩
  | 31 => ⟨S4x2048x512, .f32⟩
  | 32 => ⟨S4x2048x512, .f32⟩
  | 33 => ⟨S_, .f32⟩
  | 34 => ⟨S4x2048x512, .f32⟩
  | 35 => ⟨S4x2048x512, .f32⟩
  | 36 => ⟨S4x2048x512, .f32⟩
  | 37 => ⟨S_, .f32⟩
  | 38 => ⟨S4x2048x512, .f32⟩
  | 39 => ⟨S4x2048x512, .f32⟩
  | 40 => ⟨S_, .f32⟩
  | 41 => ⟨S4x2048x512, .f32⟩
  | 42 => ⟨S4x2048x512, .f32⟩
  | 43 => ⟨S4x2048x512, .f32⟩
  | 44 => ⟨S512x512, .f32⟩
  | 45 => ⟨S4x2048x512, .f32⟩
  | 46 => ⟨S512, .f32⟩
  | 47 => ⟨S1x1x512, .f32⟩
  | 48 => ⟨S4x2048x512, .f32⟩
  | 49 => ⟨S4x2048x512, .f32⟩
  | 50 => ⟨S4x2048x512, .f32⟩
  | 51 => ⟨S4x2048x512, .f32⟩
  | 52 => ⟨S_, .f32⟩
  | 53 => ⟨S4x2048x512, .f32⟩
  | 54 => ⟨S4x2048x512, .f32⟩
  | 55 => ⟨S_, .f32⟩
  | 56 => ⟨S4x2048x512, .f32⟩
  | 57 => ⟨S4x2048x512, .f32⟩
  | 58 => ⟨S_, .f32⟩
  | 59 => ⟨S4x2048x512, .f32⟩
  | 60 => ⟨S4x2048x512, .f32⟩
  | 61 => ⟨S4x2048x512, .f32⟩
  | 62 => ⟨S4x2048x512, .f32⟩
  | 63 => ⟨S3x512, .f32⟩
  | 64 => ⟨S4x2048x512, .f32⟩
  | 65 => ⟨S_, .f32⟩
  | 66 => ⟨S4x2x512, .f32⟩
  | 67 => ⟨S4x2050x512, .f32⟩
  | 68 => ⟨S_, .f32⟩
  | 69 => ⟨S4x2x512, .f32⟩
  | 70 => ⟨S1x512, .f32⟩
  | 71 => ⟨S512, .f32⟩
  | 72 => ⟨S4x2048x512, .f32⟩
  | 73 => ⟨S1x1x512, .f32⟩
  | 74 => ⟨S4x2048x512, .f32⟩
  | 75 => ⟨S4x2048x512, .f32⟩
  | 76 => ⟨S1x512, .f32⟩
  | 77 => ⟨S512, .f32⟩
  | 78 => ⟨S4x2048x512, .f32⟩
  | 79 => ⟨S1x1x512, .f32⟩
  | 80 => ⟨S4x2048x512, .f32⟩
  | 81 => ⟨S4x2048x512, .f32⟩
  | 82 => ⟨S4x2048x512, .f32⟩
  | 83 => ⟨S1x512, .f32⟩
  | 84 => ⟨S512, .f32⟩
  | 85 => ⟨S4x2048x512, .f32⟩
  | 86 => ⟨S1x1x512, .f32⟩
  | 87 => ⟨S4x2048x512, .f32⟩
  | 88 => ⟨S4x2048x512, .f32⟩
  | 89 => ⟨S4x2048x512, .f32⟩
  | 90 => ⟨S4x2048x512, .f32⟩
  | 91 => ⟨S4x2048x1024, .f32⟩
  | 92 => ⟨S4x2048x1024, .f32⟩
  | 93 => ⟨S_, .f32⟩
  | 94 => ⟨S4x2048x1024, .f32⟩
  | 95 => ⟨S4x2048x1024, .f32⟩
  | 96 => ⟨S_, .f32⟩
  | 97 => ⟨S4x2048x1024, .f32⟩
  | 98 => ⟨S4x2048x1024, .f32⟩
  | 99 => ⟨S_, .f32⟩
  | 100 => ⟨S4x2048x1024, .f32⟩
  | 101 => ⟨S4x2048x1024, .f32⟩
  | 102 => ⟨S4x2048x1024, .f32⟩
  | 103 => ⟨S512x1024, .f32⟩
  | 104 => ⟨S4x2048x1024, .f32⟩
  | 105 => ⟨S4x2048x1024, .f32⟩
  | 106 => ⟨S4x2048x1024, .f32⟩
  | 107 => ⟨S4x2048x1024, .f32⟩
  | 108 => ⟨S_, .f32⟩
  | 109 => ⟨S4x2048x1024, .f32⟩
  | 110 => ⟨S4x2048x1024, .f32⟩
  | 111 => ⟨S_, .f32⟩
  | 112 => ⟨S4x2048x1024, .f32⟩
  | 113 => ⟨S4x2048x1024, .f32⟩
  | 114 => ⟨S_, .f32⟩
  | 115 => ⟨S4x2048x1024, .f32⟩
  | 116 => ⟨S4x2048x1024, .f32⟩
  | 117 => ⟨S4x2048x1024, .f32⟩
  | 118 => ⟨S512x1024, .f32⟩
  | 119 => ⟨S4x2048x1024, .f32⟩
  | 120 => ⟨S4x2048x1024, .f32⟩
  | 121 => ⟨S4x2048x1024, .f32⟩
  | 122 => ⟨S4x1x1024, .f32⟩
  | 123 => ⟨S1024x1024, .f32⟩
  | 124 => ⟨S4x2048x1024, .f32⟩
  | 125 => ⟨S4x2048x1024, .f32⟩
  | 126 => ⟨S4x2048x1024, .f32⟩
  | 127 => ⟨S4x2048x1024, .f32⟩
  | _ => ⟨S4x2048x4096, .f32⟩

abbrev hbmTy0_1 (i : Nat) : BufTy := match i % 128 with
  | 0 => ⟨S4x2048x1024, .f32⟩
  | 1 => ⟨S4x2048x1024, .f32⟩
  | 2 => ⟨S_, .f32⟩
  | 3 => ⟨S4x1024, .f32⟩
  | 4 => ⟨S4x1x1024, .f32⟩
  | 5 => ⟨S1024x1024, .f32⟩
  | 6 => ⟨S1024x1024, .f32⟩
  | 7 => ⟨S4x2048x1024, .f32⟩
  | 8 => ⟨S1x1024x1024, .f32⟩
  | 9 => ⟨S_, .f32⟩
  | 10 => ⟨S4x1024, .f32⟩
  | 11 => ⟨S4x2048x1024, .f32⟩
  | 12 => ⟨S4x2048x1024, .f32⟩
  | 13 => ⟨S1024x512, .f32⟩
  | 14 => ⟨S512x1024, .f32⟩
  | 15 => ⟨S4x2048x512, .f32⟩
  | 16 => ⟨S1x512x1024, .f32⟩
  | 17 => ⟨S4x2048x1024, .f32⟩
  | 18 => ⟨S4x2048x1024, .f32⟩
  | 19 => ⟨S4x2048x1024, .f32⟩
  | 20 => ⟨S1024x512, .f32⟩
  | 21 => ⟨S512x1024, .f32⟩
  | 22 => ⟨S4x2048x512, .f32⟩
  | 23 => ⟨S1x512x1024, .f32⟩
  | 24 => ⟨S4x2048x1024, .f32⟩
  | 25 => ⟨S4x2048x512, .f32⟩
  | 26 => ⟨S4x2048x512, .f32⟩
  | 27 => ⟨S4x2048x512, .f32⟩
  | 28 => ⟨S4x2048x512, .f32⟩
  | 29 => ⟨S4x2048x512, .f32⟩
  | 30 => ⟨S_, .f32⟩
  | 31 => ⟨S512, .f32⟩
  | 32 => ⟨S1x1x512, .f32⟩
  | 33 => ⟨S_, .f32⟩
  | 34 => ⟨S512, .f32⟩
  | 35 => ⟨S_, .f32⟩
  | 36 => ⟨S4x2050x512, .f32⟩
  | 37 => ⟨S1x512, .f32⟩
  | 38 => ⟨S_, .f32⟩
  | 39 => ⟨S3x512, .f32⟩
  | 40 => ⟨S4x2048x512, .f32⟩
  | 41 => ⟨S4x2048x512, .f32⟩
  | 42 => ⟨S4x2048x512, .f32⟩
  | 43 => ⟨S_, .f32⟩
  | 44 => ⟨S512, .f32⟩
  | 45 => ⟨S1x1x512, .f32⟩
  | 46 => ⟨S_, .f32⟩
  | 47 => ⟨S512, .f32⟩
  | 48 => ⟨S_, .f32⟩
  | 49 => ⟨S4x2050x512, .f32⟩
  | 50 => ⟨S4x2050x512, .f32⟩
  | 51 => ⟨S1x512, .f32⟩
  | 52 => ⟨S_, .f32⟩
  | 53 => ⟨S3x512, .f32⟩
  | 54 => ⟨S3x512, .f32⟩
  | 55 => ⟨S4x2048x512, .f32⟩
  | 56 => ⟨S4x2048x512, .f32⟩
  | 57 => ⟨S4x2048x512, .f32⟩
  | 58 => ⟨S_, .f32⟩
  | 59 => ⟨S512, .f32⟩
  | 60 => ⟨S1x1x512, .f32⟩
  | 61 => ⟨S_, .f32⟩
  | 62 => ⟨S512, .f32⟩
  | 63 => ⟨S_, .f32⟩
  | 64 => ⟨S4x2050x512, .f32⟩
  | 65 => ⟨S4x2050x512, .f32⟩
  | 66 => ⟨S1x512, .f32⟩
  | 67 => ⟨S_, .f32⟩
  | 68 => ⟨S3x512, .f32⟩
  | 69 => ⟨S3x512, .f32⟩
  | 70 => ⟨S4x2x512, .f32⟩
  | 71 => ⟨S4x2048x512, .f32⟩
  | 72 => ⟨S4x2048x512, .f32⟩
  | 73 => ⟨S4x2048x512, .f32⟩
  | 74 => ⟨S1x3x512, .f32⟩
  | 75 => ⟨S4x2048x512, .f32⟩
  | 76 => ⟨S4x2048x512, .f32⟩
  | 77 => ⟨S4x2048x512, .f32⟩
  | 78 => ⟨S_, .f32⟩
  | 79 => ⟨S512, .f32⟩
  | 80 => ⟨S1x1x512, .f32⟩
  | 81 => ⟨S_, .f32⟩
  | 82 => ⟨S512, .f32⟩
  | 83 => ⟨S1x512, .f32⟩
  | 84 => ⟨S512x512, .f32⟩
  | 85 => ⟨S512x512, .f32⟩
  | 86 => ⟨S4x2048x512, .f32⟩
  | 87 => ⟨S4x2048x512, .f32⟩
  | 88 => ⟨S1x512x512, .f32⟩
  | 89 => ⟨S4x2048x512, .f32⟩
  | 90 => ⟨S4x2048x512, .f32⟩
  | 91 => ⟨S_, .f32⟩
  | 92 => ⟨S4x2048x512, .f32⟩
  | 93 => ⟨S4x2048x512, .f32⟩
  | 94 => ⟨S4x2048x512, .f32⟩
  | 95 => ⟨S_, .f32⟩
  | 96 => ⟨S4x2048x512, .f32⟩
  | 97 => ⟨S4x2048x512, .f32⟩
  | 98 => ⟨S4x2048x512, .f32⟩
  | 99 => ⟨S_, .f32⟩
  | 100 => ⟨S4x2048x512, .f32⟩
  | 101 => ⟨S4x2048x512, .f32⟩
  | 102 => ⟨S4x2048x512, .f32⟩
  | 103 => ⟨S4x2048x512, .f32⟩
  | 104 => ⟨S4x2048x3584, .f32⟩
  | 105 => ⟨S8192x512, .f32⟩
  | 106 => ⟨S8192x3584, .f32⟩
  | 107 => ⟨S8192x3584, .bf16⟩
  | 108 => ⟨S1024x1024, .f32⟩
  | 109 => ⟨S512x1024, .f32⟩
  | 110 => ⟨S512x1024, .f32⟩
  | 111 => ⟨S512x512, .f32⟩
  | 112 => ⟨S3x512, .f32⟩
  | 113 => ⟨S4x1x1024, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_17 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_18 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_19 : Ref sig .tc := ⟨.hbm, 158, rfl⟩
abbrev main_v128 : Ref sig .tc := ⟨.hbm, 159, rfl⟩
abbrev main_v129 : Ref sig .tc := ⟨.hbm, 160, rfl⟩
abbrev main_cst_20 : Ref sig .tc := ⟨.hbm, 161, rfl⟩
abbrev main_v130 : Ref sig .tc := ⟨.hbm, 162, rfl⟩
abbrev main_cst_21 : Ref sig .tc := ⟨.hbm, 163, rfl⟩
abbrev main_v131 : Ref sig .tc := ⟨.hbm, 164, rfl⟩
abbrev main_v132 : Ref sig .tc := ⟨.hbm, 165, rfl⟩
abbrev main_cst_22 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_23 : Ref sig .tc := ⟨.hbm, 171, rfl⟩
abbrev main_v137 : Ref sig .tc := ⟨.hbm, 172, rfl⟩
abbrev main_v138 : Ref sig .tc := ⟨.hbm, 173, rfl⟩
abbrev main_cst_24 : Ref sig .tc := ⟨.hbm, 174, rfl⟩
abbrev main_v139 : Ref sig .tc := ⟨.hbm, 175, rfl⟩
abbrev main_cst_25 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_26 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_27 : Ref sig .tc := ⟨.hbm, 186, rfl⟩
abbrev main_v148 : Ref sig .tc := ⟨.hbm, 187, rfl⟩
abbrev main_v149 : Ref sig .tc := ⟨.hbm, 188, rfl⟩
abbrev main_cst_28 : Ref sig .tc := ⟨.hbm, 189, rfl⟩
abbrev main_v150 : Ref sig .tc := ⟨.hbm, 190, rfl⟩
abbrev main_cst_29 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_30 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_cst_31 : Ref sig .tc := ⟨.hbm, 206, rfl⟩
abbrev main_v164 : Ref sig .tc := ⟨.hbm, 207, rfl⟩
abbrev main_v165 : Ref sig .tc := ⟨.hbm, 208, rfl⟩
abbrev main_cst_32 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_cst_33 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_cst_34 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_35 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x1024 : Shape := ⟨2, ![4, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S8192x1024 : Shape := ⟨2, ![8192, 1024]⟩
abbrev S4x1x1024 : Shape := ⟨3, ![4, 1, 1024]⟩
abbrev S1024x4096 : Shape := ⟨2, ![1024, 4096]⟩
abbrev S4096x1024 : Shape := ⟨2, ![4096, 1024]⟩
abbrev S8192x4096 : Shape := ⟨2, ![8192, 4096]⟩
abbrev S1x1 : Shape := ⟨2, ![1, 1]⟩
abbrev S256x1024 : Shape := ⟨2, ![256, 1024]⟩
abbrev S1x1x1024 : Shape := ⟨3, ![1, 1, 1024]⟩
abbrev S256x4096 : Shape := ⟨2, ![256, 4096]⟩
abbrev S256 : Shape := ⟨1, ![256]⟩
abbrev S256x1 : Shape := ⟨2, ![256, 1]⟩
abbrev S1 : Shape := ⟨1, ![1]⟩

abbrev nBuf : Space → Nat
  | .hbm => 30
  | .vmem => 33
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S1x1024x4096, .f32⟩
  | .hbm, ⟨8, _⟩ => ⟨S1x4096x1024, .f32⟩
  | .hbm, ⟨9, _⟩ => ⟨S8192x1024, .f32⟩
  | .hbm, ⟨10, _⟩ => ⟨S8192x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S1x1024, .f32⟩
  | .hbm, ⟨15, _⟩ => ⟨S1024x4096, .f32⟩
  | .hbm, ⟨16, _⟩ => ⟨S1024x4096, .bf16⟩
  | .hbm, ⟨17, _⟩ => ⟨S4096x1024, .f32⟩
  | .hbm, ⟨18, _⟩ => ⟨S4096x1024, .bf16⟩
  | .hbm, ⟨19, _⟩ => ⟨S8192x1024, .f32⟩
  | .hbm, ⟨20, _⟩ => ⟨S8192x1024, .bf16⟩
  | .hbm, ⟨21, _⟩ => ⟨S8192x4096, .bf16⟩
  | .hbm, ⟨22, _⟩ => ⟨S8192x4096, .bf16⟩
  | .hbm, ⟨23, _⟩ => ⟨S8192x1024, .bf16⟩
  | .hbm, ⟨24, _⟩ => ⟨S1x1, .f32⟩
  | .hbm, ⟨25, _⟩ => ⟨S1x1024, .f32⟩
  | .hbm, ⟨26, _⟩ => ⟨S1x1024, .f32⟩
  | .hbm, ⟨27, _⟩ => ⟨S4x1x1024, .f32⟩
  | .hbm, ⟨28, _⟩ => ⟨S4x1x1024, .f32⟩
  | .hbm, ⟨29, _⟩ => ⟨S4x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x1024, .bf16⟩
  | .local _ .vmem, ⟨23, _⟩ => ⟨S256x1024, .bf16⟩
  | .local _ .vmem, ⟨24, _⟩ => ⟨S1x1, .f32⟩
  | .local _ .vmem, ⟨25, _⟩ => ⟨S1x1024, .f32⟩
  | .local _ .vmem, ⟨26, _⟩ => ⟨S1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x1x1024, .f32⟩
  | .local _ .vmem, ⟨32, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev main_v10_7 : Ref sig .tc := ⟨.hbm, 26, rfl⟩
abbrev main_v10_8 : Ref sig .tc := ⟨.hbm, 27, rfl⟩
abbrev main_v10_9 : Ref sig .tc := ⟨.hbm, 28, rfl⟩
abbrev main_v10_10 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_18 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S4x2048x1024 : Shape := ⟨3, ![4, 2048, 1024]⟩
abbrev S4x1024 : Shape := ⟨2, ![4, 1024]⟩
abbrev S1x1024 : Shape := ⟨2, ![1, 1024]⟩
abbrev S1024 : Shape := ⟨1, ![1024]⟩
abbrev S1x1024x4096 : Shape := ⟨3, ![1, 1024, 4096]⟩
abbrev S1x4096x1024 : Shape := ⟨3, ![1, 4096, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x4096 : Shape := ⟨2, ![1024, 4096]⟩
abbrev S4x2048x4096 : Shape := ⟨3, ![4, 2048, 4096]⟩
abbrev S4096x1024 : Shape := ⟨2, ![4096, 1024]⟩
abbrev S8192x1024 : Shape := ⟨2, ![8192, 1024]⟩
abbrev S8192x4096 : Shape := ⟨2, ![8192, 4096]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x1024, .f32⟩
  | 3 => ⟨S4x1024, .f32⟩
  | 4 => ⟨S4x1024, .f32⟩
  | 5 => ⟨S1x1024, .f32⟩
  | 6 => ⟨S1024, .f32⟩
  | 7 => ⟨S1x1024x4096, .f32⟩
  | 8 => ⟨S1x4096x1024, .f32⟩
  | 9 => ⟨S1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1024, .f32⟩
  | 26 => ⟨S4x2048x1024, .f32⟩
  | 27 => ⟨S1x1x1024, .f32⟩
  | 28 => ⟨S4x2048x1024, .f32⟩
  | 29 => ⟨S4x2048x1024, .f32⟩
  | 30 => ⟨S4x1x1024, .f32⟩
  | 31 => ⟨S_, .f32⟩
  | 32 => ⟨S4x1x1024, .f32⟩
  | 33 => ⟨S4x1x1024, .f32⟩
  | 34 => ⟨S4x2048x1024, .f32⟩
  | 35 => ⟨S4x2048x1024, .f32⟩
  | 36 => ⟨S4x1x1024, .f32⟩
  | 37 => ⟨S4x2048x1024, .f32⟩
  | 38 => ⟨S4x2048x1024, .f32⟩
  | 39 => ⟨S1024x4096, .f32⟩
  | 40 => ⟨S4x2048x4096, .f32⟩
  | 41 => ⟨S_, .f32⟩
  | 42 => ⟨S4x2048x4096, .f32⟩
  | 43 => ⟨S4x2048x4096, .f32⟩
  | 44 => ⟨S_, .f32⟩
  | 45 => ⟨S4x2048x4096, .f32⟩
  | 46 => ⟨S4x2048x4096, .i1⟩
  | 47 => ⟨S_, .f32⟩
  | 48 => ⟨S4x2048x4096, .f32⟩
  | 49 => ⟨S4x2048x4096, .f32⟩
  | 50 => ⟨S_, .f32⟩
  | 51 => ⟨S4x2048x4096, .f32⟩
  | 52 => ⟨S4x2048x4096, .f32⟩
  | 53 => ⟨S4096x1024, .f32⟩
  | 54 => ⟨S4x2048x1024, .f32⟩
  | 55 => ⟨S4x1x1024, .f32⟩
  | 56 => ⟨S4x2048x1024, .f32⟩
  | 57 => ⟨S4x2048x1024, .f32⟩
  | 58 => ⟨S4x2048x1024, .f32⟩
  | 59 => ⟨S4x2048x1024, .f32⟩
  | 60 => ⟨S_, .f32⟩
  | 61 => ⟨S4x2048, .f32⟩
  | 62 => ⟨S4x2048x1, .f32⟩
  | 63 => ⟨S_, .f32⟩
  | 64 => ⟨S4x2048x1, .f32⟩
  | 65 => ⟨S4x2048x1, .f32⟩
  | 66 => ⟨S_, .f32⟩
  | 67 => ⟨S4x2048x1, .f32⟩
  | 68 => ⟨S4x2048x1, .f32⟩
  | 69 => ⟨S4x2048x1, .f32⟩
  | 70 => ⟨S4x2048x1, .f32⟩
  | 71 => ⟨S_, .f32⟩
  | 72 => ⟨S4x2048x1, .f32⟩
  | 73 => ⟨S4x2048x1, .f32⟩
  | 74 => ⟨S4x2048x1024, .f32⟩
  | 75 => ⟨S4x2048x1024, .f32⟩
  | 76 => ⟨S1x1x1024, .f32⟩
  | 77 => ⟨S4x2048x1024, .f32⟩
  | 78 => ⟨S4x2048x1024, .f32⟩
  | 79 => ⟨S4x2048x1024, .f32⟩
  | 80 => ⟨S4x2048x1024, .f32⟩
  | 81 => ⟨S_, .f32⟩
  | 82 => ⟨S4x2048x1024, .f32⟩
  | 83 => ⟨S4x2048x1024, .f32⟩
  | 84 => ⟨S_, .f32⟩
  | 85 => ⟨S4x2048, .f32⟩
  | 86 => ⟨S_, .f32⟩
  | 87 => ⟨S4x2048, .f32⟩
  | 88 => ⟨S4x2048, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S4x2048, .f32⟩
  | 97 => ⟨S_, .f32⟩
  | 98 => ⟨S4x2048, .f32⟩
  | 99 => ⟨S4x2048, .f32⟩
  | 100 => ⟨S4x2048x1024, .f32⟩
  | 101 => ⟨S4x2048x1024, .f32⟩
  | 102 => ⟨S4x2048x1024, .f32⟩
  | 103 => ⟨S_, .f32⟩
  | 104 => ⟨S1024, .f32⟩
  | 105 => ⟨S1x1x1024, .f32⟩
  | 106 => ⟨S4x2048x1024, .f32⟩
  | 107 => ⟨S4x2048x1024, .f32⟩
  | 108 => ⟨S_, .f32⟩
  | 109 => ⟨S1024, .f32⟩
  | 110 => ⟨S4x2048x1024, .f32⟩
  | 111 => ⟨S_, .f32⟩
  | 112 => ⟨S4x2048, .f32⟩
  | 113 => ⟨S4x2048x1, .f32⟩
  | 114 => ⟨S4x2048x1024, .f32⟩
  | 115 => ⟨S4x2048x1024, .f32⟩
  | 116 => ⟨S4x2048x1, .f32⟩
  | 117 => ⟨S_, .f32⟩
  | 118 => ⟨S4x2048x1, .f32⟩
  | 119 => ⟨S4x2048x1, .f32⟩
  | 120 => ⟨S_, .f32⟩
  | 121 => ⟨S4x2048, .f32⟩
  | 122 => ⟨S4x2048x1024, .f32⟩
  | 123 => ⟨S4x2048x1024, .f32⟩
  | 124 => ⟨S4x2048x1024, .f32⟩
  | 125 => ⟨S4x2048x1024, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S_, .f32⟩
  | 3 => ⟨S4x1024, .f32⟩
  | 4 => ⟨S4x1x1024, .f32⟩
  | 5 => ⟨S_, .f32⟩
  | 6 => ⟨S4x1024, .f32⟩
  | 7 => ⟨S4x2048x4096, .f32⟩
  | 8 => ⟨S4x2048x4096, .f32⟩
  | 9 => ⟨S_, .f32⟩
  | 10 => ⟨S4x2048x4096, .f32⟩
  | 11 => ⟨S4x2048x4096, .f32⟩
  | 12 => ⟨S4x2048x1024, .f32⟩
  | 13 => ⟨S_, .f32⟩
  | 14 => ⟨S4x1024, .f32⟩
  | 15 => ⟨S4x1x1024, .f32⟩
  | 16 => ⟨S_, .f32⟩
  | 17 => ⟨S4x1024, .f32⟩
  | 18 => ⟨S4x2048x1024, .f32⟩
  | 19 => ⟨S_, .f32⟩
  | 20 => ⟨S4x1024, .f32⟩
  | 21 => ⟨S4x1x1024, .f32⟩
  | 22 => ⟨S4x2048x1024, .f32⟩
  | 23 => ⟨S4x2048x1024, .f32⟩
  | 24 => ⟨S_, .f32⟩
  | 25 => ⟨S4x1024, .f32⟩
  | 26 => ⟨S4x2048x1024, .f32⟩
  | 27 => ⟨S_, .f32⟩
  | 28 => ⟨S1024, .f32⟩
  | 29 => ⟨S1x1x1024, .f32⟩
  | 30 => ⟨S4x2048x1024, .f32⟩
  | 31 => ⟨S4x2048x1024, .f32⟩
  | 32 => ⟨S_, .f32⟩
  | 33 => ⟨S1024, .f32⟩
  | 34 => ⟨S4x2048x1024, .f32⟩
  | 35 => ⟨S_, .f32⟩
  | 36 => ⟨S4x2048, .f32⟩
  | 37 => ⟨S4x2048x1, .f32⟩
  | 38 => ⟨S4x2048x1024, .f32⟩
  | 39 => ⟨S4x2048x1024, .f32⟩
  | 40 => ⟨S4x2048x1, .f32⟩
  | 41 => ⟨S_, .f32⟩
  | 42 => ⟨S4x2048x1, .f32⟩
  | 43 => ⟨S4x2048x1, .f32⟩
  | 44 => ⟨S_, .f32⟩
  | 45 => ⟨S4x2048, .f32⟩
  | 46 => ⟨S4x2048x1024, .f32⟩
  | 47 => ⟨S4x2048x1024, .f32⟩
  | 48 => ⟨S4x2048x1024, .f32⟩
  | 49 => ⟨S4x2048x1024, .f32⟩
  | 50 => ⟨S4x2048x1024, .f32⟩
  | 51 => ⟨S1x1024, .f32⟩
  | 52 => ⟨S4x2048x1024, .f32⟩
  | 53 => ⟨S8192x1024, .f32⟩
  | 54 => ⟨S8192x1024, .f32⟩
  | 55 => ⟨S8192x1024, .bf16⟩
  | 56 => ⟨S8192x4096, .f32⟩
  | 57 => ⟨S8192x4096, .bf16⟩
  | 58 => ⟨S8192x4096, .f32⟩
  | 59 => ⟨S8192x4096, .bf16⟩
  | 60 => ⟨S8192x1024, .f32⟩
  | 61 => ⟨S8192x1024, .bf16⟩
  | 62 => ⟨S1x1, .f32⟩
  | 63 => ⟨S1x1024, .f32⟩
  | 64 => ⟨S4x1x1024, .f32⟩
  | 65 => ⟨S4x1x1024, .f32⟩
  | 66 => ⟨S4x1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_cst_16 : Ref sig .tc := ⟨.hbm, 93, rfl⟩
abbrev main_cst_17 : Ref sig .tc := ⟨.hbm, 94, rfl⟩
abbrev main_v65 : Ref sig .tc := ⟨.hbm, 95, rfl⟩
abbrev main_v66 : Ref sig .tc := ⟨.hbm, 96, rfl⟩
abbrev main_cst_18 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_19 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_20 : Ref sig .tc := ⟨.hbm, 108, rfl⟩
abbrev main_v76 : Ref sig .tc := ⟨.hbm, 109, rfl⟩
abbrev main_v77 : Ref sig .tc := ⟨.hbm, 110, rfl⟩
abbrev main_cst_21 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_22 : Ref sig .tc := ⟨.hbm, 117, rfl⟩
abbrev main_v83 : Ref sig .tc := ⟨.hbm, 118, rfl⟩
abbrev main_v84 : Ref sig .tc := ⟨.hbm, 119, rfl⟩
abbrev main_cst_23 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_24 : Ref sig .tc := ⟨.hbm, 130, rfl⟩
abbrev main_v94 : Ref sig .tc := ⟨.hbm, 131, rfl⟩
abbrev main_v95 : Ref sig .tc := ⟨.hbm, 132, rfl⟩
abbrev main_cst_25 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_26 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_27 : Ref sig .tc := ⟨.hbm, 141, rfl⟩
abbrev main_v102 : Ref sig .tc := ⟨.hbm, 142, rfl⟩
abbrev main_v103 : Ref sig .tc := ⟨.hbm, 143, rfl⟩
abbrev main_cst_28 : Ref sig .tc := ⟨.hbm, 144, rfl⟩
abbrev main_v104 : Ref sig .tc := ⟨.hbm, 145, rfl⟩
abbrev main_v105 : Ref sig .tc := ⟨.hbm, 146, rfl⟩
abbrev main_cst_29 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_30 : Ref sig .tc := ⟨.hbm, 152, rfl⟩
abbrev main_v110 : Ref sig .tc := ⟨.hbm, 153, rfl⟩
abbrev main_v111 : Ref sig .tc := ⟨.hbm, 154, rfl⟩
abbrev main_cst_31 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_32 : Ref sig .tc := ⟨.hbm, 160, rfl⟩
abbrev main_v116 : Ref sig .tc := ⟨.hbm, 161, rfl⟩
abbrev main_v117 : Ref sig .tc := ⟨.hbm, 162, rfl⟩
abbrev main_cst_33 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_34 : Ref sig .tc := ⟨.hbm, 169, rfl⟩
abbrev main_v123 : Ref sig .tc := ⟨.hbm, 170, rfl⟩
abbrev main_v124 : Ref sig .tc := ⟨.hbm, 171, rfl⟩
abbrev main_cst_35 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩

abbrev nD : Nat := 1
abbrev τ : Topo := Topo.v7x

variable {F : FTy → Type} [FloatOps F]
-- ==== Kernel5.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x64x16 : Shape := ⟨3, ![32, 64, 16]⟩
abbrev S32 : Shape := ⟨1, ![32]⟩
abbrev S32x1 : Shape := ⟨2, ![32, 1]⟩
abbrev S16x32x64 : Shape := ⟨3, ![16, 32, 64]⟩

abbrev nBuf : Space → Nat
  | .hbm => 27
  | .vmem => 14
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x64, .f32⟩
  | .hbm, ⟨10, _⟩ => ⟨S32x64, .f32⟩
  | .hbm, ⟨11, _⟩ => ⟨S32, .f32⟩
  | .hbm, ⟨12, _⟩ => ⟨S32x1, .f32⟩
  | .hbm, ⟨13, _⟩ => ⟨S32x64x16, .f32⟩
  | .hbm, ⟨14, _⟩ => ⟨S16x32x64, .f32⟩
  | .hbm, ⟨15, _⟩ => ⟨S32x64x16, .f32⟩
  | .hbm, ⟨16, _⟩ => ⟨S16x32x64, .f32⟩
  | .hbm, ⟨17, _⟩ => ⟨S16x32x64, .f32⟩
  | .hbm, ⟨18, _⟩ => ⟨S16x32x64, .f32⟩
  | .hbm, ⟨19, _⟩ => ⟨S32x64, .f32⟩
  | .hbm, ⟨20, _⟩ => ⟨S32x64, .f32⟩
  | .hbm, ⟨21, _⟩ => ⟨S32x1, .f32⟩
  | .hbm, ⟨22, _⟩ => ⟨S16x32x64, .f32⟩
  | .hbm, ⟨23, _⟩ => ⟨S16x32x64, .f32⟩
  | .hbm, ⟨24, _⟩ => ⟨S1x32, .f32⟩
  | .hbm, ⟨25, _⟩ => ⟨S32x64x16, .f32⟩
  | .hbm, ⟨26, _⟩ => ⟨S32x64x16, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S16x32x64, .f32⟩
  | .local _ .vmem, ⟨4, _⟩ => ⟨S16x32x64, .f32⟩
  | .local _ .vmem, ⟨5, _⟩ => ⟨S32x64, .f32⟩
  | .local _ .vmem, ⟨6, _⟩ => ⟨S32x64, .f32⟩
  | .local _ .vmem, ⟨7, _⟩ => ⟨S16x32x64, .f32⟩
  | .local _ .vmem, ⟨8, _⟩ => ⟨S16x32x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S16x32x64, .f32⟩
  | .local _ .vmem, ⟨13, _⟩ => ⟨S16x32x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference5Ideal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x64x16 : Shape := ⟨3, ![32, 64, 16]⟩
abbrev S32 : Shape := ⟨1, ![32]⟩
abbrev S32x1 : Shape := ⟨2, ![32, 1]⟩
abbrev S_ : Shape := ⟨0, ![]⟩
abbrev S32x64x1 : Shape := ⟨3, ![32, 64, 1]⟩

abbrev nBuf : Space → Nat
  | .hbm => 170
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S32x64, .f32⟩
  | 6 => ⟨S32x64, .f32⟩
  | 7 => ⟨S32x64x16, .f32⟩
  | 8 => ⟨S32x64x16, .f32⟩
  | 9 => ⟨S32x64, .f32⟩
  | 10 => ⟨S32x64, .f32⟩
  | 11 => ⟨S32, .f32⟩
  | 12 => ⟨S32x64x16, .f32⟩
  | 13 => ⟨S32x64x16, .f32⟩
  | 14 => ⟨S32, .f32⟩
  | 15 => ⟨S32x1, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S_, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S_, .f32⟩
  | 41 => ⟨S32x64, .f32⟩
  | 42 => ⟨S32x64, .f32⟩
  | 43 => ⟨S32x64x1, .f32⟩
  | 44 => ⟨S32x64, .f32⟩
  | 45 => ⟨S_, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S_, .f32⟩
  | 53 => ⟨S32x64, .f32⟩
  | 54 => ⟨S32x64, .f32⟩
  | 55 => ⟨S32x64x1, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S32x64x16, .f32⟩
  | 67 => ⟨S32x64x16, .f32⟩
  | 68 => ⟨S32x64x16, .f32⟩
  | 69 => ⟨S32x64x16, .f32⟩
  | 70 => ⟨S32x64x16, .f32⟩
  | 71 => ⟨S_, .f32⟩
  | 72 => ⟨S32x64, .f32⟩
  | 73 => ⟨S32x64x1, .f32⟩
  | 74 => ⟨S32x64x16, .f32⟩
  | 75 => ⟨S32x64x16, .f32⟩
  | 76 => ⟨S32x64x16, .f32⟩
  | 77 => ⟨S_, .f32⟩
  | 78 => ⟨S32x64, .f32⟩
  | 79 => ⟨S32x64x1, .f32⟩
  | 80 => ⟨S32x64x16, .f32⟩
  | 81 => ⟨S32x64x16, .f32⟩
  | 82 => ⟨S32x64x16, .f32⟩
  | 83 => ⟨S32x64x16, .f32⟩
  | 84 => ⟨S32x64x16, .f32⟩
  | 85 => ⟨S32x64x16, .f32⟩
  | 86 => ⟨S_, .f32⟩
  | 87 => ⟨S32x64, .f32⟩
  | 88 => ⟨S32x64x1, .f32⟩
  | 89 => ⟨S32x64x1, .f32⟩
  | 90 => ⟨S32x64x16, .f32⟩
  | 91 => ⟨S32x64x16, .f32⟩
  | 92 => ⟨S32x64x16, .f32⟩
  | 93 => ⟨S32x64x16, .f32⟩
  | 94 => ⟨S_, .f32⟩
  | 95 => ⟨S32x64, .f32⟩
  | 96 => ⟨S32x64x1, .f32⟩
  | 97 => ⟨S32x64x1, .f32⟩
  | 98 => ⟨S_, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S_, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S_, .f32⟩
  | 11 => ⟨S32, .f32⟩
  | 12 => ⟨S32x1, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S_, .f32⟩
  | 23 => ⟨S32, .f32⟩
  | 24 => ⟨S32x1, .f32⟩
  | 25 => ⟨S32x1, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S_, .f32⟩
  | 32 => ⟨S32, .f32⟩
  | 33 => ⟨S32x1, .f32⟩
  | 34 => ⟨S32x1, .f32⟩
  | 35 => ⟨S32x64, .f32⟩
  | 36 => ⟨S32x64, .f32⟩
  | 37 => ⟨S32x64, .f32⟩
  | 38 => ⟨S_, .f32⟩
  | 39 => ⟨S32, .f32⟩
  | 40 => ⟨S32, .f32⟩
  | 41 => ⟨S1x32, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_4 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_5 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_6 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_7 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_8 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_9 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_10 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_cst_11 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_cst_12 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩

abbrev nD : Nat := 1
abbrev τ : Topo := Topo.v7x

variable {F : FTy → Type} [FloatOps F]
-- ==== Kernel6.lean ====
abbrev S32x1024 : Shape := ⟨2, ![32, 1024]⟩
abbrev S32x1536 : Shape := ⟨2, ![32, 1536]⟩
abbrev S32x6144 : Shape := ⟨2, ![32, 6144]⟩
abbrev S1024x1536 : Shape := ⟨2, ![1024, 1536]⟩
abbrev S1x6144 : Shape := ⟨2, ![1, 6144]⟩
abbrev S6144 : Shape := ⟨1, ![6144]⟩

abbrev nBuf : Space → Nat
  | .hbm => 5
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S32x1536, .f32⟩
  | .hbm, ⟨2, _⟩ => ⟨S32x6144, .f32⟩
  | .hbm, ⟨3, _⟩ => ⟨S1024x1536, .f32⟩
  | .hbm, ⟨4, _⟩ => ⟨S1x6144, .f32⟩
  | .local _ .vmem, ⟨0, _⟩ => ⟨S32x1024, .f32⟩
  | .local _ .vmem, ⟨1, _⟩ => ⟨S32x1536, .f32⟩
  | .local _ .vmem, ⟨2, _⟩ => ⟨S32x6144, .f32⟩
  | .local _ .vmem, ⟨3, _⟩ => ⟨S1024x1536, .f32⟩
  | .local _ .vmem, ⟨4, _⟩ => ⟨S1x6144, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference6Ideal.lean ====
abbrev S32x1024 : Shape := ⟨2, ![32, 1024]⟩
abbrev S32x1536 : Shape := ⟨2, ![32, 1536]⟩
abbrev S32x6144 : Shape := ⟨2, ![32, 6144]⟩
abbrev S_ : Shape := ⟨0, ![]⟩
abbrev S1x1024x1536 : Shape := ⟨3, ![1, 1024, 1536]⟩
abbrev S1024x1536 : Shape := ⟨2, ![1024, 1536]⟩
abbrev S1536x1024 : Shape := ⟨2, ![1536, 1024]⟩
abbrev S1x6144 : Shape := ⟨2, ![1, 6144]⟩
abbrev S6144 : Shape := ⟨1, ![6144]⟩

abbrev nBuf : Space → Nat
  | .hbm => 34
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1536, .f32⟩
  | .hbm, ⟨2, _⟩ => ⟨S32x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S1x1024x1536, .f32⟩
  | .hbm, ⟨14, _⟩ => ⟨S1024x1536, .f32⟩
  | .hbm, ⟨15, _⟩ => ⟨S32x1536, .f32⟩
  | .hbm, ⟨16, _⟩ => ⟨S1536x1024, .f32⟩
  | .hbm, ⟨17, _⟩ => ⟨S1024x1536, .f32⟩
  | .hbm, ⟨18, _⟩ => ⟨S1x1024x1536, .f32⟩
  | .hbm, ⟨19, _⟩ => ⟨S_, .f32⟩
  | .hbm, ⟨20, _⟩ => ⟨S1x6144, .f32⟩
  | .hbm, ⟨21, _⟩ => ⟨S_, .f32⟩
  | .hbm, ⟨22, _⟩ => ⟨S32x6144, .f32⟩
  | .hbm, ⟨23, _⟩ => ⟨S6144, .f32⟩
  | .hbm, ⟨24, _⟩ => ⟨S1x6144, .f32⟩
  | .hbm, ⟨25, _⟩ => ⟨S32x6144, .f32⟩
  | .hbm, ⟨26, _⟩ => ⟨S32x6144, .f32⟩
  | .hbm, ⟨27, _⟩ => ⟨S_, .f32⟩
  | .hbm, ⟨28, _⟩ => ⟨S6144, .f32⟩
  | .hbm, ⟨29, _⟩ => ⟨S1x6144, .f32⟩
  | .hbm, ⟨30, _⟩ => ⟨S_, .f32⟩
  | .hbm, ⟨31, _⟩ => ⟨S6144, .f32⟩
  | .hbm, ⟨32, _⟩ => ⟨S1x6144, .f32⟩
  | .hbm, ⟨33, _⟩ => ⟨S1024x1536, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Kernel7.lean ====
abbrev S4x2048x4096 : Shape := ⟨3, ![4, 2048, 4096]⟩
abbrev S4x2048x512 : Shape := ⟨3, ![4, 2048, 512]⟩
abbrev S4x2048x1024 : Shape := ⟨3, ![4, 2048, 1024]⟩
abbrev S4x1024 : Shape := ⟨2, ![4, 1024]⟩
abbrev S1x512x512 : Shape := ⟨3, ![1, 512, 512]⟩
abbrev S1x512 : Shape := ⟨2, ![1, 512]⟩
abbrev S1x3x512 : Shape := ⟨3, ![1, 3, 512]⟩
abbrev S1x512x1024 : Shape := ⟨3, ![1, 512, 1024]⟩
abbrev S1x1024x1024 : Shape := ⟨3, ![1, 1024, 1024]⟩
abbrev S3x512 : Shape := ⟨2, ![3, 512]⟩
abbrev S_ : Shape := ⟨0, ![]⟩
abbrev S8x512 : Shape := ⟨2, ![8, 512]⟩
abbrev S8192x4096 : Shape := ⟨2, ![8192, 4096]⟩
abbrev S8192x512 : Shape := ⟨2, ![8192, 512]⟩
abbrev S8192x1024 : Shape := ⟨2, ![8192, 1024]⟩
abbrev S4x1x1024 : Shape := ⟨3, ![4, 1, 1024]⟩
abbrev S512x512 : Shape := ⟨2, ![512, 512]⟩
abbrev S512x1024 : Shape := ⟨2, ![512, 1024]⟩
abbrev S1024x1024 : Shape := ⟨2, ![1024, 1024]⟩
abbrev S16x512 : Shape := ⟨2, ![16, 512]⟩
abbrev S1x1x1024 : Shape := ⟨3, ![1, 1, 1024]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S4x2048x4096, .f32⟩
  | .hbm, ⟨1, _⟩ => ⟨S4x2048x512, .f32⟩
  | .hbm, ⟨2, _⟩ => ⟨S4x2048x1024, .f32⟩
  | .hbm, ⟨3, _⟩ => ⟨S4x1024, .f32⟩
  | .hbm, ⟨4, _⟩ => ⟨S1x512x512, .f32⟩
  | .hbm, ⟨5, _⟩ => ⟨S1x512, .f32⟩
  | .hbm, ⟨6, _⟩ => ⟨S1x3x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S3x512, .f32⟩
  | .hbm, ⟨11, _⟩ => ⟨S_, .i32⟩
  | .hbm, ⟨12, _⟩ => ⟨S_, .f32⟩
  | .hbm, ⟨13, _⟩ => ⟨S8x512, .f32⟩
  | .hbm, ⟨14, _⟩ => ⟨S8192x4096, .f32⟩
  | .hbm, ⟨15, _⟩ => ⟨S8192x4096, .bf16⟩
  | .hbm, ⟨16, _⟩ => ⟨S8192x512, .f32⟩
  | .hbm, ⟨17, _⟩ => ⟨S8192x1024, .f32⟩
  | .hbm, ⟨18, _⟩ => ⟨S4x1x1024, .f32⟩
  | .hbm, ⟨19, _⟩ => ⟨S512x512, .f32⟩
  | .hbm, ⟨20, _⟩ => ⟨S512x512, .bf16⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | .local _ .vmem, ⟨18, _⟩ => ⟨S1x1x1024, .f32⟩
  | .local _ .vmem, ⟨19, _⟩ => ⟨S1x1x1024, .f32⟩
  | .local _ .vmem, ⟨20, _⟩ => ⟨S512x512, .bf16⟩
  | .local _ .vmem, ⟨21, _⟩ => ⟨S1x512, .f32⟩
  | .local _ .vmem, ⟨22, _⟩ => ⟨S8x512, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S4x2048x4096 : Shape := ⟨3, ![4, 2048, 4096]⟩
abbrev S4x2048x512 : Shape := ⟨3, ![4, 2048, 512]⟩
abbrev S4x2048x1024 : Shape := ⟨3, ![4, 2048, 1024]⟩
abbrev S4x1024 : Shape := ⟨2, ![4, 1024]⟩
abbrev S1x512x512 : Shape := ⟨3, ![1, 512, 512]⟩
abbrev S1x512 : Shape := ⟨2, ![1, 512]⟩
abbrev S1x3x512 : Shape := ⟨3, ![1, 3, 512]⟩
abbrev S1x512x1024 : Shape := ⟨3, ![1, 512, 1024]⟩
abbrev S1x1024x1024 : Shape := ⟨3, ![1, 1024, 1024]⟩
abbrev S_ : Shape := ⟨0, ![]⟩
abbrev S512x512 : Shape := ⟨2, ![512, 512]⟩
abbrev S512 : Shape := ⟨1, ![512]⟩
abbrev S1x1x512 : Shape := ⟨3, ![1, 1, 512]⟩
abbrev S3x512 : Shape := ⟨2, ![3, 512]⟩
abbrev S4x2x512 : Shape := ⟨3, ![4, 2, 512]⟩
abbrev S4x2050x512 : Shape := ⟨3, ![4, 2050, 512]⟩
abbrev S512x1024 : Shape := ⟨2, ![512, 1024]⟩
abbrev S4x1x1024 : Shape := ⟨3, ![4, 1, 1024]⟩
abbrev S1024x1024 : Shape := ⟨2, ![1024, 1024]⟩
abbrev S8192x1024 : Shape := ⟨2, ![8192, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x512, .f32⟩
  | .hbm, ⟨2, _⟩ => ⟨S4x2048x1024, .f32⟩
  | .hbm, ⟨3, _⟩ => ⟨S4x1024, .f32⟩
  | .hbm, ⟨4, _⟩ => ⟨S1x512x512, .f32⟩
  | .hbm, ⟨5, _⟩ => ⟨S1x512, .f32⟩
  | .hbm, ⟨6, _⟩ => ⟨S1x3x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S4x2048x1024, .f32⟩
  | .hbm, ⟨15, _⟩ => ⟨S4x2048x1024, .f32⟩
  | .hbm, ⟨16, _⟩ => ⟨S4x2048x512, .f32⟩
  | .hbm, ⟨17, _⟩ => ⟨S4x2048x512, .f32⟩
  | .hbm, ⟨18, _⟩ => ⟨S_, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S_, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S_, .f32⟩
  | .hbm, ⟨27, _⟩ => ⟨S4x2048x512, .f32⟩
  | .hbm, ⟨28, _⟩ => ⟨S4x2048x512, .f32⟩
  | .hbm, ⟨29, _⟩ => ⟨S_, .f32⟩
  | .hbm, ⟨30, _⟩ => ⟨S4x2048x512, .f32⟩
  | .hbm, ⟨31, _⟩ => ⟨S4x2048x512, .f32⟩
  | .hbm, ⟨32, _⟩ => ⟨S4x2048x512, .f32⟩
  | .hbm, ⟨33, _⟩ => ⟨S512x512, .f32⟩
  | .hbm, ⟨34, _⟩ => ⟨S4x2048x512, .f32⟩
  | .hbm, ⟨35, _⟩ => ⟨S512, .f32⟩
  | .hbm, ⟨36, _⟩ => ⟨S1x1x512, .f32⟩
  | .hbm, ⟨37, _⟩ => ⟨S4x2048x512, .f32⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S_, .f32⟩
  | .hbm, ⟨42, _⟩ => ⟨S4x2048x512, .f32⟩
  | .hbm, ⟨43, _⟩ => ⟨S4x2048x512, .f32⟩
  | .hbm, ⟨44, _⟩ => ⟨S_, .f32⟩
  | .hbm, ⟨45, _⟩ => ⟨S4x2048x512, .f32⟩
  | .hbm, ⟨46, _⟩ => ⟨S4x2048x512, .f32⟩
  | .hbm, ⟨47, _⟩ => ⟨S4x2048x512, .f32⟩
  | .hbm, ⟨48, _⟩ => ⟨S3x512, .f32⟩
  | .hbm, ⟨49, _⟩ => ⟨S4x2048x512, .f32⟩
  | .hbm, ⟨50, _⟩ => ⟨S_, .f32⟩
  | .hbm, ⟨51, _⟩ => ⟨S4x2x512, .f32⟩
  | .hbm, ⟨52, _⟩ => ⟨S4x2050x512, .f32⟩
  | .hbm, ⟨53, _⟩ => ⟨S1x512, .f32⟩
  | .hbm, ⟨54, _⟩ => ⟨S512, .f32⟩
  | .hbm, ⟨55, _⟩ => ⟨S4x2048x512, .f32⟩
  | .hbm, ⟨56, _⟩ => ⟨S1x1x512, .f32⟩
  | .hbm, ⟨57, _⟩ => ⟨S4x2048x512, .f32⟩
  | .hbm, ⟨58, _⟩ => ⟨S4x2048x512, .f32⟩
  | .hbm, ⟨59, _⟩ => ⟨S1x512, .f32⟩
  | .hbm, ⟨60, _⟩ => ⟨S512, .f32⟩
  | .hbm, ⟨61, _⟩ => ⟨S4x2048x512, .f32⟩
  | .hbm, ⟨62, _⟩ => ⟨S1x1x512, .f32⟩
  | .hbm, ⟨63, _⟩ => ⟨S4x2048x512, .f32⟩
  | .hbm, ⟨64, _⟩ => ⟨S4x2048x512, .f32⟩
  | .hbm, ⟨65, _⟩ => ⟨S4x2048x512, .f32⟩
  | .hbm, ⟨66, _⟩ => ⟨S1x512, .f32⟩
  | .hbm, ⟨67, _⟩ => ⟨S512, .f32⟩
  | .hbm, ⟨68, _⟩ => ⟨S4x2048x512, .f32⟩
  | .hbm, ⟨69, _⟩ => ⟨S1x1x512, .f32⟩
  | .hbm, ⟨70, _⟩ => ⟨S4x2048x512, .f32⟩
  | .hbm, ⟨71, _⟩ => ⟨S4x2048x512, .f32⟩
  | .hbm, ⟨72, _⟩ => ⟨S4x2048x512, .f32⟩
  | .hbm, ⟨73, _⟩ => ⟨S4x2048x512, .f32⟩
  | .hbm, ⟨74, _⟩ => ⟨S4x2048x1024, .f32⟩
  | .hbm, ⟨75, _⟩ => ⟨S4x2048x1024, .f32⟩
  | .hbm, ⟨76, _⟩ => ⟨S_, .f32⟩
  | .hbm, ⟨77, _⟩ => ⟨S4x2048x1024, .f32⟩
  | .hbm, ⟨78, _⟩ => ⟨S4x2048x1024, .f32⟩
  | .hbm, ⟨79, _⟩ => ⟨S_, .f32⟩
  | .hbm, ⟨80, _⟩ => ⟨S4x2048x1024, .f32⟩
  | .hbm, ⟨81, _⟩ => ⟨S4x2048x1024, .f32⟩
  | .hbm, ⟨82, _⟩ => ⟨S512x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x1024, .f32⟩
  | .hbm, ⟨87, _⟩ => ⟨S_, .f32⟩
  | .hbm, ⟨88, _⟩ => ⟨S4x2048x1024, .f32⟩
  | .hbm, ⟨89, _⟩ => ⟨S4x2048x1024, .f32⟩
  | .hbm, ⟨90, _⟩ => ⟨S_, .f32⟩
  | .hbm, ⟨91, _⟩ => ⟨S4x2048x1024, .f32⟩
  | .hbm, ⟨92, _⟩ => ⟨S4x2048x1024, .f32⟩
  | .hbm, ⟨93, _⟩ => ⟨S512x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S4x1x1024, .f32⟩
  | .hbm, ⟨98, _⟩ => ⟨S1024x1024, .f32⟩
  | .hbm, ⟨99, _⟩ => ⟨S4x2048x1024, .f32⟩
  | .hbm, ⟨100, _⟩ => ⟨S4x2048x1024, .f32⟩
  | .hbm, ⟨101, _⟩ => ⟨S4x2048x1024, .f32⟩
  | .hbm, ⟨102, _⟩ => ⟨S4x2048x1024, .f32⟩
  | .hbm, ⟨103, _⟩ => ⟨S8192x1024, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== Kernel8.lean ====
abbrev S4x2048x1024 : Shape := ⟨3, ![4, 2048, 1024]⟩
abbrev S4x1024 : Shape := ⟨2, ![4, 1024]⟩
abbrev S1x1024 : Shape := ⟨2, ![1, 1024]⟩
abbrev S1x1024x4096 : Shape := ⟨3, ![1, 1024, 4096]⟩
abbrev S8192x1024 : Shape := ⟨2, ![8192, 1024]⟩
abbrev S4x1x1024 : Shape := ⟨3, ![4, 1, 1024]⟩
abbrev S1024x4096 : Shape := ⟨2, ![1024, 4096]⟩
abbrev S8192x4096 : Shape := ⟨2, ![8192, 4096]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x4096, .f32⟩
  | .hbm, ⟨5, _⟩ => ⟨S8192x1024, .f32⟩
  | .hbm, ⟨6, _⟩ => ⟨S4x1x1024, .f32⟩
  | .hbm, ⟨7, _⟩ => ⟨S4x1x1024, .f32⟩
  | .hbm, ⟨8, _⟩ => ⟨S1024x4096, .f32⟩
  | .hbm, ⟨9, _⟩ => ⟨S1024x4096, .bf16⟩
  | .hbm, ⟨10, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4096, .bf16⟩
  | .local _ .vmem, ⟨8, _⟩ => ⟨S1024x4096, .bf16⟩
  | .local _ .vmem, ⟨9, _⟩ => ⟨S1024x4096, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S4x2048x1024 : Shape := ⟨3, ![4, 2048, 1024]⟩
abbrev S4x1024 : Shape := ⟨2, ![4, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x4096 : Shape := ⟨2, ![1024, 4096]⟩
abbrev S4x2048x4096 : Shape := ⟨3, ![4, 2048, 4096]⟩
abbrev S8192x4096 : Shape := ⟨2, ![8192, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x4096, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x2048x1024, .f32⟩
  | .hbm, ⟨27, _⟩ => ⟨S4x2048x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S1024x4096, .f32⟩
  | .hbm, ⟨32, _⟩ => ⟨S4x2048x4096, .f32⟩
  | .hbm, ⟨33, _⟩ => ⟨S8192x4096, .f32⟩
  | .hbm, ⟨34, _⟩ => ⟨S8192x4096, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Common.lean ====
/- Facts the calls share: a finite precondition gives real arrays, the literals as reals, sums over two leading axes, and
   the derivative of the root-mean-square norm of a row in the two forms the programs compute it. -/
module

public import Idealize.ShloMosaic.Lib.Pipeline.ValueKit
public import Idealize.ShloMosaic.Lib.Pointwise
public import Idealize.ShloMosaic.Lib.ReduceAll

@[expose] public section

set_option maxRecDepth 16384

noncomputable section

open Idealize.ShloMosaic

namespace Cert.Steps

/-- A sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The infinity the finiteness tests compare with. -/
theorem ofBits_inf : Ideal.ofBits .f32 0x7F800000#32 = ⊤ := by simp [Ideal.ofBits, Ideal.ieee]

/-- `1024` -/
theorem ofBits_1024 : Ideal.ofBits .f32 0x44800000#32 = ((1024 : ℝ) : EReal) := by
  simp [Ideal.ofBits, Ideal.ieee, -EReal.coe_mul]; norm_num

/-- `-0.5` -/
theorem ofBits_neg_half : Ideal.ofBits .f32 0xBF000000#32 = ((-(1 / 2) : ℝ) : EReal) := by
  simp [Ideal.ofBits, Ideal.ieee, -EReal.coe_mul]; norm_num

/-- The float nearest `1e-6`, as the rational it is. -/
def eps : ℝ := 8796093 / 2 ^ 43

theorem eps_pos : 0 < eps := by unfold eps; norm_num

theorem ofBits_eps : Ideal.ofBits .f32 0x358637BD#32 = ((eps : ℝ) : EReal) := by
  unfold eps
  simp [Ideal.ofBits, Ideal.ieee, -EReal.coe_mul]; norm_num

/-- An extended real whose absolute value is below `⊤` is real. -/
theorem real_of_lt {x : EReal} (h : Ideal.cmp .olt (max x (-x)) (Ideal.ofBits .f32 0x7F800000#32) = 1#1) : ∃ r : ℝ, x = r := by
  rw [ofBits_inf] at h
  induction x with
  | bot => simp [Ideal.cmp] at h
  | top => simp [Ideal.cmp] at h
  | coe r => exact ⟨r, rfl⟩

/-- Every entry of an array is a real number. -/
def IsReal {s : Shape} (x : FVec Ideal s .f32) : Prop := ∃ r : s.Idx → ℝ, x = fun i => ((r i : ℝ) : EReal)

/-- The finiteness test of one array, when it is passed, makes the array real. -/
theorem exists_real {s t u : Shape} {axes : List (Fin s.rank)} [Subsingleton t.Idx] (x : FVec Ideal s .f32) (top : FVec Ideal s .f32)
    (htop : ∀ i, top i = Ideal.ofBits .f32 0x7F800000#32) (init : u.Idx → BitVec 1) (h : s.ReducesTo axes t) (hu : 0 < u.numel)
    (j : t.Idx) (e : Host.reduce IntOp.andi (cmpf .olt (Host.absf x) top) init h hu j = 1#1) :
    ∃ r : s.Idx → ℝ, x = fun i => (r i : EReal) := by
  have h1 : ∀ i, ∃ r : ℝ, x i = r := fun i => real_of_lt (by
    have := Host.reduce_andi_all _ init h hu j e i
    rw [← htop i]; exact this)
  choose r hr using h1
  exact ⟨r, funext hr⟩

/-- The bit of a conjunction of tests. -/
theorem andi_bit {s : Shape} (x y : IVec s 1) (i : s.Idx) (h : andi x y i = 1#1) : x i = 1#1 ∧ y i = 1#1 :=
  IntOp.andi_eq_one.1 h

section axes01
variable {n0 n1 n2 : Nat} {t : Shape}

/-- A host sum over the two leading axes of an array of rank 3 runs over both coordinates. -/
theorem hostReduceAdd_lead (h : (⟨3, ![n0, n1, n2]⟩ : Shape).ReducesTo [0, 1] ⟨1, ![n2]⟩) (v : (⟨3, ![n0, n1, n2]⟩ : Shape).Idx → EReal)
    (init : EReal) (k : Fin n2) :
    Ideal.hostReduceAdd h v init (ix1 k) = init + ∑ a : Fin n0, ∑ b : Fin n1, v (ix3 a b k) := by
  have key : ∀ i : (⟨3, ![n0, n1, n2]⟩ : Shape).Idx, h.drop i = ix1 k ↔ ∃ p : Fin n0 × Fin n1, (ix3 p.1 p.2 k : (⟨3, ![n0, n1, n2]⟩ : Shape).Idx) = i := by
    intro i
    constructor
    · intro e
      refine ⟨(i 0, i 1), ?_⟩
      have e0 : (h.drop i 0).val = k.val := congrArg Fin.val (congrFun e 0)
      funext a; apply Fin.ext
      match a with
      | ⟨0, _⟩ => rfl
      | ⟨1, _⟩ => rfl
      | ⟨2, _⟩ => exact e0.symm
    · rintro ⟨p, rfl⟩
      funext b; apply Fin.ext
      match b with
      | ⟨0, _⟩ => rfl
  unfold Ideal.hostReduceAdd
  refine congrArg (init + ·) ((Finset.sum_filter_eq_sum_of_fiber _ (fun p : Fin n0 × Fin n1 => (ix3 p.1 p.2 k : (⟨3, ![n0, n1, n2]⟩ : Shape).Idx))
    (fun _ _ e => Prod.ext (congrFun e 0) (congrFun e 1)) key v).trans ?_)
  simp only [Fintype.sum_prod_type]

end axes01

abbrev A3 := FVec Ideal ⟨3, ![4, 2048, 1024]⟩ .f32

/-- Row `(b, l)` of an array over the tokens. -/
def row (x : A3) (b : Fin 4) (l : Fin 2048) : Fin 1024 → EReal := fun k => x (ix3 b l k)

/-- The batch and position of a row of the flattened tokens. -/
abbrev bOf (n : Fin 8192) : Fin 4 := ⟨n.val / 2048, by omega⟩
abbrev lOf (n : Fin 8192) : Fin 2048 := ⟨n.val % 2048, by omega⟩

/-- The reciprocal root mean square of a row of 1024 numbers. -/
def rowRms (X : Fin 1024 → EReal) : EReal :=
  Ideal.rsqrt (Ideal.div (∑ k, X k * X k) (Ideal.ofBits .f32 0x44800000#32) + Ideal.ofBits .f32 0x358637BD#32)

/-- The norm's backward as the version writes it: `r (d - x r mean (d x r))`. -/
def rmsBack (X D : Fin 1024 → EReal) (j : Fin 1024) : EReal :=
  rowRms X * (D j - X j * rowRms X * Ideal.div (∑ k, D k * (X k * rowRms X)) (Ideal.ofBits .f32 0x44800000#32))

/-- The cotangent of the mean of squares, in the derivative of the reference's norm. -/
def msCot (X D : Fin 1024 → EReal) : EReal :=
  Ideal.div ((∑ k, X k * D k) * (Ideal.ofBits .f32 0xBF000000#32 *
    Ideal.div (rowRms X) (Ideal.div (∑ k, X k * X k) (Ideal.ofBits .f32 0x44800000#32) + Ideal.ofBits .f32 0x358637BD#32)))
    (Ideal.ofBits .f32 0x44800000#32)

theorem rowRms_coe (x : Fin 1024 → ℝ) :
    rowRms (fun k => (x k : EReal)) = (((Real.sqrt ((∑ k, x k * x k) / 1024 + eps))⁻¹ : ℝ) : EReal) := by
  unfold rowRms
  have hp : 0 < (∑ k, x k * x k) * (1 / 1024) + eps :=
    add_pos_of_nonneg_of_pos (mul_nonneg (Finset.sum_nonneg fun k _ => mul_self_nonneg _) (by norm_num)) eps_pos
  simp only [ofBits_1024, ofBits_eps, ← EReal.coe_mul, ← coe_sum, Ideal.div_coe (show (1024 : ℝ) ≠ 0 by norm_num), ← EReal.coe_add,
    Ideal.rsqrt_coe, if_neg (not_lt.2 hp.le), if_neg hp.ne']
  congr 4; ring

/-- For real rows the version's form and the derivative of the norm are the same number. -/
theorem rmsBack_eq (x d : Fin 1024 → ℝ) (j : Fin 1024) :
    rmsBack (fun k => (x k : EReal)) (fun k => (d k : EReal)) j
      = (d j : EReal) * rowRms (fun k => (x k : EReal)) + (x j : EReal) * msCot (fun k => (x k : EReal)) (fun k => (d k : EReal))
        + msCot (fun k => (x k : EReal)) (fun k => (d k : EReal)) * (x j : EReal) := by
  have hp : 0 < (∑ k, x k * x k) * (1 / 1024) + eps :=
    add_pos_of_nonneg_of_pos (mul_nonneg (Finset.sum_nonneg fun k _ => mul_self_nonneg _) (by norm_num)) eps_pos
  unfold rmsBack msCot
  rw [rowRms_coe]
  simp only [ofBits_1024, ofBits_eps, ofBits_neg_half, ← EReal.coe_mul, ← coe_sum, Ideal.div_coe (show (1024 : ℝ) ≠ 0 by norm_num),
    ← EReal.coe_add, Ideal.div_coe hp.ne', ← EReal.coe_sub]
  congr 1
  set M := (∑ k, x k * x k) * (1 / 1024) + eps with hM
  have e1 : (∑ k, x k * x k) / 1024 + eps = M := by rw [hM]; ring
  rw [e1]
  have hs : (Real.sqrt M)⁻¹ * (Real.sqrt M)⁻¹ = 1 / M := by
    rw [← mul_inv, Real.mul_self_sqrt hp.le, one_div]
  set r := (Real.sqrt M)⁻¹
  have e2 : ∑ k, d k * (x k * r) = (∑ k, x k * d k) * r := by
    rw [Finset.sum_mul]; exact Finset.sum_congr rfl fun k _ => by ring
  rw [e2, ← hs]
  ring

end Cert.Steps

end
-- ==== Proof.InprojKernel.lean ====
/- Call 1, the version's side: each result array of the call, read at an index, as a function of the arguments. -/
module

public import proofs.«01_k».proof.Proof.Gen.KernelIdeal.Value
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Steps

/-- The cotangent of the modulated norm: the product with the projection's transpose. -/
def dH (gp : FVec Ideal ⟨3, ![4, 2048, 4096]⟩ .f32) (w : FVec Ideal ⟨3, ![1, 1024, 4096]⟩ .f32) (b : Fin 4) (l : Fin 2048) :
    Fin 1024 → EReal := fun k => ∑ j, gp (ix3 b l j) * w (ix3 0 k j)

/-- The cotangent of the normalised row. -/
def dXh (gp : FVec Ideal ⟨3, ![4, 2048, 4096]⟩ .f32) (sc : FVec Ideal ⟨2, ![4, 1024]⟩ .f32) (g : FVec Ideal ⟨2, ![1, 1024]⟩ .f32)
    (w : FVec Ideal ⟨3, ![1, 1024, 4096]⟩ .f32) (b : Fin 4) (l : Fin 2048) : Fin 1024 → EReal :=
  fun k => dH gp w b l k * (1 + sc (ix2 b k)) * g (ix2 0 k)

end Cert.Steps

namespace Cert.KernelIdeal.Val

open Cert.KernelIdeal Cert.KernelIdeal.Gen Cert.Steps

variable (m : (ℓ : Loc nD τ sig) → Buf (Elt Ideal) ℓ)

abbrev aX (c : Dev nD) : A3 := m ((c : Thread nD τ).loc main_arg0)
abbrev aG (c : Dev nD) : A3 := m ((c : Thread nD τ).loc main_arg1)
abbrev aP (c : Dev nD) : FVec Ideal ⟨3, ![4, 2048, 4096]⟩ .f32 := m ((c : Thread nD τ).loc main_arg2)
abbrev aSh (c : Dev nD) : FVec Ideal ⟨2, ![4, 1024]⟩ .f32 := m ((c : Thread nD τ).loc main_arg3)
abbrev aSc (c : Dev nD) : FVec Ideal ⟨2, ![4, 1024]⟩ .f32 := m ((c : Thread nD τ).loc main_arg4)
abbrev aN (c : Dev nD) : FVec Ideal ⟨2, ![1, 1024]⟩ .f32 := m ((c : Thread nD τ).loc main_arg5)
abbrev aW (c : Dev nD) : FVec Ideal ⟨3, ![1, 1024, 4096]⟩ .f32 := m ((c : Thread nD τ).loc main_arg6)

theorem e0 (c : Dev nD) (i : S8192x1024.Idx) (b : Fin 4) (l : Fin 2048) (k : Fin 1024) (h0 : (i 0).val = b.val * 2048 + l.val)
    (h1 : (i 1).val = k.val) : V m c main_v0 i = aX m c (ix3 b l k) := by
  entry_read; pointwise []; refine congrArg _ ?_; blk_ext []
theorem e1 (c : Dev nD) (i : S8192x1024.Idx) (b : Fin 4) (l : Fin 2048) (k : Fin 1024) (h0 : (i 0).val = b.val * 2048 + l.val)
    (h1 : (i 1).val = k.val) : V m c main_v1 i = aG m c (ix3 b l k) := by
  entry_read; pointwise []; refine congrArg _ ?_; blk_ext []
theorem e3 (c : Dev nD) (i : S8192x4096.Idx) (b : Fin 4) (l : Fin 2048) (k : Fin 4096) (h0 : (i 0).val = b.val * 2048 + l.val)
    (h1 : (i 1).val = k.val) : V m c main_v3 i = aP m c (ix3 b l k) := by
  entry_read; pointwise []; refine congrArg _ ?_; blk_ext []
theorem e4 (c : Dev nD) (i : S4x1x1024.Idx) : V m c main_v4 i = aSh m c (ix2 (i 0) (i 2)) := by
  entry_read; pointwise []
theorem e5 (c : Dev nD) (i : S4x1x1024.Idx) : V m c main_v5 i = aSc m c (ix2 (i 0) (i 2)) := by
  entry_read; pointwise []
theorem e7 (c : Dev nD) (i : S1024x4096.Idx) : V m c main_v7 i = aW m c (ix3 0 (i 0) (i 1)) := by
  entry_read; pointwise []

theorem idx : ∀ t : Fin cfg0.N, win0_0.index t = ![t.val, 0] ∧ win0_1.index t = ![t.val, 0] ∧ win0_2.index t = ![t.val, 0]
    ∧ win0_3.index t = ![t.val / 4, 0, 0] ∧ win0_4.index t = ![t.val / 4, 0, 0] ∧ win0_5.index t = ![0, 0] ∧ win0_6.index t = ![0, 0]
    ∧ win0_7.index t = ![t.val, 0] ∧ win0_8.index t = ![t.val, 0] ∧ win0_9.index t = ![0, 0] ∧ win0_10.index t = ![t.val / 4, 0, 0]
    ∧ win0_11.index t = ![t.val / 4, 0, 0] ∧ t.val < 16 :=
  (by decide +kernel : ∀ t : Fin grid0.N, _)

/-- The batch and position of row `r` of the block of grid point `t`. -/
abbrev bAt (t : Fin cfg0.N) (r : Fin 512) : Fin 4 := ⟨(t.val * 512 + r.val) / 2048, by have := (idx t).2.2.2.2.2.2.2.2.2.2.2.2; omega⟩
abbrev lAt (t : Fin cfg0.N) (r : Fin 512) : Fin 2048 := ⟨(t.val * 512 + r.val) % 2048, by omega⟩

theorem ib0 (c : Dev nD) (t : Fin cfg0.N) (r : Fin 512) (k : Fin 1024) :
    iblk m c 0 t (ix2 r k) = row (aX m c) (bAt t r) (lAt t r) k := by
  blk_simp [iblk]; rw [e0 m c _ (bAt t r) (lAt t r) k (by blk_simp [idx t]; show _ = (t.val * 512 + r.val) / 2048 * 2048 + (t.val * 512 + r.val) % 2048; omega) (by blk_simp [idx t])]; rfl
theorem ib1 (c : Dev nD) (t : Fin cfg0.N) (r : Fin 512) (k : Fin 1024) :
    iblk m c 1 t (ix2 r k) = aG m c (ix3 (bAt t r) (lAt t r) k) := by
  blk_simp [iblk]; exact e1 m c _ (bAt t r) (lAt t r) k (by blk_simp [idx t]; show _ = (t.val * 512 + r.val) / 2048 * 2048 + (t.val * 512 + r.val) % 2048; omega) (by blk_simp [idx t])
theorem ib2 (c : Dev nD) (t : Fin cfg0.N) (r : Fin 512) (k : Fin 4096) :
    iblk m c 2 t (ix2 r k) = aP m c (ix3 (bAt t r) (lAt t r) k) := by
  blk_simp [iblk]; exact e3 m c _ (bAt t r) (lAt t r) k (by blk_simp [idx t]; show _ = (t.val * 512 + r.val) / 2048 * 2048 + (t.val * 512 + r.val) % 2048; omega) (by blk_simp [idx t])
theorem ib3 (c : Dev nD) (t : Fin cfg0.N) (r : Fin 512) (a b : Fin 1) (k : Fin 1024) :
    iblk m c 3 t (ix3 a b k) = aSh m c (ix2 (bAt t r) k) := by
  blk_simp [iblk]; rw [e4]; blk_ext [idx t]
theorem ib4 (c : Dev nD) (t : Fin cfg0.N) (r : Fin 512) (a b : Fin 1) (k : Fin 1024) :
    iblk m c 4 t (ix3 a b k) = aSc m c (ix2 (bAt t r) k) := by
  blk_simp [iblk]; rw [e5]; blk_ext [idx t]
theorem ib5 (c : Dev nD) (t : Fin cfg0.N) (a : Fin 1) (k : Fin 1024) :
    iblk m c 5 t (ix2 a k) = aN m c (ix2 0 k) := by
  blk_ext [iblk, V, idx t]
theorem ib6 (c : Dev nD) (t : Fin cfg0.N) (k : Fin 1024) (j : Fin 4096) :
    iblk m c 6 t (ix2 k j) = aW m c (ix3 0 k j) := by
  blk_simp [iblk]; rw [e7]; blk_ext [idx t]

/-- The four fields a grid point's body computes from its blocks: a row's entry of the flattened results. -/
def gxAt (c : Dev nD) (b : Fin 4) (l : Fin 2048) (k : Fin 1024) : EReal :=
  aG m c (ix3 b l k) + rmsBack (row (aX m c) b l) (dXh (aP m c) (aSc m c) (aN m c) (aW m c) b l) k
def hAt (c : Dev nD) (b : Fin 4) (l : Fin 2048) (k : Fin 1024) : EReal :=
  row (aX m c) b l k * rowRms (row (aX m c) b l) * aN m c (ix2 0 k) * (1 + aSc m c (ix2 b k)) + aSh m c (ix2 b k)
def dscAt (c : Dev nD) (b : Fin 4) (l : Fin 2048) (k : Fin 1024) : EReal :=
  dH (aP m c) (aW m c) b l k * (row (aX m c) b l k * rowRms (row (aX m c) b l) * aN m c (ix2 0 k))
def dnAt (c : Dev nD) (b : Fin 4) (l : Fin 2048) (k : Fin 1024) : EReal :=
  dH (aP m c) (aW m c) b l k * (1 + aSc m c (ix2 b k)) * (row (aX m c) b l k * rowRms (row (aX m c) b l))

theorem p7 (c : Dev nD) (t : Fin cfg0.N) (r : Fin 512) (k : Fin 1024) :
    k0_pay3 (F := Ideal) (iblk m c 5 t) (k0_pay9 (iblk m c 0 t)) (k0_pay10 (iblk m c 0 t)) (k0_pay14 (iblk m c 2 t) (iblk m c 6 t))
      (k0_pay17 (k0_pay7 (iblk m c 4 t))) (iblk m c 1 t) (ix2 r k) = gxAt m c (bAt t r) (lAt t r) k := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  simp only [ib0, ib1, ib2, ib4 m c t r, ib5, ib6]
  unfold gxAt rmsBack rowRms dXh dH
  rfl

theorem p8 (c : Dev nD) (t : Fin cfg0.N) (r : Fin 512) (k : Fin 1024) :
    k0_pay13 (F := Ideal) (k0_pay11 (iblk m c 5 t) (iblk m c 0 t)) (k0_pay12 (iblk m c 4 t)) (iblk m c 3 t) (ix2 r k)
      = hAt m c (bAt t r) (lAt t r) k := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  simp only [ib0, ib3 m c t r, ib4 m c t r, ib5, ib6]
  unfold hAt rowRms
  rfl

theorem p15 (c : Dev nD) (t : Fin cfg0.N) (acc : FVec Ideal S1x1x1024 .f32) (a b : Fin 1) (k : Fin 1024) :
    k0_pay15 (F := Ideal) (iblk m c 2 t) (iblk m c 6 t) acc (ix3 a b k)
      = acc (ix3 a b k) + ∑ r : Fin 512, dH (aP m c) (aW m c) (bAt t r) (lAt t r) k := by
  fin_cases a; fin_cases b
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  simp only [ib2, ib6]
  rfl

theorem p16 (c : Dev nD) (t : Fin cfg0.N) (acc : FVec Ideal S1x1x1024 .f32) (a b : Fin 1) (k : Fin 1024) :
    k0_pay16 (F := Ideal) (k0_pay11 (iblk m c 5 t) (iblk m c 0 t)) (iblk m c 2 t) (iblk m c 6 t) acc (ix3 a b k)
      = acc (ix3 a b k) + ∑ r : Fin 512, dscAt m c (bAt t r) (lAt t r) k := by
  fin_cases a; fin_cases b
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  simp only [ib0, ib2, ib5, ib6]
  rfl

theorem p2 (c : Dev nD) (t : Fin cfg0.N) (acc : FVec Ideal S1x1024 .f32) (a : Fin 1) (k : Fin 1024) :
    k0_pay2 (F := Ideal) (k0_pay10 (iblk m c 0 t)) (k0_pay14 (iblk m c 2 t) (iblk m c 6 t)) (k0_pay17 (k0_pay7 (iblk m c 4 t))) acc (ix2 a k)
      = acc (ix2 a k) + ∑ r : Fin 512, dnAt m c (bAt t r) (lAt t r) k := by
  fin_cases a
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17]
  refine congrArg _ (Finset.sum_congr rfl fun r _ => ?_)
  simp only [ib0, ib2, ib4 m c t r, ib5, ib6]
  rfl

/-! ## The five arrays -/

def K7 (c : Dev nD) : FVec Ideal S8192x1024 .f32 := fun i => gxAt m c (bOf (i 0)) (lOf (i 0)) (i 1)
def K8 (c : Dev nD) : FVec Ideal S8192x1024 .bf16 := fun i => hAt m c (bOf (i 0)) (lOf (i 0)) (i 1)
def K9 (c : Dev nD) : FVec Ideal S1x1024 .f32 := fun i => ∑ b : Fin 4, ∑ l : Fin 2048, dnAt m c b l (i 1)
def K10 (c : Dev nD) : FVec Ideal S4x1x1024 .f32 := fun i => ∑ l : Fin 2048, dH (aP m c) (aW m c) (i 0) l (i 2)
def K11 (c : Dev nD) : FVec Ideal S4x1x1024 .f32 := fun i => ∑ l : Fin 2048, dscAt m c (i 0) l (i 2)

theorem blk7 (c : Dev nD) (t : Fin cfg0.N) (r : Fin 512) (k : Fin 1024) (i : S8192x1024.Idx) (h0 : (i 0).val = t.val * 512 + r.val)
    (h1 : (i 1).val = k.val) : gxAt m c (bAt t r) (lAt t r) k = K7 m c i := by
  have e1 : i 1 = k := Fin.ext h1
  unfold K7
  rw [e1, show bOf (i 0) = bAt t r from Fin.ext (by show (i 0).val / 2048 = _; rw [h0]),
    show lOf (i 0) = lAt t r from Fin.ext (by show (i 0).val % 2048 = _; rw [h0])]

theorem blk8 (c : Dev nD) (t : Fin cfg0.N) (r : Fin 512) (k : Fin 1024) (i : S8192x1024.Idx) (h0 : (i 0).val = t.val * 512 + r.val)
    (h1 : (i 1).val = k.val) : hAt m c (bAt t r) (lAt t r) k = K8 m c i := by
  have e1 : i 1 = k := Fin.ext h1
  unfold K8
  rw [e1, show bOf (i 0) = bAt t r from Fin.ext (by show (i 0).val / 2048 = _; rw [h0]),
    show lOf (i 0) = lAt t r from Fin.ext (by show (i 0).val % 2048 = _; rw [h0])]

/-- A run of four points covers the positions of its batch. -/
theorem run4 (t : Fin cfg0.N) (ht : t.val % 4 = 3) (f : Fin 4 → Fin 2048 → EReal) (b : Fin 4) (hb : b.val = t.val / 4)
    (hlt : ∀ s : Fin 4, 4 * (t.val / 4) + s.val < cfg0.N) :
    ∑ s : Fin 4, ∑ r : Fin 512, f (bAt ⟨4 * (t.val / 4) + s.val, hlt s⟩ r) (lAt ⟨4 * (t.val / 4) + s.val, hlt s⟩ r) = ∑ l : Fin 2048, f b l := by
  refine Fin.sum_mul_add_congr fun s r hl => ?_
  congr 1
  · refine Fin.ext ?_; show ((4 * (t.val / 4) + s.val) * 512 + r.val) / 2048 = _; omega
  · refine Fin.ext ?_; show ((4 * (t.val / 4) + s.val) * 512 + r.val) % 2048 = s.val * 512 + r.val; omega

/-- All the points cover every token. -/
theorem run16 (f : Fin 4 → Fin 2048 → EReal) :
    ∑ t : Fin cfg0.N, ∑ r : Fin 512, f (bAt t r) (lAt t r) = ∑ b : Fin 4, ∑ l : Fin 2048, f b l := by
  refine Fin.sum_points_lanes_congr 4 (fun t r ha hl => ?_)
  congr 1
  · refine Fin.ext ?_; show (t.val * 512 + r.val) / 2048 = t.val / 4; omega
  · refine Fin.ext ?_; show (t.val * 512 + r.val) % 2048 = t.val % 4 * 512 + r.val; omega

end Cert.KernelIdeal.Val

end
-- ==== Proof.InprojArrays.lean ====
/- Call 1, the version's side: the five result arrays after the run, from what one grid point leaves in each block. -/
module

public import proofs.«01_k».proof.Proof.InprojKernel

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Steps

variable (m : (ℓ : Loc nD τ sig) → Buf (Elt Ideal) ℓ)

/-- Every grid point writes its own rows of array 7. -/
theorem final7 (c : Dev nD) : (dats m 0 c).arrAt 7 cfg0.N = K7 m c := by
  refine (dats m 0 c).arrAt_eq_of_covers 7 _ (by decide +kernel) fun t hf y => ?_
  have h0 : ((((cfg0.win 7).blk t).view.emb y) 0).val = t.val * 512 + (y 0).val := by blk_simp [idx t]
  have h1 : ((((cfg0.win 7).blk t).view.emb y) 1).val = (y 1).val := by blk_simp [idx t]
  refine Eq.trans ?_ (blk7 m c t (y 0) (y 1) _ h0 h1)
  clear h0 h1
  blk_simp
  rw [after0_7]
  by_cases h1 : t.val % 4 = 0
  · by_cases h0 : t.val % 16 = 0
    · rw [outsAt0_A m c t h0 h1]; frame_out; idx_vars y; exact p7 m c t _ _
    · rw [outsAt0_C m c t h0 h1]; frame_out; idx_vars y; exact p7 m c t _ _
  · rw [outsAt0_B m c t (fun h0 => h1 (by omega)) h1]; frame_out; idx_vars y; exact p7 m c t _ _

/-- Every grid point writes its own rows of array 8. -/
theorem final8 (c : Dev nD) : (dats m 0 c).arrAt 8 cfg0.N = K8 m c := by
  refine (dats m 0 c).arrAt_eq_of_covers 8 _ (by decide +kernel) fun t hf y => ?_
  have h0 : ((((cfg0.win 8).blk t).view.emb y) 0).val = t.val * 512 + (y 0).val := by blk_simp [idx t]
  have h1 : ((((cfg0.win 8).blk t).view.emb y) 1).val = (y 1).val := by blk_simp [idx t]
  refine Eq.trans ?_ (blk8 m c t (y 0) (y 1) _ h0 h1)
  clear h0 h1
  blk_simp
  rw [after0_8]
  by_cases h1 : t.val % 4 = 0
  · by_cases h0 : t.val % 16 = 0
    · rw [outsAt0_A m c t h0 h1]; frame_out; idx_vars y; exact p8 m c t _ _
    · rw [outsAt0_C m c t h0 h1]; frame_out; idx_vars y; exact p8 m c t _ _
  · rw [outsAt0_B m c t (fun h0 => h1 (by omega)) h1]; frame_out; idx_vars y; exact p8 m c t _ _

/-- Array 9 is reset at the first point and written back after the last. -/
theorem final9 (c : Dev nD) : (dats m 0 c).arrAt 9 cfg0.N = K9 m c := by
  refine (dats m 0 c).arrAt_eq_of_after_last 9 t0_15 (by decide +kernel) _ fun y => ?_
  blk_simp
  rw [after0_9]
  refine (Pipeline.eq_sum_fin_of_reset_step_apply_last (fun n h => (outsAt0 m c n h).2.2.1) 16 (fun _ => 0)
    (fun t y => (∑ r : Fin 512, dnAt m c (bAt t r) (lAt t r) (y 1) : EReal)) ?_ ?_ (le_of_eq N_0) t0_15 rfl y).trans ?_
  · intro t h0 i
    rw [outsAt0_A m c t h0 (by omega)]; frame_out; idx_vars i
    rw [p2, show k0_pay4 (F := Ideal) _ = (0 : EReal) from by pointwise [k0_pay4]]
  · intro t h1 i
    by_cases h0 : t.val % 4 = 0
    · rw [outsAt0_C m c t h1 h0]; frame_out; idx_vars i; rw [p2]
    · rw [outsAt0_B m c t h1 h0]; frame_out; idx_vars i; rw [p2]
  unfold K9
  rw [zero_add]
  exact run16 fun b l => dnAt m c b l (y 1)

/-- Array 10 is reset at the first of a batch's four points and written back after the last. -/
theorem final10 (c : Dev nD) : (dats m 0 c).arrAt 10 cfg0.N = K10 m c := by
  refine (dats m 0 c).arrAt_eq_of_covers 10 _ (by decide +kernel) fun t hf y => ?_
  have h0 : ((((cfg0.win 10).blk t).view.emb y) 0).val = t.val / 4 := by blk_simp [idx t]
  have h1 : ((((cfg0.win 10).blk t).view.emb y) 2) = y 2 := Fin.ext (by blk_simp [idx t])
  blk_simp
  rw [after0_10]
  refine (Pipeline.eq_sum_fin_of_reset_step_apply_of_flush (fun n h => (outsAt0 m c n h).2.2.2.1) 4 (fun _ => 0)
    (fun t y => (∑ r : Fin 512, dH (aP m c) (aW m c) (bAt t r) (lAt t r) (y 2) : EReal)) ?_ ?_ t ((flush0_10 t).mp hf) y).trans ?_
  · intro t h1 i
    by_cases h0 : t.val % 16 = 0
    · rw [outsAt0_A m c t h0 h1]; frame_out; idx_vars i
      rw [p15, show k0_pay5 (F := Ideal) _ = (0 : EReal) from by pointwise [k0_pay5]]
    · rw [outsAt0_C m c t h0 h1]; frame_out; idx_vars i
      rw [p15, show k0_pay5 (F := Ideal) _ = (0 : EReal) from by pointwise [k0_pay5]]
  · intro t h1 i
    rw [outsAt0_B m c t (fun h0 => h1 (by omega)) h1]; frame_out; idx_vars i; rw [p15]
  unfold K10
  rw [zero_add]
  refine (run4 t ((flush0_10 t).mp hf) (fun b l => dH (aP m c) (aW m c) b l (y 2)) _ h0 _).trans ?_
  blk_simp at h1
  rw [h1]

/-- Array 11 is reset at the first of a batch's four points and written back after the last. -/
theorem final11 (c : Dev nD) : (dats m 0 c).arrAt 11 cfg0.N = K11 m c := by
  refine (dats m 0 c).arrAt_eq_of_covers 11 _ (by decide +kernel) fun t hf y => ?_
  have h0 : ((((cfg0.win 11).blk t).view.emb y) 0).val = t.val / 4 := by blk_simp [idx t]
  have h1 : ((((cfg0.win 11).blk t).view.emb y) 2) = y 2 := Fin.ext (by blk_simp [idx t])
  blk_simp
  rw [after0_11]
  refine (Pipeline.eq_sum_fin_of_reset_step_apply_of_flush (fun n h => (outsAt0 m c n h).2.2.2.2) 4 (fun _ => 0)
    (fun t y => (∑ r : Fin 512, dscAt m c (bAt t r) (lAt t r) (y 2) : EReal)) ?_ ?_ t ((flush0_11 t).mp hf) y).trans ?_
  · intro t h1 i
    by_cases h0 : t.val % 16 = 0
    · rw [outsAt0_A m c t h0 h1]; frame_out; idx_vars i
      rw [p16, show k0_pay6 (F := Ideal) _ = (0 : EReal) from by pointwise [k0_pay6]]
    · rw [outsAt0_C m c t h0 h1]; frame_out; idx_vars i
      rw [p16, show k0_pay6 (F := Ideal) _ = (0 : EReal) from by pointwise [k0_pay6]]
  · intro t h1 i
    rw [outsAt0_B m c t (fun h0 => h1 (by omega)) h1]; frame_out; idx_vars i; rw [p16]
  unfold K11
  rw [zero_add]
  refine (run4 t ((flush0_11 t).mp hf) (fun b l => dscAt m c b l (y 2)) _ h0 _).trans ?_
  blk_simp at h1
  rw [h1]

end Cert.KernelIdeal.Val

end
-- ==== Proof.InprojReference.lean ====
/- Call 1, the reference's side: each result read at an index, and its equality with the version's array. -/
module

public import proofs.«01_k».proof.Proof.Gen.ReferenceIdeal.Read
public import proofs.«01_k».proof.Proof.InprojKernel

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Read Cert.Steps

variable (x gx : A3) (gp : FVec Ideal ⟨3, ![4, 2048, 4096]⟩ .f32) (sh sc : FVec Ideal ⟨2, ![4, 1024]⟩ .f32)
  (g : FVec Ideal ⟨2, ![1, 1024]⟩ .f32) (w : FVec Ideal ⟨3, ![1, 1024, 4096]⟩ .f32)

theorem dx_apply (i : S8192x1024.Idx) : val_main_v81 (F := Ideal) x gx gp sc g w i
    = gx (ix3 (bOf (i 0)) (lOf (i 0)) (i 1)) + dXh gp sc g w (bOf (i 0)) (lOf (i 0)) (i 1) * rowRms (row x (bOf (i 0)) (lOf (i 0)))
      + row x (bOf (i 0)) (lOf (i 0)) (i 1) * msCot (row x (bOf (i 0)) (lOf (i 0))) (dXh gp sc g w (bOf (i 0)) (lOf (i 0)))
      + msCot (row x (bOf (i 0)) (lOf (i 0))) (dXh gp sc g w (bOf (i 0)) (lOf (i 0))) * row x (bOf (i 0)) (lOf (i 0)) (i 1) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_v22, val_main_v23, val_main_v24, val_main_v25, val_main_v26, val_main_v27, val_main_cst_4, val_main_v28, val_main_v29, val_main_cst_5, val_main_v30, val_main_v31, val_main_cst_6, val_main_v32, val_main_v33, val_main_v34, val_main_v35, val_main_cst_7, val_main_v36, val_main_v37, val_main_cst_8, val_main_v38, val_main_v39, val_main_v40, val_main_v41, val_main_cst_9, val_main_v42, val_main_v43, val_main_cst_10, val_main_v44, val_main_v45, val_main_v46, val_main_v47, val_main_v48, val_main_v49, val_main_cst_11, val_main_v50, val_main_v51, val_main_cst_12, val_main_v52, val_main_v53, val_main_v54, val_main_v55, val_main_v56, val_main_v57, val_main_v58, val_main_v59, val_main_v60, val_main_cst_13, val_main_v61, val_main_v62, val_main_cst_14, val_main_v63, val_main_v64, val_main_cst_15, val_main_v65, val_main_v66, val_main_v67, val_main_v68, val_main_v69, val_main_v70, val_main_v71, val_main_v72, val_main_v73, val_main_cst_16, val_main_v74, val_main_v75, val_main_v76, val_main_v77, val_main_v78, val_main_v79, val_main_v80, val_main_v81, val_main_v82, val_main_v83, val_main_v84, val_main_v85]
  simp only [Finset.univ_unique, Finset.sum_singleton]
  rfl

theorem h_apply (i : S8192x1024.Idx) : val_main_v83 (F := Ideal) x sh sc g i
    = row x (bOf (i 0)) (lOf (i 0)) (i 1) * rowRms (row x (bOf (i 0)) (lOf (i 0))) * g (ix2 0 (i 1)) * (1 + sc (ix2 (bOf (i 0)) (i 1)))
      + sh (ix2 (bOf (i 0)) (i 1)) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_v22, val_main_v23, val_main_v24, val_main_v25, val_main_v26, val_main_v27, val_main_cst_4, val_main_v28, val_main_v29, val_main_cst_5, val_main_v30, val_main_v31, val_main_cst_6, val_main_v32, val_main_v33, val_main_v34, val_main_v35, val_main_cst_7, val_main_v36, val_main_v37, val_main_cst_8, val_main_v38, val_main_v39, val_main_v40, val_main_v41, val_main_cst_9, val_main_v42, val_main_v43, val_main_cst_10, val_main_v44, val_main_v45, val_main_v46, val_main_v47, val_main_v48, val_main_v49, val_main_cst_11, val_main_v50, val_main_v51, val_main_cst_12, val_main_v52, val_main_v53, val_main_v54, val_main_v55, val_main_v56, val_main_v57, val_main_v58, val_main_v59, val_main_v60, val_main_cst_13, val_main_v61, val_main_v62, val_main_cst_14, val_main_v63, val_main_v64, val_main_cst_15, val_main_v65, val_main_v66, val_main_v67, val_main_v68, val_main_v69, val_main_v70, val_main_v71, val_main_v72, val_main_v73, val_main_cst_16, val_main_v74, val_main_v75, val_main_v76, val_main_v77, val_main_v78, val_main_v79, val_main_v80, val_main_v81, val_main_v82, val_main_v83, val_main_v84, val_main_v85]
  rfl

theorem dsh_apply (i : S4x1x1024.Idx) : val_main_v84 (F := Ideal) gp w i = ∑ l : Fin 2048, dH gp w (i 0) l (i 2) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_v22, val_main_v23, val_main_v24, val_main_v25, val_main_v26, val_main_v27, val_main_cst_4, val_main_v28, val_main_v29, val_main_cst_5, val_main_v30, val_main_v31, val_main_cst_6, val_main_v32, val_main_v33, val_main_v34, val_main_v35, val_main_cst_7, val_main_v36, val_main_v37, val_main_cst_8, val_main_v38, val_main_v39, val_main_v40, val_main_v41, val_main_cst_9, val_main_v42, val_main_v43, val_main_cst_10, val_main_v44, val_main_v45, val_main_v46, val_main_v47, val_main_v48, val_main_v49, val_main_cst_11, val_main_v50, val_main_v51, val_main_cst_12, val_main_v52, val_main_v53, val_main_v54, val_main_v55, val_main_v56, val_main_v57, val_main_v58, val_main_v59, val_main_v60, val_main_cst_13, val_main_v61, val_main_v62, val_main_cst_14, val_main_v63, val_main_v64, val_main_cst_15, val_main_v65, val_main_v66, val_main_v67, val_main_v68, val_main_v69, val_main_v70, val_main_v71, val_main_v72, val_main_v73, val_main_cst_16, val_main_v74, val_main_v75, val_main_v76, val_main_v77, val_main_v78, val_main_v79, val_main_v80, val_main_v81, val_main_v82, val_main_v83, val_main_v84, val_main_v85]
  simp only [Finset.univ_unique, Finset.sum_singleton]
  rfl

theorem dsc_apply (i : S4x1x1024.Idx) : val_main_v85 (F := Ideal) x gp g w i
    = ∑ l : Fin 2048, row x (i 0) l (i 2) * rowRms (row x (i 0) l) * g (ix2 0 (i 2)) * dH gp w (i 0) l (i 2) := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_v22, val_main_v23, val_main_v24, val_main_v25, val_main_v26, val_main_v27, val_main_cst_4, val_main_v28, val_main_v29, val_main_cst_5, val_main_v30, val_main_v31, val_main_cst_6, val_main_v32, val_main_v33, val_main_v34, val_main_v35, val_main_cst_7, val_main_v36, val_main_v37, val_main_cst_8, val_main_v38, val_main_v39, val_main_v40, val_main_v41, val_main_cst_9, val_main_v42, val_main_v43, val_main_cst_10, val_main_v44, val_main_v45, val_main_v46, val_main_v47, val_main_v48, val_main_v49, val_main_cst_11, val_main_v50, val_main_v51, val_main_cst_12, val_main_v52, val_main_v53, val_main_v54, val_main_v55, val_main_v56, val_main_v57, val_main_v58, val_main_v59, val_main_v60, val_main_cst_13, val_main_v61, val_main_v62, val_main_cst_14, val_main_v63, val_main_v64, val_main_cst_15, val_main_v65, val_main_v66, val_main_v67, val_main_v68, val_main_v69, val_main_v70, val_main_v71, val_main_v72, val_main_v73, val_main_cst_16, val_main_v74, val_main_v75, val_main_v76, val_main_v77, val_main_v78, val_main_v79, val_main_v80, val_main_v81, val_main_v82, val_main_v83, val_main_v84, val_main_v85]
  simp only [Finset.univ_unique, Finset.sum_singleton]
  rfl

/-- The gain's gradient, summed over the batch and the positions. -/
theorem dn_lead (j : Fin 1024) : val_main_v38 (F := Ideal) x gp sc w (ix1 j)
    = ∑ b : Fin 4, ∑ l : Fin 2048, row x b l j * rowRms (row x b l) * (dH gp w b l j * (1 + sc (ix2 b j))) := by
  refine (hostReduceAdd_lead reducesTo_S4x2048x1024_S1024_d0_1 (val_main_v37 (F := Ideal) x gp sc w) _ j).trans ?_
  have z : ∀ i, val_main_cst_8 (F := Ideal) i = (0 : EReal) := fun i => by pointwise [val_main_cst_8]
  rw [z, zero_add]
  refine Finset.sum_congr rfl fun b _ => Finset.sum_congr rfl fun l _ => ?_
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_v22, val_main_v23, val_main_v24, val_main_v25, val_main_v26, val_main_v27, val_main_cst_4, val_main_v28, val_main_v29, val_main_cst_5, val_main_v30, val_main_v31, val_main_cst_6, val_main_v32, val_main_v33, val_main_v34, val_main_v35, val_main_cst_7, val_main_v36, val_main_v37, val_main_cst_8, val_main_v38, val_main_v39, val_main_v40, val_main_v41, val_main_cst_9, val_main_v42, val_main_v43, val_main_cst_10, val_main_v44, val_main_v45, val_main_v46, val_main_v47, val_main_v48, val_main_v49, val_main_cst_11, val_main_v50, val_main_v51, val_main_cst_12, val_main_v52, val_main_v53, val_main_v54, val_main_v55, val_main_v56, val_main_v57, val_main_v58, val_main_v59, val_main_v60, val_main_cst_13, val_main_v61, val_main_v62, val_main_cst_14, val_main_v63, val_main_v64, val_main_cst_15, val_main_v65, val_main_v66, val_main_v67, val_main_v68, val_main_v69, val_main_v70, val_main_v71, val_main_v72, val_main_v73, val_main_cst_16, val_main_v74, val_main_v75, val_main_v76, val_main_v77, val_main_v78, val_main_v79, val_main_v80, val_main_v81, val_main_v82, val_main_v83, val_main_v84, val_main_v85]
  rfl

theorem dn_apply (i : S1x1024.Idx) : val_main_v58 (F := Ideal) x gp sc w i
    = ∑ b : Fin 4, ∑ l : Fin 2048, row x b l (i 1) * rowRms (row x b l) * (dH gp w b l (i 1) * (1 + sc (ix2 b (i 1)))) := by
  refine Eq.trans (b := val_main_v42 (F := Ideal) x gp sc w (ix1 (i 1))) ?_ ?_
  · unfold val_main_v58
    generalize val_main_v42 (F := Ideal) x gp sc w = q
    pointwise []
  refine (hostReduceAdd_lead reducesTo_S1x1x1024_S1024_d0_1 (val_main_v39 (F := Ideal) x gp sc w) _ (i 1)).trans ?_
  have z : ∀ i, val_main_cst_9 (F := Ideal) i = (0 : EReal) := fun i => by pointwise [val_main_cst_9]
  rw [z, zero_add]
  simp only [Finset.univ_unique, Finset.sum_singleton]
  refine Eq.trans (b := val_main_v38 (F := Ideal) x gp sc w (ix1 (i 1))) ?_ (dn_lead x gp sc w (i 1))
  unfold val_main_v39
  generalize val_main_v38 (F := Ideal) x gp sc w = q
  pointwise []

end Cert.ReferenceIdeal.Val

end
-- ==== Proof.Inproj.lean ====
/- Call 1: its claims. -/
module

public import proofs.«01_k».proof.Defs
public import proofs.«01_k».proof.Proof.Gen.Kernel.Frame
public import proofs.«01_k».proof.Proof.Gen.Pre_finite_1
public import proofs.«01_k».proof.Proof.InprojArrays
public import proofs.«01_k».proof.Proof.InprojReference
public import Idealize.ShloMosaic.Lib.Quiescent

@[expose] public section

set_option maxRecDepth 16384

noncomputable section

open Idealize.ShloMosaic Idealize.ShloMosaic.TcCoe Idealize.SL.Sem

namespace Cert.Steps.Inproj

open Cert.Steps

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite_1 := fun m ρ _ => Cert.KernelIdeal.Gen.frame m ρ

theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run m ρ)
theorem frame_reference_pre : Cert.quiescent_ReferenceIdeal_pre_finite_1 := fun m ρ _ => frame_reference m ρ trivial

/-- The precondition makes the five arrays it names real. -/
theorem real_of_pre {x gx : A3} {gp : FVec Ideal ⟨3, ![4, 2048, 4096]⟩ .f32} {sh sc : FVec Ideal ⟨2, ![4, 1024]⟩ .f32}
    {g : FVec Ideal ⟨2, ![1, 1024]⟩ .f32} {w : FVec Ideal ⟨3, ![1, 1024, 4096]⟩ .f32}
    (h : Cert.Pre_finite_1.fn (F := Ideal) x gx gp sh sc g w = fun _ => 1#1) :
    IsReal x ∧ IsReal gp ∧ IsReal sc ∧ IsReal g ∧ IsReal w := by
  have h := congrFun h ix0
  unfold Cert.Pre_finite_1.fn Cert.Pre_finite_1.fn_part1 at h
  obtain ⟨h, h5⟩ := andi_bit _ _ _ h
  obtain ⟨h, h4⟩ := andi_bit _ _ _ h
  obtain ⟨h, h3⟩ := andi_bit _ _ _ h
  obtain ⟨h1, h2⟩ := andi_bit _ _ _ h
  exact ⟨exists_real x _ (fun _ => rfl) _ _ _ _ h1, exists_real gp _ (fun _ => rfl) _ _ _ _ h2, exists_real sc _ (fun _ => rfl) _ _ _ _ h3,
    exists_real g _ (fun _ => rfl) _ _ _ _ h4, exists_real w _ (fun _ => rfl) _ _ _ _ h5⟩

/-- The cotangent of a normalised row is real when what it is made of is. -/
theorem dXh_real (gp : (⟨3, ![4, 2048, 4096]⟩ : Shape).Idx → ℝ) (sc : (⟨2, ![4, 1024]⟩ : Shape).Idx → ℝ)
    (g : (⟨2, ![1, 1024]⟩ : Shape).Idx → ℝ) (w : (⟨3, ![1, 1024, 4096]⟩ : Shape).Idx → ℝ) (b : Fin 4) (l : Fin 2048) :
    ∃ d : Fin 1024 → ℝ, dXh (fun i => (gp i : EReal)) (fun i => (sc i : EReal)) (fun i => (g i : EReal)) (fun i => (w i : EReal)) b l
      = fun k => (d k : EReal) := by
  refine ⟨fun k => (∑ j, gp (ix3 b l j) * w (ix3 0 k j)) * (1 + sc (ix2 b k)) * g (ix2 0 k), funext fun k => ?_⟩
  unfold dXh dH
  simp only [EReal.coe_mul, coe_sum, EReal.coe_add, EReal.coe_one]

/-- On real arrays the derivative of the norm as it is written out is the one `jax.vjp` gives. -/
theorem gx_eq {x gx : A3} {gp : FVec Ideal ⟨3, ![4, 2048, 4096]⟩ .f32} {sc : FVec Ideal ⟨2, ![4, 1024]⟩ .f32}
    {g : FVec Ideal ⟨2, ![1, 1024]⟩ .f32} {w : FVec Ideal ⟨3, ![1, 1024, 4096]⟩ .f32}
    (h : IsReal x ∧ IsReal gp ∧ IsReal sc ∧ IsReal g ∧ IsReal w) (b : Fin 4) (l : Fin 2048) (k : Fin 1024) :
    gx (ix3 b l k) + dXh gp sc g w b l k * rowRms (row x b l) + row x b l k * msCot (row x b l) (dXh gp sc g w b l)
        + msCot (row x b l) (dXh gp sc g w b l) * row x b l k
      = gx (ix3 b l k) + rmsBack (row x b l) (dXh gp sc g w b l) k := by
  obtain ⟨⟨x, rfl⟩, ⟨p, rfl⟩, ⟨s, rfl⟩, ⟨n, rfl⟩, ⟨w, rfl⟩⟩ := h
  obtain ⟨d, hd⟩ := dXh_real p s n w b l
  rw [hd]
  refine Eq.trans ?_ (congrArg (gx (ix3 b l k) + ·) (rmsBack_eq (fun k => x (ix3 b l k)) d k).symm)
  rw [add_assoc, add_assoc]
  show _ = _ + (_ + _ + _)
  rw [add_assoc]
  rfl

theorem value : Cert.algebraic_KernelIdeal_ReferenceIdeal_pre_finite_1 := by
  intro m g m' g' hpre hagree
  refine ⟨fun c => Cert.KernelIdeal.Val.K7 m c, fun c => Cert.KernelIdeal.Val.K8 m c, fun c => Cert.KernelIdeal.Val.K9 m c,
    fun c => Cert.KernelIdeal.Val.K10 m c, fun c => Cert.KernelIdeal.Val.K11 m c, ?_, ?_⟩
  · exact (θ_run Cert.KernelIdeal.defs _ _).mono
      (fun r h c => ⟨(h c).1.trans (Cert.KernelIdeal.Val.final7 m c), (h c).2.1.trans (Cert.KernelIdeal.Val.final8 m c),
        (h c).2.2.1.trans (Cert.KernelIdeal.Val.final9 m c), (h c).2.2.2.1.trans (Cert.KernelIdeal.Val.final10 m c),
        (h c).2.2.2.2.1.trans (Cert.KernelIdeal.Val.final11 m c), (h c).2.2.2.2.2⟩)
      (Cert.KernelIdeal.Value.run_blocks m g)
  · refine (θ_run Cert.ReferenceIdeal.defs _ _).mono (fun r h c => ?_) (Cert.ReferenceIdeal.Value.run m' g')
    obtain ⟨a0, a1, a2, a3, a4, a5, a6⟩ := hagree c
    refine ⟨(h c).1.trans ?_, (h c).2.1.trans ?_, (h c).2.2.1.trans ?_, (h c).2.2.2.1.trans ?_, (h c).2.2.2.2.1.trans ?_, (h c).2.2.2.2.2⟩
    · rw [Cert.ReferenceIdeal.Read.val_main_v81_eq, a0, a1, a2, a4, a5, a6]
      exact funext fun i => (Cert.ReferenceIdeal.Val.dx_apply _ _ _ _ _ _ i).trans
        (gx_eq (real_of_pre (hpre c)) (bOf (i 0)) (lOf (i 0)) (i 1))
    · refine (Cert.ReferenceIdeal.Read.val_main_v83_eq _ _ _ _).trans ?_
      rw [a0, a3, a4, a5]
      exact funext fun i => Cert.ReferenceIdeal.Val.h_apply _ _ _ _ i
    · refine (Cert.ReferenceIdeal.Read.val_main_v58_eq _ _ _ _).trans ?_
      rw [a0, a2, a4, a6]
      refine funext fun i => (Cert.ReferenceIdeal.Val.dn_apply _ _ _ _ i).trans ?_
      exact Finset.sum_congr rfl fun b _ => Finset.sum_congr rfl fun l _ => mul_comm _ _
    · refine (Cert.ReferenceIdeal.Read.val_main_v84_eq _ _).trans ?_
      rw [a2, a6]
      exact funext fun i => Cert.ReferenceIdeal.Val.dsh_apply _ _ i
    · refine (Cert.ReferenceIdeal.Read.val_main_v85_eq _ _ _ _).trans ?_
      rw [a0, a2, a5, a6]
      refine funext fun i => (Cert.ReferenceIdeal.Val.dsc_apply _ _ _ _ i).trans ?_
      exact Finset.sum_congr rfl fun l _ => mul_comm _ _

end Cert.Steps.Inproj

end
-- ==== Proof.MixBody.lean ====
/- The token mixer's backward kernel: the tests of its two conditionals, and what its body holds and leaves. What a buffer ends
   with is given by the pieces that the body stored into it, over what it held. -/
module

public import proofs.«01_k».proof.Proof.Gen.Kernel3Ideal.Frame
public import proofs.«01_k».proof.Proof.Gen.Kernel3Ideal.Skeleton

@[expose] public section

set_option maxRecDepth 16384

noncomputable section

namespace Cert.Steps.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The first conditional's test: the first point of the grid. -/
abbrev first (i : grid0.Coords) : Prop := (Scalar.cmpi .ne (Scalar.extui (Scalar.cmpi .eq (BitVec.ofNat 32 (i 0).val) 0#32)) 0#32) = 1#1
/-- The second conditional's test: the first point of a sequence. -/
abbrev fresh (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)) 0#32) = 1#1

/-- The pieces that the body stores into the nine outputs and the scratch, the last first. -/
structure Pieces (F : FTy → Type) where
  L16 : List (View.Piece (Elt F) S512x512 .f32)
  L17 : List (View.Piece (Elt F) S512x4096 .bf16)
  L18 : List (View.Piece (Elt F) S1024x1024 .f32)
  L19 : List (View.Piece (Elt F) S512x1024 .f32)
  L20 : List (View.Piece (Elt F) S512x1024 .f32)
  L21 : List (View.Piece (Elt F) S512x512 .f32)
  L22 : List (View.Piece (Elt F) S1x512 .f32)
  L23 : List (View.Piece (Elt F) S8x512 .f32)
  L24 : List (View.Piece (Elt F) S1x1x1024 .f32)
  Ls : List (View.Piece (Elt F) S8x512 .f32)

section

variable (c : Dev nD) (i : grid0.Coords)
  (arg1 : Memref sig .tc .vmem S512x512 .bf16) (harg1 : arg1.IsWhole)
  (arg2 : Memref sig .tc .vmem S512x512 .bf16) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S16x512 .bf16) (harg6 : arg6.IsWhole)
  (arg7 : Memref sig .tc .vmem S16x512 .bf16) (harg7 : arg7.IsWhole)
  (arg8 : Memref sig .tc .vmem S512x512 .f32) (harg8 : arg8.IsWhole)
  (arg9 : Memref sig .tc .vmem S512x1024 .f32) (harg9 : arg9.IsWhole)
  (arg10 : Memref sig .tc .vmem S1x1x1024 .f32) (harg10 : arg10.IsWhole)
  (arg11 : Memref sig .tc .vmem S512x512 .bf16) (harg11 : arg11.IsWhole)
  (arg12 : Memref sig .tc .vmem S1x512 .f32) (harg12 : arg12.IsWhole)
  (arg13 : Memref sig .tc .vmem S8x512 .f32) (harg13 : arg13.IsWhole)
  (arg14 : Memref sig .tc .vmem S512x1024 .bf16) (harg14 : arg14.IsWhole)
  (arg15 : Memref sig .tc .vmem S512x1024 .bf16) (harg15 : arg15.IsWhole)
  (arg16 : Memref sig .tc .vmem S1024x1024 .bf16) (harg16 : arg16.IsWhole)
  (arg17 : Memref sig .tc .vmem S512x512 .f32) (harg17 : arg17.IsWhole)
  (arg18 : Memref sig .tc .vmem S512x4096 .bf16) (harg18 : arg18.IsWhole)
  (arg19 : Memref sig .tc .vmem S1024x1024 .f32) (harg19 : arg19.IsWhole)
  (arg20 : Memref sig .tc .vmem S512x1024 .f32) (harg20 : arg20.IsWhole)
  (arg21 : Memref sig .tc .vmem S512x1024 .f32) (harg21 : arg21.IsWhole)
  (arg22 : Memref sig .tc .vmem S512x512 .f32) (harg22 : arg22.IsWhole)
  (arg23 : Memref sig .tc .vmem S1x512 .f32) (harg23 : arg23.IsWhole)
  (arg24 : Memref sig .tc .vmem S8x512 .f32) (harg24 : arg24.IsWhole)
  (arg25 : Memref sig .tc .vmem S1x1x1024 .f32) (harg25 : arg25.IsWhole)
  (arg26 : Memref sig .tc .vmem S8x512 .f32) (harg26 : arg26.IsWhole)
 (x0 : Vec F S512x512 .bf16) (x1 : Vec F S512x512 .bf16) (x2 : Vec F S512x512 .bf16) (x3 : Vec F S512x1024 .bf16) (x4 : Vec F S512x1024 .bf16) (x5 : Vec F S16x512 .bf16) (x6 : Vec F S16x512 .bf16) (x7 : Vec F S512x512 .f32) (x8 : Vec F S512x1024 .f32) (x9 : Vec F S1x1x1024 .f32) (x10 : Vec F S512x512 .bf16) (x11 : Vec F S1x512 .f32) (x12 : Vec F S8x512 .f32) (x13 : Vec F S512x1024 .bf16) (x14 : Vec F S512x1024 .bf16) (x15 : Vec F S1024x1024 .bf16)
 (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32)

/-- The inputs at their contents. -/
def held : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15)
/-- The outputs and the scratch at their contents. -/
def found : sProp 𝕄 := iprop(owns (c : Thread nD τ) arg17 fullShare y16 ∗ owns (c : Thread nD τ) arg18 fullShare y17 ∗ owns (c : Thread nD τ) arg19 fullShare y18 ∗ owns (c : Thread nD τ) arg20 fullShare y19 ∗ owns (c : Thread nD τ) arg21 fullShare y20 ∗ owns (c : Thread nD τ) arg22 fullShare y21 ∗ owns (c : Thread nD τ) arg23 fullShare y22 ∗ owns (c : Thread nD τ) arg24 fullShare y23 ∗ owns (c : Thread nD τ) arg25 fullShare y24 ∗ owns (c : Thread nD τ) arg26 fullShare s)
/-- The outputs and the scratch with the pieces stored over their contents. -/
def left (P : Pieces F) : sProp 𝕄 := iprop((arg17.view.loc (c : Thread nD τ) ↦[arg17.view.set]{fullShare} arg17.view.writes (Elt F) (harg17.unread y16) P.L16) ∗ (arg18.view.loc (c : Thread nD τ) ↦[arg18.view.set]{fullShare} arg18.view.writes (Elt F) (harg18.unread y17) P.L17) ∗ (arg19.view.loc (c : Thread nD τ) ↦[arg19.view.set]{fullShare} arg19.view.writes (Elt F) (harg19.unread y18) P.L18) ∗ (arg20.view.loc (c : Thread nD τ) ↦[arg20.view.set]{fullShare} arg20.view.writes (Elt F) (harg20.unread y19) P.L19) ∗ (arg21.view.loc (c : Thread nD τ) ↦[arg21.view.set]{fullShare} arg21.view.writes (Elt F) (harg21.unread y20) P.L20) ∗ (arg22.view.loc (c : Thread nD τ) ↦[arg22.view.set]{fullShare} arg22.view.writes (Elt F) (harg22.unread y21) P.L21) ∗ (arg23.view.loc (c : Thread nD τ) ↦[arg23.view.set]{fullShare} arg23.view.writes (Elt F) (harg23.unread y22) P.L22) ∗ (arg24.view.loc (c : Thread nD τ) ↦[arg24.view.set]{fullShare} arg24.view.writes (Elt F) (harg24.unread y23) P.L23) ∗ (arg25.view.loc (c : Thread nD τ) ↦[arg25.view.set]{fullShare} arg25.view.writes (Elt F) (harg25.unread y24) P.L24) ∗ (arg26.view.loc (c : Thread nD τ) ↦[arg26.view.set]{fullShare} arg26.view.writes (Elt F) (harg26.unread s) P.Ls))

end

end Cert.Steps.Mix

end
-- ==== Proof.MixRunFirst.lean ====
/- The token mixer's backward kernel: its body run once, over whole staging buffers at named contents. Here at the first point of the grid. What a
   buffer ends with is given by the pieces that the body stored into it, over what it held. -/
module

public import proofs.«01_k».proof.Proof.MixBody

@[expose] public section

set_option maxRecDepth 16384

noncomputable section

namespace Cert.Steps.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

set_option maxHeartbeats 2000000 in
/-- The body at the first point of the grid. -/
noncomputable def runFirst (c : Dev nD) (i : grid0.Coords) (h0 : first i) (h1 : fresh i) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S8x512 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x4096 .bf16) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x512 .f32) (harg22 : arg22.IsWhole) (arg23 : Memref sig .tc .vmem S1x512 .f32) (harg23 : arg23.IsWhole) (arg24 : Memref sig .tc .vmem S8x512 .f32) (harg24 : arg24.IsWhole) (arg25 : Memref sig .tc .vmem S1x1x1024 .f32) (harg25 : arg25.IsWhole) (arg26 : Memref sig .tc .vmem S8x512 .f32) (harg26 : arg26.IsWhole)
    (x0 : Vec F S512x512 .bf16) (x1 : Vec F S512x512 .bf16) (x2 : Vec F S512x512 .bf16) (x3 : Vec F S512x1024 .bf16) (x4 : Vec F S512x1024 .bf16) (x5 : Vec F S16x512 .bf16) (x6 : Vec F S16x512 .bf16) (x7 : Vec F S512x512 .f32) (x8 : Vec F S512x1024 .f32) (x9 : Vec F S1x1x1024 .f32) (x10 : Vec F S512x512 .bf16) (x11 : Vec F S1x512 .f32) (x12 : Vec F S8x512 .f32) (x13 : Vec F S512x1024 .bf16) (x14 : Vec F S512x1024 .bf16) (x15 : Vec F S1024x1024 .bf16)
    (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32) :
    { P : Pieces F // ∀ (E : Set ℕ) (K : PUnit → sProp 𝕄),
      iprop((held c arg1 arg2 arg3 arg4 arg5 arg6 arg7 arg8 arg9 arg10 arg11 arg12 arg13 arg14 arg15 arg16 x0 x1 x2 x3 x4 x5 x6 x7 x8 x9 x10 x11 x12 x13 x14 x15) ∗ (found c arg17 arg18 arg19 arg20 arg21 arg22 arg23 arg24 arg25 arg26 y16 y17 y18 y19 y20 y21 y22 y23 y24 s)
          ∗ (iprop((held c arg1 arg2 arg3 arg4 arg5 arg6 arg7 arg8 arg9 arg10 arg11 arg12 arg13 arg14 arg15 arg16 x0 x1 x2 x3 x4 x5 x6 x7 x8 x9 x10 x11 x12 x13 x14 x15) ∗ (left c arg17 harg17 arg18 harg18 arg19 harg19 arg20 harg20 arg21 harg21 arg22 harg22 arg23 harg23 arg24 harg24 arg25 harg25 arg26 harg26 y16 y17 y18 y19 y20 y21 y22 y23 y24 s P)) -∗ K ⟨⟩))
        ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨⟨?_, ?_, ?_, ?_, ?_, ?_, ?_, ?_, ?_, ?_⟩, fun E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton, k0_part7_eq_skeleton]
    unfold held found left owns; dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    obtain rfl := harg11.eq_unread hf11; obtain rfl := harg12.eq_unread hf12; obtain rfl := harg13.eq_unread hf13; obtain rfl := harg14.eq_unread hf14; obtain rfl := harg15.eq_unread hf15
    obtain rfl := harg16.eq_unread hf16; obtain rfl := harg17.eq_unread hf17; obtain rfl := harg18.eq_unread hf18; obtain rfl := harg19.eq_unread hf19; obtain rfl := harg20.eq_unread hf20
    obtain rfl := harg21.eq_unread hf21; obtain rfl := harg22.eq_unread hf22; obtain rfl := harg23.eq_unread hf23; obtain rfl := harg24.eq_unread hf24; obtain rfl := harg25.eq_unread hf25
    obtain rfl := harg26.eq_unread hf26
    sl_exec (disch := first | sl_exact h0 | sl_exact h1)
    sl_step
    iapply Hk
    isplitr [H17 H18 H19 H20 H21 H22 H23 H24 H25 H26]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; · ipureintro; exact harg15.read_unread _
        iexact H15
      iexists _; isplitr; · ipureintro; exact harg16.read_unread _
      iexact H16
    · isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iexact H26

end Cert.Steps.Mix

end
-- ==== Proof.MixValues.lean ====
/- The token mixer's backward kernel: the blocks a grid point reads, and what it computes from them, in the order it computes it. -/
module

public import proofs.«01_k».proof.Proof.MixBody
public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Steps.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The blocks of a grid point. -/
structure Blocks (F : FTy → Type) where
  i : grid0.Coords
  x0 : Vec F S512x512 .bf16
  x1 : Vec F S512x512 .bf16
  x2 : Vec F S512x512 .bf16
  x3 : Vec F S512x1024 .bf16
  x4 : Vec F S512x1024 .bf16
  x5 : Vec F S16x512 .bf16
  x6 : Vec F S16x512 .bf16
  x7 : Vec F S512x512 .f32
  x8 : Vec F S512x1024 .f32
  x9 : Vec F S1x1x1024 .f32
  x10 : Vec F S512x512 .bf16
  x11 : Vec F S1x512 .f32
  x12 : Vec F S8x512 .f32
  x13 : Vec F S512x1024 .bf16
  x14 : Vec F S512x1024 .bf16
  x15 : Vec F S1024x1024 .bf16

namespace Blocks

variable (B : Blocks F)

abbrev cb : FVec F S512x512 .f32 := k0_pay15 B.x0
abbrev cc : FVec F S512x512 .f32 := k0_pay16 B.x1
abbrev cx : FVec F S512x512 .f32 := k0_pay17 B.x2
abbrev halo : FVec F S16x512 .f32 := k0_pay18 4#32 (Scalar.remsi (Scalar.subi 15#32 (BitVec.ofNat 32 (B.i 0).val)) 4#32) (Scalar.andi (Scalar.xori (Scalar.cmpi .slt (Scalar.remsi (Scalar.subi 15#32 (BitVec.ofNat 32 (B.i 0).val)) 4#32) 0#32) 0#1) (Scalar.cmpi .ne (Scalar.remsi (Scalar.subi 15#32 (BitVec.ofNat 32 (B.i 0).val)) 4#32) 0#32)) B.x5 B.x6
abbrev wg : FVec F S512x512 .bf16 := k0_pay19 B.x10
abbrev ws : FVec F S512x1024 .bf16 := k0_pay20 B.x13
abbrev wc : FVec F S512x1024 .bf16 := k0_pay21 B.x14
abbrev wo : FVec F S1024x1024 .bf16 := k0_pay22 B.x15
abbrev cw : FVec F S8x512 .f32 := k0_pay23 B.x12
abbrev y : FVec F S512x512 .f32 := k0_pay24 B.x7
abbrev gs : FVec F S512x1024 .f32 := k0_pay25 B.x3
abbrev gc : FVec F S512x1024 .f32 := k0_pay26 B.x4
abbrev y3 : FVec F S512x512 .f32 := k0_pay27 B.x7
abbrev dcube : FVec F S512x512 .f32 := k0_pay30 (k0_pay28 B.x7) k0_pay29
abbrev sech : FVec F S512x512 .f32 := k0_pay32 B.y B.y3
abbrev hf : FVec F S512x512 .f32 := k0_pay33 B.y B.y3
abbrev ge : FVec F S512x512 .f32 := k0_pay34 B.y B.y3
abbrev sg : FVec F S512x512 .f32 := k0_pay35 B.wg B.y B.x11 B.y3
abbrev ys : FVec F S512x512 .f32 := k0_pay36 B.wg B.y B.x11 B.y3
abbrev vv : FVec F S512x512 .f32 := k0_pay37 B.cc B.cx
abbrev s1 : FVec F S512x512 .f32 := k0_pay39 B.cc B.cx B.halo
abbrev s2 : FVec F S512x512 .f32 := k0_pay40 B.cc B.cx B.halo
abbrev c0 : FVec F S512x512 .f32 := k0_pay41 B.cc B.cx B.halo B.cw
abbrev w1 : FVec F S1x512 .f32 := k0_pay42 B.cw
abbrev cv : FVec F S512x512 .f32 := k0_pay43 B.cw B.vv B.s1 B.c0 B.w1
abbrev yc : FVec F S512x512 .f32 := k0_pay44 B.cb B.cw B.vv B.s1 B.c0 B.w1
abbrev ps : FVec F S512x1024 .f32 := k0_pay45 B.ws B.ys
abbrev pc : FVec F S512x1024 .f32 := k0_pay46 B.cb B.wc B.cw B.vv B.s1 B.c0 B.w1
abbrev ss : FVec F S512x1024 .f32 := k0_pay47 B.gs
abbrev sc : FVec F S512x1024 .f32 := k0_pay48 B.gc
abbrev dd : FVec F S512x1024 .bf16 := k0_pay52 B.x8 B.x9
abbrev dgs : FVec F S512x1024 .f32 := k0_pay55 B.wo B.ps B.ss B.dd
abbrev dgc : FVec F S512x1024 .f32 := k0_pay56 B.wo B.pc B.sc B.dd
abbrev dys : FVec F S512x512 .f32 := k0_pay61 B.ws B.wo B.ss B.dd
abbrev dcb : FVec F S512x512 .f32 := k0_pay63 B.wc B.wo B.cv B.sc B.dd
abbrev dcv : FVec F S512x512 .f32 := k0_pay64 B.cb B.wc B.wo B.sc B.dd
abbrev dyl : FVec F S512x512 .f32 := k0_pay1 B.dcube (k0_pay76 B.wg B.hf B.ge B.sg B.dys) (k0_pay77 B.wg B.y B.sech B.ge B.sg B.dys) k0_pay78
/-- The convolution's input gradient: the cotangents of the next two rows come from `N` at the block's last two rows. -/
abbrev dv (N : Vec F S8x512 .f32) : FVec F S512x512 .f32 :=
  k0_pay66 B.cw B.dcv (iota .tc S512x512 32 [0] iota_S512x512_d0_w32)
    (View.ld N (Rect.unit ![0, 0] ![1, 512] inb_S8x512_S1x512_0_0)) (View.ld N (Rect.unit ![1, 0] ![1, 512] inb_S8x512_S1x512_1_0)) k0_pay65
/-- What the point adds to each running sum. -/
abbrev add18 (a : Vec F S1024x1024 .f32) : FVec F S1024x1024 .f32 :=
  k0_pay53 B.cb B.ws B.wc B.cw B.gs B.gc B.ys B.vv B.s1 B.c0 B.w1 B.x8 B.x9 a
abbrev add19 (a : Vec F S512x1024 .f32) : FVec F S512x1024 .f32 := k0_pay59 B.wo B.ys B.ss B.dd a
abbrev add20 (a : Vec F S512x1024 .f32) : FVec F S512x1024 .f32 := k0_pay60 B.wo B.yc B.sc B.dd a
abbrev add21 (a : Vec F S512x512 .f32) : FVec F S512x512 .f32 := k0_pay73 B.ge B.sg B.dys a
abbrev add22 (a : Vec F S1x512 .f32) : FVec F S1x512 .f32 := k0_pay74 B.ge B.sg B.dys a
abbrev add24 (a : Vec F S1x1x1024 .f32) : FVec F S1x1x1024 .f32 :=
  k0_pay51 B.cb B.ws B.wc B.wo B.cw B.gs B.gc B.ys B.vv B.s1 B.c0 B.w1 B.x8 a
/-- The same for the convolution's weight, whose three rows are stored one by one. -/
def add23 (a : Vec F S8x512 .f32) : Vec F S8x512 .f32 := fun j =>
  if (j 0).val = 0 then k0_pay68 B.s2 B.dcv (View.ld a (Rect.unit ![0, 0] ![1, 512] inb_S8x512_S1x512_0_0)) (ix2 0 (j 1))
  else if (j 0).val = 1 then k0_pay69 B.s1 B.dcv (View.ld a (Rect.unit ![1, 0] ![1, 512] inb_S8x512_S1x512_1_0)) (ix2 0 (j 1))
  else if (j 0).val = 2 then k0_pay70 B.vv B.dcv (View.ld a (Rect.unit ![2, 0] ![1, 512] inb_S8x512_S1x512_2_0)) (ix2 0 (j 1))
  else a j
/-- The block of the projection's gradient: its first 512 columns stay as they were. -/
def dp (N : Vec F S8x512 .f32) (a : Vec F S512x4096 .bf16) : Vec F S512x4096 .bf16 := fun j =>
  if h : (j 1).val < 512 then a j
  else if h : (j 1).val < 1024 then k0_pay2 B.dcb (ix2 (j 0) ⟨(j 1).val - 512, by omega⟩)
  else if h : (j 1).val < 1536 then k0_pay3 B.cx (B.dv N) (ix2 (j 0) ⟨(j 1).val - 1024, by omega⟩)
  else if h : (j 1).val < 2048 then k0_pay4 B.cc (B.dv N) (ix2 (j 0) ⟨(j 1).val - 1536, by omega⟩)
  else if h : (j 1).val < 3072 then k0_pay5 B.dgs (ix2 (j 0) ⟨(j 1).val - 2048, by omega⟩)
  else k0_pay6 B.dgc (ix2 (j 0) ⟨(j 1).val - 3072, by have : (j 1).val < 4096 := (j 1).isLt; omega⟩)
/-- What the scratch carries on: the cotangents of the block's first two rows, over what it held. -/
def next (a : Vec F S8x512 .f32) : Vec F S8x512 .f32 := fun j =>
  if h : (j 0).val < 2 then k0_pay67 B.dcv (ix2 ⟨(j 0).val, h⟩ (j 1)) else a j

end Blocks

section read
variable {sig : RefSig} {κ : Kind} {sp : Space} {s : Shape} {e : EltTy} {Val : EltTy → Type}

/-- A store of the whole buffer, whatever came before it. -/
theorem read_full (v : View sig κ sp s e) (f : v.ty.Contents Val) {off : Fin s.rank → ℕ} (inb : ∀ a, off a + s.size a ≤ s.size a)
    (w : s.Idx → Val e) (L : List (View.Piece Val s e)) (h : ∀ a, off a = 0) :
    v.read Val (v.writes Val f (⟨Rect.unit off s.size inb, w⟩ :: L)) = w :=
  funext fun y => View.read_writes_cons_unit_of_mem v f inb w L y y (off' := fun _ => 0) (funext h) fun a => (Nat.zero_add _).symm

end read

/-- A buffer held whole at contents that read as `X`. -/
theorem owns_of_read {c : Dev nD} {sp : Space} {S : Shape} {e : EltTy} (M : Memref sig .tc sp S e) (f) {X : S.Idx → Elt F e}
    (h : M.view.read (Elt F) f = X) :
    (M.view.loc (c : Thread nD τ) ↦[M.view.set]{fullShare} f : sProp 𝕄) ⊢ owns (c : Thread nD τ) M fullShare X := by
  unfold owns
  iintro H
  iexists f
  isplitr
  · ipureintro; exact h
  · iexact H

end Cert.Steps.Mix

end
-- ==== Proof.MixLeftFirst.lean ====
/- The token mixer's backward kernel: what its run at the first point of the grid leaves in each buffer, as the named values. -/
module

public import proofs.«01_k».proof.Proof.MixRunFirst
public import proofs.«01_k».proof.Proof.MixValues

@[expose] public section

set_option maxRecDepth 16384

noncomputable section

namespace Cert.Steps.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

section

variable (B : Blocks F) (c : Dev nD) (h0 : first B.i) (h1 : fresh B.i) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S8x512 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x4096 .bf16) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x512 .f32) (harg22 : arg22.IsWhole) (arg23 : Memref sig .tc .vmem S1x512 .f32) (harg23 : arg23.IsWhole) (arg24 : Memref sig .tc .vmem S8x512 .f32) (harg24 : arg24.IsWhole) (arg25 : Memref sig .tc .vmem S1x1x1024 .f32) (harg25 : arg25.IsWhole) (arg26 : Memref sig .tc .vmem S8x512 .f32) (harg26 : arg26.IsWhole) (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32)

set_option maxHeartbeats 2000000 in
theorem first16 : arg17.view.read (Elt F) (arg17.view.writes (Elt F) (harg17.unread y16) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L16)
    = B.dyl := by
  unfold runFirst; sl_unfold_words; dsimp only
  frame_out
  exact read_full _ _ _ _ _ (by decide)

set_option maxHeartbeats 2000000 in
theorem first17 : arg18.view.read (Elt F) (arg18.view.writes (Elt F) (harg18.unread y17) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L17)
    = B.dp (k0_pay13 (F := F)) y17 := by
  unfold runFirst; sl_unfold_words; dsimp only
  simp (disch := decide) only [↓ View.readCov_skip, ↓ View.readCov_cons_toLoadRect, ↓ View.readCov_fill]
  frame_out
  funext j
  have hj1 : (j 1).val < 4096 := (j 1).isLt
  have hj0 : (j 0).val < 512 := (j 0).isLt
  unfold Blocks.dp
  by_cases c0 : (j 1).val < 512
  · rw [dif_pos c0]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    refine (View.read_writes_cons_unit_of_not_mem _ _ _ _ _ j rfl (1 : Fin 2) (by show (j 1).val < 1536 ∨ 1536 + 512 ≤ (j 1).val; omega)).trans ?_
    refine (View.read_writes_cons_unit_of_not_mem _ _ _ _ _ j rfl (1 : Fin 2) (by show (j 1).val < 1024 ∨ 1024 + 512 ≤ (j 1).val; omega)).trans ?_
    refine (View.read_writes_cons_unit_of_not_mem _ _ _ _ _ j rfl (1 : Fin 2) (by show (j 1).val < 512 ∨ 512 + 512 ≤ (j 1).val; omega)).trans ?_
    exact congrFun (harg18.read_unread y17) j
  rw [dif_neg c0]
  by_cases c1 : (j 1).val < 1024
  · rw [dif_pos c1]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    refine (View.read_writes_cons_unit_of_not_mem _ _ _ _ _ j rfl (1 : Fin 2) (by show (j 1).val < 1536 ∨ 1536 + 512 ≤ (j 1).val; omega)).trans ?_
    refine (View.read_writes_cons_unit_of_not_mem _ _ _ _ _ j rfl (1 : Fin 2) (by show (j 1).val < 1024 ∨ 1024 + 512 ≤ (j 1).val; omega)).trans ?_
    exact View.read_writes_cons_unit_of_mem _ _ _ _ _ j (ix2 (j 0) ⟨(j 1).val - 512, by omega⟩) rfl (Fin.forall_fin_two.mpr ⟨by show (j 0).val = 0 + (j 0).val; omega, by show (j 1).val = 512 + ((j 1).val - 512); omega⟩)
  rw [dif_neg c1]
  by_cases c2 : (j 1).val < 1536
  · rw [dif_pos c2]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    refine (View.read_writes_cons_unit_of_not_mem _ _ _ _ _ j rfl (1 : Fin 2) (by show (j 1).val < 1536 ∨ 1536 + 512 ≤ (j 1).val; omega)).trans ?_
    exact View.read_writes_cons_unit_of_mem _ _ _ _ _ j (ix2 (j 0) ⟨(j 1).val - 1024, by omega⟩) rfl (Fin.forall_fin_two.mpr ⟨by show (j 0).val = 0 + (j 0).val; omega, by show (j 1).val = 1024 + ((j 1).val - 1024); omega⟩)
  rw [dif_neg c2]
  by_cases c3 : (j 1).val < 2048
  · rw [dif_pos c3]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    exact View.read_writes_cons_unit_of_mem _ _ _ _ _ j (ix2 (j 0) ⟨(j 1).val - 1536, by omega⟩) rfl (Fin.forall_fin_two.mpr ⟨by show (j 0).val = 0 + (j 0).val; omega, by show (j 1).val = 1536 + ((j 1).val - 1536); omega⟩)
  rw [dif_neg c3]
  by_cases c4 : (j 1).val < 3072
  · rw [dif_pos c4]
    refine (View.read_writes_cons_unit_of_not_mem _ _ _ _ _ j rfl (1 : Fin 2) (by show (j 1).val < 3072 ∨ 3072 + 1024 ≤ (j 1).val; omega)).trans ?_
    exact View.read_writes_cons_unit_of_mem _ _ _ _ _ j (ix2 (j 0) ⟨(j 1).val - 2048, by omega⟩) rfl (Fin.forall_fin_two.mpr ⟨by show (j 0).val = 0 + (j 0).val; omega, by show (j 1).val = 2048 + ((j 1).val - 2048); omega⟩)
  rw [dif_neg c4]
  exact View.read_writes_cons_unit_of_mem _ _ _ _ _ j (ix2 (j 0) ⟨(j 1).val - 3072, by omega⟩) rfl (Fin.forall_fin_two.mpr ⟨by show (j 0).val = 0 + (j 0).val; omega, by show (j 1).val = 3072 + ((j 1).val - 3072); omega⟩)

set_option maxHeartbeats 2000000 in
theorem first18 : arg19.view.read (Elt F) (arg19.view.writes (Elt F) (harg19.unread y18) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L18)
    = B.add18 (k0_pay7 (F := F)) := by
  unfold runFirst; sl_unfold_words; dsimp only
  simp (disch := decide) only [↓ View.readCov_skip, ↓ View.readCov_cons_toLoadRect, ↓ View.readCov_fill]
  frame_out
  exact read_full _ _ _ _ _ (by decide)

set_option maxHeartbeats 2000000 in
theorem first19 : arg20.view.read (Elt F) (arg20.view.writes (Elt F) (harg20.unread y19) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L19)
    = B.add19 (k0_pay8 (F := F)) := by
  unfold runFirst; sl_unfold_words; dsimp only
  simp (disch := decide) only [↓ View.readCov_skip, ↓ View.readCov_cons_toLoadRect, ↓ View.readCov_fill]
  frame_out
  exact read_full _ _ _ _ _ (by decide)

set_option maxHeartbeats 2000000 in
theorem first20 : arg21.view.read (Elt F) (arg21.view.writes (Elt F) (harg21.unread y20) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L20)
    = B.add20 (k0_pay9 (F := F)) := by
  unfold runFirst; sl_unfold_words; dsimp only
  simp (disch := decide) only [↓ View.readCov_skip, ↓ View.readCov_cons_toLoadRect, ↓ View.readCov_fill]
  frame_out
  exact read_full _ _ _ _ _ (by decide)

set_option maxHeartbeats 2000000 in
theorem first21 : arg22.view.read (Elt F) (arg22.view.writes (Elt F) (harg22.unread y21) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L21)
    = B.add21 (k0_pay10 (F := F)) := by
  unfold runFirst; sl_unfold_words; dsimp only
  simp (disch := decide) only [↓ View.readCov_skip, ↓ View.readCov_cons_toLoadRect, ↓ View.readCov_fill]
  frame_out
  exact read_full _ _ _ _ _ (by decide)

set_option maxHeartbeats 2000000 in
theorem first22 : arg23.view.read (Elt F) (arg23.view.writes (Elt F) (harg23.unread y22) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L22)
    = B.add22 (k0_pay11 (F := F)) := by
  unfold runFirst; sl_unfold_words; dsimp only
  simp (disch := decide) only [↓ View.readCov_skip, ↓ View.readCov_cons_toLoadRect, ↓ View.readCov_fill]
  frame_out
  exact read_full _ _ _ _ _ (by decide)

set_option maxHeartbeats 2000000 in
theorem first23 : arg24.view.read (Elt F) (arg24.view.writes (Elt F) (harg24.unread y23) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L23)
    = B.add23 (k0_pay12 (F := F)) := by
  unfold runFirst; sl_unfold_words; dsimp only
  simp (disch := decide) only [↓ View.readCov_skip, ↓ View.readCov_cons_toLoadRect, ↓ View.readCov_fill]
  frame_out
  funext j
  have hj1 : (j 1).val < 512 := (j 1).isLt
  have hj0 : (j 0).val < 8 := (j 0).isLt
  unfold Blocks.add23
  by_cases c0 : (j 0).val = 0
  · rw [if_pos c0]
    refine (View.read_writes_cons_unit_of_not_mem _ _ _ _ _ j rfl (0 : Fin 2) (by show (j 0).val < 2 ∨ 2 + 1 ≤ (j 0).val; omega)).trans ?_
    refine (View.read_writes_cons_unit_of_not_mem _ _ _ _ _ j rfl (0 : Fin 2) (by show (j 0).val < 1 ∨ 1 + 1 ≤ (j 0).val; omega)).trans ?_
    exact View.read_writes_cons_unit_of_mem _ _ _ _ _ j (ix2 0 (j 1)) rfl (Fin.forall_fin_two.mpr ⟨by show (j 0).val = 0 + 0; omega, by show (j 1).val = 0 + (j 1).val; omega⟩)
  rw [if_neg c0]
  by_cases c1 : (j 0).val = 1
  · rw [if_pos c1]
    refine (View.read_writes_cons_unit_of_not_mem _ _ _ _ _ j rfl (0 : Fin 2) (by show (j 0).val < 2 ∨ 2 + 1 ≤ (j 0).val; omega)).trans ?_
    exact View.read_writes_cons_unit_of_mem _ _ _ _ _ j (ix2 0 (j 1)) rfl (Fin.forall_fin_two.mpr ⟨by show (j 0).val = 1 + 0; omega, by show (j 1).val = 0 + (j 1).val; omega⟩)
  rw [if_neg c1]
  by_cases c2 : (j 0).val = 2
  · rw [if_pos c2]
    exact View.read_writes_cons_unit_of_mem _ _ _ _ _ j (ix2 0 (j 1)) rfl (Fin.forall_fin_two.mpr ⟨by show (j 0).val = 2 + 0; omega, by show (j 1).val = 0 + (j 1).val; omega⟩)
  rw [if_neg c2]
  refine (View.read_writes_cons_unit_of_not_mem _ _ _ _ _ j rfl (0 : Fin 2) (by show (j 0).val < 2 ∨ 2 + 1 ≤ (j 0).val; omega)).trans ?_
  refine (View.read_writes_cons_unit_of_not_mem _ _ _ _ _ j rfl (0 : Fin 2) (by show (j 0).val < 1 ∨ 1 + 1 ≤ (j 0).val; omega)).trans ?_
  refine (View.read_writes_cons_unit_of_not_mem _ _ _ _ _ j rfl (0 : Fin 2) (by show (j 0).val < 0 ∨ 0 + 1 ≤ (j 0).val; omega)).trans ?_
  exact congrFun (read_full _ _ _ _ _ (by decide)) j

set_option maxHeartbeats 2000000 in
theorem first24 : arg25.view.read (Elt F) (arg25.view.writes (Elt F) (harg25.unread y24) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L24)
    = B.add24 (k0_pay14 (F := F)) := by
  unfold runFirst; sl_unfold_words; dsimp only
  simp (disch := decide) only [↓ View.readCov_skip, ↓ View.readCov_cons_toLoadRect, ↓ View.readCov_fill]
  frame_out
  exact read_full _ _ _ _ _ (by decide)

set_option maxHeartbeats 2000000 in
theorem first25 : arg26.view.read (Elt F) (arg26.view.writes (Elt F) (harg26.unread s) (runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.Ls)
    = B.next (k0_pay13 (F := F)) := by
  unfold runFirst; sl_unfold_words; dsimp only
  frame_out
  funext j
  have hj1 : (j 1).val < 512 := (j 1).isLt
  have hj0 : (j 0).val < 8 := (j 0).isLt
  unfold Blocks.next
  by_cases c0 : (j 0).val < 2
  · rw [dif_pos c0]
    exact View.read_writes_cons_unit_of_mem _ _ _ _ _ j (ix2 ⟨(j 0).val, c0⟩ (j 1)) rfl (Fin.forall_fin_two.mpr ⟨by show (j 0).val = 0 + (j 0).val; omega, by show (j 1).val = 0 + (j 1).val; omega⟩)
  rw [dif_neg c0]
  refine (View.read_writes_cons_unit_of_not_mem _ _ _ _ _ j rfl (0 : Fin 2) (by show (j 0).val < 0 ∨ 0 + 2 ≤ (j 0).val; omega)).trans ?_
  exact congrFun (read_full _ _ _ _ _ (by decide)) j

include h0 h1 in
set_option maxHeartbeats 2000000 in
/-- The body at the first point of the grid: from its inputs and what it finds in the other buffers, it runs to the named values. -/
theorem tripleFirst (E : Set ℕ) (K : PUnit → sProp 𝕄) :
    iprop(held c arg1 arg2 arg3 arg4 arg5 arg6 arg7 arg8 arg9 arg10 arg11 arg12 arg13 arg14 arg15 arg16 B.x0 B.x1 B.x2 B.x3 B.x4 B.x5 B.x6 B.x7 B.x8 B.x9 B.x10 B.x11 B.x12 B.x13 B.x14 B.x15 ∗ found c arg17 arg18 arg19 arg20 arg21 arg22 arg23 arg24 arg25 arg26 y16 y17 y18 y19 y20 y21 y22 y23 y24 s ∗ (iprop(held c arg1 arg2 arg3 arg4 arg5 arg6 arg7 arg8 arg9 arg10 arg11 arg12 arg13 arg14 arg15 arg16 B.x0 B.x1 B.x2 B.x3 B.x4 B.x5 B.x6 B.x7 B.x8 B.x9 B.x10 B.x11 B.x12 B.x13 B.x14 B.x15 ∗ found c arg17 arg18 arg19 arg20 arg21 arg22 arg23 arg24 arg25 arg26 B.dyl (B.dp (k0_pay13 (F := F)) y17) (B.add18 (k0_pay7 (F := F))) (B.add19 (k0_pay8 (F := F))) (B.add20 (k0_pay9 (F := F))) (B.add21 (k0_pay10 (F := F))) (B.add22 (k0_pay11 (F := F))) (B.add23 (k0_pay12 (F := F))) (B.add24 (k0_pay14 (F := F))) (B.next (k0_pay13 (F := F)))) -∗ K ⟨⟩))
      ⊢ wp frame (wpE (defs₀ (F := F)) Variants.none c none) E (cc0_mix_bwd B.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  refine BIBase.Entails.trans ?_ ((runFirst c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).2 E K)
  iintro ⟨H, G, C⟩
  isplitl [H]; · iexact H
  isplitl [G]; · iexact G
  iintro ⟨H, G⟩
  iapply C
  isplitl [H]; · iexact H
  unfold left
  icases G with ⟨G16, G17, G18, G19, G20, G21, G22, G23, G24, G25⟩
  unfold found
  isplitl [G16]; · iapply (owns_of_read _ _ (first16 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G16
  isplitl [G17]; · iapply (owns_of_read _ _ (first17 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G17
  isplitl [G18]; · iapply (owns_of_read _ _ (first18 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G18
  isplitl [G19]; · iapply (owns_of_read _ _ (first19 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G19
  isplitl [G20]; · iapply (owns_of_read _ _ (first20 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G20
  isplitl [G21]; · iapply (owns_of_read _ _ (first21 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G21
  isplitl [G22]; · iapply (owns_of_read _ _ (first22 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G22
  isplitl [G23]; · iapply (owns_of_read _ _ (first23 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G23
  isplitl [G24]; · iapply (owns_of_read _ _ (first24 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G24
  iapply (owns_of_read _ _ (first25 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G25

end

end Cert.Steps.Mix

end
-- ==== Proof.MixRunFresh.lean ====
/- The token mixer's backward kernel: its body run once, over whole staging buffers at named contents. Here at the first point of a later sequence. What a
   buffer ends with is given by the pieces that the body stored into it, over what it held. -/
module

public import proofs.«01_k».proof.Proof.MixBody

@[expose] public section

set_option maxRecDepth 16384

noncomputable section

namespace Cert.Steps.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

set_option maxHeartbeats 2000000 in
/-- The body at the first point of a later sequence. -/
noncomputable def runFresh (c : Dev nD) (i : grid0.Coords) (h0 : ¬first i) (h1 : fresh i) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S8x512 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x4096 .bf16) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x512 .f32) (harg22 : arg22.IsWhole) (arg23 : Memref sig .tc .vmem S1x512 .f32) (harg23 : arg23.IsWhole) (arg24 : Memref sig .tc .vmem S8x512 .f32) (harg24 : arg24.IsWhole) (arg25 : Memref sig .tc .vmem S1x1x1024 .f32) (harg25 : arg25.IsWhole) (arg26 : Memref sig .tc .vmem S8x512 .f32) (harg26 : arg26.IsWhole)
    (x0 : Vec F S512x512 .bf16) (x1 : Vec F S512x512 .bf16) (x2 : Vec F S512x512 .bf16) (x3 : Vec F S512x1024 .bf16) (x4 : Vec F S512x1024 .bf16) (x5 : Vec F S16x512 .bf16) (x6 : Vec F S16x512 .bf16) (x7 : Vec F S512x512 .f32) (x8 : Vec F S512x1024 .f32) (x9 : Vec F S1x1x1024 .f32) (x10 : Vec F S512x512 .bf16) (x11 : Vec F S1x512 .f32) (x12 : Vec F S8x512 .f32) (x13 : Vec F S512x1024 .bf16) (x14 : Vec F S512x1024 .bf16) (x15 : Vec F S1024x1024 .bf16)
    (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32) :
    { P : Pieces F // ∀ (E : Set ℕ) (K : PUnit → sProp 𝕄),
      iprop((held c arg1 arg2 arg3 arg4 arg5 arg6 arg7 arg8 arg9 arg10 arg11 arg12 arg13 arg14 arg15 arg16 x0 x1 x2 x3 x4 x5 x6 x7 x8 x9 x10 x11 x12 x13 x14 x15) ∗ (found c arg17 arg18 arg19 arg20 arg21 arg22 arg23 arg24 arg25 arg26 y16 y17 y18 y19 y20 y21 y22 y23 y24 s)
          ∗ (iprop((held c arg1 arg2 arg3 arg4 arg5 arg6 arg7 arg8 arg9 arg10 arg11 arg12 arg13 arg14 arg15 arg16 x0 x1 x2 x3 x4 x5 x6 x7 x8 x9 x10 x11 x12 x13 x14 x15) ∗ (left c arg17 harg17 arg18 harg18 arg19 harg19 arg20 harg20 arg21 harg21 arg22 harg22 arg23 harg23 arg24 harg24 arg25 harg25 arg26 harg26 y16 y17 y18 y19 y20 y21 y22 y23 y24 s P)) -∗ K ⟨⟩))
        ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨⟨?_, ?_, ?_, ?_, ?_, ?_, ?_, ?_, ?_, ?_⟩, fun E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton, k0_part7_eq_skeleton]
    unfold held found left owns; dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    obtain rfl := harg11.eq_unread hf11; obtain rfl := harg12.eq_unread hf12; obtain rfl := harg13.eq_unread hf13; obtain rfl := harg14.eq_unread hf14; obtain rfl := harg15.eq_unread hf15
    obtain rfl := harg16.eq_unread hf16; obtain rfl := harg17.eq_unread hf17; obtain rfl := harg18.eq_unread hf18; obtain rfl := harg19.eq_unread hf19; obtain rfl := harg20.eq_unread hf20
    obtain rfl := harg21.eq_unread hf21; obtain rfl := harg22.eq_unread hf22; obtain rfl := harg23.eq_unread hf23; obtain rfl := harg24.eq_unread hf24; obtain rfl := harg25.eq_unread hf25
    obtain rfl := harg26.eq_unread hf26
    sl_exec (disch := first | sl_exact h0 | sl_exact h1)
    sl_step
    iapply Hk
    isplitr [H17 H18 H19 H20 H21 H22 H23 H24 H25 H26]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; · ipureintro; exact harg15.read_unread _
        iexact H15
      iexists _; isplitr; · ipureintro; exact harg16.read_unread _
      iexact H16
    · isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iexact H26

end Cert.Steps.Mix

end
-- ==== Proof.MixLeftFresh.lean ====
/- The token mixer's backward kernel: what its run at the first point of a later sequence leaves in each buffer, as the named values. -/
module

public import proofs.«01_k».proof.Proof.MixRunFresh
public import proofs.«01_k».proof.Proof.MixValues

@[expose] public section

set_option maxRecDepth 16384

noncomputable section

namespace Cert.Steps.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

section

variable (B : Blocks F) (c : Dev nD) (h0 : ¬first B.i) (h1 : fresh B.i) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S8x512 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x4096 .bf16) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x512 .f32) (harg22 : arg22.IsWhole) (arg23 : Memref sig .tc .vmem S1x512 .f32) (harg23 : arg23.IsWhole) (arg24 : Memref sig .tc .vmem S8x512 .f32) (harg24 : arg24.IsWhole) (arg25 : Memref sig .tc .vmem S1x1x1024 .f32) (harg25 : arg25.IsWhole) (arg26 : Memref sig .tc .vmem S8x512 .f32) (harg26 : arg26.IsWhole) (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32)

set_option maxHeartbeats 2000000 in
theorem fresh16 : arg17.view.read (Elt F) (arg17.view.writes (Elt F) (harg17.unread y16) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L16)
    = B.dyl := by
  unfold runFresh; sl_unfold_words; dsimp only
  frame_out
  exact read_full _ _ _ _ _ (by decide)

set_option maxHeartbeats 2000000 in
theorem fresh17 : arg18.view.read (Elt F) (arg18.view.writes (Elt F) (harg18.unread y17) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L17)
    = B.dp (k0_pay13 (F := F)) y17 := by
  unfold runFresh; sl_unfold_words; dsimp only
  simp (disch := decide) only [↓ View.readCov_skip, ↓ View.readCov_cons_toLoadRect, ↓ View.readCov_fill]
  frame_out
  funext j
  have hj1 : (j 1).val < 4096 := (j 1).isLt
  have hj0 : (j 0).val < 512 := (j 0).isLt
  unfold Blocks.dp
  by_cases c0 : (j 1).val < 512
  · rw [dif_pos c0]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    refine (View.read_writes_cons_unit_of_not_mem _ _ _ _ _ j rfl (1 : Fin 2) (by show (j 1).val < 1536 ∨ 1536 + 512 ≤ (j 1).val; omega)).trans ?_
    refine (View.read_writes_cons_unit_of_not_mem _ _ _ _ _ j rfl (1 : Fin 2) (by show (j 1).val < 1024 ∨ 1024 + 512 ≤ (j 1).val; omega)).trans ?_
    refine (View.read_writes_cons_unit_of_not_mem _ _ _ _ _ j rfl (1 : Fin 2) (by show (j 1).val < 512 ∨ 512 + 512 ≤ (j 1).val; omega)).trans ?_
    exact congrFun (harg18.read_unread y17) j
  rw [dif_neg c0]
  by_cases c1 : (j 1).val < 1024
  · rw [dif_pos c1]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    refine (View.read_writes_cons_unit_of_not_mem _ _ _ _ _ j rfl (1 : Fin 2) (by show (j 1).val < 1536 ∨ 1536 + 512 ≤ (j 1).val; omega)).trans ?_
    refine (View.read_writes_cons_unit_of_not_mem _ _ _ _ _ j rfl (1 : Fin 2) (by show (j 1).val < 1024 ∨ 1024 + 512 ≤ (j 1).val; omega)).trans ?_
    exact View.read_writes_cons_unit_of_mem _ _ _ _ _ j (ix2 (j 0) ⟨(j 1).val - 512, by omega⟩) rfl (Fin.forall_fin_two.mpr ⟨by show (j 0).val = 0 + (j 0).val; omega, by show (j 1).val = 512 + ((j 1).val - 512); omega⟩)
  rw [dif_neg c1]
  by_cases c2 : (j 1).val < 1536
  · rw [dif_pos c2]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    refine (View.read_writes_cons_unit_of_not_mem _ _ _ _ _ j rfl (1 : Fin 2) (by show (j 1).val < 1536 ∨ 1536 + 512 ≤ (j 1).val; omega)).trans ?_
    exact View.read_writes_cons_unit_of_mem _ _ _ _ _ j (ix2 (j 0) ⟨(j 1).val - 1024, by omega⟩) rfl (Fin.forall_fin_two.mpr ⟨by show (j 0).val = 0 + (j 0).val; omega, by show (j 1).val = 1024 + ((j 1).val - 1024); omega⟩)
  rw [dif_neg c2]
  by_cases c3 : (j 1).val < 2048
  · rw [dif_pos c3]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    exact View.read_writes_cons_unit_of_mem _ _ _ _ _ j (ix2 (j 0) ⟨(j 1).val - 1536, by omega⟩) rfl (Fin.forall_fin_two.mpr ⟨by show (j 0).val = 0 + (j 0).val; omega, by show (j 1).val = 1536 + ((j 1).val - 1536); omega⟩)
  rw [dif_neg c3]
  by_cases c4 : (j 1).val < 3072
  · rw [dif_pos c4]
    refine (View.read_writes_cons_unit_of_not_mem _ _ _ _ _ j rfl (1 : Fin 2) (by show (j 1).val < 3072 ∨ 3072 + 1024 ≤ (j 1).val; omega)).trans ?_
    exact View.read_writes_cons_unit_of_mem _ _ _ _ _ j (ix2 (j 0) ⟨(j 1).val - 2048, by omega⟩) rfl (Fin.forall_fin_two.mpr ⟨by show (j 0).val = 0 + (j 0).val; omega, by show (j 1).val = 2048 + ((j 1).val - 2048); omega⟩)
  rw [dif_neg c4]
  exact View.read_writes_cons_unit_of_mem _ _ _ _ _ j (ix2 (j 0) ⟨(j 1).val - 3072, by omega⟩) rfl (Fin.forall_fin_two.mpr ⟨by show (j 0).val = 0 + (j 0).val; omega, by show (j 1).val = 3072 + ((j 1).val - 3072); omega⟩)

set_option maxHeartbeats 2000000 in
theorem fresh18 : arg19.view.read (Elt F) (arg19.view.writes (Elt F) (harg19.unread y18) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L18)
    = B.add18 y18 := by
  unfold runFresh; sl_unfold_words; dsimp only
  frame_out
  exact read_full _ _ _ _ _ (by decide)

set_option maxHeartbeats 2000000 in
theorem fresh19 : arg20.view.read (Elt F) (arg20.view.writes (Elt F) (harg20.unread y19) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L19)
    = B.add19 y19 := by
  unfold runFresh; sl_unfold_words; dsimp only
  frame_out
  exact read_full _ _ _ _ _ (by decide)

set_option maxHeartbeats 2000000 in
theorem fresh20 : arg21.view.read (Elt F) (arg21.view.writes (Elt F) (harg21.unread y20) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L20)
    = B.add20 y20 := by
  unfold runFresh; sl_unfold_words; dsimp only
  frame_out
  exact read_full _ _ _ _ _ (by decide)

set_option maxHeartbeats 2000000 in
theorem fresh21 : arg22.view.read (Elt F) (arg22.view.writes (Elt F) (harg22.unread y21) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L21)
    = B.add21 y21 := by
  unfold runFresh; sl_unfold_words; dsimp only
  frame_out
  exact read_full _ _ _ _ _ (by decide)

set_option maxHeartbeats 2000000 in
theorem fresh22 : arg23.view.read (Elt F) (arg23.view.writes (Elt F) (harg23.unread y22) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L22)
    = B.add22 y22 := by
  unfold runFresh; sl_unfold_words; dsimp only
  frame_out
  exact read_full _ _ _ _ _ (by decide)

set_option maxHeartbeats 2000000 in
theorem fresh23 : arg24.view.read (Elt F) (arg24.view.writes (Elt F) (harg24.unread y23) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L23)
    = B.add23 y23 := by
  unfold runFresh; sl_unfold_words; dsimp only
  frame_out
  funext j
  have hj1 : (j 1).val < 512 := (j 1).isLt
  have hj0 : (j 0).val < 8 := (j 0).isLt
  unfold Blocks.add23
  by_cases c0 : (j 0).val = 0
  · rw [if_pos c0]
    refine (View.read_writes_cons_unit_of_not_mem _ _ _ _ _ j rfl (0 : Fin 2) (by show (j 0).val < 2 ∨ 2 + 1 ≤ (j 0).val; omega)).trans ?_
    refine (View.read_writes_cons_unit_of_not_mem _ _ _ _ _ j rfl (0 : Fin 2) (by show (j 0).val < 1 ∨ 1 + 1 ≤ (j 0).val; omega)).trans ?_
    exact View.read_writes_cons_unit_of_mem _ _ _ _ _ j (ix2 0 (j 1)) rfl (Fin.forall_fin_two.mpr ⟨by show (j 0).val = 0 + 0; omega, by show (j 1).val = 0 + (j 1).val; omega⟩)
  rw [if_neg c0]
  by_cases c1 : (j 0).val = 1
  · rw [if_pos c1]
    refine (View.read_writes_cons_unit_of_not_mem _ _ _ _ _ j rfl (0 : Fin 2) (by show (j 0).val < 2 ∨ 2 + 1 ≤ (j 0).val; omega)).trans ?_
    exact View.read_writes_cons_unit_of_mem _ _ _ _ _ j (ix2 0 (j 1)) rfl (Fin.forall_fin_two.mpr ⟨by show (j 0).val = 1 + 0; omega, by show (j 1).val = 0 + (j 1).val; omega⟩)
  rw [if_neg c1]
  by_cases c2 : (j 0).val = 2
  · rw [if_pos c2]
    exact View.read_writes_cons_unit_of_mem _ _ _ _ _ j (ix2 0 (j 1)) rfl (Fin.forall_fin_two.mpr ⟨by show (j 0).val = 2 + 0; omega, by show (j 1).val = 0 + (j 1).val; omega⟩)
  rw [if_neg c2]
  refine (View.read_writes_cons_unit_of_not_mem _ _ _ _ _ j rfl (0 : Fin 2) (by show (j 0).val < 2 ∨ 2 + 1 ≤ (j 0).val; omega)).trans ?_
  refine (View.read_writes_cons_unit_of_not_mem _ _ _ _ _ j rfl (0 : Fin 2) (by show (j 0).val < 1 ∨ 1 + 1 ≤ (j 0).val; omega)).trans ?_
  refine (View.read_writes_cons_unit_of_not_mem _ _ _ _ _ j rfl (0 : Fin 2) (by show (j 0).val < 0 ∨ 0 + 1 ≤ (j 0).val; omega)).trans ?_
  exact congrFun (harg24.read_unread y23) j

set_option maxHeartbeats 2000000 in
theorem fresh24 : arg25.view.read (Elt F) (arg25.view.writes (Elt F) (harg25.unread y24) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L24)
    = B.add24 (k0_pay14 (F := F)) := by
  unfold runFresh; sl_unfold_words; dsimp only
  simp (disch := decide) only [↓ View.readCov_skip, ↓ View.readCov_cons_toLoadRect, ↓ View.readCov_fill]
  frame_out
  exact read_full _ _ _ _ _ (by decide)

set_option maxHeartbeats 2000000 in
theorem fresh25 : arg26.view.read (Elt F) (arg26.view.writes (Elt F) (harg26.unread s) (runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.Ls)
    = B.next (k0_pay13 (F := F)) := by
  unfold runFresh; sl_unfold_words; dsimp only
  frame_out
  funext j
  have hj1 : (j 1).val < 512 := (j 1).isLt
  have hj0 : (j 0).val < 8 := (j 0).isLt
  unfold Blocks.next
  by_cases c0 : (j 0).val < 2
  · rw [dif_pos c0]
    exact View.read_writes_cons_unit_of_mem _ _ _ _ _ j (ix2 ⟨(j 0).val, c0⟩ (j 1)) rfl (Fin.forall_fin_two.mpr ⟨by show (j 0).val = 0 + (j 0).val; omega, by show (j 1).val = 0 + (j 1).val; omega⟩)
  rw [dif_neg c0]
  refine (View.read_writes_cons_unit_of_not_mem _ _ _ _ _ j rfl (0 : Fin 2) (by show (j 0).val < 0 ∨ 0 + 2 ≤ (j 0).val; omega)).trans ?_
  exact congrFun (read_full _ _ _ _ _ (by decide)) j

include h0 h1 in
set_option maxHeartbeats 2000000 in
/-- The body at the first point of a later sequence: from its inputs and what it finds in the other buffers, it runs to the named values. -/
theorem tripleFresh (E : Set ℕ) (K : PUnit → sProp 𝕄) :
    iprop(held c arg1 arg2 arg3 arg4 arg5 arg6 arg7 arg8 arg9 arg10 arg11 arg12 arg13 arg14 arg15 arg16 B.x0 B.x1 B.x2 B.x3 B.x4 B.x5 B.x6 B.x7 B.x8 B.x9 B.x10 B.x11 B.x12 B.x13 B.x14 B.x15 ∗ found c arg17 arg18 arg19 arg20 arg21 arg22 arg23 arg24 arg25 arg26 y16 y17 y18 y19 y20 y21 y22 y23 y24 s ∗ (iprop(held c arg1 arg2 arg3 arg4 arg5 arg6 arg7 arg8 arg9 arg10 arg11 arg12 arg13 arg14 arg15 arg16 B.x0 B.x1 B.x2 B.x3 B.x4 B.x5 B.x6 B.x7 B.x8 B.x9 B.x10 B.x11 B.x12 B.x13 B.x14 B.x15 ∗ found c arg17 arg18 arg19 arg20 arg21 arg22 arg23 arg24 arg25 arg26 B.dyl (B.dp (k0_pay13 (F := F)) y17) (B.add18 y18) (B.add19 y19) (B.add20 y20) (B.add21 y21) (B.add22 y22) (B.add23 y23) (B.add24 (k0_pay14 (F := F))) (B.next (k0_pay13 (F := F)))) -∗ K ⟨⟩))
      ⊢ wp frame (wpE (defs₀ (F := F)) Variants.none c none) E (cc0_mix_bwd B.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  refine BIBase.Entails.trans ?_ ((runFresh c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).2 E K)
  iintro ⟨H, G, C⟩
  isplitl [H]; · iexact H
  isplitl [G]; · iexact G
  iintro ⟨H, G⟩
  iapply C
  isplitl [H]; · iexact H
  unfold left
  icases G with ⟨G16, G17, G18, G19, G20, G21, G22, G23, G24, G25⟩
  unfold found
  isplitl [G16]; · iapply (owns_of_read _ _ (fresh16 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G16
  isplitl [G17]; · iapply (owns_of_read _ _ (fresh17 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G17
  isplitl [G18]; · iapply (owns_of_read _ _ (fresh18 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G18
  isplitl [G19]; · iapply (owns_of_read _ _ (fresh19 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G19
  isplitl [G20]; · iapply (owns_of_read _ _ (fresh20 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G20
  isplitl [G21]; · iapply (owns_of_read _ _ (fresh21 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G21
  isplitl [G22]; · iapply (owns_of_read _ _ (fresh22 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G22
  isplitl [G23]; · iapply (owns_of_read _ _ (fresh23 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G23
  isplitl [G24]; · iapply (owns_of_read _ _ (fresh24 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G24
  iapply (owns_of_read _ _ (fresh25 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G25

end

end Cert.Steps.Mix

end
-- ==== Proof.MixRunInner.lean ====
/- The token mixer's backward kernel: its body run once, over whole staging buffers at named contents. Here at any other point. What a
   buffer ends with is given by the pieces that the body stored into it, over what it held. -/
module

public import proofs.«01_k».proof.Proof.MixBody

@[expose] public section

set_option maxRecDepth 16384

noncomputable section

namespace Cert.Steps.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

set_option maxHeartbeats 2000000 in
/-- The body at any other point. -/
noncomputable def runInner (c : Dev nD) (i : grid0.Coords) (h0 : ¬first i) (h1 : ¬fresh i) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S8x512 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x4096 .bf16) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x512 .f32) (harg22 : arg22.IsWhole) (arg23 : Memref sig .tc .vmem S1x512 .f32) (harg23 : arg23.IsWhole) (arg24 : Memref sig .tc .vmem S8x512 .f32) (harg24 : arg24.IsWhole) (arg25 : Memref sig .tc .vmem S1x1x1024 .f32) (harg25 : arg25.IsWhole) (arg26 : Memref sig .tc .vmem S8x512 .f32) (harg26 : arg26.IsWhole)
    (x0 : Vec F S512x512 .bf16) (x1 : Vec F S512x512 .bf16) (x2 : Vec F S512x512 .bf16) (x3 : Vec F S512x1024 .bf16) (x4 : Vec F S512x1024 .bf16) (x5 : Vec F S16x512 .bf16) (x6 : Vec F S16x512 .bf16) (x7 : Vec F S512x512 .f32) (x8 : Vec F S512x1024 .f32) (x9 : Vec F S1x1x1024 .f32) (x10 : Vec F S512x512 .bf16) (x11 : Vec F S1x512 .f32) (x12 : Vec F S8x512 .f32) (x13 : Vec F S512x1024 .bf16) (x14 : Vec F S512x1024 .bf16) (x15 : Vec F S1024x1024 .bf16)
    (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32) :
    { P : Pieces F // ∀ (E : Set ℕ) (K : PUnit → sProp 𝕄),
      iprop((held c arg1 arg2 arg3 arg4 arg5 arg6 arg7 arg8 arg9 arg10 arg11 arg12 arg13 arg14 arg15 arg16 x0 x1 x2 x3 x4 x5 x6 x7 x8 x9 x10 x11 x12 x13 x14 x15) ∗ (found c arg17 arg18 arg19 arg20 arg21 arg22 arg23 arg24 arg25 arg26 y16 y17 y18 y19 y20 y21 y22 y23 y24 s)
          ∗ (iprop((held c arg1 arg2 arg3 arg4 arg5 arg6 arg7 arg8 arg9 arg10 arg11 arg12 arg13 arg14 arg15 arg16 x0 x1 x2 x3 x4 x5 x6 x7 x8 x9 x10 x11 x12 x13 x14 x15) ∗ (left c arg17 harg17 arg18 harg18 arg19 harg19 arg20 harg20 arg21 harg21 arg22 harg22 arg23 harg23 arg24 harg24 arg25 harg25 arg26 harg26 y16 y17 y18 y19 y20 y21 y22 y23 y24 s P)) -∗ K ⟨⟩))
        ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨⟨?_, ?_, ?_, ?_, ?_, ?_, ?_, ?_, ?_, ?_⟩, fun E K => ?run⟩
  case run =>
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton, k0_part7_eq_skeleton]
    unfold held found left owns; dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩⟩, Hk⟩
    obtain rfl := harg1.eq_unread hf1; obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9; obtain rfl := harg10.eq_unread hf10
    obtain rfl := harg11.eq_unread hf11; obtain rfl := harg12.eq_unread hf12; obtain rfl := harg13.eq_unread hf13; obtain rfl := harg14.eq_unread hf14; obtain rfl := harg15.eq_unread hf15
    obtain rfl := harg16.eq_unread hf16; obtain rfl := harg17.eq_unread hf17; obtain rfl := harg18.eq_unread hf18; obtain rfl := harg19.eq_unread hf19; obtain rfl := harg20.eq_unread hf20
    obtain rfl := harg21.eq_unread hf21; obtain rfl := harg22.eq_unread hf22; obtain rfl := harg23.eq_unread hf23; obtain rfl := harg24.eq_unread hf24; obtain rfl := harg25.eq_unread hf25
    obtain rfl := harg26.eq_unread hf26
    sl_exec (disch := first | sl_exact h0 | sl_exact h1)
    sl_step
    iapply Hk
    isplitr [H17 H18 H19 H20 H21 H22 H23 H24 H25 H26]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; · ipureintro; exact harg15.read_unread _
        iexact H15
      iexists _; isplitr; · ipureintro; exact harg16.read_unread _
      iexact H16
    · isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      iexact H26

end Cert.Steps.Mix

end
-- ==== Proof.MixLeftInner.lean ====
/- The token mixer's backward kernel: what its run at any other point leaves in each buffer, as the named values. -/
module

public import proofs.«01_k».proof.Proof.MixRunInner
public import proofs.«01_k».proof.Proof.MixValues

@[expose] public section

set_option maxRecDepth 16384

noncomputable section

namespace Cert.Steps.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

section

variable (B : Blocks F) (c : Dev nD) (h0 : ¬first B.i) (h1 : ¬fresh B.i) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S512x512 .f32) (harg8 : arg8.IsWhole) (arg9 : Memref sig .tc .vmem S512x1024 .f32) (harg9 : arg9.IsWhole) (arg10 : Memref sig .tc .vmem S1x1x1024 .f32) (harg10 : arg10.IsWhole) (arg11 : Memref sig .tc .vmem S512x512 .bf16) (harg11 : arg11.IsWhole) (arg12 : Memref sig .tc .vmem S1x512 .f32) (harg12 : arg12.IsWhole) (arg13 : Memref sig .tc .vmem S8x512 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S1024x1024 .bf16) (harg16 : arg16.IsWhole) (arg17 : Memref sig .tc .vmem S512x512 .f32) (harg17 : arg17.IsWhole) (arg18 : Memref sig .tc .vmem S512x4096 .bf16) (harg18 : arg18.IsWhole) (arg19 : Memref sig .tc .vmem S1024x1024 .f32) (harg19 : arg19.IsWhole) (arg20 : Memref sig .tc .vmem S512x1024 .f32) (harg20 : arg20.IsWhole) (arg21 : Memref sig .tc .vmem S512x1024 .f32) (harg21 : arg21.IsWhole) (arg22 : Memref sig .tc .vmem S512x512 .f32) (harg22 : arg22.IsWhole) (arg23 : Memref sig .tc .vmem S1x512 .f32) (harg23 : arg23.IsWhole) (arg24 : Memref sig .tc .vmem S8x512 .f32) (harg24 : arg24.IsWhole) (arg25 : Memref sig .tc .vmem S1x1x1024 .f32) (harg25 : arg25.IsWhole) (arg26 : Memref sig .tc .vmem S8x512 .f32) (harg26 : arg26.IsWhole) (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32)

set_option maxHeartbeats 2000000 in
theorem inner16 : arg17.view.read (Elt F) (arg17.view.writes (Elt F) (harg17.unread y16) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L16)
    = B.dyl := by
  unfold runInner; sl_unfold_words; dsimp only
  frame_out
  exact read_full _ _ _ _ _ (by decide)

set_option maxHeartbeats 2000000 in
theorem inner17 : arg18.view.read (Elt F) (arg18.view.writes (Elt F) (harg18.unread y17) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L17)
    = B.dp s y17 := by
  unfold runInner; sl_unfold_words; dsimp only
  frame_out
  funext j
  have hj1 : (j 1).val < 4096 := (j 1).isLt
  have hj0 : (j 0).val < 512 := (j 0).isLt
  unfold Blocks.dp
  by_cases c0 : (j 1).val < 512
  · rw [dif_pos c0]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    refine (View.read_writes_cons_unit_of_not_mem _ _ _ _ _ j rfl (1 : Fin 2) (by show (j 1).val < 1536 ∨ 1536 + 512 ≤ (j 1).val; omega)).trans ?_
    refine (View.read_writes_cons_unit_of_not_mem _ _ _ _ _ j rfl (1 : Fin 2) (by show (j 1).val < 1024 ∨ 1024 + 512 ≤ (j 1).val; omega)).trans ?_
    refine (View.read_writes_cons_unit_of_not_mem _ _ _ _ _ j rfl (1 : Fin 2) (by show (j 1).val < 512 ∨ 512 + 512 ≤ (j 1).val; omega)).trans ?_
    exact congrFun (harg18.read_unread y17) j
  rw [dif_neg c0]
  by_cases c1 : (j 1).val < 1024
  · rw [dif_pos c1]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    refine (View.read_writes_cons_unit_of_not_mem _ _ _ _ _ j rfl (1 : Fin 2) (by show (j 1).val < 1536 ∨ 1536 + 512 ≤ (j 1).val; omega)).trans ?_
    refine (View.read_writes_cons_unit_of_not_mem _ _ _ _ _ j rfl (1 : Fin 2) (by show (j 1).val < 1024 ∨ 1024 + 512 ≤ (j 1).val; omega)).trans ?_
    exact View.read_writes_cons_unit_of_mem _ _ _ _ _ j (ix2 (j 0) ⟨(j 1).val - 512, by omega⟩) rfl (Fin.forall_fin_two.mpr ⟨by show (j 0).val = 0 + (j 0).val; omega, by show (j 1).val = 512 + ((j 1).val - 512); omega⟩)
  rw [dif_neg c1]
  by_cases c2 : (j 1).val < 1536
  · rw [dif_pos c2]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    refine (View.read_writes_cons_unit_of_not_mem _ _ _ _ _ j rfl (1 : Fin 2) (by show (j 1).val < 1536 ∨ 1536 + 512 ≤ (j 1).val; omega)).trans ?_
    exact View.read_writes_cons_unit_of_mem _ _ _ _ _ j (ix2 (j 0) ⟨(j 1).val - 1024, by omega⟩) rfl (Fin.forall_fin_two.mpr ⟨by show (j 0).val = 0 + (j 0).val; omega, by show (j 1).val = 1024 + ((j 1).val - 1024); omega⟩)
  rw [dif_neg c2]
  by_cases c3 : (j 1).val < 2048
  · rw [dif_pos c3]
    refine (View.read_writes_cons_unit_of_not_mem _ _ _ _ _ j rfl (1 : Fin 2) (by show (j 1).val < 3072 ∨ 3072 + 1024 ≤ (j 1).val; omega)).trans ?_
    refine (View.read_writes_cons_unit_of_not_mem _ _ _ _ _ j rfl (1 : Fin 2) (by show (j 1).val < 2048 ∨ 2048 + 1024 ≤ (j 1).val; omega)).trans ?_
    exact View.read_writes_cons_unit_of_mem _ _ _ _ _ j (ix2 (j 0) ⟨(j 1).val - 1536, by omega⟩) rfl (Fin.forall_fin_two.mpr ⟨by show (j 0).val = 0 + (j 0).val; omega, by show (j 1).val = 1536 + ((j 1).val - 1536); omega⟩)
  rw [dif_neg c3]
  by_cases c4 : (j 1).val < 3072
  · rw [dif_pos c4]
    refine (View.read_writes_cons_unit_of_not_mem _ _ _ _ _ j rfl (1 : Fin 2) (by show (j 1).val < 3072 ∨ 3072 + 1024 ≤ (j 1).val; omega)).trans ?_
    exact View.read_writes_cons_unit_of_mem _ _ _ _ _ j (ix2 (j 0) ⟨(j 1).val - 2048, by omega⟩) rfl (Fin.forall_fin_two.mpr ⟨by show (j 0).val = 0 + (j 0).val; omega, by show (j 1).val = 2048 + ((j 1).val - 2048); omega⟩)
  rw [dif_neg c4]
  exact View.read_writes_cons_unit_of_mem _ _ _ _ _ j (ix2 (j 0) ⟨(j 1).val - 3072, by omega⟩) rfl (Fin.forall_fin_two.mpr ⟨by show (j 0).val = 0 + (j 0).val; omega, by show (j 1).val = 3072 + ((j 1).val - 3072); omega⟩)

set_option maxHeartbeats 2000000 in
theorem inner18 : arg19.view.read (Elt F) (arg19.view.writes (Elt F) (harg19.unread y18) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L18)
    = B.add18 y18 := by
  unfold runInner; sl_unfold_words; dsimp only
  frame_out
  exact read_full _ _ _ _ _ (by decide)

set_option maxHeartbeats 2000000 in
theorem inner19 : arg20.view.read (Elt F) (arg20.view.writes (Elt F) (harg20.unread y19) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L19)
    = B.add19 y19 := by
  unfold runInner; sl_unfold_words; dsimp only
  frame_out
  exact read_full _ _ _ _ _ (by decide)

set_option maxHeartbeats 2000000 in
theorem inner20 : arg21.view.read (Elt F) (arg21.view.writes (Elt F) (harg21.unread y20) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L20)
    = B.add20 y20 := by
  unfold runInner; sl_unfold_words; dsimp only
  frame_out
  exact read_full _ _ _ _ _ (by decide)

set_option maxHeartbeats 2000000 in
theorem inner21 : arg22.view.read (Elt F) (arg22.view.writes (Elt F) (harg22.unread y21) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L21)
    = B.add21 y21 := by
  unfold runInner; sl_unfold_words; dsimp only
  frame_out
  exact read_full _ _ _ _ _ (by decide)

set_option maxHeartbeats 2000000 in
theorem inner22 : arg23.view.read (Elt F) (arg23.view.writes (Elt F) (harg23.unread y22) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L22)
    = B.add22 y22 := by
  unfold runInner; sl_unfold_words; dsimp only
  frame_out
  exact read_full _ _ _ _ _ (by decide)

set_option maxHeartbeats 2000000 in
theorem inner23 : arg24.view.read (Elt F) (arg24.view.writes (Elt F) (harg24.unread y23) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L23)
    = B.add23 y23 := by
  unfold runInner; sl_unfold_words; dsimp only
  frame_out
  funext j
  have hj1 : (j 1).val < 512 := (j 1).isLt
  have hj0 : (j 0).val < 8 := (j 0).isLt
  unfold Blocks.add23
  by_cases c0 : (j 0).val = 0
  · rw [if_pos c0]
    refine (View.read_writes_cons_unit_of_not_mem _ _ _ _ _ j rfl (0 : Fin 2) (by show (j 0).val < 2 ∨ 2 + 1 ≤ (j 0).val; omega)).trans ?_
    refine (View.read_writes_cons_unit_of_not_mem _ _ _ _ _ j rfl (0 : Fin 2) (by show (j 0).val < 1 ∨ 1 + 1 ≤ (j 0).val; omega)).trans ?_
    exact View.read_writes_cons_unit_of_mem _ _ _ _ _ j (ix2 0 (j 1)) rfl (Fin.forall_fin_two.mpr ⟨by show (j 0).val = 0 + 0; omega, by show (j 1).val = 0 + (j 1).val; omega⟩)
  rw [if_neg c0]
  by_cases c1 : (j 0).val = 1
  · rw [if_pos c1]
    refine (View.read_writes_cons_unit_of_not_mem _ _ _ _ _ j rfl (0 : Fin 2) (by show (j 0).val < 2 ∨ 2 + 1 ≤ (j 0).val; omega)).trans ?_
    exact View.read_writes_cons_unit_of_mem _ _ _ _ _ j (ix2 0 (j 1)) rfl (Fin.forall_fin_two.mpr ⟨by show (j 0).val = 1 + 0; omega, by show (j 1).val = 0 + (j 1).val; omega⟩)
  rw [if_neg c1]
  by_cases c2 : (j 0).val = 2
  · rw [if_pos c2]
    exact View.read_writes_cons_unit_of_mem _ _ _ _ _ j (ix2 0 (j 1)) rfl (Fin.forall_fin_two.mpr ⟨by show (j 0).val = 2 + 0; omega, by show (j 1).val = 0 + (j 1).val; omega⟩)
  rw [if_neg c2]
  refine (View.read_writes_cons_unit_of_not_mem _ _ _ _ _ j rfl (0 : Fin 2) (by show (j 0).val < 2 ∨ 2 + 1 ≤ (j 0).val; omega)).trans ?_
  refine (View.read_writes_cons_unit_of_not_mem _ _ _ _ _ j rfl (0 : Fin 2) (by show (j 0).val < 1 ∨ 1 + 1 ≤ (j 0).val; omega)).trans ?_
  refine (View.read_writes_cons_unit_of_not_mem _ _ _ _ _ j rfl (0 : Fin 2) (by show (j 0).val < 0 ∨ 0 + 1 ≤ (j 0).val; omega)).trans ?_
  exact congrFun (harg24.read_unread y23) j

set_option maxHeartbeats 2000000 in
theorem inner24 : arg25.view.read (Elt F) (arg25.view.writes (Elt F) (harg25.unread y24) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.L24)
    = B.add24 y24 := by
  unfold runInner; sl_unfold_words; dsimp only
  frame_out
  exact read_full _ _ _ _ _ (by decide)

set_option maxHeartbeats 2000000 in
theorem inner25 : arg26.view.read (Elt F) (arg26.view.writes (Elt F) (harg26.unread s) (runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).1.Ls)
    = B.next s := by
  unfold runInner; sl_unfold_words; dsimp only
  frame_out
  funext j
  have hj1 : (j 1).val < 512 := (j 1).isLt
  have hj0 : (j 0).val < 8 := (j 0).isLt
  unfold Blocks.next
  by_cases c0 : (j 0).val < 2
  · rw [dif_pos c0]
    exact View.read_writes_cons_unit_of_mem _ _ _ _ _ j (ix2 ⟨(j 0).val, c0⟩ (j 1)) rfl (Fin.forall_fin_two.mpr ⟨by show (j 0).val = 0 + (j 0).val; omega, by show (j 1).val = 0 + (j 1).val; omega⟩)
  rw [dif_neg c0]
  refine (View.read_writes_cons_unit_of_not_mem _ _ _ _ _ j rfl (0 : Fin 2) (by show (j 0).val < 0 ∨ 0 + 2 ≤ (j 0).val; omega)).trans ?_
  exact congrFun (harg26.read_unread s) j

include h0 h1 in
set_option maxHeartbeats 2000000 in
/-- The body at any other point: from its inputs and what it finds in the other buffers, it runs to the named values. -/
theorem tripleInner (E : Set ℕ) (K : PUnit → sProp 𝕄) :
    iprop(held c arg1 arg2 arg3 arg4 arg5 arg6 arg7 arg8 arg9 arg10 arg11 arg12 arg13 arg14 arg15 arg16 B.x0 B.x1 B.x2 B.x3 B.x4 B.x5 B.x6 B.x7 B.x8 B.x9 B.x10 B.x11 B.x12 B.x13 B.x14 B.x15 ∗ found c arg17 arg18 arg19 arg20 arg21 arg22 arg23 arg24 arg25 arg26 y16 y17 y18 y19 y20 y21 y22 y23 y24 s ∗ (iprop(held c arg1 arg2 arg3 arg4 arg5 arg6 arg7 arg8 arg9 arg10 arg11 arg12 arg13 arg14 arg15 arg16 B.x0 B.x1 B.x2 B.x3 B.x4 B.x5 B.x6 B.x7 B.x8 B.x9 B.x10 B.x11 B.x12 B.x13 B.x14 B.x15 ∗ found c arg17 arg18 arg19 arg20 arg21 arg22 arg23 arg24 arg25 arg26 B.dyl (B.dp s y17) (B.add18 y18) (B.add19 y19) (B.add20 y20) (B.add21 y21) (B.add22 y22) (B.add23 y23) (B.add24 y24) (B.next s)) -∗ K ⟨⟩))
      ⊢ wp frame (wpE (defs₀ (F := F)) Variants.none c none) E (cc0_mix_bwd B.i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  refine BIBase.Entails.trans ?_ ((runInner c B.i h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B.x0 B.x1 B.x2 B.x3 B.x4 B.x5 B.x6 B.x7 B.x8 B.x9 B.x10 B.x11 B.x12 B.x13 B.x14 B.x15 y16 y17 y18 y19 y20 y21 y22 y23 y24 s).2 E K)
  iintro ⟨H, G, C⟩
  isplitl [H]; · iexact H
  isplitl [G]; · iexact G
  iintro ⟨H, G⟩
  iapply C
  isplitl [H]; · iexact H
  unfold left
  icases G with ⟨G16, G17, G18, G19, G20, G21, G22, G23, G24, G25⟩
  unfold found
  isplitl [G16]; · iapply (owns_of_read _ _ (inner16 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G16
  isplitl [G17]; · iapply (owns_of_read _ _ (inner17 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G17
  isplitl [G18]; · iapply (owns_of_read _ _ (inner18 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G18
  isplitl [G19]; · iapply (owns_of_read _ _ (inner19 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G19
  isplitl [G20]; · iapply (owns_of_read _ _ (inner20 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G20
  isplitl [G21]; · iapply (owns_of_read _ _ (inner21 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G21
  isplitl [G22]; · iapply (owns_of_read _ _ (inner22 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G22
  isplitl [G23]; · iapply (owns_of_read _ _ (inner23 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G23
  isplitl [G24]; · iapply (owns_of_read _ _ (inner24 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G24
  iapply (owns_of_read _ _ (inner25 B c h0 h1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 y16 y17 y18 y19 y20 y21 y22 y23 y24 s)); iexact G25

end

end Cert.Steps.Mix

end
-- ==== Proof.Tail.lean ====
/- A run of a pipelined kernel followed by host operations, when what a body may leave in a window is a relation: the host
   operations' results are named as well, as functions of contents that the arrays may end with. -/
module

public import Idealize.ShloMosaic.Lib.Pipeline.FrameSuffix
public import Idealize.ShloMosaic.Lib.Pipeline.FrameBody
public import Idealize.ShloMosaic.Lib.Tactic

@[expose] public section

set_option maxRecDepth 16384

noncomputable section

namespace Cert.Steps.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Idealize.SL.Sem.Labels} {P : Type} [Fintype P] [DecidableEq P]
  [∀ e, Nonempty (Val e)]

local notation "𝕄" => MT nD τ sig Unit Val ℕ (UR sig nD τ) ℕ

/-- The arrays at contents they may hold, opened. -/
theorem open_arrays {cfg : Cfg sig Λ₀} {c : Dev nD} (rd : RDat τ Val Unit ℕ (UR sig nD τ) ℕ cfg c) (n : ℕ) :
    (rd.arraysAt n : sProp 𝕄) ⊢ iprop(∃ A : (w : Fin cfg.W) → Buf Val ((cfg.win w).arr.view.loc (c.tc : Thread nD τ)), ⌜∀ w, rd.ArrAt w n (A w)⌝ ∗ rd.arrays A) := by
  unfold RDat.arraysAt RDat.arrays
  iintro H
  ihave H' := (BI.bigSep_exists_pi Finset.univ _) $$ H
  icases H' with ⟨%A, H⟩
  ihave H' := (BI.bigSep_pure_sep Finset.univ (fun w => rd.ArrAt w n (A w)) _) $$ H
  icases H' with ⟨%h, H⟩
  iexists A
  isplitr
  · ipureintro; exact fun w => h w (Finset.mem_univ w)
  · iexact H

/-- The arrays at contents they may hold, closed. -/
theorem close_arrays {cfg : Cfg sig Λ₀} {c : Dev nD} (rd : RDat τ Val Unit ℕ (UR sig nD τ) ℕ cfg c) (n : ℕ)
    (A : (w : Fin cfg.W) → Buf Val ((cfg.win w).arr.view.loc (c.tc : Thread nD τ))) (h : ∀ w, rd.ArrAt w n (A w)) :
    (rd.arrays A : sProp 𝕄) ⊢ rd.arraysAt n := by
  unfold RDat.arraysAt RDat.arrays
  refine BI.bigSep_mono fun w _ => ?_
  show (((cfg.win w).arr.view.loc (c.tc : Thread nD τ) ↦[(cfg.win w).arr.view.set]{rd.share w} A w : sProp 𝕄)
    ⊢ iprop(∃ G, ⌜rd.ArrAt w n G⌝ ∗ ((cfg.win w).arr.view.loc (c.tc : Thread nD τ) ↦[(cfg.win w).arr.view.set]{rd.share w} G)))
  iintro H
  iexists (A w)
  isplitr
  · ipureintro; exact h w
  · iexact H

variable (pcs : P → PCfg sig Λ₀ Val) (a : (p : P) → (pcs p).Adm) (p : P) (kit : PLaunchFacts₀ (nD := nD) (τ := τ) pcs p)
  (defs₀ : Defs nD τ sig Val Λ₀) (𝒱₀ : Variants)

include kit in
/-- The arrays end with contents they may hold; every buffer outside the pipeline ends as the host operations leave it, run on
    arrays with contents they may hold. -/
theorem run_then_host (rdat : (c : Dev nD) → RDat τ Val Unit ℕ (UR sig nD τ) ℕ (pin pcs a p) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((pin pcs a p).spec w).isOut = false → (rdat c).q w = shareOf (pin pcs a p).spec w)
    (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rdat c).Φ 0)
    (hout : ∀ c, (rdat c).Φ (Fin.last (pin pcs a p).N) ⊢ ΦA (pin pcs a p).spec c)
    {Q : PUnit × MemSt nD τ sig Val → Prop}
    (hQ : ∀ s : MemSt nD τ sig Val,
      (∀ c : Dev nD, (∀ w, (rdat c).ArrAt w (pin pcs a p).N (s.mem (((pin pcs a p).spec w).arr.view.loc (c.tc : Thread nD τ))))
        ∧ ∃ A : (w : Fin (pin pcs a p).W) → Buf Val (((pin pcs a p).win w).arr.view.loc (c.tc : Thread nD τ)),
            (∀ w, (rdat c).ArrAt w (pin pcs a p).N (A w)) ∧ ∀ b ∈ restRefsP sig (pcs p).pre (pin pcs a p).spec,
              s.mem ((c.tc : Thread nD τ).loc b) = StableHlo.after opss.flatten (withArrays (pin pcs a p).spec c (V₀ c) A) (Proc.devRef .tc b)) →
      s.sem = (fun _ => 0) → Q (⟨⟩, s)) :
    θ_run (Pipeline.defs pcs defs₀) (onTc main) (s₀ m g) Q := by
  classical
  refine RDat.θ_run_region_pf_tail_quiescent pcs a (RDat.familyOf pcs a p rdat) () (kit.cellOf_inj a) p kit.win
    (OwnSemFacts.none (pin pcs a p).spec) kit.pre emb₁ defs₀ 𝒱₀ m g main (fun _ => chain (opss.map StableHlo.seq))
    (fun c => by rw [RDat.familyOf_self]; exact hbody c) kit.block_pos kit.arr_whole kit.stage_whole
    (fun c t => by rw [RDat.familyOf_self]; exact howed c t) (fun _ => iprop(emp))
    (initOf (cells (pin pcs a) (kit.cellOf_inj a)) (launchToks (pin pcs a) (kit.cellOf_inj a))) ?_
    (fun c b => V₀ c (Proc.devRef .tc b)) hmain
    (fun c => by rw [RDat.familyOf_self]; exact (rdat c).arrays_split_shared kit.sharedIn kit.arr_whole (hq c) _ _ (hA c)) hpf
    (fun c => iprop(∃ r, prngReg c r)) (fun c => iprop(∃ r, prngReg c r))
    (fun c => unscopedRestP (pcs p).pre (pin pcs a p).spec c (fun b => V₀ c (Proc.devRef .tc b)))
    (fun c => iprop(∃ A : (w : Fin (pin pcs a p).W) → Buf Val (((pin pcs a p).win w).arr.view.loc (c.tc : Thread nD τ)),
      ⌜∀ w, (rdat c).ArrAt w (pin pcs a p).N (A w)⌝ ∗ unscopedRestP (pcs p).pre (pin pcs a p).spec c
        (fun b => StableHlo.after opss.flatten (withArrays (pin pcs a p).spec c (V₀ c) A) (Proc.devRef .tc b))))
    ?_ ?_ ?_ ?_
    (fun c s => ∃ A : (w : Fin (pin pcs a p).W) → Buf Val (((pin pcs a p).win w).arr.view.loc (c.tc : Thread nD τ)),
            (∀ w, (rdat c).ArrAt w (pin pcs a p).N (A w)) ∧ ∀ b ∈ restRefsP sig (pcs p).pre (pin pcs a p).spec,
              s.mem ((c.tc : Thread nD τ).loc b) = StableHlo.after opss.flatten (withArrays (pin pcs a p).spec c (V₀ c) A) (Proc.devRef .tc b))
    ?_ fun s h hz => hQ s (fun c => ⟨fun w => by simpa only [RDat.familyOf_self] using (h c).1 w, (h c).2.2⟩) hz
  · iintro H
    imodintro
    isplitl [H]
    · iapply (show (ownU _ : sProp 𝕄) ⊢ BI.own (emb₁ (initOf (cells (pin pcs a) (kit.cellOf_inj a)) (launchToks (pin pcs a) (kit.cellOf_inj a)))) from .rfl)
      iexact H
    · iapply (show (BI.emp : sProp 𝕄) ⊢ bigSep Finset.univ (fun _ : Dev nD => (BI.emp : sProp 𝕄)) from by rw [BI.bigSep_emp_const])
      iempintro
  · intro c
    iintro ⟨H, -, -, R, -⟩
    imodintro
    isplitl [R]
    · iexists _; iexact R
    · iexact H
  · intro c
    rw [RDat.familyOf_self]
    refine BIBase.Entails.trans ?_ (hin c)
    unfold ΦA ΦT
    iintro ⟨R, T, S⟩
    isplitr [T]
    · isplitl [S] <;> iassumption
    · iexact T
  · intro c
    rw [RDat.familyOf_self]
    refine (hout c).trans ?_
    rw [ownSems0_none]
    unfold ΦA
    iintro ⟨S, R⟩
    isplitl [R]; · iexact R
    isplitr; · iempintro
    iexact S
  · intro c Q'
    rw [RDat.familyOf_self]
    iintro ⟨K, B, H, Z⟩
    ihave H' := (open_arrays (rdat c) _) $$ H
    icases H' with ⟨%A, %h, H⟩
    have e : (rdat c).arrays A = arrBufs (pin pcs a p).spec c (fun b => withArrays (pin pcs a p).spec c (V₀ c) A (Proc.devRef .tc b)) :=
      ((rdat c).arrBufs_eq_arrays kit.sharedIn kit.arr_whole (hq c) _ A fun w =>
        (withArrays_arr_shared (pin pcs a p).spec c (V₀ c) A ((rdat c).ArrAt_sharedIn kit.sharedIn (V₀ c) (hA c) _ A h) w).symm).symm
    iapply (tail_seqs_bufs_b pcs defs₀ 𝒱₀ (pcs p).pre (pin pcs a p).spec c (V₀ c) A opss hsub hfresh hkeep Q')
    isplitl [K]
    · iintro ⟨B, H, Z⟩
      iapply K
      isplitl [B]; · iexact B
      isplitl [H]
      · iapply (close_arrays (rdat c) _ A h); iapply (Entails.of_eq e.symm); iexact H
      · iexists A
        isplitr
        · ipureintro; exact h
        · iexact Z
    · isplitl [B]; · iexact B
      isplitl [H]
      · iapply (Entails.of_eq e); iexact H
      · iexact Z
  · intro c s
    iintro ⟨-, ⟨%A, %h, Z⟩, S⟩
    unfold unscopedRestP
    ihave Z' := (pointsTo_read_all (restRefsP sig (pcs p).pre (pin pcs a p).spec) (fun b => (c.tc : Thread nD τ).loc b) _ s) $$ [Z S]
    · isplitl [Z] <;> iassumption
    icases Z' with ⟨%hz, S⟩
    imodintro
    isplitr
    · ipureintro; exact ⟨A, h, hz⟩
    · iexact S

end Cert.Steps.Tail

end
-- ==== Proof.MixFrame.lean ====
/- The token mixer's backward kernel: the pipeline's data, and its run. -/
module

public import proofs.«01_k».proof.Proof.MixLeftFirst
public import proofs.«01_k».proof.Proof.MixLeftFresh
public import proofs.«01_k».proof.Proof.MixLeftInner
public import proofs.«01_k».proof.Proof.Tail

@[expose] public section

set_option maxRecDepth 16384

noncomputable section

namespace Cert.Steps.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

open Idealize.ShloMosaic.Pipeline (RDat)

theorem first_iff (t : Fin cfg0.N) : first (grid0.coords t) ↔ t.val = 0 :=
  (by decide +kernel : ∀ t : Fin grid0.N, first (grid0.coords t) ↔ t.val = 0) t
theorem fresh_iff (t : Fin cfg0.N) : fresh (grid0.coords t) ↔ t.val % 4 = 0 :=
  (by decide +kernel : ∀ t : Fin grid0.N, fresh (grid0.coords t) ↔ t.val % 4 = 0) t

section data

variable (m : (ℓ : Loc nD τ sig) → Buf (Elt F) ℓ) (ρ : Dev nD → PrngReg) (c : Dev nD)

/-- The blocks of point `t`. -/
def pt (t : Fin cfg0.N) : Blocks F where
  i := grid0.coords t
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t

/-- What the scratch holds after point `t`. -/
def carried (t : Fin cfg0.N) : Vec F S8x512 .f32 := (pt m c t).next (k0_pay13 (F := F))
/-- What the body finds in the scratch at point `t`, once it has zeroed it at the first point of a sequence. -/
def seen (t : Fin cfg0.N) : Vec F S8x512 .f32 :=
  if t.val % 4 = 0 then k0_pay13 else carried m c ⟨t.val - 1, Nat.lt_of_le_of_lt (Nat.sub_le _ _) t.isLt⟩

theorem next_seen (t : Fin cfg0.N) : (pt m c t).next (seen m c t) = carried m c t := by
  unfold seen
  split
  · rfl
  · funext j
    unfold carried Blocks.next
    split <;> rfl

/-- What the scratch may hold before point `n`. -/
def holds (n : ℕ) (s : Vec F S8x512 .f32) : Prop :=
  ∀ h : n - 1 < cfg0.N, n % 4 ≠ 0 → s = carried m c ⟨n - 1, h⟩

/-- The pipeline's data: the inputs stay as they are; the outputs' blocks are the named values of the point's blocks. -/
def rdat : RDat τ (Elt F) Unit ℕ (UR sig nD τ) ℕ cfg0 c where
  A w := V m c (Pipeline.arrRef spec0 w)
  after := fun (w : Fin 25) => match w with
    | 0 => fun t Y X => X = Y
    | 1 => fun t Y X => X = Y
    | 2 => fun t Y X => X = Y
    | 3 => fun t Y X => X = Y
    | 4 => fun t Y X => X = Y
    | 5 => fun t Y X => X = Y
    | 6 => fun t Y X => X = Y
    | 7 => fun t Y X => X = Y
    | 8 => fun t Y X => X = Y
    | 9 => fun t Y X => X = Y
    | 10 => fun t Y X => X = Y
    | 11 => fun t Y X => X = Y
    | 12 => fun t Y X => X = Y
    | 13 => fun t Y X => X = Y
    | 14 => fun t Y X => X = Y
    | 15 => fun t Y X => X = Y
    | 16 => fun t Y X => X = (pt m c t).dyl
    | 17 => fun t Y X => X = (pt m c t).dp (seen m c t) Y
    | 18 => fun t Y X => X = (pt m c t).add18 (if t.val = 0 then k0_pay7 else Y)
    | 19 => fun t Y X => X = (pt m c t).add19 (if t.val = 0 then k0_pay8 else Y)
    | 20 => fun t Y X => X = (pt m c t).add20 (if t.val = 0 then k0_pay9 else Y)
    | 21 => fun t Y X => X = (pt m c t).add21 (if t.val = 0 then k0_pay10 else Y)
    | 22 => fun t Y X => X = (pt m c t).add22 (if t.val = 0 then k0_pay11 else Y)
    | 23 => fun t Y X => X = (pt m c t).add23 (if t.val = 0 then k0_pay12 else Y)
    | 24 => fun t Y X => X = (pt m c t).add24 (if t.val % 4 = 0 then k0_pay14 else Y)
    | ⟨n + 25, h⟩ => absurd h (by omega)
  Φ p := iprop((∃ s, ⌜holds m c p.val s⌝ ∗ owns (c : Thread nD τ) (Memref.whole cc0_scratch0) fullShare s) ∗ ∃ r, prngReg c r)
  q w := Pipeline.shareOf spec0 w
  owed _ := 0

/-- The body's row of the table is the body at the point's own buffers. -/
theorem row (t : Fin cfg0.N) :
    defs₀ (F := F) .tc cfg0.body (cfg0.bodyArgs t (cfg0.slots t)) = bodyAt0 t := by
  unfold defs₀; rw [Defs.onTc_tc]

theorem found0 (t : Fin cfg0.N) {Y} (h : (rdat m c).Finds 0 t Y) : Y = iblk m c 0 t := by
  obtain ⟨d, rfl⟩ := (rdat m c).finds_in_eq_fetched 0 rfl (fun _ _ _ => rfl) (fun _ _ _ h => h) t _ h
  rfl
theorem found1 (t : Fin cfg0.N) {Y} (h : (rdat m c).Finds 1 t Y) : Y = iblk m c 1 t := by
  obtain ⟨d, rfl⟩ := (rdat m c).finds_in_eq_fetched 1 rfl (fun _ _ _ => rfl) (fun _ _ _ h => h) t _ h
  rfl
theorem found2 (t : Fin cfg0.N) {Y} (h : (rdat m c).Finds 2 t Y) : Y = iblk m c 2 t := by
  obtain ⟨d, rfl⟩ := (rdat m c).finds_in_eq_fetched 2 rfl (fun _ _ _ => rfl) (fun _ _ _ h => h) t _ h
  rfl
theorem found3 (t : Fin cfg0.N) {Y} (h : (rdat m c).Finds 3 t Y) : Y = iblk m c 3 t := by
  obtain ⟨d, rfl⟩ := (rdat m c).finds_in_eq_fetched 3 rfl (fun _ _ _ => rfl) (fun _ _ _ h => h) t _ h
  rfl
theorem found4 (t : Fin cfg0.N) {Y} (h : (rdat m c).Finds 4 t Y) : Y = iblk m c 4 t := by
  obtain ⟨d, rfl⟩ := (rdat m c).finds_in_eq_fetched 4 rfl (fun _ _ _ => rfl) (fun _ _ _ h => h) t _ h
  rfl
theorem found5 (t : Fin cfg0.N) {Y} (h : (rdat m c).Finds 5 t Y) : Y = iblk m c 5 t := by
  obtain ⟨d, rfl⟩ := (rdat m c).finds_in_eq_fetched 5 rfl (fun _ _ _ => rfl) (fun _ _ _ h => h) t _ h
  rfl
theorem found6 (t : Fin cfg0.N) {Y} (h : (rdat m c).Finds 6 t Y) : Y = iblk m c 6 t := by
  obtain ⟨d, rfl⟩ := (rdat m c).finds_in_eq_fetched 6 rfl (fun _ _ _ => rfl) (fun _ _ _ h => h) t _ h
  rfl
theorem found7 (t : Fin cfg0.N) {Y} (h : (rdat m c).Finds 7 t Y) : Y = iblk m c 7 t := by
  obtain ⟨d, rfl⟩ := (rdat m c).finds_in_eq_fetched 7 rfl (fun _ _ _ => rfl) (fun _ _ _ h => h) t _ h
  rfl
theorem found8 (t : Fin cfg0.N) {Y} (h : (rdat m c).Finds 8 t Y) : Y = iblk m c 8 t := by
  obtain ⟨d, rfl⟩ := (rdat m c).finds_in_eq_fetched 8 rfl (fun _ _ _ => rfl) (fun _ _ _ h => h) t _ h
  rfl
theorem found9 (t : Fin cfg0.N) {Y} (h : (rdat m c).Finds 9 t Y) : Y = iblk m c 9 t := by
  obtain ⟨d, rfl⟩ := (rdat m c).finds_in_eq_fetched 9 rfl (fun _ _ _ => rfl) (fun _ _ _ h => h) t _ h
  rfl
theorem found10 (t : Fin cfg0.N) {Y} (h : (rdat m c).Finds 10 t Y) : Y = iblk m c 10 t := by
  obtain ⟨d, rfl⟩ := (rdat m c).finds_in_eq_fetched 10 rfl (fun _ _ _ => rfl) (fun _ _ _ h => h) t _ h
  rfl
theorem found11 (t : Fin cfg0.N) {Y} (h : (rdat m c).Finds 11 t Y) : Y = iblk m c 11 t := by
  obtain ⟨d, rfl⟩ := (rdat m c).finds_in_eq_fetched 11 rfl (fun _ _ _ => rfl) (fun _ _ _ h => h) t _ h
  rfl
theorem found12 (t : Fin cfg0.N) {Y} (h : (rdat m c).Finds 12 t Y) : Y = iblk m c 12 t := by
  obtain ⟨d, rfl⟩ := (rdat m c).finds_in_eq_fetched 12 rfl (fun _ _ _ => rfl) (fun _ _ _ h => h) t _ h
  rfl
theorem found13 (t : Fin cfg0.N) {Y} (h : (rdat m c).Finds 13 t Y) : Y = iblk m c 13 t := by
  obtain ⟨d, rfl⟩ := (rdat m c).finds_in_eq_fetched 13 rfl (fun _ _ _ => rfl) (fun _ _ _ h => h) t _ h
  rfl
theorem found14 (t : Fin cfg0.N) {Y} (h : (rdat m c).Finds 14 t Y) : Y = iblk m c 14 t := by
  obtain ⟨d, rfl⟩ := (rdat m c).finds_in_eq_fetched 14 rfl (fun _ _ _ => rfl) (fun _ _ _ h => h) t _ h
  rfl
theorem found15 (t : Fin cfg0.N) {Y} (h : (rdat m c).Finds 15 t Y) : Y = iblk m c 15 t := by
  obtain ⟨d, rfl⟩ := (rdat m c).finds_in_eq_fetched 15 rfl (fun _ _ _ => rfl) (fun _ _ _ h => h) t _ h
  rfl

/-- The inputs' buffers at point `t`. -/
def ins (t : Fin cfg0.N) : sProp 𝕄 := held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
/-- The outputs' buffers at point `t`, and the scratch. -/
def outs (t : Fin cfg0.N) (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32) : sProp 𝕄 :=
  found c (win0_16.stage (cfg0.slots t 16)) (win0_17.stage (cfg0.slots t 17)) (win0_18.stage (cfg0.slots t 18)) (win0_19.stage (cfg0.slots t 19)) (win0_20.stage (cfg0.slots t 20)) (win0_21.stage (cfg0.slots t 21)) (win0_22.stage (cfg0.slots t 22)) (win0_23.stage (cfg0.slots t 23)) (win0_24.stage (cfg0.slots t 24)) (Memref.whole cc0_scratch0) y16 y17 y18 y19 y20 y21 y22 y23 y24 s

set_option maxHeartbeats 4000000 in
/-- The body at point `t`. -/
theorem at_point (t : Fin cfg0.N) (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32) (hs : holds m c t.val s) (K : PUnit → sProp 𝕄) :
    iprop(ins m c t ∗ outs c t y16 y17 y18 y19 y20 y21 y22 y23 y24 s ∗ (iprop(ins m c t ∗ outs c t (pt m c t).dyl ((pt m c t).dp (seen m c t) y17)
        ((pt m c t).add18 (if t.val = 0 then k0_pay7 else y18)) ((pt m c t).add19 (if t.val = 0 then k0_pay8 else y19)) ((pt m c t).add20 (if t.val = 0 then k0_pay9 else y20)) ((pt m c t).add21 (if t.val = 0 then k0_pay10 else y21)) ((pt m c t).add22 (if t.val = 0 then k0_pay11 else y22)) ((pt m c t).add23 (if t.val = 0 then k0_pay12 else y23)) ((pt m c t).add24 (if t.val % 4 = 0 then k0_pay14 else y24)) (carried m c t)) -∗ K ⟨⟩))
      ⊢ wp frame (wpE (defs₀ (F := F)) Variants.none c none) Set.univ (bodyAt0 t) K := by
  unfold ins outs bodyAt0
  rw [← next_seen m c t]
  by_cases e0 : t.val = 0
  · have e1 : t.val % 4 = 0 := by omega
    rw [show seen m c t = k0_pay13 from if_pos e1]
    simp only [if_pos e0, if_pos e1]
    exact tripleFirst (pt m c t) c ((first_iff t).mpr e0) ((fresh_iff t).mpr e1) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) y16 y17 y18 y19 y20 y21 y22 y23 y24 s Set.univ K
  by_cases e1 : t.val % 4 = 0
  · rw [show seen m c t = k0_pay13 from if_pos e1]
    simp only [if_neg e0, if_pos e1]
    exact tripleFresh (pt m c t) c (fun h => e0 ((first_iff t).mp h)) ((fresh_iff t).mpr e1) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) y16 y17 y18 y19 y20 y21 y22 y23 y24 s Set.univ K
  · obtain rfl := hs (Nat.lt_of_le_of_lt (Nat.sub_le _ _) t.isLt) e1
    rw [show seen m c t = carried m c ⟨t.val - 1, Nat.lt_of_le_of_lt (Nat.sub_le _ _) t.isLt⟩ from if_neg e1]
    simp only [if_neg e0, if_neg e1]
    exact tripleInner (pt m c t) c (fun h => e0 ((first_iff t).mp h)) (fun h => e1 ((fresh_iff t).mp h)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) y16 y17 y18 y19 y20 y21 y22 y23 y24 _ Set.univ K

/-- What the pipeline hands the body, and what it takes back. -/
def given (t : Fin cfg0.N) (Y : (w : Fin cfg0.W) → (cfg0.win w).block.Idx → Elt F (cfg0.win w).elt) (w : Fin cfg0.W) : sProp 𝕄 :=
  owns (c : Thread nD τ) ((cfg0.win w).stage (cfg0.slots t w)) fullShare (Y w)
def taken (t : Fin cfg0.N) (Y : (w : Fin cfg0.W) → (cfg0.win w).block.Idx → Elt F (cfg0.win w).elt) (w : Fin cfg0.W) : sProp 𝕄 :=
  iprop(∃ X, ⌜(rdat m c).after w t (Y w) X⌝ ∗ owns (c : Thread nD τ) ((cfg0.win w).stage (cfg0.slots t w)) fullShare X)

theorem take (t : Fin cfg0.N) (Y) (w : Fin cfg0.W) (X : (cfg0.win w).block.Idx → Elt F (cfg0.win w).elt) (h : (rdat m c).after w t (Y w) X) :
    (owns (c : Thread nD τ) ((cfg0.win w).stage (cfg0.slots t w)) fullShare X : sProp 𝕄) ⊢ taken m c t Y w := by
  unfold taken
  iintro H
  iexists X
  isplitr
  · ipureintro; exact h
  · iexact H

set_option maxHeartbeats 4000000 in
theorem gather (t : Fin cfg0.N) (Y : (w : Fin cfg0.W) → (cfg0.win w).block.Idx → Elt F (cfg0.win w).elt) (hY : ∀ w, (rdat m c).Finds w t (Y w)) (s : Vec F S8x512 .f32) :
    iprop(bigSep Finset.univ (given c t Y) ∗ owns (c : Thread nD τ) (Memref.whole cc0_scratch0) fullShare s)
      ⊢ iprop(ins m c t ∗ outs c t (Y 16) (Y 17) (Y 18) (Y 19) (Y 20) (Y 21) (Y 22) (Y 23) (Y 24) s) := by
  rw [bigSep_W0]
  unfold given ins outs held found
  rw [show Y 0 = iblk m c 0 t from found0 m c t (hY 0)]
  rw [show Y 1 = iblk m c 1 t from found1 m c t (hY 1)]
  rw [show Y 2 = iblk m c 2 t from found2 m c t (hY 2)]
  rw [show Y 3 = iblk m c 3 t from found3 m c t (hY 3)]
  rw [show Y 4 = iblk m c 4 t from found4 m c t (hY 4)]
  rw [show Y 5 = iblk m c 5 t from found5 m c t (hY 5)]
  rw [show Y 6 = iblk m c 6 t from found6 m c t (hY 6)]
  rw [show Y 7 = iblk m c 7 t from found7 m c t (hY 7)]
  rw [show Y 8 = iblk m c 8 t from found8 m c t (hY 8)]
  rw [show Y 9 = iblk m c 9 t from found9 m c t (hY 9)]
  rw [show Y 10 = iblk m c 10 t from found10 m c t (hY 10)]
  rw [show Y 11 = iblk m c 11 t from found11 m c t (hY 11)]
  rw [show Y 12 = iblk m c 12 t from found12 m c t (hY 12)]
  rw [show Y 13 = iblk m c 13 t from found13 m c t (hY 13)]
  rw [show Y 14 = iblk m c 14 t from found14 m c t (hY 14)]
  rw [show Y 15 = iblk m c 15 t from found15 m c t (hY 15)]
  iintro ⟨⟨H0, H1, H2, H3, H4, H5, H6, H7, H8, H9, H10, H11, H12, H13, H14, H15, H16, H17, H18, H19, H20, H21, H22, H23, H24⟩, S⟩
  isplitr [S H16 H17 H18 H19 H20 H21 H22 H23 H24]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact S

set_option maxHeartbeats 4000000 in
theorem scatter (t : Fin cfg0.N) (Y : (w : Fin cfg0.W) → (cfg0.win w).block.Idx → Elt F (cfg0.win w).elt) (hY : ∀ w, (rdat m c).Finds w t (Y w)) (y16 : Vec F S512x512 .f32) (y17 : Vec F S512x4096 .bf16) (y18 : Vec F S1024x1024 .f32) (y19 : Vec F S512x1024 .f32) (y20 : Vec F S512x1024 .f32) (y21 : Vec F S512x512 .f32) (y22 : Vec F S1x512 .f32) (y23 : Vec F S8x512 .f32) (y24 : Vec F S1x1x1024 .f32) (s : Vec F S8x512 .f32)
    (e16 : (rdat m c).after 16 t (Y 16) y16)
    (e17 : (rdat m c).after 17 t (Y 17) y17)
    (e18 : (rdat m c).after 18 t (Y 18) y18)
    (e19 : (rdat m c).after 19 t (Y 19) y19)
    (e20 : (rdat m c).after 20 t (Y 20) y20)
    (e21 : (rdat m c).after 21 t (Y 21) y21)
    (e22 : (rdat m c).after 22 t (Y 22) y22)
    (e23 : (rdat m c).after 23 t (Y 23) y23)
    (e24 : (rdat m c).after 24 t (Y 24) y24)
    : iprop(ins m c t ∗ outs c t y16 y17 y18 y19 y20 y21 y22 y23 y24 s)
      ⊢ iprop(bigSep Finset.univ (taken m c t Y) ∗ owns (c : Thread nD τ) (Memref.whole cc0_scratch0) fullShare s) := by
  rw [bigSep_W0]
  unfold ins outs held found
  iintro ⟨⟨H0, H1, H2, H3, H4, H5, H6, H7, H8, H9, H10, H11, H12, H13, H14, H15⟩, H16, H17, H18, H19, H20, H21, H22, H23, H24, S⟩
  isplitr [S]
  · isplitl [H0]; · iapply (take m c t Y 0 (iblk m c 0 t) (found0 m c t (hY 0)).symm); iexact H0
    isplitl [H1]; · iapply (take m c t Y 1 (iblk m c 1 t) (found1 m c t (hY 1)).symm); iexact H1
    isplitl [H2]; · iapply (take m c t Y 2 (iblk m c 2 t) (found2 m c t (hY 2)).symm); iexact H2
    isplitl [H3]; · iapply (take m c t Y 3 (iblk m c 3 t) (found3 m c t (hY 3)).symm); iexact H3
    isplitl [H4]; · iapply (take m c t Y 4 (iblk m c 4 t) (found4 m c t (hY 4)).symm); iexact H4
    isplitl [H5]; · iapply (take m c t Y 5 (iblk m c 5 t) (found5 m c t (hY 5)).symm); iexact H5
    isplitl [H6]; · iapply (take m c t Y 6 (iblk m c 6 t) (found6 m c t (hY 6)).symm); iexact H6
    isplitl [H7]; · iapply (take m c t Y 7 (iblk m c 7 t) (found7 m c t (hY 7)).symm); iexact H7
    isplitl [H8]; · iapply (take m c t Y 8 (iblk m c 8 t) (found8 m c t (hY 8)).symm); iexact H8
    isplitl [H9]; · iapply (take m c t Y 9 (iblk m c 9 t) (found9 m c t (hY 9)).symm); iexact H9
    isplitl [H10]; · iapply (take m c t Y 10 (iblk m c 10 t) (found10 m c t (hY 10)).symm); iexact H10
    isplitl [H11]; · iapply (take m c t Y 11 (iblk m c 11 t) (found11 m c t (hY 11)).symm); iexact H11
    isplitl [H12]; · iapply (take m c t Y 12 (iblk m c 12 t) (found12 m c t (hY 12)).symm); iexact H12
    isplitl [H13]; · iapply (take m c t Y 13 (iblk m c 13 t) (found13 m c t (hY 13)).symm); iexact H13
    isplitl [H14]; · iapply (take m c t Y 14 (iblk m c 14 t) (found14 m c t (hY 14)).symm); iexact H14
    isplitl [H15]; · iapply (take m c t Y 15 (iblk m c 15 t) (found15 m c t (hY 15)).symm); iexact H15
    isplitl [H16]; · iapply (take m c t Y 16 y16 e16); iexact H16
    isplitl [H17]; · iapply (take m c t Y 17 y17 e17); iexact H17
    isplitl [H18]; · iapply (take m c t Y 18 y18 e18); iexact H18
    isplitl [H19]; · iapply (take m c t Y 19 y19 e19); iexact H19
    isplitl [H20]; · iapply (take m c t Y 20 y20 e20); iexact H20
    isplitl [H21]; · iapply (take m c t Y 21 y21 e21); iexact H21
    isplitl [H22]; · iapply (take m c t Y 22 y22 e22); iexact H22
    isplitl [H23]; · iapply (take m c t Y 23 y23 e23); iexact H23
    iapply (take m c t Y 24 y24 e24); iexact H24
  · iexact S

end data

section run

variable (m : (ℓ : Loc nD τ sig) → Buf (Elt F) ℓ) (ρ : Dev nD → PrngReg) (c : Dev nD)

theorem obligation : (rdat m c).BodyObligation (defs₀ (F := F)) Variants.none () Set.univ := fun t Y hY => by
  rw [row]
  show iprop(iprop((∃ s, ⌜holds m c t.val s⌝ ∗ owns (c : Thread nD τ) (Memref.whole cc0_scratch0) fullShare s) ∗ ∃ r, prngReg c r)
      ∗ (rdat m c).owesAt () t.castSucc ∗ bigSep Finset.univ (given c t Y)) ⊢ wp frame (wpE (defs₀ (F := F)) Variants.none c none) Set.univ (bodyAt0 t)
    (fun _ => iprop(iprop((∃ s, ⌜holds m c t.succ.val s⌝ ∗ owns (c : Thread nD τ) (Memref.whole cc0_scratch0) fullShare s) ∗ ∃ r, prngReg c r)
      ∗ (rdat m c).owesAt () t.castSucc ∗ bigSep Finset.univ (taken m c t Y)))
  iintro ⟨⟨⟨%s, %hs, S⟩, R⟩, O, H⟩
  ihave H' := (gather m c t Y hY s) $$ [H S]
  · isplitl [H] <;> iassumption
  icases H' with ⟨I, H⟩
  iapply (at_point m c t _ _ _ _ _ _ _ _ _ s hs _)
  isplitl [I]; · iexact I
  isplitl [H]; · iexact H
  iintro H
  ihave H' := (scatter m c t Y hY _ _ _ _ _ _ _ _ _ _ rfl rfl rfl rfl rfl rfl rfl rfl rfl) $$ H
  icases H' with ⟨H, S⟩
  isplitl [S R]
  · isplitl [S]
    · iexists (carried m c t)
      isplitr
      · ipureintro; intro _ _; rfl
      · iexact S
    · iexact R
  isplitl [O]; · iexact O
  iexact H

/-- The invariant before the first point is the scratch at whatever it holds, -/
theorem inv_in : Pipeline.ΦA spec0 c ⊢ ((rdat m c).Φ 0 : sProp 𝕄) := by
  unfold Pipeline.ΦA
  rw [scopedRest0_eq]
  show _ ⊢ iprop((∃ s, ⌜holds m c 0 s⌝ ∗ owns (c : Thread nD τ) (Memref.whole cc0_scratch0) fullShare s) ∗ ∃ r, prngReg c r)
  iintro ⟨⟨%f, S⟩, R⟩
  isplitl [S]
  · iexists ((Memref.whole cc0_scratch0).view.read (Elt F) f)
    isplitr
    · ipureintro; intro _ h; exact absurd rfl h
    · unfold owns
      rw [(Memref.isWhole_whole cc0_scratch0).set_eq_univ]
      iexists f
      isplitr
      · ipureintro; rfl
      · iexact S
  · iexact R

/-- and so it is after the last. -/
theorem inv_out : ((rdat m c).Φ (Fin.last cfg0.N) : sProp 𝕄) ⊢ Pipeline.ΦA spec0 c := by
  unfold Pipeline.ΦA
  rw [scopedRest0_eq]
  show iprop((∃ s, ⌜holds m c (Fin.last cfg0.N).val s⌝ ∗ owns (c : Thread nD τ) (Memref.whole cc0_scratch0) fullShare s) ∗ ∃ r, prngReg c r) ⊢ _
  unfold owns
  rw [(Memref.isWhole_whole cc0_scratch0).set_eq_univ]
  iintro ⟨⟨%s, %h, %f, -, S⟩, R⟩
  isplitl [S]
  · iexists f; iexact S
  · iexact R

set_option backward.isDefEq.respectTransparency.types false in
/-- The arrays end with contents that the relation allows; every other buffer ends as the host operations after the kernel leave it. -/
theorem launch : θ_run defs (onTc (τ := τ) (main (F := F))) (s₀ m ρ) (fun r =>
    (∀ c : Dev nD, (∀ w, (rdat m c).ArrAt w cfg0.N (r.2.mem ((cfg0.spec w).arr.view.loc (c.tc : Thread nD τ))))
      ∧ ∃ A : (w : Fin cfg0.W) → Buf (Elt F) ((cfg0.win w).arr.view.loc (c.tc : Thread nD τ)), (∀ w, (rdat m c).ArrAt w cfg0.N (A w)) ∧
          ∀ b ∈ Pipeline.restRefs sig spec0, r.2.mem ((c.tc : Thread nD τ).loc b)
            = StableHlo.after (List.flatten [hostOps1]) (Pipeline.withArrays spec0 c (V0 m c) A) (Proc.devRef .tc b))
      ∧ r.2.sem = fun _ => 0) :=
  Cert.Steps.Tail.run_then_host (fun q => (cfgs q).toPCfg (Val := Elt F)) (fun q => (cfgs q).toPCfg_adm) (0 : Fin 1) launch₀0.toP defs₀ Variants.none
    (rdat m) m ρ main (obligation m) (fun _ _ _ => rfl) (fun _ _ => rfl) (V0 m) [hostOps1] sfx_sub sfx_fresh sfx_keeps (hmain m Variants.none)
    (fun _ _ => rfl) (fun _ k => k.elim0)
    (fun c => (show _ ⊢ Pipeline.ΦA spec0 c from by iintro ⟨H, -⟩; iexact H).trans (inv_in m c)) (inv_out m)
    (fun s h hz => ⟨fun c => ⟨(h c).1, (h c).2.imp fun A hA => ⟨hA.1, fun b hb => hA.2 b (Finset.mem_sdiff.mpr ⟨hb, by simp⟩)⟩⟩, hz⟩)

end run

end Cert.Steps.Mix

end
-- ==== Proof.MixEnds.lean ====
/- The token mixer's backward kernel: what its run ends with. -/
module

public import proofs.«01_k».proof.Defs
public import proofs.«01_k».proof.Proof.Gen.Kernel3
public import proofs.«01_k».proof.Proof.MixFrame

@[expose] public section

set_option maxRecDepth 16384

noncomputable section

open Idealize.ShloMosaic Idealize.ShloMosaic.TcCoe Idealize.SL.Sem
open Idealize.ShloMosaic.Pipeline (RDat)

namespace Cert.Steps.Mix

section ends

open Cert.Kernel3Ideal Cert.Kernel3Ideal.Gen

variable {F : FTy → Type} [FloatOps F]
variable (m : (ℓ : Loc nD τ sig) → Buf (Elt F) ℓ) (ρ : Dev nD → PrngReg) (c : Dev nD)

/-- What the arrays of the region hold, one by one. -/
abbrev Arrays (c : Dev nD) : Type := (w : Fin cfg0.W) → Buf (Elt F) ((cfg0.win w).arr.view.loc (c.tc : Thread nD τ))

theorem kept5 {r : PUnit × MemSt nD τ sig (Elt F)}
    (h : ∀ w, (rdat m c).ArrAt w cfg0.N (r.2.mem ((cfg0.spec w).arr.view.loc (c.tc : Thread nD τ)))) :
    r.2.mem ((c.tc : Thread nD τ).loc main_arg5) = m ((c.tc : Thread nD τ).loc main_arg5) := by
  have := h 11
  rw [(rdat m c).ArrAt_in 11 rfl] at this
  exact this.trans (V_main_arg5 m c)

/-- What a buffer holds that neither the region nor the two slices after it write. -/
theorem left_as (A : Arrays (F := F) c) (b : Ref sig .tc) (h0 : b ≠ main_v16) (h1 : b ≠ main_v17) (h2 : ∀ w, Pipeline.arrRef spec0 w ≠ b)
    (hV : V m c b = m ((c : Thread nD τ).loc b)) :
    StableHlo.after (List.flatten [hostOps1]) (Pipeline.withArrays spec0 c (V0 m c) A) (Proc.devRef .tc b) = m ((c : Thread nD τ).loc b) := by
  rw [StableHlo.after_of_forall_not_mem _ _ (List.forall_iff_forall_mem.mp (by
      simp only [hostOps1, List.flatten_cons, List.flatten_nil, List.append_nil, List.Forall, StableHlo.unary_writes, Finset.mem_singleton]
      exact ⟨StableHlo.devRef_ne_of_ne h0, StableHlo.devRef_ne_of_ne h1⟩)),
    Pipeline.withArrays_of_ne _ c (V0 m c) _ b h2]
  exact hV

/-- The arrays after the run are in the valuation that the two slices read. -/
theorem arr_in (A : Arrays (F := F) c) (hA : ∀ w, (rdat m c).ArrAt w cfg0.N (A w)) (w : Fin cfg0.W) :
    Pipeline.withArrays spec0 c (V0 m c) A (Proc.devRef .tc (Pipeline.arrRef spec0 w)) = A w :=
  Pipeline.withArrays_arr_shared spec0 c (V0 m c) A (fun w w' hne e => by
    have hin : (cfg0.win w).isOut = false :=
      (by decide : ∀ w w' : Fin 25, w ≠ w' → Pipeline.arrRef spec0 w = Pipeline.arrRef spec0 w' → (spec0 w).isOut = false) w w' hne e
    have h := hA w
    rw [(rdat m c).ArrAt_in w hin] at h
    exact h) w

theorem slice16 (A : Arrays (F := F) c) (hA : ∀ w, (rdat m c).ArrAt w cfg0.N (A w)) :
    StableHlo.after (List.flatten [hostOps1]) (Pipeline.withArrays spec0 c (V0 m c) A) (Proc.devRef .tc main_v16)
    = extractStridedSlice S8192x3584 ![0, 512] (A 17) slices_S8192x4096_S8192x3584_0_512 := by
  simp only [hostOps1, List.flatten_cons, List.flatten_nil, List.append_nil]
  entry_read
  exact congrArg (extractStridedSlice S8192x3584 ![0, 512] · slices_S8192x4096_S8192x3584_0_512) (arr_in m c A hA 17)

theorem slice17 (A : Arrays (F := F) c) (hA : ∀ w, (rdat m c).ArrAt w cfg0.N (A w)) :
    StableHlo.after (List.flatten [hostOps1]) (Pipeline.withArrays spec0 c (V0 m c) A) (Proc.devRef .tc main_v17)
    = extractStridedSlice S3x512 ![0, 0] (A 23) slices_S8x512_S3x512_0_0 := by
  simp only [hostOps1, List.flatten_cons, List.flatten_nil, List.append_nil]
  entry_read
  exact congrArg (extractStridedSlice S3x512 ![0, 0] · slices_S8x512_S3x512_0_0) (arr_in m c A hA 23)

/-- The run: the region's arrays and the two slices, every argument as it began, every counter at zero. -/
theorem ends : θ_run defs (onTc (τ := τ) (main (F := F))) ⟨m, fun _ => 0, ρ⟩ (fun r => (∀ c : Dev nD,
      (∀ w, (rdat m c).ArrAt w cfg0.N (r.2.mem ((cfg0.spec w).arr.view.loc (c.tc : Thread nD τ))))
      ∧ (∃ A : Arrays (F := F) c, (∀ w, (rdat m c).ArrAt w cfg0.N (A w))
        ∧ r.2.mem ((c.tc : Thread nD τ).loc main_v16) = extractStridedSlice S8192x3584 ![0, 512] (A 17) slices_S8192x4096_S8192x3584_0_512
        ∧ r.2.mem ((c.tc : Thread nD τ).loc main_v17) = extractStridedSlice S3x512 ![0, 0] (A 23) slices_S8x512_S3x512_0_0)
      ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0) :=
  (θ_run defs _ _).mono (fun r h => ⟨fun c => by
    obtain ⟨hW, A, hA, hR⟩ := h.1 c
    exact ⟨hW, ⟨A, hA, (hR main_v16 (Pipeline.mem_restRefs_of main_v16 (by decide) (by decide))).trans (slice16 m c A hA),
      (hR main_v17 (Pipeline.mem_restRefs_of main_v17 (by decide) (by decide))).trans (slice17 m c A hA)⟩,
      (hR main_arg0 (Pipeline.mem_restRefs_of main_arg0 (by decide) (by decide))).trans (left_as m c A main_arg0 (by decide) (by decide) (by decide) (V_main_arg0 m c)),
      (hR main_arg1 (Pipeline.mem_restRefs_of main_arg1 (by decide) (by decide))).trans (left_as m c A main_arg1 (by decide) (by decide) (by decide) (V_main_arg1 m c)),
      (hR main_arg2 (Pipeline.mem_restRefs_of main_arg2 (by decide) (by decide))).trans (left_as m c A main_arg2 (by decide) (by decide) (by decide) (V_main_arg2 m c)),
      (hR main_arg3 (Pipeline.mem_restRefs_of main_arg3 (by decide) (by decide))).trans (left_as m c A main_arg3 (by decide) (by decide) (by decide) (V_main_arg3 m c)),
      (hR main_arg4 (Pipeline.mem_restRefs_of main_arg4 (by decide) (by decide))).trans (left_as m c A main_arg4 (by decide) (by decide) (by decide) (V_main_arg4 m c)),
      kept5 m c hW,
      (hR main_arg6 (Pipeline.mem_restRefs_of main_arg6 (by decide) (by decide))).trans (left_as m c A main_arg6 (by decide) (by decide) (by decide) (V_main_arg6 m c)),
      (hR main_arg7 (Pipeline.mem_restRefs_of main_arg7 (by decide) (by decide))).trans (left_as m c A main_arg7 (by decide) (by decide) (by decide) (V_main_arg7 m c)),
      (hR main_arg8 (Pipeline.mem_restRefs_of main_arg8 (by decide) (by decide))).trans (left_as m c A main_arg8 (by decide) (by decide) (by decide) (V_main_arg8 m c)),
      (hR main_arg9 (Pipeline.mem_restRefs_of main_arg9 (by decide) (by decide))).trans (left_as m c A main_arg9 (by decide) (by decide) (by decide) (V_main_arg9 m c))⟩, h.2⟩) (launch m ρ)

/-- The frame's part of it. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0) :=
  (θ_run defs _ _).mono (fun r h => ⟨fun c => (h.1 c).2.2, h.2⟩) (ends m ρ)

end ends

theorem frame_ideal : Cert.quiescent_Kernel3Ideal := fun m ρ _ => frame_run m ρ

open Cert.Kernel3Ideal in
/-- The run's statement over the floats' words. -/
def Ends : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0)

/-- The program over floats is the same program, so one run serves both. -/
theorem same : Ends = Cert.quiescent_Kernel3 := by sl_kernel_rfl

theorem frame_kernel : Cert.quiescent_Kernel3 :=
  cast same fun m ρ _ => frame_run (F := Bits) m ρ

end Cert.Steps.Mix

end
-- ==== Proof.MixRows.lean ====
/- The token mixer, row by row: what the version computes, as functions of the ten arrays. Sums and products of extended reals
   commute and associate, so no entry has to be finite. -/
module

public import proofs.«01_k».proof.Proof.Common

@[expose] public section

set_option maxRecDepth 16384

noncomputable section

open Idealize.ShloMosaic

namespace Cert.Steps.Mix

/-- The ten arrays of the backward call. In the forward call (call 7) the third is what the mixer's output is added to. -/
structure Args where
  p : FVec Ideal ⟨3, ![4, 2048, 4096]⟩ .f32
  y : FVec Ideal ⟨3, ![4, 2048, 512]⟩ .f32
  dx : FVec Ideal ⟨3, ![4, 2048, 1024]⟩ .f32
  g1 : FVec Ideal ⟨2, ![4, 1024]⟩ .f32
  wg : FVec Ideal ⟨3, ![1, 512, 512]⟩ .f32
  bg : FVec Ideal ⟨2, ![1, 512]⟩ .f32
  cw : FVec Ideal ⟨3, ![1, 3, 512]⟩ .f32
  ws : FVec Ideal ⟨3, ![1, 512, 1024]⟩ .f32
  wc : FVec Ideal ⟨3, ![1, 512, 1024]⟩ .f32
  wo : FVec Ideal ⟨3, ![1, 1024, 1024]⟩ .f32

variable (u : Args) (b : Fin 4) (l : Fin 2048)

/-! ## The forward pass -/

/-- The five parts of a row of the projection: the convolution's gate and two factors, and the two merge gates. -/
def cb (k : Fin 512) : EReal := u.p (ix3 b l ⟨512 + k.val, by omega⟩)
def cc (k : Fin 512) : EReal := u.p (ix3 b l ⟨1024 + k.val, by omega⟩)
def cx (k : Fin 512) : EReal := u.p (ix3 b l ⟨1536 + k.val, by omega⟩)
def gs (k : Fin 1024) : EReal := u.p (ix3 b l ⟨2048 + k.val, by omega⟩)
def gc (k : Fin 1024) : EReal := u.p (ix3 b l ⟨3072 + k.val, by omega⟩)
/-- The tanh in the gelu, the gelu's factor, and the gelu. -/
def th (k : Fin 512) : EReal :=
  Ideal.tanh (Ideal.ofBits .f32 0x3F4C422A#32 * (u.y (ix3 b l k) + Ideal.ofBits .f32 0x3D372713#32
    * (u.y (ix3 b l k) * (u.y (ix3 b l k) * u.y (ix3 b l k)))))
def hf (k : Fin 512) : EReal := Ideal.ofBits .f32 0x3F000000#32 * (1 + th u b l k)
def ge (k : Fin 512) : EReal := u.y (ix3 b l k) * hf u b l k
/-- The GLU's gate and its output. -/
def sg (k : Fin 512) : EReal := Ideal.logistic ((∑ j, ge u b l j * u.wg (ix3 0 j k)) + u.bg (ix2 0 k))
def ys (k : Fin 512) : EReal := ge u b l k * sg u b l k
/-- What the convolution runs over, at a row, at the row before and at the row two before. -/
def vv (k : Fin 512) : EReal := cc u b l k * cx u b l k
def s1 (k : Fin 512) : EReal := if h : 1 ≤ l.val then vv u b ⟨l.val - 1, by omega⟩ k else 0
def s2 (k : Fin 512) : EReal := if h : 2 ≤ l.val then vv u b ⟨l.val - 2, by omega⟩ k else 0
/-- What the convolution's weight `g` multiplies. -/
def tap (g : Fin 3) (k : Fin 512) : EReal := if g.val = 0 then s2 u b l k else if g.val = 1 then s1 u b l k else vv u b l k
/-- The convolution and its gated output. -/
def cv (k : Fin 512) : EReal := u.cw (ix3 0 0 k) * s2 u b l k + u.cw (ix3 0 1 k) * s1 u b l k + u.cw (ix3 0 2 k) * vv u b l k
def yc (k : Fin 512) : EReal := cb u b l k * cv u b l k
/-- The two projections, their gates and the merge. -/
def ps (k : Fin 1024) : EReal := ∑ j, ys u b l j * u.ws (ix3 0 j k)
def pc (k : Fin 1024) : EReal := ∑ j, yc u b l j * u.wc (ix3 0 j k)
def ss (k : Fin 1024) : EReal := Ideal.logistic (gs u b l k)
def sc (k : Fin 1024) : EReal := Ideal.logistic (gc u b l k)
def mg (k : Fin 1024) : EReal := ss u b l k * ps u b l k + sc u b l k * pc u b l k
def mo (k : Fin 1024) : EReal := ∑ j, mg u b l j * u.wo (ix3 0 j k)

/-! ## The backward pass -/

def dd (k : Fin 1024) : EReal := u.g1 (ix2 b k) * u.dx (ix3 b l k)
def dm (k : Fin 1024) : EReal := ∑ j, dd u b l j * u.wo (ix3 0 k j)
def dgs (k : Fin 1024) : EReal := dm u b l k * ps u b l k * ss u b l k * (1 - ss u b l k)
def dgc (k : Fin 1024) : EReal := dm u b l k * pc u b l k * sc u b l k * (1 - sc u b l k)
def dps (k : Fin 1024) : EReal := dm u b l k * ss u b l k
def dpc (k : Fin 1024) : EReal := dm u b l k * sc u b l k
def dys (k : Fin 512) : EReal := ∑ j, dps u b l j * u.ws (ix3 0 k j)
def dyc (k : Fin 512) : EReal := ∑ j, dpc u b l j * u.wc (ix3 0 k j)
def dcb (k : Fin 512) : EReal := dyc u b l k * cv u b l k
def dcv (k : Fin 512) : EReal := dyc u b l k * cb u b l k
/-- The convolution's cotangent at the row after and at the row two after. -/
def n1 (k : Fin 512) : EReal := if h : l.val + 1 < 2048 then dcv u b ⟨l.val + 1, h⟩ k else 0
def n2 (k : Fin 512) : EReal := if h : l.val + 2 < 2048 then dcv u b ⟨l.val + 2, h⟩ k else 0
def dv (k : Fin 512) : EReal := u.cw (ix3 0 2 k) * dcv u b l k + u.cw (ix3 0 1 k) * n1 u b l k + u.cw (ix3 0 0 k) * n2 u b l k
def dcc (k : Fin 512) : EReal := dv u b l k * cx u b l k
def dcx (k : Fin 512) : EReal := dv u b l k * cc u b l k
def dz (k : Fin 512) : EReal := dys u b l k * ge u b l k * sg u b l k * (1 - sg u b l k)
def dge (k : Fin 512) : EReal := dys u b l k * sg u b l k + ∑ j, dz u b l j * u.wg (ix3 0 k j)
/-- The cotangent of the gelu's inner cubic. -/
def dq (k : Fin 512) : EReal :=
  Ideal.ofBits .f32 0x3F4C422A#32 * (Ideal.ofBits .f32 0x3F000000#32 * (u.y (ix3 b l k) * dge u b l k)
    * ((1 + th u b l k) * (1 - th u b l k)))
def dyl (k : Fin 512) : EReal :=
  dge u b l k * hf u b l k + dq u b l k + Ideal.ofBits .f32 0x3D372713#32 * dq u b l k
    * (Ideal.ofBits .f32 0x40400000#32 * (u.y (ix3 b l k) * u.y (ix3 b l k)))
/-- The cotangent of a row of the projection, its last 3584 columns. -/
def dp (k : Fin 3584) : EReal :=
  if h : k.val < 512 then dcb u b l ⟨k.val, h⟩
  else if h : k.val < 1024 then dcc u b l ⟨k.val - 512, by omega⟩
  else if h : k.val < 1536 then dcx u b l ⟨k.val - 1024, by omega⟩
  else if h : k.val < 2560 then dgs u b l ⟨k.val - 1536, by omega⟩
  else dgc u b l ⟨k.val - 2560, by omega⟩

end Cert.Steps.Mix

end
-- ==== Proof.MixKernel.lean ====
/- Call 3, the version's side: the blocks of a grid point and what is computed from them, read at an index, as functions of the arguments. -/
module

public import proofs.«01_k».proof.Proof.MixFrame
public import proofs.«01_k».proof.Proof.MixRows
public import Idealize.ShloMosaic.Lib.KernelVsHost
public import proofs.«01_k».proof.Proof.Gen.Kernel3Ideal.Points

@[expose] public section

set_option maxRecDepth 16384

noncomputable section

open Idealize.ShloMosaic Idealize.ShloMosaic.TcCoe Idealize.SL.Sem
open Idealize.ShloMosaic.Pipeline (Dat)

namespace Cert.Kernel3Ideal.Val

open Cert.Kernel3Ideal Cert.Kernel3Ideal.Gen Cert.Steps Cert.Steps.Mix

variable (m : (ℓ : Loc nD τ sig) → Buf (Elt Ideal) ℓ)

/-- The ten arrays at the launch. -/
def args (c : Dev nD) : Args where
  p := m ((c : Thread nD τ).loc main_arg0)
  y := m ((c : Thread nD τ).loc main_arg1)
  dx := m ((c : Thread nD τ).loc main_arg2)
  g1 := m ((c : Thread nD τ).loc main_arg3)
  wg := m ((c : Thread nD τ).loc main_arg4)
  bg := m ((c : Thread nD τ).loc main_arg5)
  cw := m ((c : Thread nD τ).loc main_arg6)
  ws := m ((c : Thread nD τ).loc main_arg7)
  wc := m ((c : Thread nD τ).loc main_arg8)
  wo := m ((c : Thread nD τ).loc main_arg9)

/-! ## The arrays the region reads -/

theorem e3 (c : Dev nD) (i : S8192x4096.Idx) (b : Fin 4) (l : Fin 2048) (k : Fin 4096) (h0 : (i 0).val = b.val * 2048 + l.val)
    (h1 : (i 1).val = k.val) : V m c main_v3 i = (args m c).p (ix3 b l k) := by
  simp only [V, V0, hostOps0, hostOps0_1, hostOps0_2, List.flatten_cons, List.flatten_nil, List.append_nil, List.cons_append, List.nil_append]
  entry_read; pointwise []; refine congrArg _ ?_; blk_ext []
theorem e4 (c : Dev nD) (i : S8192x512.Idx) (b : Fin 4) (l : Fin 2048) (k : Fin 512) (h0 : (i 0).val = b.val * 2048 + l.val)
    (h1 : (i 1).val = k.val) : V m c main_v4 i = (args m c).y (ix3 b l k) := by
  simp only [V, V0, hostOps0, hostOps0_1, hostOps0_2, List.flatten_cons, List.flatten_nil, List.append_nil, List.cons_append, List.nil_append]
  entry_read; pointwise []; refine congrArg _ ?_; blk_ext []
theorem e5 (c : Dev nD) (i : S8192x1024.Idx) (b : Fin 4) (l : Fin 2048) (k : Fin 1024) (h0 : (i 0).val = b.val * 2048 + l.val)
    (h1 : (i 1).val = k.val) : V m c main_v5 i = (args m c).dx (ix3 b l k) := by
  simp only [V, V0, hostOps0, hostOps0_1, hostOps0_2, List.flatten_cons, List.flatten_nil, List.append_nil, List.cons_append, List.nil_append]
  entry_read; pointwise []; refine congrArg _ ?_; blk_ext []
theorem e6 (c : Dev nD) (i : S4x1x1024.Idx) : V m c main_v6 i = (args m c).g1 (ix2 (i 0) (i 2)) := by
  simp only [V, V0, hostOps0, hostOps0_1, hostOps0_2, List.flatten_cons, List.flatten_nil, List.append_nil, List.cons_append, List.nil_append]
  entry_read; pointwise []; rfl
theorem e8 (c : Dev nD) (i : S512x512.Idx) : V m c main_v8 i = (args m c).wg (ix3 0 (i 0) (i 1)) := by
  simp only [V, V0, hostOps0, hostOps0_1, hostOps0_2, List.flatten_cons, List.flatten_nil, List.append_nil, List.cons_append, List.nil_append]
  entry_read; pointwise []; rfl
theorem row_of (x : FVec Ideal S1x3x512 .f32) (g : Fin 3) (k : Fin 512) : shapeCast S3x512 x shapeCasts_S1x3x512_S3x512 (ix2 g k) = x (ix3 0 g k) := by
  pointwise []
theorem e1 (c : Dev nD) (i : S8x512.Idx) (g : Fin 3) (h : (i 0).val = g.val) : V m c main_v1 i = (args m c).cw (ix3 0 g (i 1)) := by
  simp only [V, V0, hostOps0, hostOps0_1, hostOps0_2, List.flatten_cons, List.flatten_nil, List.append_nil, List.cons_append, List.nil_append]
  entry_read
  refine (pad_apply_of_inside (s := S3x512) (t := S8x512) ![0, 0] ![5, 0] ![0, 0] (shapeCast S3x512 (m ((c : Thread nD τ).loc main_arg6)) shapeCasts_S1x3x512_S3x512) _ pads_S3x512_S8x512_050_000 h_S_ i (ix2 g (i 1)) fun a => ?_).trans ?_
  · fin_cases a
    · show (i 0).val = 0 + g.val * 1; omega
    · show (i 1).val = 0 + (i 1).val * 1; omega
  · exact row_of _ g (i 1)
theorem e10 (c : Dev nD) (i : S512x1024.Idx) : V m c main_v10 i = (args m c).ws (ix3 0 (i 0) (i 1)) := by
  simp only [V, V0, hostOps0, hostOps0_1, hostOps0_2, List.flatten_cons, List.flatten_nil, List.append_nil, List.cons_append, List.nil_append]
  entry_read; pointwise []; rfl
theorem e12 (c : Dev nD) (i : S512x1024.Idx) : V m c main_v12 i = (args m c).wc (ix3 0 (i 0) (i 1)) := by
  simp only [V, V0, hostOps0, hostOps0_1, hostOps0_2, List.flatten_cons, List.flatten_nil, List.append_nil, List.cons_append, List.nil_append]
  entry_read; pointwise []; rfl
theorem e14 (c : Dev nD) (i : S1024x1024.Idx) : V m c main_v14 i = (args m c).wo (ix3 0 (i 0) (i 1)) := by
  simp only [V, V0, hostOps0, hostOps0_1, hostOps0_2, List.flatten_cons, List.flatten_nil, List.append_nil, List.cons_append, List.nil_append]
  entry_read; pointwise []; rfl

theorem idx : ∀ t : Fin cfg0.N, win0_0.index t = ![15 - t.val, 1] ∧ win0_1.index t = ![15 - t.val, 2] ∧ win0_2.index t = ![15 - t.val, 3]
    ∧ win0_3.index t = ![15 - t.val, 2] ∧ win0_4.index t = ![15 - t.val, 3] ∧ win0_5.index t = ![(15 - t.val) * 32 - 1, 2]
    ∧ win0_6.index t = ![(15 - t.val) * 32 - 1, 3] ∧ win0_7.index t = ![15 - t.val, 0] ∧ win0_8.index t = ![15 - t.val, 0]
    ∧ win0_9.index t = ![(15 - t.val) / 4, 0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![15 - t.val, 0]
    ∧ win0_17.index t = ![15 - t.val, 0] ∧ win0_18.index t = ![0, 0] ∧ win0_19.index t = ![0, 0] ∧ win0_20.index t = ![0, 0]
    ∧ win0_21.index t = ![0, 0] ∧ win0_22.index t = ![0, 0] ∧ win0_23.index t = ![0, 0] ∧ win0_24.index t = ![(15 - t.val) / 4, 0, 0] :=
  (by decide +kernel : ∀ t : Fin grid0.N, _)

theorem pts (t : Fin cfg0.N) : t.val < 16 := lt_of_lt_of_eq t.isLt (show cfg0.N = 16 from N_0)

/-- The sequence of grid point `t`, and the position of row `r` of its block. -/
abbrev bAt (t : Fin cfg0.N) : Fin 4 := ⟨(15 - t.val) / 4, by omega⟩
abbrev lAt (t : Fin cfg0.N) (r : Fin 512) : Fin 2048 := ⟨(15 - t.val) % 4 * 512 + r.val, by omega⟩

section point
variable (c : Dev nD) (t : Fin cfg0.N) (r : Fin 512)

theorem b0 (k : Fin 512) : iblk m c 0 t (ix2 r k) = cb (args m c) (bAt t) (lAt t r) k := by
  blk_simp [iblk]
  exact e3 m c _ (bAt t) (lAt t r) ⟨512 + k.val, by omega⟩ (by blk_simp [idx t]; show _ = (15 - t.val) / 4 * 2048 + ((15 - t.val) % 4 * 512 + r.val); omega) (by blk_simp [idx t])
theorem b1 (k : Fin 512) : iblk m c 1 t (ix2 r k) = cc (args m c) (bAt t) (lAt t r) k := by
  blk_simp [iblk]
  exact e3 m c _ (bAt t) (lAt t r) ⟨1024 + k.val, by omega⟩ (by blk_simp [idx t]; show _ = (15 - t.val) / 4 * 2048 + ((15 - t.val) % 4 * 512 + r.val); omega) (by blk_simp [idx t])
theorem b2 (k : Fin 512) : iblk m c 2 t (ix2 r k) = cx (args m c) (bAt t) (lAt t r) k := by
  blk_simp [iblk]
  exact e3 m c _ (bAt t) (lAt t r) ⟨1536 + k.val, by omega⟩ (by blk_simp [idx t]; show _ = (15 - t.val) / 4 * 2048 + ((15 - t.val) % 4 * 512 + r.val); omega) (by blk_simp [idx t])
theorem b3 (k : Fin 1024) : iblk m c 3 t (ix2 r k) = gs (args m c) (bAt t) (lAt t r) k := by
  blk_simp [iblk]
  exact e3 m c _ (bAt t) (lAt t r) ⟨2048 + k.val, by omega⟩ (by blk_simp [idx t]; show _ = (15 - t.val) / 4 * 2048 + ((15 - t.val) % 4 * 512 + r.val); omega) (by blk_simp [idx t])
theorem b4 (k : Fin 1024) : iblk m c 4 t (ix2 r k) = gc (args m c) (bAt t) (lAt t r) k := by
  blk_simp [iblk]
  exact e3 m c _ (bAt t) (lAt t r) ⟨3072 + k.val, by omega⟩ (by blk_simp [idx t]; show _ = (15 - t.val) / 4 * 2048 + ((15 - t.val) % 4 * 512 + r.val); omega) (by blk_simp [idx t])
/-- The rows before the block, where the block isn't a sequence's first. -/
theorem b5 (q : Fin 16) (k : Fin 512) (l : Fin 2048) (h : (15 - t.val) % 4 * 512 + q.val = l.val + 16) :
    iblk m c 5 t (ix2 q k) = cc (args m c) (bAt t) l k := by
  blk_simp [iblk]
  exact e3 m c _ (bAt t) l ⟨1024 + k.val, by omega⟩ (by blk_simp [idx t]; show _ = (15 - t.val) / 4 * 2048 + l.val; omega) (by blk_simp [idx t])
theorem b6 (q : Fin 16) (k : Fin 512) (l : Fin 2048) (h : (15 - t.val) % 4 * 512 + q.val = l.val + 16) :
    iblk m c 6 t (ix2 q k) = cx (args m c) (bAt t) l k := by
  blk_simp [iblk]
  exact e3 m c _ (bAt t) l ⟨1536 + k.val, by omega⟩ (by blk_simp [idx t]; show _ = (15 - t.val) / 4 * 2048 + l.val; omega) (by blk_simp [idx t])
theorem b7 (k : Fin 512) : iblk m c 7 t (ix2 r k) = (args m c).y (ix3 (bAt t) (lAt t r) k) := by
  blk_simp [iblk]
  exact e4 m c _ (bAt t) (lAt t r) k (by blk_simp [idx t]; show _ = (15 - t.val) / 4 * 2048 + ((15 - t.val) % 4 * 512 + r.val); omega) (by blk_simp [idx t])
theorem b8 (k : Fin 1024) : iblk m c 8 t (ix2 r k) = (args m c).dx (ix3 (bAt t) (lAt t r) k) := by
  blk_simp [iblk]
  exact e5 m c _ (bAt t) (lAt t r) k (by blk_simp [idx t]; show _ = (15 - t.val) / 4 * 2048 + ((15 - t.val) % 4 * 512 + r.val); omega) (by blk_simp [idx t])
theorem b9 (a d : Fin 1) (k : Fin 1024) : iblk m c 9 t (ix3 a d k) = (args m c).g1 (ix2 (bAt t) k) := by
  blk_simp [iblk]; rw [e6]; blk_ext [idx t]
theorem b10 (j k : Fin 512) : iblk m c 10 t (ix2 j k) = (args m c).wg (ix3 0 j k) := by
  blk_simp [iblk]; rw [e8]; blk_ext [idx t]
theorem b11 (a : Fin 1) (k : Fin 512) : iblk m c 11 t (ix2 a k) = (args m c).bg (ix2 0 k) := by
  show iblk m c 11 t (ix2 a k) = m ((c : Thread nD τ).loc main_arg5) (ix2 0 k)
  blk_ext [iblk, V, idx t]
theorem b12 (j : Fin 8) (g : Fin 3) (k : Fin 512) (h : j.val = g.val) : iblk m c 12 t (ix2 j k) = (args m c).cw (ix3 0 g k) := by
  blk_simp [iblk]; rw [e1 m c _ g (by blk_simp [idx t]; exact h)]; blk_ext [idx t]
theorem b13 (j : Fin 512) (k : Fin 1024) : iblk m c 13 t (ix2 j k) = (args m c).ws (ix3 0 j k) := by
  blk_simp [iblk]; rw [e10]; blk_ext [idx t]
theorem b14 (j : Fin 512) (k : Fin 1024) : iblk m c 14 t (ix2 j k) = (args m c).wc (ix3 0 j k) := by
  blk_simp [iblk]; rw [e12]; blk_ext [idx t]
theorem b15 (j k : Fin 1024) : iblk m c 15 t (ix2 j k) = (args m c).wo (ix3 0 j k) := by
  blk_simp [iblk]; rw [e14]; blk_ext [idx t]

end point

end Cert.Kernel3Ideal.Val

end
-- ==== Proof.MixPoint.lean ====
/- Call 3, the version's side: the values of a grid point, in the order it computes them. -/
module

public import proofs.«01_k».proof.Proof.MixKernel

@[expose] public section

set_option maxRecDepth 16384

noncomputable section

open Idealize.ShloMosaic Idealize.ShloMosaic.TcCoe Idealize.SL.Sem
open Idealize.ShloMosaic.Pipeline (Dat)

namespace Cert.Kernel3Ideal.Val

open Cert.Kernel3Ideal Cert.Kernel3Ideal.Gen Cert.Steps Cert.Steps.Mix

variable (m : (ℓ : Loc nD τ sig) → Buf (Elt Ideal) ℓ)

theorem halo_at : ∀ t : Fin cfg0.N, (Scalar.cmpi .eq (Scalar.select (Scalar.andi (Scalar.xori (Scalar.cmpi .slt (Scalar.remsi (Scalar.subi 15#32 (BitVec.ofNat 32 (grid0.coords t 0).val)) 4#32) 0#32) 0#1) (Scalar.cmpi .ne (Scalar.remsi (Scalar.subi 15#32 (BitVec.ofNat 32 (grid0.coords t 0).val)) 4#32) 0#32)) (Scalar.addi (Scalar.remsi (Scalar.subi 15#32 (BitVec.ofNat 32 (grid0.coords t 0).val)) 4#32) 4#32) (Scalar.remsi (Scalar.subi 15#32 (BitVec.ofNat 32 (grid0.coords t 0).val)) 4#32)) 0#32)
    = if t.val % 4 = 3 then 1#1 else 0#1 :=
  (by decide +kernel : ∀ t : Fin grid0.N, _)

/-- A choice by a row's number. -/
theorem pick (r : Fin 512) (n : ℕ) (hn : n < 512) (a b : EReal) :
    Scalar.select (IntOp.cmpi .eq (BitVec.ofNat 32 r.val) (BitVec.ofNat 32 n)) a b = if r.val = n then a else b := by
  unfold Scalar.select
  by_cases h : r.val = n
  · rw [if_pos h, if_pos (show IntOp.cmpi .eq (BitVec.ofNat 32 r.val) (BitVec.ofNat 32 n) = 1 from (WordCmp.cmpi_eq_ofNat_eq_one_iff (w := 32) (by omega) (by omega)).2 h)]
  · rw [if_neg h, if_neg (show ¬ IntOp.cmpi .eq (BitVec.ofNat 32 r.val) (BitVec.ofNat 32 n) = 1 from fun e => h ((WordCmp.cmpi_eq_ofNat_eq_one_iff (w := 32) (by omega) (by omega)).1 e))]

section point
variable (c : Dev nD) (t : Fin cfg0.N) (r : Fin 512)

/-- The blocks of the point. -/
abbrev B : Blocks Ideal := pt (F := Ideal) m c t

theorem q_cb (k : Fin 512) : (B m c t).cb (ix2 r k) = cb (args m c) (bAt t) (lAt t r) k := by
  pointwise [k0_pay15]; exact b0 m c t r k
theorem q_cc (k : Fin 512) : (B m c t).cc (ix2 r k) = cc (args m c) (bAt t) (lAt t r) k := by
  pointwise [k0_pay16]; exact b1 m c t r k
theorem q_cx (k : Fin 512) : (B m c t).cx (ix2 r k) = cx (args m c) (bAt t) (lAt t r) k := by
  pointwise [k0_pay17]; exact b2 m c t r k
theorem q_gs (k : Fin 1024) : (B m c t).gs (ix2 r k) = gs (args m c) (bAt t) (lAt t r) k := by
  pointwise [k0_pay25]; exact b3 m c t r k
theorem q_gc (k : Fin 1024) : (B m c t).gc (ix2 r k) = gc (args m c) (bAt t) (lAt t r) k := by
  pointwise [k0_pay26]; exact b4 m c t r k
theorem q_y (k : Fin 512) : (B m c t).y (ix2 r k) = (args m c).y (ix3 (bAt t) (lAt t r) k) := by
  pointwise [k0_pay24]; exact b7 m c t r k
theorem q_wg (j k : Fin 512) : (B m c t).wg (ix2 j k) = (args m c).wg (ix3 0 j k) := by
  pointwise [k0_pay19]; exact b10 m c t j k
theorem q_ws (j : Fin 512) (k : Fin 1024) : (B m c t).ws (ix2 j k) = (args m c).ws (ix3 0 j k) := by
  pointwise [k0_pay20]; exact b13 m c t j k
theorem q_wc (j : Fin 512) (k : Fin 1024) : (B m c t).wc (ix2 j k) = (args m c).wc (ix3 0 j k) := by
  pointwise [k0_pay21]; exact b14 m c t j k
theorem q_wo (j k : Fin 1024) : (B m c t).wo (ix2 j k) = (args m c).wo (ix3 0 j k) := by
  pointwise [k0_pay22]; exact b15 m c t j k
theorem q_cw (j : Fin 8) (g : Fin 3) (h : j.val = g.val) (k : Fin 512) : (B m c t).cw (ix2 j k) = (args m c).cw (ix3 0 g k) := by
  pointwise [k0_pay23]; exact b12 m c t j g k h
theorem q_bg (a : Fin 1) (k : Fin 512) : (B m c t).x11 (ix2 a k) = (args m c).bg (ix2 0 k) := b11 m c t a k
theorem q_dx (k : Fin 1024) : (B m c t).x8 (ix2 r k) = (args m c).dx (ix3 (bAt t) (lAt t r) k) := b8 m c t r k
theorem q_g1 (a d : Fin 1) (k : Fin 1024) : (B m c t).x9 (ix3 a d k) = (args m c).g1 (ix2 (bAt t) k) := b9 m c t a d k
/-- The two factors of the rows before the block. -/
abbrev hc : FVec Ideal S16x512 .bf16 := iblk m c 5 t
abbrev hx : FVec Ideal S16x512 .bf16 := iblk m c 6 t
/-- The rows before the block: zeros before a sequence's first row. -/
theorem q_halo (q : Fin 16) (k : Fin 512) : (B m c t).halo (ix2 q k)
    = Scalar.select (if t.val % 4 = 3 then 1#1 else 0#1) 0 (hc m c t (ix2 q k) * hx m c t (ix2 q k)) := by
  rw [← halo_at t]
  pointwise [k0_pay18]
  rfl
theorem q_halo0 (h : t.val % 4 = 3) (q : Fin 16) (k : Fin 512) : (B m c t).halo (ix2 q k) = (0 : EReal) := by
  rw [q_halo, if_pos h]; rfl
theorem q_halo1 (h : t.val % 4 ≠ 3) (q : Fin 16) (k : Fin 512) (l : Fin 2048) (hl : (15 - t.val) % 4 * 512 + q.val = l.val + 16) :
    (B m c t).halo (ix2 q k) = vv (args m c) (bAt t) l k := by
  rw [q_halo, if_neg h, show hc m c t (ix2 q k) = _ from b5 m c t q k l hl, show hx m c t (ix2 q k) = _ from b6 m c t q k l hl]; rfl
theorem q_y3 (k : Fin 512) : (B m c t).y3 (ix2 r k) = (args m c).y (ix3 (bAt t) (lAt t r) k) * ((args m c).y (ix3 (bAt t) (lAt t r) k) * (args m c).y (ix3 (bAt t) (lAt t r) k)) := by
  pointwise [k0_pay27]; simp only [q_y]
theorem q_th (k : Fin 512) : k0_pay31 (F := Ideal) (B m c t).y (B m c t).y3 (ix2 r k) = th (args m c) (bAt t) (lAt t r) k := by
  pointwise [k0_pay31]; simp only [q_y, q_y3]; rfl
theorem q_hf (k : Fin 512) : (B m c t).hf (ix2 r k) = hf (args m c) (bAt t) (lAt t r) k := by
  pointwise [k0_pay33]; simp only [q_th]; rfl
theorem q_sech (k : Fin 512) : (B m c t).sech (ix2 r k) = (1 + th (args m c) (bAt t) (lAt t r) k) * (1 - th (args m c) (bAt t) (lAt t r) k) := by
  pointwise [k0_pay32]; simp only [q_th]
theorem q_ge (k : Fin 512) : (B m c t).ge (ix2 r k) = ge (args m c) (bAt t) (lAt t r) k := by
  pointwise [k0_pay34]; simp only [q_y, q_hf]; rfl
theorem q_sg (k : Fin 512) : (B m c t).sg (ix2 r k) = sg (args m c) (bAt t) (lAt t r) k := by
  pointwise [k0_pay35]; simp only [q_ge, q_wg, q_bg]; rfl
theorem q_ys (k : Fin 512) : (B m c t).ys (ix2 r k) = ys (args m c) (bAt t) (lAt t r) k := by
  pointwise [k0_pay36]; simp only [q_ge, q_sg]; rfl
theorem q_vv (k : Fin 512) : (B m c t).vv (ix2 r k) = vv (args m c) (bAt t) (lAt t r) k := by
  pointwise [k0_pay37]; simp only [q_cc, q_cx]; rfl
theorem q_s1 (k : Fin 512) : (B m c t).s1 (ix2 r k) = s1 (args m c) (bAt t) (lAt t r) k := by
  have ht := pts t
  pointwise [k0_pay39, k0_pay38]; simp only [q_vv]
  rw [pick r 0 (by omega)]
  unfold Mix.s1
  by_cases hr : r.val = 0
  · rw [if_pos hr]
    by_cases h : t.val % 4 = 3
    · rw [q_halo0 m c t h, dif_neg (by show ¬ 1 ≤ (15 - t.val) % 4 * 512 + r.val; omega)]
    · rw [dif_pos (by show 1 ≤ (15 - t.val) % 4 * 512 + r.val; omega)]
      exact q_halo1 m c t h _ k _ (by show (15 - t.val) % 4 * 512 + 15 = (15 - t.val) % 4 * 512 + r.val - 1 + 16; omega)
  · rw [if_neg hr, dif_pos (by show 1 ≤ (15 - t.val) % 4 * 512 + r.val; omega)]
    congr 1; refine Fin.ext ?_
    show (15 - t.val) % 4 * 512 + (r.val + 512 - 1) % 512 = (15 - t.val) % 4 * 512 + r.val - 1; omega
theorem q_s2 (k : Fin 512) : (B m c t).s2 (ix2 r k) = s2 (args m c) (bAt t) (lAt t r) k := by
  have ht := pts t
  pointwise [k0_pay40, k0_pay38]; simp only [q_vv]
  rw [pick r 0 (by omega), pick r 1 (by omega)]
  unfold Mix.s2
  by_cases hr : r.val < 2
  · by_cases h : t.val % 4 = 3
    · rw [q_halo0 m c t h, q_halo0 m c t h, dif_neg (by show ¬ 2 ≤ (15 - t.val) % 4 * 512 + r.val; omega)]
      split
      · rfl
      · rw [if_pos (by omega)]
    · rw [dif_pos (by show 2 ≤ (15 - t.val) % 4 * 512 + r.val; omega)]
      split
      · exact q_halo1 m c t h _ k _ (by show (15 - t.val) % 4 * 512 + 14 = (15 - t.val) % 4 * 512 + r.val - 2 + 16; omega)
      · rw [if_pos (by omega)]
        exact q_halo1 m c t h _ k _ (by show (15 - t.val) % 4 * 512 + 15 = (15 - t.val) % 4 * 512 + r.val - 2 + 16; omega)
  · rw [if_neg (by omega), if_neg (by omega), dif_pos (by show 2 ≤ (15 - t.val) % 4 * 512 + r.val; omega)]
    congr 1; refine Fin.ext ?_
    show (15 - t.val) % 4 * 512 + (r.val + 512 - 2) % 512 = (15 - t.val) % 4 * 512 + r.val - 2; omega
theorem q_cv (k : Fin 512) : (B m c t).cv (ix2 r k) = cv (args m c) (bAt t) (lAt t r) k := by
  pointwise [k0_pay43, k0_pay42, k0_pay41]; simp only [q_vv, q_s1, q_s2, q_cw m c t 0 0 rfl, q_cw m c t 1 1 rfl, q_cw m c t 2 2 rfl]; rfl
theorem q_yc (k : Fin 512) : (B m c t).yc (ix2 r k) = yc (args m c) (bAt t) (lAt t r) k := by
  pointwise [k0_pay44]; simp only [q_cb, q_cv]; rfl
theorem q_ps (k : Fin 1024) : (B m c t).ps (ix2 r k) = ps (args m c) (bAt t) (lAt t r) k := by
  pointwise [k0_pay45]; simp only [q_ys, q_ws]; rfl
theorem q_pc (k : Fin 1024) : (B m c t).pc (ix2 r k) = pc (args m c) (bAt t) (lAt t r) k := by
  pointwise [k0_pay46]; simp only [q_yc, q_wc]; rfl
theorem q_ss (k : Fin 1024) : (B m c t).ss (ix2 r k) = ss (args m c) (bAt t) (lAt t r) k := by
  pointwise [k0_pay47]; simp only [q_gs]; rfl
theorem q_sc (k : Fin 1024) : (B m c t).sc (ix2 r k) = sc (args m c) (bAt t) (lAt t r) k := by
  pointwise [k0_pay48]; simp only [q_gc]; rfl
theorem q_mg (k : Fin 1024) : k0_pay49 (F := Ideal) (B m c t).cb (B m c t).ws (B m c t).wc (B m c t).cw (B m c t).gs (B m c t).gc (B m c t).ys (B m c t).vv (B m c t).s1 (B m c t).c0 (B m c t).w1 (ix2 r k)
    = mg (args m c) (bAt t) (lAt t r) k := by
  pointwise [k0_pay49]; simp only [q_ss, q_sc, q_ps, q_pc]; rfl
theorem q_dd (k : Fin 1024) : (B m c t).dd (ix2 r k) = dd (args m c) (bAt t) (lAt t r) k := by
  pointwise [k0_pay52, k0_pay50]; simp only [q_g1, q_dx]; rfl
theorem q_dm (k : Fin 1024) : k0_pay54 (F := Ideal) (B m c t).wo (B m c t).dd (ix2 r k) = dm (args m c) (bAt t) (lAt t r) k := by
  pointwise [k0_pay54]; simp only [q_wo, q_dd]; rfl
theorem q_dgs (k : Fin 1024) : (B m c t).dgs (ix2 r k) = dgs (args m c) (bAt t) (lAt t r) k := by
  pointwise [k0_pay55]; simp only [q_dm, q_ps, q_ss]; rfl
theorem q_dgc (k : Fin 1024) : (B m c t).dgc (ix2 r k) = dgc (args m c) (bAt t) (lAt t r) k := by
  pointwise [k0_pay56]; simp only [q_dm, q_pc, q_sc]; rfl
theorem q_dps (k : Fin 1024) : k0_pay57 (F := Ideal) (B m c t).wo (B m c t).ss (B m c t).dd (ix2 r k) = dps (args m c) (bAt t) (lAt t r) k := by
  pointwise [k0_pay57]; simp only [q_dm, q_ss]; rfl
theorem q_dpc (k : Fin 1024) : k0_pay58 (F := Ideal) (B m c t).wo (B m c t).sc (B m c t).dd (ix2 r k) = dpc (args m c) (bAt t) (lAt t r) k := by
  pointwise [k0_pay58]; simp only [q_dm, q_sc]; rfl
theorem q_dys (k : Fin 512) : (B m c t).dys (ix2 r k) = dys (args m c) (bAt t) (lAt t r) k := by
  pointwise [k0_pay61]; simp only [q_dps, q_ws]; rfl
theorem q_dyc (k : Fin 512) : k0_pay62 (F := Ideal) (B m c t).wc (B m c t).wo (B m c t).sc (B m c t).dd (ix2 r k) = dyc (args m c) (bAt t) (lAt t r) k := by
  pointwise [k0_pay62]; simp only [q_dpc, q_wc]; rfl
theorem q_dcb (k : Fin 512) : (B m c t).dcb (ix2 r k) = dcb (args m c) (bAt t) (lAt t r) k := by
  pointwise [k0_pay63]; simp only [q_dyc, q_cv]; rfl
theorem q_dcv (k : Fin 512) : (B m c t).dcv (ix2 r k) = dcv (args m c) (bAt t) (lAt t r) k := by
  pointwise [k0_pay64]; simp only [q_dyc, q_cb]; rfl
/-- The rows after the block: zeros after a sequence's last row. -/
theorem q_seen0 (h : t.val % 4 = 0) (q : Fin 8) (k : Fin 512) : seen m c t (ix2 q k) = (0 : EReal) := by
  unfold seen; rw [if_pos h]; pointwise [k0_pay13]
theorem q_seen1 (h : t.val % 4 ≠ 0) (q : Fin 8) (hq : q.val < 2) (k : Fin 512) (l : Fin 2048) (hl : (15 - t.val) % 4 * 512 + q.val + 512 = l.val) :
    seen m c t (ix2 q k) = dcv (args m c) (bAt t) l k := by
  have ht := pts t
  unfold seen carried
  rw [if_neg h]
  unfold Blocks.next
  rw [dif_pos (show ((ix2 q k : S8x512.Idx) 0).val < 2 from hq)]
  show k0_pay67 (F := Ideal) (B m c ⟨t.val - 1, _⟩).dcv (ix2 ⟨q.val, hq⟩ k) = _
  pointwise [k0_pay67]
  rw [q_dcv]
  congr 1 <;> refine Fin.ext ?_
  · show (15 - (t.val - 1)) / 4 = (15 - t.val) / 4; omega
  · show (15 - (t.val - 1)) % 4 * 512 + q.val = l.val; omega
theorem q_dv (k : Fin 512) : (B m c t).dv (seen m c t) (ix2 r k) = dv (args m c) (bAt t) (lAt t r) k := by
  have ht := pts t
  pointwise [k0_pay66, k0_pay65]; simp only [q_dcv, q_cw m c t 0 0 rfl, q_cw m c t 1 1 rfl, q_cw m c t 2 2 rfl]
  rw [pick r 511 (by omega), pick r 510 (by omega), pick r 511 (by omega)]
  unfold Mix.dv
  congr 2
  · congr 1
    unfold n1
    by_cases hr : r.val = 511
    · rw [if_pos hr]
      by_cases h : t.val % 4 = 0
      · rw [q_seen0 m c t h, dif_neg (by show ¬ (15 - t.val) % 4 * 512 + r.val + 1 < 2048; omega)]
      · rw [dif_pos (by show (15 - t.val) % 4 * 512 + r.val + 1 < 2048; omega)]
        exact q_seen1 m c t h _ (by decide) k _ (by show (15 - t.val) % 4 * 512 + 0 + 512 = (15 - t.val) % 4 * 512 + r.val + 1; omega)
    · rw [if_neg hr, dif_pos (by show (15 - t.val) % 4 * 512 + r.val + 1 < 2048; omega)]
      congr 1; refine Fin.ext ?_
      show (15 - t.val) % 4 * 512 + (r.val + 512 - 511) % 512 = (15 - t.val) % 4 * 512 + r.val + 1; omega
  · unfold n2
    by_cases hr : 510 ≤ r.val
    · by_cases h : t.val % 4 = 0
      · rw [q_seen0 m c t h, q_seen0 m c t h, dif_neg (by show ¬ (15 - t.val) % 4 * 512 + r.val + 2 < 2048; omega)]
        split
        · rfl
        · rw [if_pos (by omega)]
      · rw [dif_pos (by show (15 - t.val) % 4 * 512 + r.val + 2 < 2048; omega)]
        split
        · exact q_seen1 m c t h _ (by decide) k _ (by show (15 - t.val) % 4 * 512 + 0 + 512 = (15 - t.val) % 4 * 512 + r.val + 2; omega)
        · rw [if_pos (by omega)]
          exact q_seen1 m c t h _ (by decide) k _ (by show (15 - t.val) % 4 * 512 + 1 + 512 = (15 - t.val) % 4 * 512 + r.val + 2; omega)
    · rw [if_neg (by omega), if_neg (by omega), dif_pos (by show (15 - t.val) % 4 * 512 + r.val + 2 < 2048; omega)]
      congr 1; refine Fin.ext ?_
      show (15 - t.val) % 4 * 512 + (r.val + 512 - 510) % 512 = (15 - t.val) % 4 * 512 + r.val + 2; omega
theorem q_dz (k : Fin 512) : k0_pay71 (F := Ideal) (B m c t).ge (B m c t).sg (B m c t).dys (ix2 r k) = dz (args m c) (bAt t) (lAt t r) k := by
  pointwise [k0_pay71]; simp only [q_dys, q_ge, q_sg]; rfl
theorem q_dzb (k : Fin 512) : k0_pay72 (F := Ideal) (B m c t).ge (B m c t).sg (B m c t).dys (ix2 r k) = dz (args m c) (bAt t) (lAt t r) k := by
  pointwise [k0_pay72]; exact q_dz m c t r k
theorem q_dge (k : Fin 512) : k0_pay75 (F := Ideal) (B m c t).wg (B m c t).ge (B m c t).sg (B m c t).dys (ix2 r k) = dge (args m c) (bAt t) (lAt t r) k := by
  pointwise [k0_pay75]; simp only [q_dys, q_sg, q_dzb, q_wg]; rfl
theorem q_dyl (k : Fin 512) : (B m c t).dyl (ix2 r k) = dyl (args m c) (bAt t) (lAt t r) k := by
  pointwise [k0_pay1, k0_pay76, k0_pay77, k0_pay78, k0_pay30, k0_pay28, k0_pay29]; simp only [q_dge, q_hf, q_sech, q_y]; rfl

/-! ## What the point adds to each running sum -/

theorem s_18 (acc : FVec Ideal S1024x1024 .f32) (i k : Fin 1024) : (B m c t).add18 acc (ix2 i k)
    = acc (ix2 i k) + ∑ r : Fin 512, mg (args m c) (bAt t) (lAt t r) i * dd (args m c) (bAt t) (lAt t r) k := by
  pointwise [k0_pay53]; simp only [q_mg, q_dd]
theorem s_19 (acc : FVec Ideal S512x1024 .f32) (i : Fin 512) (k : Fin 1024) : (B m c t).add19 acc (ix2 i k)
    = acc (ix2 i k) + ∑ r : Fin 512, ys (args m c) (bAt t) (lAt t r) i * dps (args m c) (bAt t) (lAt t r) k := by
  pointwise [k0_pay59]; simp only [q_ys, q_dps]
theorem s_20 (acc : FVec Ideal S512x1024 .f32) (i : Fin 512) (k : Fin 1024) : (B m c t).add20 acc (ix2 i k)
    = acc (ix2 i k) + ∑ r : Fin 512, yc (args m c) (bAt t) (lAt t r) i * dpc (args m c) (bAt t) (lAt t r) k := by
  pointwise [k0_pay60]; simp only [q_yc, q_dpc]
theorem s_21 (acc : FVec Ideal S512x512 .f32) (i k : Fin 512) : (B m c t).add21 acc (ix2 i k)
    = acc (ix2 i k) + ∑ r : Fin 512, ge (args m c) (bAt t) (lAt t r) i * dz (args m c) (bAt t) (lAt t r) k := by
  pointwise [k0_pay73]; simp only [q_ge, q_dzb]
theorem s_22 (acc : FVec Ideal S1x512 .f32) (a : Fin 1) (k : Fin 512) : (B m c t).add22 acc (ix2 a k)
    = acc (ix2 a k) + ∑ r : Fin 512, dz (args m c) (bAt t) (lAt t r) k := by
  fin_cases a; pointwise [k0_pay74]; simp only [q_dz]
theorem s_24 (acc : FVec Ideal S1x1x1024 .f32) (a d : Fin 1) (k : Fin 1024) : (B m c t).add24 acc (ix3 a d k)
    = acc (ix3 a d k) + ∑ r : Fin 512, (args m c).dx (ix3 (bAt t) (lAt t r) k) * mo (args m c) (bAt t) (lAt t r) k := by
  fin_cases a; fin_cases d; pointwise [k0_pay51, k0_pay50]; simp only [q_dx, q_mg, q_wo]; rfl
theorem s_23_0 (acc : FVec Ideal S8x512 .f32) (k : Fin 512) : (B m c t).add23 acc (ix2 0 k)
    = acc (ix2 0 k) + ∑ r : Fin 512, dcv (args m c) (bAt t) (lAt t r) k * tap (args m c) (bAt t) (lAt t r) 0 k := by
  unfold Blocks.add23
  refine (if_pos rfl).trans ?_
  show k0_pay68 (F := Ideal) (B m c t).s2 (B m c t).dcv _ (ix2 0 k) = _
  pointwise [k0_pay68]; simp only [q_dcv, q_s2]; rfl
theorem s_23_1 (acc : FVec Ideal S8x512 .f32) (k : Fin 512) : (B m c t).add23 acc (ix2 1 k)
    = acc (ix2 1 k) + ∑ r : Fin 512, dcv (args m c) (bAt t) (lAt t r) k * tap (args m c) (bAt t) (lAt t r) 1 k := by
  unfold Blocks.add23
  refine (if_neg (show ¬ (1 : ℕ) = 0 by decide)).trans ((if_pos rfl).trans ?_)
  show k0_pay69 (F := Ideal) (B m c t).s1 (B m c t).dcv _ (ix2 0 k) = _
  pointwise [k0_pay69]; simp only [q_dcv, q_s1]; rfl
theorem s_23_2 (acc : FVec Ideal S8x512 .f32) (k : Fin 512) : (B m c t).add23 acc (ix2 2 k)
    = acc (ix2 2 k) + ∑ r : Fin 512, dcv (args m c) (bAt t) (lAt t r) k * tap (args m c) (bAt t) (lAt t r) 2 k := by
  unfold Blocks.add23
  refine (if_neg (show ¬ (2 : ℕ) = 0 by decide)).trans ((if_neg (show ¬ (2 : ℕ) = 1 by decide)).trans ((if_pos rfl).trans ?_))
  show k0_pay70 (F := Ideal) (B m c t).vv (B m c t).dcv _ (ix2 0 k) = _
  pointwise [k0_pay70]; simp only [q_dcv, q_vv]; rfl

/-- What the point writes of the projection's gradient. -/
theorem q_dp (a : FVec Ideal S512x4096 .bf16) (k : Fin 3584) : (B m c t).dp (seen m c t) a (ix2 r ⟨512 + k.val, by omega⟩)
    = dp (args m c) (bAt t) (lAt t r) k := by
  unfold Blocks.dp Mix.dp
  refine (dif_neg (show ¬ 512 + k.val < 512 by omega)).trans ?_
  by_cases h0 : k.val < 512
  · rw [dif_pos h0]
    refine (dif_pos (show 512 + k.val < 1024 by omega)).trans ?_
    refine (congrArg (fun q : Fin 512 => k0_pay2 (F := Ideal) (B m c t).dcb (ix2 r q)) (show (⟨512 + k.val - 512, by omega⟩ : Fin 512) = ⟨k.val, h0⟩
      from Fin.ext (by show 512 + k.val - 512 = k.val; omega))).trans ?_
    pointwise [k0_pay2]; exact q_dcb m c t r _
  rw [dif_neg h0]
  refine (dif_neg (show ¬ 512 + k.val < 1024 by omega)).trans ?_
  by_cases h1 : k.val < 1024
  · rw [dif_pos h1]
    refine (dif_pos (show 512 + k.val < 1536 by omega)).trans ?_
    refine (congrArg (fun q : Fin 512 => k0_pay3 (F := Ideal) (B m c t).cx ((B m c t).dv (seen m c t)) (ix2 r q)) (show (⟨512 + k.val - 1024, by omega⟩ : Fin 512) = ⟨k.val - 512, by omega⟩
      from Fin.ext (by show 512 + k.val - 1024 = k.val - 512; omega))).trans ?_
    pointwise [k0_pay3]; rw [q_dv, q_cx]; rfl
  rw [dif_neg h1]
  refine (dif_neg (show ¬ 512 + k.val < 1536 by omega)).trans ?_
  by_cases h2 : k.val < 1536
  · rw [dif_pos h2]
    refine (dif_pos (show 512 + k.val < 2048 by omega)).trans ?_
    refine (congrArg (fun q : Fin 512 => k0_pay4 (F := Ideal) (B m c t).cc ((B m c t).dv (seen m c t)) (ix2 r q)) (show (⟨512 + k.val - 1536, by omega⟩ : Fin 512) = ⟨k.val - 1024, by omega⟩
      from Fin.ext (by show 512 + k.val - 1536 = k.val - 1024; omega))).trans ?_
    pointwise [k0_pay4]; rw [q_dv, q_cc]; rfl
  rw [dif_neg h2]
  refine (dif_neg (show ¬ 512 + k.val < 2048 by omega)).trans ?_
  by_cases h3 : k.val < 2560
  · rw [dif_pos h3]
    refine (dif_pos (show 512 + k.val < 3072 by omega)).trans ?_
    refine (congrArg (fun q : Fin 1024 => k0_pay5 (F := Ideal) (B m c t).dgs (ix2 r q)) (show (⟨512 + k.val - 2048, by omega⟩ : Fin 1024) = ⟨k.val - 1536, by omega⟩
      from Fin.ext (by show 512 + k.val - 2048 = k.val - 1536; omega))).trans ?_
    pointwise [k0_pay5]; exact q_dgs m c t r _
  · rw [dif_neg h3]
    refine (dif_neg (show ¬ 512 + k.val < 3072 by omega)).trans ?_
    refine (congrArg (fun q : Fin 1024 => k0_pay6 (F := Ideal) (B m c t).dgc (ix2 r q)) (show (⟨512 + k.val - 3072, by omega⟩ : Fin 1024) = ⟨k.val - 2560, by omega⟩
      from Fin.ext (by show 512 + k.val - 3072 = k.val - 2560; omega))).trans ?_
    pointwise [k0_pay6]; exact q_dgc m c t r _

end point

end Cert.Kernel3Ideal.Val

end
-- ==== Proof.MixArrays.lean ====
/- Call 3, the version's side: the nine result arrays after the run, from what one grid point leaves in each block. -/
module

public import proofs.«01_k».proof.Proof.MixEnds
public import proofs.«01_k».proof.Proof.MixPoint
public import Idealize.ShloMosaic.Lib.Pipeline.ArrRel
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat RDat)

namespace Cert.Kernel3Ideal.Val

open Cert.Kernel3Ideal Cert.Kernel3Ideal.Gen Cert.Steps Cert.Steps.Mix

variable (m : (ℓ : Loc nD τ sig) → Buf (Elt Ideal) ℓ)

/-! ## Running sums -/

/-- What a buffer holds after point `n` that is begun again at `z` every `J` points and stepped at each. -/
def run {T : Type} (J : ℕ) (step : Fin cfg0.N → T → T) (z : T) : (n : ℕ) → n < cfg0.N → T
  | 0, h => step ⟨0, h⟩ z
  | n + 1, h => step ⟨n + 1, h⟩ (if (n + 1) % J = 0 then z else run J step z n (Nat.lt_of_succ_lt h))

theorem run_reset {T : Type} (J : ℕ) (step : Fin cfg0.N → T → T) (z : T) (t : Fin cfg0.N) (h : t.val % J = 0) :
    run J step z t.val t.isLt = step t z := by
  obtain ⟨n, hn⟩ := t
  cases n with
  | zero => rfl
  | succ n => show step _ (if (n + 1) % J = 0 then z else _) = _; rw [if_pos h]

theorem run_step {T : Type} (J : ℕ) (step : Fin cfg0.N → T → T) (z : T) (t : Fin cfg0.N) (h : ¬ t.val % J = 0) :
    run J step z t.val t.isLt = step t (run J step z (t.val - 1) (Nat.lt_of_le_of_lt (Nat.sub_le _ _) t.isLt)) := by
  obtain ⟨n, hn⟩ := t
  cases n with
  | zero => exact absurd (Nat.zero_mod J) h
  | succ n => show step _ (if (n + 1) % J = 0 then z else _) = _; rw [if_neg h]; rfl

/-- What the body leaves in an output that it begins again every `J` points, and which is written back before each beginning. -/
theorem leaves_run (c : Dev nD) (w : Fin cfg0.W) (J : ℕ)
    (step : Fin cfg0.N → ((cfg0.win w).block.Idx → Elt Ideal (cfg0.win w).elt) → ((cfg0.win w).block.Idx → Elt Ideal (cfg0.win w).elt))
    (z : (cfg0.win w).block.Idx → Elt Ideal (cfg0.win w).elt)
    (hfetch : ∀ t, (cfg0.win w).fetch t = false) (hflush : ∀ t, (cfg0.win w).flush t = true → (t.val + 1) % J = 0)
    (hstep : ∀ t Y X, (rdat m c).after w t Y X → X = step t (if t.val % J = 0 then z else Y)) :
    ∀ (n : ℕ) (h : n < cfg0.N) X, (rdat m c).Leaves w ⟨n, h⟩ X → X = run J step z n h := by
  intro n
  induction n with
  | zero =>
    rintro h X ⟨Y, -, hX⟩
    rw [hstep _ _ _ hX, if_pos (Nat.zero_mod J)]; rfl
  | succ n ih =>
    rintro h X ⟨Y, hY, hX⟩
    rw [hstep _ _ _ hX]
    show step _ (if (n + 1) % J = 0 then z else Y) = step _ (if (n + 1) % J = 0 then z else run J step z n _)
    by_cases h0 : (n + 1) % J = 0
    · rw [if_pos h0, if_pos h0]
    · rw [if_neg h0, if_neg h0]
      refine congrArg _ (ih _ Y ?_)
      rcases ((rdat m c).finds_of_pos (hfetch _) (by show n + 1 ≠ 0; omega) Y).1 hY with hf | hl
      · exact absurd (hflush _ hf) h0
      · exact hl

/-- The running sum over all points. -/
theorem run_all {ι κ : Type} (at_ : ι → κ) (step : Fin cfg0.N → (κ → EReal) → (κ → EReal)) (z : κ → EReal) (term : Fin cfg0.N → ι → EReal)
    (hz : ∀ i, z (at_ i) = 0) (hs : ∀ t Y i, step t Y (at_ i) = Y (at_ i) + term t i) (t : Fin cfg0.N) (ht : t.val = 15) (i : ι) :
    run 16 step z t.val t.isLt (at_ i) = ∑ p, term p i := by
  have e := Pipeline.eq_sum_fin_of_reset_step_apply_last (N := cfg0.N) (fun n h i => run 16 step z n h (at_ i)) 16 (fun _ => 0) term
    (fun t h i => by rw [run_reset 16 step z t h, hs, hz]) (fun t h i => by rw [run_step 16 step z t h, hs]) (le_of_eq N_0) t
    (by rw [ht]; exact N_0.symm) i
  rw [zero_add] at e
  exact e

/-- The running sum over the four points of a sequence. -/
theorem run_four {ι κ : Type} (at_ : ι → κ) (step : Fin cfg0.N → (κ → EReal) → (κ → EReal)) (z : κ → EReal) (term : Fin cfg0.N → ι → EReal)
    (hz : ∀ i, z (at_ i) = 0) (hs : ∀ t Y i, step t Y (at_ i) = Y (at_ i) + term t i) (t : Fin cfg0.N) (ht : t.val % 4 = 3) (i : ι) :
    run 4 step z t.val t.isLt (at_ i) = ∑ s : Fin 4, term ⟨4 * (t.val / 4) + s.val, lt_of_lt_of_eq (by have := pts t; omega : 4 * (t.val / 4) + s.val < 16) N_0.symm⟩ i := by
  have e := Pipeline.eq_sum_fin_of_reset_step_apply_of_flush (N := cfg0.N) (fun n h i => run 4 step z n h (at_ i)) 4 (fun _ => 0) term
    (fun t h i => by rw [run_reset 4 step z t h, hs, hz]) (fun t h i => by rw [run_step 4 step z t h, hs]) t ht i
  rw [zero_add] at e
  exact e

/-- The points go through the blocks from the last to the first, and together through every position. -/
theorem all_rows (f : Fin 4 → Fin 2048 → EReal) :
    ∑ t : Fin cfg0.N, ∑ r : Fin 512, f (bAt t) (lAt t r) = ∑ b : Fin 4, ∑ l : Fin 2048, f b l := by
  have hN : cfg0.N = 16 := N_0
  rw [← Equiv.sum_comp Fin.revPerm]
  refine Fin.sum_points_lanes_congr 4 (fun t r ha hl => ?_) (by rw [hN])
  have hv : (Fin.revPerm t).val = 15 - t.val := by rw [Fin.revPerm_apply, Fin.val_rev]; omega
  have ht := pts t
  congr 1
  · refine Fin.ext ?_; show (15 - (Fin.revPerm t).val) / 4 = t.val / 4; rw [hv]; omega
  · refine Fin.ext ?_; show (15 - (Fin.revPerm t).val) % 4 * 512 + r.val = t.val % 4 * 512 + r.val; rw [hv]; omega

/-- The four points of a sequence go through its positions. -/
theorem four_rows (t : Fin cfg0.N) (ht : t.val % 4 = 3) (f : Fin 4 → Fin 2048 → EReal)
    (hlt : ∀ s : Fin 4, 4 * (t.val / 4) + s.val < cfg0.N) :
    ∑ s : Fin 4, ∑ r : Fin 512, f (bAt ⟨4 * (t.val / 4) + s.val, hlt s⟩) (lAt ⟨4 * (t.val / 4) + s.val, hlt s⟩ r) = ∑ l : Fin 2048, f (bAt t) l := by
  have h16 := pts t
  rw [← Equiv.sum_comp Fin.revPerm]
  refine Fin.sum_mul_add_congr fun s r hl => ?_
  have hv : (Fin.revPerm s).val = 3 - s.val := by rw [Fin.revPerm_apply, Fin.val_rev]; omega
  congr 1
  · refine Fin.ext ?_; show (15 - (4 * (t.val / 4) + (Fin.revPerm s).val)) / 4 = (15 - t.val) / 4; rw [hv]; omega
  · refine Fin.ext ?_; show (15 - (4 * (t.val / 4) + (Fin.revPerm s).val)) % 4 * 512 + r.val = s.val * 512 + r.val; rw [hv]; omega

/-! ## The arrays -/

/-- A field over the tokens, laid out as the flattened rows. -/
def flat {n : Nat} (f : Fin 4 → Fin 2048 → Fin n → EReal) : (⟨2, ![8192, n]⟩ : Shape).Idx → EReal := fun i => f (bOf (i 0)) (lOf (i 0)) (i 1)

theorem flat_apply {n : Nat} (f : Fin 4 → Fin 2048 → Fin n → EReal) (t : Fin cfg0.N) (r : Fin 512) (k : Fin n)
    (i : (⟨2, ![8192, n]⟩ : Shape).Idx) (h0 : (i 0).val = (15 - t.val) * 512 + r.val) (h1 : (i 1).val = k.val) :
    f (bAt t) (lAt t r) k = flat f i := by
  have ht := pts t
  have e1 : i 1 = k := Fin.ext h1
  unfold flat
  rw [e1, show bOf (i 0) = bAt t from Fin.ext (by show (i 0).val / 2048 = (15 - t.val) / 4; rw [h0]; omega),
    show lOf (i 0) = lAt t r from Fin.ext (by show (i 0).val % 2048 = (15 - t.val) % 4 * 512 + r.val; rw [h0]; omega)]

theorem dyl_at (c : Dev nD) (t : Fin cfg0.N) (y : S512x512.Idx) : (B m c t).dyl y = dyl (args m c) (bAt t) (lAt t (y 0)) (y 1) := by
  idx_vars y; exact q_dyl m c t _ _

theorem dp_at (c : Dev nD) (t : Fin cfg0.N) (a : FVec Ideal S512x4096 .bf16) (y : S512x4096.Idx) (k : Fin 3584) (h : (y 1).val = 512 + k.val) :
    (B m c t).dp (seen m c t) a y = dp (args m c) (bAt t) (lAt t (y 0)) k := by
  idx_vars y
  exact (congrArg (fun q => (B m c t).dp (seen m c t) a (ix2 _ q)) (Fin.ext h)).trans (q_dp m c t _ a k)

/-- A sum over the tokens of products of two rows' entries. -/
def outer {n k : Nat} (f : Fin 4 → Fin 2048 → Fin n → EReal) (g : Fin 4 → Fin 2048 → Fin k → EReal) : (⟨2, ![n, k]⟩ : Shape).Idx → EReal :=
  fun i => ∑ b : Fin 4, ∑ l : Fin 2048, f b l (i 0) * g b l (i 1)

/-- What array 22 holds after the run. -/
def K22 (u : Args) : (⟨2, ![1, 512]⟩ : Shape).Idx → EReal := fun i => ∑ b : Fin 4, ∑ l : Fin 2048, dz u b l (i 1)
/-- What the first three rows of array 23 hold after the run. -/
def K23 (u : Args) : (⟨2, ![3, 512]⟩ : Shape).Idx → EReal := fun i => ∑ b : Fin 4, ∑ l : Fin 2048, dcv u b l (i 1) * tap u b l (i 0) (i 1)
/-- What array 24 holds after the run. -/
def K24 (u : Args) : (⟨3, ![4, 1, 1024]⟩ : Shape).Idx → EReal := fun y => ∑ l : Fin 2048, u.dx (ix3 (y 0) l (y 2)) * mo u (y 0) l (y 2)

/-- The last grid point. -/
def tEnd : Fin cfg0.N := ⟨15, by show 15 < grid0.N; rw [N_0]; decide⟩

section arrays
variable (c : Dev nD) (G : Arrays (F := Ideal) c) (hG : ∀ w, (rdat m c).ArrAt w cfg0.N (G w))
include hG

theorem arr16 : G 16 = flat (dyl (args m c)) := by
  obtain ⟨after, hL, hA⟩ := RDat.ArrAt.exists_exact_all hG
  refine (hA 16).trans (Dat.arrAt_eq_of_covers _ 16 _ (by decide +kernel) fun t hf y => ?_)
  have h0 : ((((cfg0.win 16).blk t).view.emb y) 0).val = (15 - t.val) * 512 + (y 0).val := by blk_simp [idx t]
  have h1 : ((((cfg0.win 16).blk t).view.emb y) 1).val = (y 1).val := by blk_simp [idx t]
  refine Eq.trans ?_ (flat_apply _ t (y 0) (y 1) _ h0 h1)
  obtain ⟨Y, -, h⟩ := hL 16 t t.isLt hf
  rw [RDat.withAfter_after]
  exact (congrFun h _).trans (dyl_at m c t y)

theorem arr17 (i : S8192x4096.Idx) (k : Fin 3584) (h : (i 1).val = 512 + k.val) : G 17 i = dp (args m c) (bOf (i 0)) (lOf (i 0)) k := by
  obtain ⟨after, hL, hA⟩ := RDat.ArrAt.exists_exact_all hG
  have key := Dat.arrAt_forall_of_covers ((rdat m c).withAfter after) 17
    (fun i v => ∀ k : Fin 3584, (i 1).val = 512 + k.val → (show EReal from v) = dp (args m c) (bOf (i 0)) (lOf (i 0)) k) (by decide +kernel)
    (fun t hf y k h => by
      have h0 : ((((cfg0.win 17).blk t).view.emb y) 0).val = (15 - t.val) * 512 + (y 0).val := by blk_simp [idx t]
      have h1 : ((((cfg0.win 17).blk t).view.emb y) 1).val = (y 1).val := by blk_simp [idx t]
      refine Eq.trans ?_ (flat_apply (fun b l (_ : Fin 4096) => dp (args m c) b l k) t (y 0) (y 1) _ h0 h1)
      obtain ⟨Y, -, hX⟩ := hL 17 t t.isLt hf
      rw [RDat.withAfter_after]
      exact (congrFun hX _).trans (dp_at m c t Y y k (h1.symm.trans h))) i
  rw [← hA 17] at key
  exact key k h

theorem arr18 : G 18 = outer (mg (args m c)) (dd (args m c)) := by
  obtain ⟨X, hX, hG⟩ := (hG 18).emb_eq_of_wholeAt (t₀ := tEnd) (by decide +kernel)
  have e := leaves_run m c 18 16 (fun t Y => (B m c t).add18 Y) (k0_pay7 (F := Ideal)) (by decide +kernel) (by decide +kernel)
    (fun t Y X h => by rw [Nat.mod_eq_of_lt (pts t)]; exact h) tEnd.val tEnd.isLt X hX
  funext i
  refine (hG i).trans ?_
  rw [e]
  refine (run_all (fun i : S1024x1024.Idx => i) (fun t Y => (B m c t).add18 Y) (k0_pay7 (F := Ideal))
    (fun t i => ∑ r : Fin 512, mg (args m c) (bAt t) (lAt t r) (i 0) * dd (args m c) (bAt t) (lAt t r) (i 1))
    (fun i => by pointwise [k0_pay7]) (fun t Y i => by idx_vars i; exact s_18 m c t Y _ _) tEnd rfl i).trans ?_
  exact all_rows fun b l => mg (args m c) b l (i 0) * dd (args m c) b l (i 1)

theorem arr19 : G 19 = outer (ys (args m c)) (dps (args m c)) := by
  obtain ⟨X, hX, hG⟩ := (hG 19).emb_eq_of_wholeAt (t₀ := tEnd) (by decide +kernel)
  have e := leaves_run m c 19 16 (fun t Y => (B m c t).add19 Y) (k0_pay8 (F := Ideal)) (by decide +kernel) (by decide +kernel)
    (fun t Y X h => by rw [Nat.mod_eq_of_lt (pts t)]; exact h) tEnd.val tEnd.isLt X hX
  funext i
  refine (hG i).trans ?_
  rw [e]
  refine (run_all (fun i : S512x1024.Idx => i) (fun t Y => (B m c t).add19 Y) (k0_pay8 (F := Ideal))
    (fun t i => ∑ r : Fin 512, ys (args m c) (bAt t) (lAt t r) (i 0) * dps (args m c) (bAt t) (lAt t r) (i 1))
    (fun i => by pointwise [k0_pay8]) (fun t Y i => by idx_vars i; exact s_19 m c t Y _ _) tEnd rfl i).trans ?_
  exact all_rows fun b l => ys (args m c) b l (i 0) * dps (args m c) b l (i 1)

theorem arr20 : G 20 = outer (yc (args m c)) (dpc (args m c)) := by
  obtain ⟨X, hX, hG⟩ := (hG 20).emb_eq_of_wholeAt (t₀ := tEnd) (by decide +kernel)
  have e := leaves_run m c 20 16 (fun t Y => (B m c t).add20 Y) (k0_pay9 (F := Ideal)) (by decide +kernel) (by decide +kernel)
    (fun t Y X h => by rw [Nat.mod_eq_of_lt (pts t)]; exact h) tEnd.val tEnd.isLt X hX
  funext i
  refine (hG i).trans ?_
  rw [e]
  refine (run_all (fun i : S512x1024.Idx => i) (fun t Y => (B m c t).add20 Y) (k0_pay9 (F := Ideal))
    (fun t i => ∑ r : Fin 512, yc (args m c) (bAt t) (lAt t r) (i 0) * dpc (args m c) (bAt t) (lAt t r) (i 1))
    (fun i => by pointwise [k0_pay9]) (fun t Y i => by idx_vars i; exact s_20 m c t Y _ _) tEnd rfl i).trans ?_
  exact all_rows fun b l => yc (args m c) b l (i 0) * dpc (args m c) b l (i 1)

theorem arr21 : G 21 = outer (ge (args m c)) (dz (args m c)) := by
  obtain ⟨X, hX, hG⟩ := (hG 21).emb_eq_of_wholeAt (t₀ := tEnd) (by decide +kernel)
  have e := leaves_run m c 21 16 (fun t Y => (B m c t).add21 Y) (k0_pay10 (F := Ideal)) (by decide +kernel) (by decide +kernel)
    (fun t Y X h => by rw [Nat.mod_eq_of_lt (pts t)]; exact h) tEnd.val tEnd.isLt X hX
  funext i
  refine (hG i).trans ?_
  rw [e]
  refine (run_all (fun i : S512x512.Idx => i) (fun t Y => (B m c t).add21 Y) (k0_pay10 (F := Ideal))
    (fun t i => ∑ r : Fin 512, ge (args m c) (bAt t) (lAt t r) (i 0) * dz (args m c) (bAt t) (lAt t r) (i 1))
    (fun i => by pointwise [k0_pay10]) (fun t Y i => by idx_vars i; exact s_21 m c t Y _ _) tEnd rfl i).trans ?_
  exact all_rows fun b l => ge (args m c) b l (i 0) * dz (args m c) b l (i 1)

theorem arr22 : G 22 = K22 (args m c) := by
  obtain ⟨X, hX, hG⟩ := (hG 22).emb_eq_of_wholeAt (t₀ := tEnd) (by decide +kernel)
  have e := leaves_run m c 22 16 (fun t Y => (B m c t).add22 Y) (k0_pay11 (F := Ideal)) (by decide +kernel) (by decide +kernel)
    (fun t Y X h => by rw [Nat.mod_eq_of_lt (pts t)]; exact h) tEnd.val tEnd.isLt X hX
  funext i
  refine (hG i).trans ?_
  rw [e]
  refine (run_all (fun i : S1x512.Idx => i) (fun t Y => (B m c t).add22 Y) (k0_pay11 (F := Ideal))
    (fun t i => ∑ r : Fin 512, dz (args m c) (bAt t) (lAt t r) (i 1))
    (fun i => by pointwise [k0_pay11]) (fun t Y i => by idx_vars i; exact s_22 m c t Y _ _) tEnd rfl i).trans ?_
  exact all_rows fun b l => dz (args m c) b l (i 1)

theorem arr23 (g : Fin 3) (k : Fin 512) : G 23 (ix2 ⟨g.val, by omega⟩ k)
    = (∑ b : Fin 4, ∑ l : Fin 2048, dcv (args m c) b l k * tap (args m c) b l g k : EReal) := by
  obtain ⟨X, hX, hG⟩ := (hG 23).emb_eq_of_wholeAt (t₀ := tEnd) (by decide +kernel)
  have e := leaves_run m c 23 16 (fun t Y => (B m c t).add23 Y) (k0_pay12 (F := Ideal)) (by decide +kernel) (by decide +kernel)
    (fun t Y X h => by rw [Nat.mod_eq_of_lt (pts t)]; exact h) tEnd.val tEnd.isLt X hX
  refine (hG (ix2 ⟨g.val, by omega⟩ k)).trans ?_
  rw [e]
  refine (run_all (fun i : Fin 3 × Fin 512 => (ix2 ⟨i.1.val, by omega⟩ i.2 : S8x512.Idx)) (fun t Y => (B m c t).add23 Y) (k0_pay12 (F := Ideal))
    (fun t i => ∑ r : Fin 512, dcv (args m c) (bAt t) (lAt t r) i.2 * tap (args m c) (bAt t) (lAt t r) i.1 i.2)
    (fun i => by pointwise [k0_pay12]) (fun t Y i => ?_) tEnd rfl (g, k)).trans ?_
  · obtain ⟨g, k⟩ := i
    fin_cases g
    · exact s_23_0 m c t Y k
    · exact s_23_1 m c t Y k
    · exact s_23_2 m c t Y k
  exact all_rows fun b l => dcv (args m c) b l k * tap (args m c) b l g k

omit hG in
theorem K24_at (b : Fin 4) (i : (⟨3, ![4, 1, 1024]⟩ : Shape).Idx) (k : Fin 1024) (h0 : i 0 = b) (h : i 2 = k) :
    ∑ l : Fin 2048, (args m c).dx (ix3 b l k) * mo (args m c) b l k = K24 (args m c) i := by subst h0; subst h; rfl

theorem arr24 : G 24 = K24 (args m c) := by
  obtain ⟨after, hL, hA⟩ := RDat.ArrAt.exists_exact_all hG
  refine (hA 24).trans (Dat.arrAt_eq_of_covers _ 24 _ (by decide +kernel) fun t hf y => ?_)
  have ht := (flush0_24 t).mp hf
  have h0 : (((cfg0.win 24).blk t).view.emb y) 0 = bAt t := Fin.ext (by blk_simp [idx t])
  have h1 : (((cfg0.win 24).blk t).view.emb y) 2 = y 2 := Fin.ext (by blk_simp [idx t])
  refine Eq.trans ?_ (K24_at m c _ _ _ h0 h1)
  have e := leaves_run m c 24 4 (fun t Y => (B m c t).add24 Y) (k0_pay14 (F := Ideal)) (by decide +kernel) (by decide +kernel)
    (fun t Y X h => h) t.val t.isLt _ (hL 24 t t.isLt hf)
  rw [RDat.withAfter_after]
  refine (congrFun e _).trans ?_
  refine (run_four (fun i : S1x1x1024.Idx => i) (fun t Y => (B m c t).add24 Y) (k0_pay14 (F := Ideal))
    (fun t i => ∑ r : Fin 512, (args m c).dx (ix3 (bAt t) (lAt t r) (i 2)) * mo (args m c) (bAt t) (lAt t r) (i 2))
    (fun i => by pointwise [k0_pay14]) (fun t Y i => by idx_vars i; exact s_24 m c t Y _ _ _) t ht y).trans ?_
  exact four_rows t ht (fun b l => (args m c).dx (ix3 b l (y 2)) * mo (args m c) b l (y 2)) _

/-- The columns of the projection's gradient that the version returns. -/
theorem cut16 : extractStridedSlice S8192x3584 ![0, 512] (G 17) slices_S8192x4096_S8192x3584_0_512 = flat (dp (args m c)) := by
  funext i
  refine Eq.trans ?_ (arr17 m c G hG (ix2 (i 0) ⟨512 + (i 1).val, by have : (i 1).val < 3584 := (i 1).isLt; omega⟩) (i 1) rfl)
  unfold extractStridedSlice
  refine congrArg (G 17) (funext fun a => Fin.ext ?_)
  fin_cases a
  · exact Nat.zero_add _
  · rfl

/-- The rows of the convolution's gradient that the version returns. -/
theorem cut17 : extractStridedSlice S3x512 ![0, 0] (G 23) slices_S8x512_S3x512_0_0
    = K23 (args m c) := by
  funext i
  refine Eq.trans ?_ (arr23 m c G hG (i 0) (i 1))
  unfold extractStridedSlice
  refine congrArg (G 23) (funext fun a => Fin.ext ?_)
  fin_cases a <;> exact Nat.zero_add _

end arrays

end Cert.Kernel3Ideal.Val

end
-- ==== Proof.MixReference.lean ====
/- Call 3, the reference's side: each result read at an index, as the row functions of `MixRows`. -/
module

public import proofs.«01_k».proof.Proof.Gen.Reference3Ideal.Read
public import proofs.«01_k».proof.Proof.MixRows

@[expose] public section

set_option maxRecDepth 16384

noncomputable section

open Idealize.ShloMosaic Idealize.ShloMosaic.TcCoe Idealize.SL.Sem

namespace Cert.Reference3Ideal.Val

open Cert.Reference3Ideal Cert.Reference3Ideal.Gen Cert.Reference3Ideal.Read Cert.Steps Cert.Steps.Mix

variable (u : Args) (b : Fin 4) (l : Fin 2048) (k j : Fin 512) (i i2 : Fin 1024) (g : Fin 3) (p : Fin 2050) (q : Fin 3584)

theorem r_cb : val_main_v1 (F := Ideal) u.p (ix3 b l k) = cb u b l k := by
  pointwise [val_main_v0, val_main_v1]
  rfl

theorem r_cc : val_main_v2 (F := Ideal) u.p (ix3 b l k) = cc u b l k := by
  pointwise [val_main_v0, val_main_v2]
  refine congrArg (fun q => u.p (ix3 b l q)) (Fin.ext ?_); show 512 + (512 + _) = 1024 + _; omega

theorem r_cx : val_main_v3 (F := Ideal) u.p (ix3 b l k) = cx u b l k := by
  pointwise [val_main_v0, val_main_v3]
  refine congrArg (fun q => u.p (ix3 b l q)) (Fin.ext ?_); show 512 + (1024 + _) = 1536 + _; omega

theorem r_gs : val_main_v4 (F := Ideal) u.p (ix3 b l i) = gs u b l i := by
  pointwise [val_main_v0, val_main_v4]
  refine congrArg (fun q => u.p (ix3 b l q)) (Fin.ext ?_); show 512 + (1536 + _) = 2048 + _; omega

theorem r_gc : val_main_v5 (F := Ideal) u.p (ix3 b l i) = gc u b l i := by
  pointwise [val_main_v0, val_main_v5]
  refine congrArg (fun q => u.p (ix3 b l q)) (Fin.ext ?_); show 512 + (2560 + _) = 3072 + _; omega

theorem r_th : val_main_v16 (F := Ideal) u.y (ix3 b l k) = th u b l k := by
  pointwise [val_main_v6, val_main_v7, val_main_cst_0, val_main_v11, val_main_v12, val_main_v13, val_main_cst_1, val_main_v14, val_main_v15, val_main_v16]
  rw [EReal.mul_comm (u.y (ix3 b l k) * u.y (ix3 b l k))]; rfl

theorem r_sech : val_main_v21 (F := Ideal) u.y (ix3 b l k) = (1 + th u b l k) * (1 - th u b l k) := by
  pointwise [val_main_cst_2, val_main_v17, val_main_v18, val_main_cst_3, val_main_v19, val_main_v20, val_main_v21]
  simp only [r_th]

theorem r_hf : val_main_v25 (F := Ideal) u.y (ix3 b l k) = hf u b l k := by
  pointwise [val_main_cst_4, val_main_v22, val_main_v23, val_main_cst_5, val_main_v24, val_main_v25]
  simp only [r_th]
  rfl

theorem r_ge : val_main_v26 (F := Ideal) u.y (ix3 b l k) = ge u b l k := by
  pointwise [val_main_v26]
  simp only [r_hf]
  rfl

theorem r_sg : val_main_v38 (F := Ideal) u.y u.wg u.bg (ix3 b l k) = sg u b l k := by
  pointwise [val_main_v27, val_main_v28, val_main_v29, val_main_v30, val_main_v31, val_main_v32, val_main_v33, val_main_v34, val_main_cst_6, val_main_v35, val_main_v36, val_main_cst_7, val_main_v37, val_main_v38]
  simp only [r_ge]
  rfl

theorem r_dsg : val_main_v41 (F := Ideal) u.y u.wg u.bg (ix3 b l k) = sg u b l k * (1 - sg u b l k) := by
  pointwise [val_main_cst_8, val_main_v39, val_main_v40, val_main_v41]
  simp only [r_sg]

theorem r_ys : val_main_v42 (F := Ideal) u.y u.wg u.bg (ix3 b l k) = ys u b l k := by
  pointwise [val_main_v42]
  simp only [r_ge, r_sg]
  rfl

theorem r_vv : val_main_v44 (F := Ideal) u.p (ix3 b l k) = vv u b l k := by
  pointwise [val_main_v44]
  simp only [r_cc, r_cx]
  rfl

theorem r_cat : val_main_v46 (F := Ideal) u.p (ix3 b p k) = if h : 2 ≤ p.val then vv u b ⟨p.val - 2, by omega⟩ k else 0 := by
  pointwise [val_main_cst_9, val_main_v45, val_main_v46]
  simp only [r_vv]
  by_cases h : p.val < 2
  · rw [dif_pos h, dif_neg (by omega)]
  · rw [dif_neg h, dif_pos (by omega)]

theorem r_s2 : val_main_v50 (F := Ideal) u.p (ix3 b l k) = s2 u b l k := by
  pointwise [val_main_v50]
  simp only [r_cat]
  rfl

theorem r_s1 : val_main_v56 (F := Ideal) u.p (ix3 b l k) = s1 u b l k := by
  pointwise [val_main_v56]
  simp only [r_cat]
  unfold s1
  by_cases h : 1 ≤ l.val
  · rw [dif_pos (by omega), dif_pos h]
    exact congrArg (fun x => vv u b x k) (Fin.ext (by show 1 + l.val - 2 = l.val - 1; omega))
  · rw [dif_neg (by omega), dif_neg h]

theorem r_s0 : val_main_v63 (F := Ideal) u.p (ix3 b l k) = vv u b l k := by
  pointwise [val_main_v63]
  simp only [r_cat]
  rw [dif_pos (by omega)]
  exact congrArg (fun x => vv u b x k) (Fin.ext (by show 2 + l.val - 2 = l.val; omega))

theorem r_cv : val_main_v67 (F := Ideal) u.p u.cw (ix3 b l k) = cv u b l k := by
  pointwise [val_main_v43, val_main_v48, val_main_v49, val_main_v51, val_main_v52, val_main_v53, val_main_v54, val_main_v55, val_main_v57, val_main_v58, val_main_v59, val_main_v60, val_main_v61, val_main_v62, val_main_v64, val_main_v65, val_main_v66, val_main_v67]
  simp only [r_s0, r_s1, r_s2]
  rfl

theorem r_yc : val_main_v68 (F := Ideal) u.p u.cw (ix3 b l k) = yc u b l k := by
  pointwise [val_main_v68]
  simp only [r_cb, r_cv]
  rfl

theorem r_ss : val_main_v74 (F := Ideal) u.p (ix3 b l i) = ss u b l i := by
  pointwise [val_main_v69, val_main_v70, val_main_cst_11, val_main_v71, val_main_v72, val_main_cst_12, val_main_v73, val_main_v74]
  simp only [r_gs]
  rfl

theorem r_dss : val_main_v77 (F := Ideal) u.p (ix3 b l i) = ss u b l i * (1 - ss u b l i) := by
  pointwise [val_main_cst_13, val_main_v75, val_main_v76, val_main_v77]
  simp only [r_ss]

theorem r_ps : val_main_v79 (F := Ideal) u.y u.wg u.bg u.ws (ix3 b l i) = ps u b l i := by
  pointwise [val_main_v78, val_main_v79]
  simp only [r_ys]
  rfl

theorem r_sc : val_main_v86 (F := Ideal) u.p (ix3 b l i) = sc u b l i := by
  pointwise [val_main_v81, val_main_v82, val_main_cst_14, val_main_v83, val_main_v84, val_main_cst_15, val_main_v85, val_main_v86]
  simp only [r_gc]
  rfl

theorem r_dsc : val_main_v89 (F := Ideal) u.p (ix3 b l i) = sc u b l i * (1 - sc u b l i) := by
  pointwise [val_main_cst_16, val_main_v87, val_main_v88, val_main_v89]
  simp only [r_sc]

theorem r_pc : val_main_v91 (F := Ideal) u.p u.cw u.wc (ix3 b l i) = pc u b l i := by
  pointwise [val_main_v90, val_main_v91]
  simp only [r_yc]
  rfl

theorem r_mg : val_main_v93 (F := Ideal) u.p u.y u.wg u.bg u.cw u.ws u.wc (ix3 b l i) = mg u b l i := by
  pointwise [val_main_v80, val_main_v92, val_main_v93]
  simp only [r_pc, r_ps, r_sc, r_ss]
  rfl

theorem r_mo : val_main_v96 (F := Ideal) u.p u.y u.wg u.bg u.cw u.ws u.wc u.wo (ix3 b l i) = mo u b l i := by
  pointwise [val_main_v95, val_main_v96]
  simp only [r_mg]
  rfl

theorem r_dd : val_main_v100 (F := Ideal) u.dx u.g1 (ix3 b l i) = dd u b l i := by
  pointwise [val_main_v94, val_main_v99, val_main_v100]
  rfl

theorem r_dm : val_main_v106 (F := Ideal) u.dx u.g1 u.wo (ix3 b l i) = dm u b l i := by
  pointwise [val_main_v95, val_main_v106]
  simp only [r_dd]
  rfl

theorem r_dpc : val_main_v109 (F := Ideal) u.p u.dx u.g1 u.wo (ix3 b l i) = dpc u b l i := by
  pointwise [val_main_v109]
  simp only [r_dm, r_sc]
  exact EReal.mul_comm _ _

theorem r_dyc : val_main_v113 (F := Ideal) u.p u.dx u.g1 u.wc u.wo (ix3 b l k) = dyc u b l k := by
  pointwise [val_main_v90, val_main_v113]
  simp only [r_dpc]
  rfl

theorem r_dgc : val_main_v115 (F := Ideal) u.p u.dx u.g1 u.cw u.wc u.wo (ix3 b l i) = dgc u b l i := by
  pointwise [val_main_v110, val_main_v115]
  simp only [r_dm, r_dsc, r_pc]
  unfold dgc; simp only [mul_assoc]

theorem r_dps : val_main_v116 (F := Ideal) u.p u.dx u.g1 u.wo (ix3 b l i) = dps u b l i := by
  pointwise [val_main_v116]
  simp only [r_dm, r_ss]
  exact EReal.mul_comm _ _

theorem r_dys : val_main_v120 (F := Ideal) u.p u.dx u.g1 u.ws u.wo (ix3 b l k) = dys u b l k := by
  pointwise [val_main_v78, val_main_v120]
  simp only [r_dps]
  rfl

theorem r_dgs : val_main_v122 (F := Ideal) u.p u.y u.dx u.g1 u.wg u.bg u.ws u.wo (ix3 b l i) = dgs u b l i := by
  pointwise [val_main_v117, val_main_v122]
  simp only [r_dm, r_dss, r_ps]
  unfold dgs; simp only [mul_assoc]

theorem r_dcv : val_main_v123 (F := Ideal) u.p u.dx u.g1 u.wc u.wo (ix3 b l k) = dcv u b l k := by
  pointwise [val_main_v123]
  simp only [r_cb, r_dyc]
  exact EReal.mul_comm _ _

theorem r_dcb : val_main_v124 (F := Ideal) u.p u.dx u.g1 u.cw u.wc u.wo (ix3 b l k) = dcb u b l k := by
  pointwise [val_main_v124]
  simp only [r_cv, r_dyc]
  rfl

theorem r_cot : val_main_v152 (F := Ideal) u.p u.dx u.g1 u.cw u.wc u.wo (ix3 b p k) = (if h : 2 ≤ p.val ∧ p.val - 2 < 2048 then u.cw (ix3 0 2 k) * dcv u b ⟨p.val - 2, by omega⟩ k else 0) + (if h : 1 ≤ p.val ∧ p.val - 1 < 2048 then u.cw (ix3 0 1 k) * dcv u b ⟨p.val - 1, by omega⟩ k else 0) + (if h : p.val < 2048 then u.cw (ix3 0 0 k) * dcv u b ⟨p.val, h⟩ k else 0) := by
  pointwise [val_main_v43, val_main_v48, val_main_v49, val_main_v51, val_main_v54, val_main_v55, val_main_v57, val_main_v61, val_main_v62, val_main_v64, val_main_v125, val_main_v126, val_main_cst_21, val_main_v131, val_main_v134, val_main_v135, val_main_cst_25, val_main_v140, val_main_v141, val_main_v145, val_main_v146, val_main_cst_29, val_main_v151, val_main_v152]
  simp only [r_dcv]

theorem r_dv : val_main_v157 (F := Ideal) u.p u.dx u.g1 u.cw u.wc u.wo (ix3 b l k) = dv u b l k := by
  pointwise [val_main_v157]
  simp only [r_cot]
  unfold dv n1 n2
  refine congrArg₂ (· + ·) (congrArg₂ (· + ·) ?_ ?_) ?_
  · rw [dif_pos (by omega)]
    exact congrArg (fun x => u.cw (ix3 0 2 k) * dcv u b x k) (Fin.ext (by show 2 + l.val - 2 = l.val; omega))
  · by_cases h : l.val + 1 < 2048
    · rw [dif_pos (by omega), dif_pos h]
      exact congrArg (fun x => u.cw (ix3 0 1 k) * dcv u b x k) (Fin.ext (by show 2 + l.val - 1 = l.val + 1; omega))
    · rw [dif_neg (by omega), dif_neg h, mul_zero]
  · by_cases h : l.val + 2 < 2048
    · rw [dif_pos (by omega), dif_pos h]
      exact congrArg (fun x => u.cw (ix3 0 0 k) * dcv u b x k) (Fin.ext (by show 2 + l.val = l.val + 2; omega))
    · rw [dif_neg (by omega), dif_neg h, mul_zero]

theorem r_dcx : val_main_v158 (F := Ideal) u.p u.dx u.g1 u.cw u.wc u.wo (ix3 b l k) = dcx u b l k := by
  pointwise [val_main_v158]
  simp only [r_cc, r_dv]
  exact EReal.mul_comm _ _

theorem r_dcc : val_main_v159 (F := Ideal) u.p u.dx u.g1 u.cw u.wc u.wo (ix3 b l k) = dcc u b l k := by
  pointwise [val_main_v159]
  simp only [r_cx, r_dv]
  rfl

theorem r_dz : val_main_v163 (F := Ideal) u.p u.y u.dx u.g1 u.wg u.bg u.ws u.wo (ix3 b l k) = dz u b l k := by
  pointwise [val_main_v161, val_main_v163]
  simp only [r_dsg, r_dys, r_ge]
  unfold dz; rw [mul_comm (ge u b l k)]; simp only [mul_assoc]

theorem r_dge : val_main_v171 (F := Ideal) u.p u.y u.dx u.g1 u.wg u.bg u.ws u.wo (ix3 b l k) = dge u b l k := by
  pointwise [val_main_v27, val_main_v162, val_main_v170, val_main_v171]
  simp only [r_dys, r_dz, r_sg]
  rfl

theorem r_dq : val_main_v179 (F := Ideal) u.p u.y u.dx u.g1 u.wg u.bg u.ws u.wo (ix3 b l k) = dq u b l k := by
  pointwise [val_main_v173, val_main_cst_33, val_main_v175, val_main_v176, val_main_v177, val_main_cst_34, val_main_v178, val_main_v179]
  simp only [r_dge, r_sech]
  rfl

theorem r_dyl : val_main_v184 (F := Ideal) u.p u.y u.dx u.g1 u.wg u.bg u.ws u.wo (ix3 b l k) = dyl u b l k := by
  pointwise [val_main_v8, val_main_cst, val_main_v9, val_main_v10, val_main_v174, val_main_v180, val_main_cst_35, val_main_v181, val_main_v182, val_main_v183, val_main_v184]
  simp only [r_dge, r_dq, r_hf]
  rfl

theorem r_dp : val_main_v185 (F := Ideal) u.p u.y u.dx u.g1 u.wg u.bg u.cw u.ws u.wc u.wo (ix3 b l q) = dp u b l q := by
  pointwise [val_main_v185]
  simp only [r_dcb, r_dcc, r_dcx, r_dgc, r_dgs]
  unfold dp
  by_cases h0 : q.val < 512
  · rw [dif_pos h0, dif_pos h0]
  rw [dif_neg h0, dif_neg h0]
  by_cases h1 : q.val < 1024
  · rw [dif_pos (by omega), dif_pos h1]
  rw [dif_neg (by omega), dif_neg h1]
  by_cases h2 : q.val < 1536
  · rw [dif_pos (by omega), dif_pos h2]
    exact congrArg (dcx u b l) (Fin.ext (by show q.val - 512 - 512 = q.val - 1024; omega))
  rw [dif_neg (by omega), dif_neg h2]
  by_cases h3 : q.val < 2560
  · rw [dif_pos (by omega), dif_pos h3]
    exact congrArg (dgs u b l) (Fin.ext (by show q.val - 512 - 512 - 512 = q.val - 1536; omega))
  · rw [dif_neg (by omega), dif_neg h3]
    exact congrArg (dgc u b l) (Fin.ext (by show q.val - 512 - 512 - 512 - 1024 = q.val - 2560; omega))

theorem r_gwo : val_main_v189 (F := Ideal) u.p u.y u.dx u.g1 u.wg u.bg u.cw u.ws u.wc (ix2 i i2) = ∑ b : Fin 4, ∑ l : Fin 2048, mg u b l i * dd u b l i2 := by
  pointwise [val_main_v104, val_main_v105, val_main_v107, val_main_v189]
  simp only [r_dd, r_mg]
  exact Finset.sum_congr rfl fun _ _ => Finset.sum_congr rfl fun _ _ => mul_comm _ _

theorem r_gws : val_main_v190 (F := Ideal) u.p u.y u.dx u.g1 u.wg u.bg u.wo (ix2 k i) = ∑ b : Fin 4, ∑ l : Fin 2048, ys u b l k * dps u b l i := by
  pointwise [val_main_v118, val_main_v119, val_main_v121, val_main_v190]
  simp only [r_dps, r_ys]
  exact Finset.sum_congr rfl fun _ _ => Finset.sum_congr rfl fun _ _ => mul_comm _ _

theorem r_gwc : val_main_v191 (F := Ideal) u.p u.dx u.g1 u.cw u.wo (ix2 k i) = ∑ b : Fin 4, ∑ l : Fin 2048, yc u b l k * dpc u b l i := by
  pointwise [val_main_v111, val_main_v112, val_main_v114, val_main_v191]
  simp only [r_dpc, r_yc]
  exact Finset.sum_congr rfl fun _ _ => Finset.sum_congr rfl fun _ _ => mul_comm _ _

theorem r_gwg : val_main_v192 (F := Ideal) u.p u.y u.dx u.g1 u.wg u.bg u.ws u.wo (ix2 k j) = ∑ b : Fin 4, ∑ l : Fin 2048, ge u b l k * dz u b l j := by
  pointwise [val_main_v168, val_main_v169, val_main_v172, val_main_v192]
  simp only [r_dz, r_ge]
  exact Finset.sum_congr rfl fun _ _ => Finset.sum_congr rfl fun _ _ => mul_comm _ _

theorem r_gbg : val_main_v164 (F := Ideal) u.p u.y u.dx u.g1 u.wg u.bg u.ws u.wo (ix1 k) = ∑ b : Fin 4, ∑ l : Fin 2048, dz u b l k := by
  refine (hostReduceAdd_lead reducesTo_S4x2048x512_S512_d0_1 (val_main_v163 (F := Ideal) u.p u.y u.dx u.g1 u.wg u.bg u.ws u.wo) _ k).trans ?_
  have z : ∀ i, val_main_cst_31 (F := Ideal) i = (0 : EReal) := fun i => by pointwise [val_main_cst_31]
  rw [z, zero_add]
  refine Finset.sum_congr rfl fun b _ => Finset.sum_congr rfl fun l _ => ?_
  simp only [r_dz]

theorem r_gbg_all : val_main_v166 (F := Ideal) u.p u.y u.dx u.g1 u.wg u.bg u.ws u.wo (ix1 k) = ∑ b : Fin 4, ∑ l : Fin 2048, dz u b l k := by
  refine (hostReduceAdd_lead reducesTo_S1x1x512_S512_d0_1 (val_main_v165 (F := Ideal) u.p u.y u.dx u.g1 u.wg u.bg u.ws u.wo) _ k).trans ?_
  have z : ∀ i, val_main_cst_32 (F := Ideal) i = (0 : EReal) := fun i => by pointwise [val_main_cst_32]
  rw [z, zero_add]
  simp only [Finset.univ_unique, Finset.sum_singleton]
  pointwise [val_main_v165]
  exact r_gbg u k

theorem r_gc2 : val_main_v128 (F := Ideal) u.p u.dx u.g1 u.wc u.wo (ix1 k) = ∑ b : Fin 4, ∑ l : Fin 2048, dcv u b l k * vv u b l k := by
  refine (hostReduceAdd_lead reducesTo_S4x2048x512_S512_d0_1 (val_main_v127 (F := Ideal) u.p u.dx u.g1 u.wc u.wo) _ k).trans ?_
  have z : ∀ i, val_main_cst_19 (F := Ideal) i = (0 : EReal) := fun i => by pointwise [val_main_cst_19]
  rw [z, zero_add]
  refine Finset.sum_congr rfl fun b _ => Finset.sum_congr rfl fun l _ => ?_
  pointwise [val_main_v127]
  simp only [r_dcv, r_s0]

theorem r_gc2_all : val_main_v130 (F := Ideal) u.p u.dx u.g1 u.wc u.wo (ix1 k) = ∑ b : Fin 4, ∑ l : Fin 2048, dcv u b l k * vv u b l k := by
  refine (hostReduceAdd_lead reducesTo_S1x1x512_S512_d0_1 (val_main_v129 (F := Ideal) u.p u.dx u.g1 u.wc u.wo) _ k).trans ?_
  have z : ∀ i, val_main_cst_20 (F := Ideal) i = (0 : EReal) := fun i => by pointwise [val_main_cst_20]
  rw [z, zero_add]
  simp only [Finset.univ_unique, Finset.sum_singleton]
  pointwise [val_main_v129]
  exact r_gc2 u k

theorem r_gc1 : val_main_v137 (F := Ideal) u.p u.dx u.g1 u.wc u.wo (ix1 k) = ∑ b : Fin 4, ∑ l : Fin 2048, dcv u b l k * s1 u b l k := by
  refine (hostReduceAdd_lead reducesTo_S4x2048x512_S512_d0_1 (val_main_v136 (F := Ideal) u.p u.dx u.g1 u.wc u.wo) _ k).trans ?_
  have z : ∀ i, val_main_cst_23 (F := Ideal) i = (0 : EReal) := fun i => by pointwise [val_main_cst_23]
  rw [z, zero_add]
  refine Finset.sum_congr rfl fun b _ => Finset.sum_congr rfl fun l _ => ?_
  pointwise [val_main_v136]
  simp only [r_dcv, r_s1]

theorem r_gc1_all : val_main_v139 (F := Ideal) u.p u.dx u.g1 u.wc u.wo (ix1 k) = ∑ b : Fin 4, ∑ l : Fin 2048, dcv u b l k * s1 u b l k := by
  refine (hostReduceAdd_lead reducesTo_S1x1x512_S512_d0_1 (val_main_v138 (F := Ideal) u.p u.dx u.g1 u.wc u.wo) _ k).trans ?_
  have z : ∀ i, val_main_cst_24 (F := Ideal) i = (0 : EReal) := fun i => by pointwise [val_main_cst_24]
  rw [z, zero_add]
  simp only [Finset.univ_unique, Finset.sum_singleton]
  pointwise [val_main_v138]
  exact r_gc1 u k

theorem r_gc0 : val_main_v148 (F := Ideal) u.p u.dx u.g1 u.wc u.wo (ix1 k) = ∑ b : Fin 4, ∑ l : Fin 2048, dcv u b l k * s2 u b l k := by
  refine (hostReduceAdd_lead reducesTo_S4x2048x512_S512_d0_1 (val_main_v147 (F := Ideal) u.p u.dx u.g1 u.wc u.wo) _ k).trans ?_
  have z : ∀ i, val_main_cst_27 (F := Ideal) i = (0 : EReal) := fun i => by pointwise [val_main_cst_27]
  rw [z, zero_add]
  refine Finset.sum_congr rfl fun b _ => Finset.sum_congr rfl fun l _ => ?_
  pointwise [val_main_v147]
  simp only [r_dcv, r_s2]

theorem r_gc0_all : val_main_v150 (F := Ideal) u.p u.dx u.g1 u.wc u.wo (ix1 k) = ∑ b : Fin 4, ∑ l : Fin 2048, dcv u b l k * s2 u b l k := by
  refine (hostReduceAdd_lead reducesTo_S1x1x512_S512_d0_1 (val_main_v149 (F := Ideal) u.p u.dx u.g1 u.wc u.wo) _ k).trans ?_
  have z : ∀ i, val_main_cst_28 (F := Ideal) i = (0 : EReal) := fun i => by pointwise [val_main_cst_28]
  rw [z, zero_add]
  simp only [Finset.univ_unique, Finset.sum_singleton]
  pointwise [val_main_v149]
  exact r_gc0 u k

theorem r_gbgr : val_main_v167 (F := Ideal) u.p u.y u.dx u.g1 u.wg u.bg u.ws u.wo (ix2 0 k) = ∑ b : Fin 4, ∑ l : Fin 2048, dz u b l k := by
  pointwise [val_main_v167]
  simp only [r_gbg_all]

theorem r_gcw : val_main_v193 (F := Ideal) u.p u.dx u.g1 u.wc u.wo (ix2 g k) = ∑ b : Fin 4, ∑ l : Fin 2048, dcv u b l k * tap u b l g k := by
  pointwise [val_main_v132, val_main_cst_22, val_main_v133, val_main_v142, val_main_cst_26, val_main_v143, val_main_v144, val_main_v153, val_main_cst_30, val_main_v154, val_main_v155, val_main_v160, val_main_v193]
  simp only [r_gc0_all, r_gc1_all, r_gc2_all]
  fin_cases g <;> simp [tap]

theorem r_dg1 : val_main_v194 (F := Ideal) u.p u.y u.dx u.wg u.bg u.cw u.ws u.wc u.wo (ix3 b 0 i) = ∑ l : Fin 2048, u.dx (ix3 b l i) * mo u b l i := by
  pointwise [val_main_v101, val_main_cst_17, val_main_v102, val_main_v103, val_main_cst_18, val_main_v108, val_main_v194]
  simp only [r_mo]
  simp only [Finset.univ_unique, Finset.sum_singleton]

end Cert.Reference3Ideal.Val

end
-- ==== Proof.Mix.lean ====
/- Call 3: its claims. -/
module

public import proofs.«01_k».proof.Defs
public import proofs.«01_k».proof.Proof.MixArrays
public import proofs.«01_k».proof.Proof.MixReference
public import Idealize.ShloMosaic.Lib.Quiescent

@[expose] public section

set_option maxRecDepth 16384

noncomputable section

open Idealize.ShloMosaic Idealize.ShloMosaic.TcCoe Idealize.SL.Sem
open Idealize.ShloMosaic.StableHlo (launchContents)

namespace Cert.Steps.Mix

open Cert.Steps
open Cert.Kernel3Ideal.Val (args flat outer K22 K23 K24 cut16 cut17)
open Cert.Reference3Ideal.Read Cert.Reference3Ideal.Val

theorem frame_reference : Cert.quiescent_Reference3Ideal := fun m ρ _ =>
  (θ_run Cert.Reference3Ideal.defs _ _).mono
    (fun r h => ⟨fun c => (h c).2.2.2.2.2.2.2.2.2, sem_eq_zero_of_no_sems (by decide) r.2⟩)
    (Cert.Reference3Ideal.Value.run m ρ)

/-! ## The reference's results -/

section reference
variable (u : Args)

theorem o_dyl : val_main_v186 (F := Ideal) u.p u.y u.dx u.g1 u.wg u.bg u.ws u.wo = flat (dyl u) := by
  funext i
  pointwise [val_main_v186]
  exact r_dyl u (bOf (i 0)) (lOf (i 0)) (i 1)
theorem o_dp : val_main_v188 (F := Ideal) u.p u.y u.dx u.g1 u.wg u.bg u.cw u.ws u.wc u.wo = flat (dp u) := by
  funext i
  pointwise [val_main_v188, val_main_v187]
  exact r_dp u (bOf (i 0)) (lOf (i 0)) (i 1)
theorem o_gwo : val_main_v189 (F := Ideal) u.p u.y u.dx u.g1 u.wg u.bg u.cw u.ws u.wc = outer (mg u) (dd u) := by
  funext i
  idx_vars i
  exact r_gwo u _ _
theorem o_gws : val_main_v190 (F := Ideal) u.p u.y u.dx u.g1 u.wg u.bg u.wo = outer (ys u) (dps u) := by
  funext i
  idx_vars i
  exact r_gws u _ _
theorem o_gwc : val_main_v191 (F := Ideal) u.p u.dx u.g1 u.cw u.wo = outer (yc u) (dpc u) := by
  funext i
  idx_vars i
  exact r_gwc u _ _
theorem o_gwg : val_main_v192 (F := Ideal) u.p u.y u.dx u.g1 u.wg u.bg u.ws u.wo = outer (ge u) (dz u) := by
  funext i
  idx_vars i
  exact r_gwg u _ _
theorem o_gbg : val_main_v167 (F := Ideal) u.p u.y u.dx u.g1 u.wg u.bg u.ws u.wo = K22 u := by
  funext i
  obtain ⟨a, k, rfl⟩ : ∃ (a : Fin 1) (k : Fin 512), i = ix2 a k := ⟨i 0, i 1, (ix2_eta i).symm⟩
  rw [Subsingleton.elim a 0]
  exact r_gbgr u k
theorem o_gcw : val_main_v193 (F := Ideal) u.p u.dx u.g1 u.wc u.wo = K23 u := by
  funext i
  idx_vars i
  exact r_gcw u _ _
theorem o_dg1 : val_main_v194 (F := Ideal) u.p u.y u.dx u.wg u.bg u.cw u.ws u.wc u.wo = K24 u := by
  funext i
  obtain ⟨b, a, k, rfl⟩ : ∃ (b : Fin 4) (a : Fin 1) (k : Fin 1024), i = ix3 b a k := ⟨i 0, i 1, i 2, (ix3_eta i).symm⟩
  rw [Subsingleton.elim a 0]
  exact r_dg1 u b k

end reference

theorem value : Cert.algebraic_Kernel3Ideal_Reference3Ideal := by
  intro m g m' g' _ hagree
  refine ⟨fun c => flat (dyl (args m c)), fun c => flat (dp (args m c)), fun c => outer (mg (args m c)) (dd (args m c)),
    fun c => outer (ys (args m c)) (dps (args m c)), fun c => outer (yc (args m c)) (dpc (args m c)), fun c => outer (ge (args m c)) (dz (args m c)),
    fun c => K22 (args m c),
    fun c => K23 (args m c),
    fun c => K24 (args m c), ?_, ?_⟩
  · refine (θ_run Cert.Kernel3Ideal.defs _ _).mono (fun r h c => ?_) (ends m g)
    obtain ⟨hW, ⟨A, hA, h16, h17⟩, ha⟩ := h.1 c
    exact ⟨Cert.Kernel3Ideal.Val.arr16 m c _ hW, h16.trans (cut16 m c A hA), Cert.Kernel3Ideal.Val.arr18 m c _ hW, Cert.Kernel3Ideal.Val.arr19 m c _ hW,
      Cert.Kernel3Ideal.Val.arr20 m c _ hW, Cert.Kernel3Ideal.Val.arr21 m c _ hW, Cert.Kernel3Ideal.Val.arr22 m c _ hW, h17.trans (cut17 m c A hA),
      Cert.Kernel3Ideal.Val.arr24 m c _ hW, ha⟩
  · refine (θ_run Cert.Reference3Ideal.defs _ _).mono (fun r h c => ?_) (Cert.Reference3Ideal.Value.run m' g')
    obtain ⟨a0, a1, a2, a3, a4, a5, a6, a7, a8, a9⟩ := hagree c
    have key : ∀ {β : Type} (f : FVec Ideal ⟨3, ![4, 2048, 4096]⟩ .f32 → FVec Ideal ⟨3, ![4, 2048, 512]⟩ .f32 → FVec Ideal ⟨3, ![4, 2048, 1024]⟩ .f32 → FVec Ideal ⟨2, ![4, 1024]⟩ .f32 → FVec Ideal ⟨3, ![1, 512, 512]⟩ .f32 → FVec Ideal ⟨2, ![1, 512]⟩ .f32 → FVec Ideal ⟨3, ![1, 3, 512]⟩ .f32 → FVec Ideal ⟨3, ![1, 512, 1024]⟩ .f32 → FVec Ideal ⟨3, ![1, 512, 1024]⟩ .f32 → FVec Ideal ⟨3, ![1, 1024, 1024]⟩ .f32 → β),
        f (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6)) (m' ((c.tc : Thread _ _).loc Cert.Reference3Ideal.main_arg7)) (m' ((c.tc : Thread _ _).loc Cert.Reference3Ideal.main_arg8)) (m' ((c.tc : Thread _ _).loc Cert.Reference3Ideal.main_arg9))
        = f (args m c).p (args m c).y (args m c).dx (args m c).g1 (args m c).wg (args m c).bg (args m c).cw (args m c).ws (args m c).wc (args m c).wo := by
      intro β f
      rw [a0, a1, a2, a3, a4, a5, a6, a7, a8, a9]
      rfl
    obtain ⟨h0, h1, h2, h3, h4, h5, h6, h7, h8, ha⟩ := h c
    refine ⟨h0.trans ?_, h1.trans ?_, h2.trans ?_, h3.trans ?_, h4.trans ?_, h5.trans ?_, h6.trans ?_, h7.trans ?_, h8.trans ?_, ha⟩
    · exact (val_main_v186_eq (launchContents m' c)).trans ((key fun p y dx g1 wg bg cw ws wc wo => val_main_v186 (F := Ideal) p y dx g1 wg bg ws wo).trans (o_dyl (args m c)))
    · exact (val_main_v188_eq (launchContents m' c)).trans ((key fun p y dx g1 wg bg cw ws wc wo => val_main_v188 (F := Ideal) p y dx g1 wg bg cw ws wc wo).trans (o_dp (args m c)))
    · exact (val_main_v189_eq (launchContents m' c)).trans ((key fun p y dx g1 wg bg cw ws wc wo => val_main_v189 (F := Ideal) p y dx g1 wg bg cw ws wc).trans (o_gwo (args m c)))
    · exact (val_main_v190_eq (launchContents m' c)).trans ((key fun p y dx g1 wg bg cw ws wc wo => val_main_v190 (F := Ideal) p y dx g1 wg bg wo).trans (o_gws (args m c)))
    · exact (val_main_v191_eq (launchContents m' c)).trans ((key fun p y dx g1 wg bg cw ws wc wo => val_main_v191 (F := Ideal) p dx g1 cw wo).trans (o_gwc (args m c)))
    · exact (val_main_v192_eq (launchContents m' c)).trans ((key fun p y dx g1 wg bg cw ws wc wo => val_main_v192 (F := Ideal) p y dx g1 wg bg ws wo).trans (o_gwg (args m c)))
    · exact (val_main_v167_eq (launchContents m' c)).trans ((key fun p y dx g1 wg bg cw ws wc wo => val_main_v167 (F := Ideal) p y dx g1 wg bg ws wo).trans (o_gbg (args m c)))
    · exact (val_main_v193_eq (launchContents m' c)).trans ((key fun p y dx g1 wg bg cw ws wc wo => val_main_v193 (F := Ideal) p dx g1 wc wo).trans (o_gcw (args m c)))
    · exact (val_main_v194_eq (launchContents m' c)).trans ((key fun p y dx g1 wg bg cw ws wc wo => val_main_v194 (F := Ideal) p y dx wg bg cw ws wc wo).trans (o_dg1 (args m c)))

end Cert.Steps.Mix

end
-- ==== Proof.MlpRows.lean ====
/- The channel mixer with the final norm and the loss, row by row: what the version computes and what the derivative of the
   reference's lines computes, as functions of the nine arrays, and their equality on real arrays. -/
module

public import proofs.«01_k».proof.Proof.Common

@[expose] public section

set_option maxRecDepth 16384

noncomputable section

open Idealize.ShloMosaic

namespace Cert.Steps

/-! ## Real numbers among the extended reals -/

/-- An extended real that is a real number. -/
def Rl (x : EReal) : Prop := ∃ r : ℝ, x = r

theorem Rl.coe (r : ℝ) : Rl r := ⟨r, rfl⟩
theorem Rl.add {x y : EReal} : Rl x → Rl y → Rl (x + y) := by
  rintro ⟨a, rfl⟩ ⟨b, rfl⟩; exact ⟨a + b, (EReal.coe_add a b).symm⟩
theorem Rl.sub {x y : EReal} : Rl x → Rl y → Rl (x - y) := by
  rintro ⟨a, rfl⟩ ⟨b, rfl⟩; exact ⟨a - b, (EReal.coe_sub a b).symm⟩
theorem Rl.mul {x y : EReal} : Rl x → Rl y → Rl (x * y) := by
  rintro ⟨a, rfl⟩ ⟨b, rfl⟩; exact ⟨a * b, (EReal.coe_mul a b).symm⟩
theorem Rl.max {x y : EReal} : Rl x → Rl y → Rl (max x y) := by
  intro hx hy; rcases max_choice x y with h | h <;> rw [h] <;> assumption
theorem Rl.sum {ι : Type*} (s : Finset ι) {f : ι → EReal} (h : ∀ i ∈ s, Rl (f i)) : Rl (∑ i ∈ s, f i) :=
  Finset.sum_induction f Rl (fun _ _ => Rl.add) ⟨0, rfl⟩ h
theorem Rl.one : Rl 1 := ⟨1, rfl⟩
theorem Rl.zero : Rl 0 := ⟨0, rfl⟩
theorem Rl.row {ι : Type*} {f : ι → EReal} (h : ∀ i, Rl (f i)) : ∃ r : ι → ℝ, f = fun i => (r i : EReal) := by
  choose r hr using h; exact ⟨r, funext hr⟩
theorem IsReal.rl {s : Shape} {x : FVec Ideal s .f32} (h : IsReal x) (i : s.Idx) : Rl (x i) := by
  obtain ⟨r, rfl⟩ := h; exact ⟨r i, rfl⟩

theorem Rl.rms {X : Fin 1024 → EReal} (h : ∀ k, Rl (X k)) : Rl (rowRms X) := by
  obtain ⟨r, rfl⟩ := Rl.row h; exact ⟨_, rowRms_coe r⟩
theorem Rl.mean {x : EReal} (h : Rl x) : Rl (Ideal.div x (Ideal.ofBits .f32 0x44800000#32)) := by
  rw [ofBits_1024, Ideal.div_coe (by norm_num)]; exact h.mul (Rl.coe _)
theorem Rl.back {X D : Fin 1024 → EReal} (hX : ∀ k, Rl (X k)) (hD : ∀ k, Rl (D k)) (j : Fin 1024) : Rl (rmsBack X D j) :=
  (Rl.rms hX).mul ((hD j).sub (((hX j).mul (Rl.rms hX)).mul (Rl.mean (Rl.sum _ fun k _ => (hD k).mul ((hX k).mul (Rl.rms hX))))))

/-- `2`, `1/1024` and `1/2` -/
theorem ofBits_two : Ideal.ofBits .f32 0x40000000#32 = ((2 : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- The norm's derivative as `jax.vjp` gives it. -/
def rmsVjp (X D : Fin 1024 → EReal) (j : Fin 1024) : EReal := D j * rowRms X + X j * msCot X D + msCot X D * X j

theorem rmsVjp_eq {X D : Fin 1024 → EReal} (hX : ∀ k, Rl (X k)) (hD : ∀ k, Rl (D k)) : rmsVjp X D = rmsBack X D := by
  obtain ⟨x, rfl⟩ := Rl.row hX
  obtain ⟨d, rfl⟩ := Rl.row hD
  exact funext fun j => (rmsBack_eq x d j).symm

namespace Mlp

/-- The nine arrays of the call. -/
structure Args where
  x : A3
  t : A3
  sh : FVec Ideal ⟨2, ![4, 1024]⟩ .f32
  sc : FVec Ideal ⟨2, ![4, 1024]⟩ .f32
  g2 : FVec Ideal ⟨2, ![4, 1024]⟩ .f32
  n : FVec Ideal ⟨2, ![1, 1024]⟩ .f32
  fg : FVec Ideal ⟨1, ![1024]⟩ .f32
  w1 : FVec Ideal ⟨3, ![1, 1024, 4096]⟩ .f32
  w2 : FVec Ideal ⟨3, ![1, 4096, 1024]⟩ .f32

/-- All nine are real. -/
def Args.Real (u : Args) : Prop :=
  IsReal u.x ∧ IsReal u.t ∧ IsReal u.sh ∧ IsReal u.sc ∧ IsReal u.g2 ∧ IsReal u.n ∧ IsReal u.fg ∧ IsReal u.w1 ∧ IsReal u.w2

variable (u : Args) (b : Fin 4) (l : Fin 2048)

/-! ## The forward pass, the same on both sides -/

/-- The normalised row and the row with its gain. -/
def xh (k : Fin 1024) : EReal := row u.x b l k * rowRms (row u.x b l)
def xn (k : Fin 1024) : EReal := xh u b l k * u.n (ix2 0 k)
/-- The modulated row, the hidden row, its positive part and that part's square. -/
def hid (k : Fin 1024) : EReal := xn u b l k * (1 + u.sc (ix2 b k)) + u.sh (ix2 b k)
def act (j : Fin 4096) : EReal := ∑ k, hid u b l k * u.w1 (ix3 0 k j)
def pos (j : Fin 4096) : EReal := max (act u b l j) 0
def sq (j : Fin 4096) : EReal := pos u b l j * pos u b l j
def ff (k : Fin 1024) : EReal := ∑ j, sq u b l j * u.w2 (ix3 0 j k)
/-- The row the final norm reads, the normalised row, and the error. -/
def x2 (k : Fin 1024) : EReal := row u.x b l k + u.g2 (ix2 b k) * ff u b l k
def yh (k : Fin 1024) : EReal := x2 u b l k * rowRms (x2 u b l)
def err (k : Fin 1024) : EReal := yh u b l k * u.fg (ix1 k) - u.t (ix3 b l k)
/-- The mean square error of the row. -/
def mse : EReal := Ideal.div (∑ k, err u b l k * err u b l k) (Ideal.ofBits .f32 0x44800000#32)

/-! ## The version's backward pass -/

def dy (k : Fin 1024) : EReal := err u b l k * Ideal.ofBits .f32 0x3A800000#32
def dyh (k : Fin 1024) : EReal := dy u b l k * u.fg (ix1 k)
def dx2 (k : Fin 1024) : EReal := rmsBack (x2 u b l) (dyh u b l) k
def df (k : Fin 1024) : EReal := u.g2 (ix2 b k) * dx2 u b l k
def dsq (j : Fin 4096) : EReal := ∑ k, df u b l k * u.w2 (ix3 0 j k)
def da (j : Fin 4096) : EReal := Ideal.ofBits .f32 0x40000000#32 * pos u b l j * dsq u b l j
def dh (k : Fin 1024) : EReal := ∑ j, da u b l j * u.w1 (ix3 0 k j)
def dxn (k : Fin 1024) : EReal := dh u b l k * (1 + u.sc (ix2 b k))
def dxh (k : Fin 1024) : EReal := dxn u b l k * u.n (ix2 0 k)
def dx (k : Fin 1024) : EReal := dx2 u b l k + rmsBack (row u.x b l) (dxh u b l) k

/-! ## The derivative of the reference's lines -/

def rdy (k : Fin 1024) : EReal :=
  Ideal.div (Ideal.ofBits .f32 0x3F000000#32) (Ideal.ofBits .f32 0x44800000#32)
    * (Ideal.ofBits .f32 0x40000000#32 * err u b l k)
def rdyh (k : Fin 1024) : EReal := rdy u b l k * u.fg (ix1 k)
def rdx2 (k : Fin 1024) : EReal := rmsVjp (x2 u b l) (rdyh u b l) k
def rdf (k : Fin 1024) : EReal := u.g2 (ix2 b k) * rdx2 u b l k
def rdsq (j : Fin 4096) : EReal := ∑ k, rdf u b l k * u.w2 (ix3 0 j k)
def rda (j : Fin 4096) : EReal :=
  if 0 < act u b l j then rdsq u b l j * (Ideal.ofBits .f32 0x40000000#32 * pos u b l j) else 0
def rdh (k : Fin 1024) : EReal := ∑ j, rda u b l j * u.w1 (ix3 0 k j)
def rdxn (k : Fin 1024) : EReal := rdh u b l k * (1 + u.sc (ix2 b k))
def rdxh (k : Fin 1024) : EReal := rdxn u b l k * u.n (ix2 0 k)
def rdx (k : Fin 1024) : EReal := rdx2 u b l k + rmsVjp (row u.x b l) (rdxh u b l) k

/-! ## Everything is real on real arrays -/

section real
variable {u} (h : u.Real)
include h

theorem xh_real (k) : Rl (xh u b l k) := (h.1.rl _).mul (Rl.rms fun _ => h.1.rl _)
theorem hid_real (k) : Rl (hid u b l k) :=
  (((xh_real b l h k).mul (h.2.2.2.2.2.1.rl _)).mul (Rl.one.add (h.2.2.2.1.rl _))).add (h.2.2.1.rl _)
theorem act_real (j) : Rl (act u b l j) := Rl.sum _ fun k _ => (hid_real b l h k).mul (h.2.2.2.2.2.2.2.1.rl _)
theorem pos_real (j) : Rl (pos u b l j) := (act_real b l h j).max Rl.zero
theorem ff_real (k) : Rl (ff u b l k) :=
  Rl.sum _ fun j _ => ((pos_real b l h j).mul (pos_real b l h j)).mul (h.2.2.2.2.2.2.2.2.rl _)
theorem x2_real (k) : Rl (x2 u b l k) := (h.1.rl _).add ((h.2.2.2.2.1.rl _).mul (ff_real b l h k))
theorem err_real (k) : Rl (err u b l k) :=
  (((x2_real b l h k).mul (Rl.rms (x2_real b l h))).mul (h.2.2.2.2.2.2.1.rl _)).sub (h.2.1.rl _)
theorem dy_real (k) : Rl (dy u b l k) := (err_real b l h k).mul (by rw [ofBits_inv_1024]; exact Rl.coe _)
theorem dyh_real (k) : Rl (dyh u b l k) := (dy_real b l h k).mul (h.2.2.2.2.2.2.1.rl _)
theorem dx2_real (k) : Rl (dx2 u b l k) := Rl.back (x2_real b l h) (dyh_real b l h) k
theorem dsq_real (j) : Rl (dsq u b l j) :=
  Rl.sum _ fun k _ => ((h.2.2.2.2.1.rl _).mul (dx2_real b l h k)).mul (h.2.2.2.2.2.2.2.2.rl _)
theorem da_real (j) : Rl (da u b l j) :=
  ((by rw [ofBits_two]; exact Rl.coe _ : Rl (Ideal.ofBits .f32 0x40000000#32)).mul (pos_real b l h j)).mul (dsq_real b l h j)
theorem dh_real (k) : Rl (dh u b l k) := Rl.sum _ fun j _ => (da_real b l h j).mul (h.2.2.2.2.2.2.2.1.rl _)
theorem dxh_real (k) : Rl (dxh u b l k) :=
  ((dh_real b l h k).mul (Rl.one.add (h.2.2.2.1.rl _))).mul (h.2.2.2.2.2.1.rl _)

end real

/-! ## The two backward passes agree -/

/-- The error's factor: half of the square's two, over the row's length. -/
theorem rdy_eq : rdy u b l = dy u b l := by
  funext k
  unfold rdy dy
  rw [ofBits_half, ofBits_1024, ofBits_two, ofBits_inv_1024, Ideal.div_coe (by norm_num), ← EReal.coe_mul, ← mul_assoc,
    ← EReal.coe_mul, mul_comm]
  congr 2
  norm_num

theorem rdyh_eq : rdyh u b l = dyh u b l := by unfold rdyh dyh; rw [rdy_eq]

/-- Where the hidden value is not positive its positive part is zero, and so is the product. -/
theorem gate (a s : EReal) : (if 0 < a then s * (Ideal.ofBits .f32 0x40000000#32 * max a 0) else 0)
    = Ideal.ofBits .f32 0x40000000#32 * max a 0 * s := by
  by_cases h : (0 : EReal) < a
  · rw [if_pos h, mul_comm]
  · rw [if_neg h, max_eq_right (not_lt.1 h), mul_zero, zero_mul]

section real
variable {u} (h : u.Real)
include h

theorem rdx2_eq : rdx2 u b l = dx2 u b l := by
  funext k
  unfold rdx2 dx2
  rw [rdyh_eq, rmsVjp_eq (x2_real b l h) (dyh_real b l h)]
theorem rdf_eq : rdf u b l = df u b l := by unfold rdf df; rw [rdx2_eq b l h]
theorem rda_eq : rda u b l = da u b l := by
  funext j
  unfold rda da rdsq dsq
  rw [rdf_eq b l h]
  exact gate _ _
theorem rdh_eq : rdh u b l = dh u b l := by unfold rdh dh; rw [rda_eq b l h]
theorem rdxn_eq : rdxn u b l = dxn u b l := by unfold rdxn dxn; rw [rdh_eq b l h]
theorem rdx_eq : rdx u b l = dx u b l := by
  funext k
  unfold rdx dx
  rw [rdx2_eq b l h, show rdxh u b l = dxh u b l by unfold rdxh dxh; rw [rdxn_eq b l h],
    rmsVjp_eq (X := row u.x b l) (fun _ => h.1.rl _) (dxh_real b l h)]

end real

end Mlp

end Cert.Steps

end
-- ==== Proof.MlpKernel.lean ====
/- Call 4, the version's side: what one grid point leaves in each block, read at an index, as a function of the arguments. -/
module

public import proofs.«01_k».proof.Proof.Gen.Kernel4Ideal.Value
public import proofs.«01_k».proof.Proof.MlpRows

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen Cert.Steps Cert.Steps.Mlp

variable (m : (ℓ : Loc nD τ sig) → Buf (Elt Ideal) ℓ)

/-- The nine arrays at the launch. -/
def args (c : Dev nD) : Args where
  x := m ((c : Thread nD τ).loc main_arg0)
  t := m ((c : Thread nD τ).loc main_arg1)
  sh := m ((c : Thread nD τ).loc main_arg2)
  sc := m ((c : Thread nD τ).loc main_arg3)
  g2 := m ((c : Thread nD τ).loc main_arg4)
  n := m ((c : Thread nD τ).loc main_arg5)
  fg := m ((c : Thread nD τ).loc main_arg6)
  w1 := m ((c : Thread nD τ).loc main_arg7)
  w2 := m ((c : Thread nD τ).loc main_arg8)

/-! ## The arrays the region reads -/

theorem e0 (c : Dev nD) (i : S8192x1024.Idx) (b : Fin 4) (l : Fin 2048) (k : Fin 1024) (h0 : (i 0).val = b.val * 2048 + l.val)
    (h1 : (i 1).val = k.val) : V m c main_v0 i = (args m c).x (ix3 b l k) := by
  entry_read; pointwise []; refine congrArg _ ?_; blk_ext []
theorem e1 (c : Dev nD) (i : S8192x1024.Idx) (b : Fin 4) (l : Fin 2048) (k : Fin 1024) (h0 : (i 0).val = b.val * 2048 + l.val)
    (h1 : (i 1).val = k.val) : V m c main_v1 i = (args m c).t (ix3 b l k) := by
  entry_read; pointwise []; refine congrArg _ ?_; blk_ext []
theorem e2 (c : Dev nD) (i : S4x1x1024.Idx) : V m c main_v2 i = (args m c).sh (ix2 (i 0) (i 2)) := by entry_read; pointwise []; rfl
theorem e3 (c : Dev nD) (i : S4x1x1024.Idx) : V m c main_v3 i = (args m c).sc (ix2 (i 0) (i 2)) := by entry_read; pointwise []; rfl
theorem e4 (c : Dev nD) (i : S4x1x1024.Idx) : V m c main_v4 i = (args m c).g2 (ix2 (i 0) (i 2)) := by entry_read; pointwise []; rfl
theorem e5 (c : Dev nD) (i : S1x1024.Idx) : V m c main_v5 i = (args m c).fg (ix1 (i 1)) := by entry_read; pointwise []; rfl
theorem e7 (c : Dev nD) (i : S1024x4096.Idx) : V m c main_v7 i = (args m c).w1 (ix3 0 (i 0) (i 1)) := by entry_read; pointwise []; rfl
theorem e9 (c : Dev nD) (i : S4096x1024.Idx) : V m c main_v9 i = (args m c).w2 (ix3 0 (i 0) (i 1)) := by entry_read; pointwise []; rfl

theorem idx : ∀ t : Fin cfg0.N, win0_0.index t = ![t.val, 0] ∧ win0_1.index t = ![t.val, 0] ∧ win0_2.index t = ![t.val / 8, 0, 0]
    ∧ win0_3.index t = ![t.val / 8, 0, 0] ∧ win0_4.index t = ![t.val / 8, 0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![0, 0]
    ∧ win0_15.index t = ![0, 0] ∧ win0_16.index t = ![0, 0] ∧ win0_17.index t = ![t.val / 8, 0, 0]
    ∧ win0_18.index t = ![t.val / 8, 0, 0] ∧ win0_19.index t = ![t.val / 8, 0, 0] :=
  (by decide +kernel : ∀ t : Fin grid0.N, _)

theorem pts (t : Fin cfg0.N) : t.val < 32 := lt_of_lt_of_eq t.isLt (show cfg0.N = 32 from N_0)

/-- The batch and position of row `r` of the block of grid point `t`. -/
abbrev bAt (t : Fin cfg0.N) (r : Fin 256) : Fin 4 := ⟨(t.val * 256 + r.val) / 2048, by have := pts t; omega⟩
abbrev lAt (t : Fin cfg0.N) (r : Fin 256) : Fin 2048 := ⟨(t.val * 256 + r.val) % 2048, by omega⟩

section point
variable (c : Dev nD) (t : Fin cfg0.N)

theorem ib0 (r : Fin 256) (k : Fin 1024) : iblk m c 0 t (ix2 r k) = row (args m c).x (bAt t r) (lAt t r) k := by
  blk_simp [iblk]
  exact e0 m c _ (bAt t r) (lAt t r) k
    (by blk_simp [idx t]; show _ = (t.val * 256 + r.val) / 2048 * 2048 + (t.val * 256 + r.val) % 2048; omega) (by blk_simp [idx t])
theorem ib1 (r : Fin 256) (k : Fin 1024) : iblk m c 1 t (ix2 r k) = (args m c).t (ix3 (bAt t r) (lAt t r) k) := by
  blk_simp [iblk]
  exact e1 m c _ (bAt t r) (lAt t r) k
    (by blk_simp [idx t]; show _ = (t.val * 256 + r.val) / 2048 * 2048 + (t.val * 256 + r.val) % 2048; omega) (by blk_simp [idx t])
theorem ib2 (r : Fin 256) (a d : Fin 1) (k : Fin 1024) : iblk m c 2 t (ix3 a d k) = (args m c).sh (ix2 (bAt t r) k) := by
  blk_simp [iblk]; rw [e2]; blk_ext [idx t]
theorem ib3 (r : Fin 256) (a d : Fin 1) (k : Fin 1024) : iblk m c 3 t (ix3 a d k) = (args m c).sc (ix2 (bAt t r) k) := by
  blk_simp [iblk]; rw [e3]; blk_ext [idx t]
theorem ib4 (r : Fin 256) (a d : Fin 1) (k : Fin 1024) : iblk m c 4 t (ix3 a d k) = (args m c).g2 (ix2 (bAt t r) k) := by
  blk_simp [iblk]; rw [e4]; blk_ext [idx t]
theorem ib5 (a : Fin 1) (k : Fin 1024) : iblk m c 5 t (ix2 a k) = (args m c).n (ix2 0 k) := by
  show iblk m c 5 t (ix2 a k) = m ((c : Thread nD τ).loc main_arg5) (ix2 0 k)
  blk_ext [iblk, V, idx t]
theorem ib6 (a : Fin 1) (k : Fin 1024) : iblk m c 6 t (ix2 a k) = (args m c).fg (ix1 k) := by
  blk_simp [iblk]; rw [e5]; blk_ext [idx t]
theorem ib7 (k : Fin 1024) (j : Fin 4096) : iblk m c 7 t (ix2 k j) = (args m c).w1 (ix3 0 k j) := by
  blk_simp [iblk]; rw [e7]; blk_ext [idx t]
theorem ib8 (j : Fin 4096) (k : Fin 1024) : iblk m c 8 t (ix2 j k) = (args m c).w2 (ix3 0 j k) := by
  blk_simp [iblk]; rw [e9]; blk_ext [idx t]

/-! ## The values a grid point computes, in the order it computes them -/

/-- The blocks the names below are computed from. -/
abbrev vsc := k0_pay8 (F := Ideal) (iblk m c 3 t)
abbrev vg2 := k0_pay9 (F := Ideal) (iblk m c 4 t)
abbrev vxh := k0_pay11 (F := Ideal) (iblk m c 0 t)
abbrev vn := k0_pay12 (F := Ideal) (iblk m c 5 t)
abbrev vpos := k0_pay15 (F := Ideal) (vsc m c t) (vxh m c t) (vn m c t) (iblk m c 2 t) (iblk m c 7 t)
abbrev vff := k0_pay17 (F := Ideal) (vsc m c t) (vxh m c t) (vn m c t) (iblk m c 2 t) (iblk m c 7 t) (iblk m c 8 t)
abbrev vx2 := k0_pay18 (F := Ideal) (k0_pay7 (iblk m c 0 t)) (vsc m c t) (vg2 m c t) (vxh m c t) (vn m c t) (iblk m c 2 t) (iblk m c 7 t) (iblk m c 8 t)
abbrev vr := k0_pay19 (F := Ideal) (k0_pay7 (iblk m c 0 t)) (vsc m c t) (vg2 m c t) (vxh m c t) (vn m c t) (iblk m c 2 t) (iblk m c 7 t) (iblk m c 8 t)
abbrev vyh := k0_pay20 (F := Ideal) (k0_pay7 (iblk m c 0 t)) (vsc m c t) (vg2 m c t) (vxh m c t) (vn m c t) (iblk m c 2 t) (iblk m c 7 t) (iblk m c 8 t)
abbrev verr := k0_pay21 (F := Ideal) (k0_pay7 (iblk m c 0 t)) (vsc m c t) (vg2 m c t) (vxh m c t) (vn m c t) (iblk m c 2 t) (iblk m c 7 t) (iblk m c 8 t)
  (iblk m c 6 t) (iblk m c 1 t)
abbrev vdx2 := k0_pay25 (F := Ideal) (vr m c t) (vyh m c t) (verr m c t) (iblk m c 6 t)
abbrev vda := k0_pay30 (F := Ideal) (vg2 m c t) (vpos m c t) (vdx2 m c t) (iblk m c 8 t)
abbrev vdh := k0_pay31 (F := Ideal) (vg2 m c t) (vpos m c t) (vdx2 m c t) (iblk m c 8 t) (iblk m c 7 t)

variable (r : Fin 256) (k : Fin 1024) (j : Fin 4096)

theorem q_x : k0_pay7 (F := Ideal) (iblk m c 0 t) (ix2 r k) = row (args m c).x (bAt t r) (lAt t r) k := by
  pointwise [k0_pay7]; exact ib0 m c t r k
theorem q_sc (a : Fin 1) : vsc m c t (ix2 a k) = (args m c).sc (ix2 (bAt t r) k) := by
  fin_cases a; pointwise [k0_pay8]; exact ib3 m c t r 0 0 k
theorem q_g2 (a : Fin 1) : vg2 m c t (ix2 a k) = (args m c).g2 (ix2 (bAt t r) k) := by
  fin_cases a; pointwise [k0_pay9]; exact ib4 m c t r 0 0 k
theorem q_rms (a : Fin 1) : k0_pay10 (F := Ideal) (iblk m c 0 t) (ix2 r a) = rowRms (row (args m c).x (bAt t r) (lAt t r)) := by
  fin_cases a; pointwise [k0_pay10]; simp only [q_x]; rfl
theorem q_xh : vxh m c t (ix2 r k) = xh (args m c) (bAt t r) (lAt t r) k := by
  pointwise [k0_pay11]; simp only [q_x, q_rms]; rfl
theorem q_n : vn m c t (ix2 r k) = (args m c).n (ix2 0 k) := by
  pointwise [k0_pay12]; simp only [ib5]
theorem q_xn : k0_pay13 (F := Ideal) (vxh m c t) (vn m c t) (ix2 r k) = xn (args m c) (bAt t r) (lAt t r) k := by
  pointwise [k0_pay13]; simp only [q_xh, q_n]; rfl
theorem q_hid : k0_pay14 (F := Ideal) (vsc m c t) (vxh m c t) (vn m c t) (iblk m c 2 t) (ix2 r k) = hid (args m c) (bAt t r) (lAt t r) k := by
  pointwise [k0_pay14]; simp only [q_xn, q_sc m c t r, ib2 m c t r]; rfl
theorem q_pos : vpos m c t (ix2 r j) = pos (args m c) (bAt t r) (lAt t r) j := by
  pointwise [k0_pay15]; simp only [q_hid, ib7]; rfl
theorem q_sq : k0_pay16 (F := Ideal) (vsc m c t) (vxh m c t) (vn m c t) (iblk m c 2 t) (iblk m c 7 t) (ix2 r j) = sq (args m c) (bAt t r) (lAt t r) j := by
  pointwise [k0_pay16]; simp only [q_pos]; rfl
theorem q_ff : vff m c t (ix2 r k) = ff (args m c) (bAt t r) (lAt t r) k := by
  pointwise [k0_pay17]; simp only [q_sq, ib8]; rfl
theorem q_x2 : vx2 m c t (ix2 r k) = x2 (args m c) (bAt t r) (lAt t r) k := by
  pointwise [k0_pay18]; simp only [q_x, q_g2 m c t r, q_ff]; rfl
theorem q_r (a : Fin 1) : vr m c t (ix2 r a) = rowRms (x2 (args m c) (bAt t r) (lAt t r)) := by
  fin_cases a; pointwise [k0_pay19]; simp only [q_x2]; rfl
theorem q_yh : vyh m c t (ix2 r k) = yh (args m c) (bAt t r) (lAt t r) k := by
  pointwise [k0_pay20]; simp only [q_x2, q_r]; rfl
theorem q_err : verr m c t (ix2 r k) = err (args m c) (bAt t r) (lAt t r) k := by
  pointwise [k0_pay21]; simp only [q_yh, ib6, ib1]; rfl
theorem q_dy : k0_pay23 (F := Ideal) (verr m c t) (ix2 r k) = dy (args m c) (bAt t r) (lAt t r) k := by
  pointwise [k0_pay23]; simp only [q_err]; rfl
theorem q_dx2 : vdx2 m c t (ix2 r k) = dx2 (args m c) (bAt t r) (lAt t r) k := by
  pointwise [k0_pay25]; simp only [q_dy, q_yh, q_r, ib6]; rfl
theorem q_df : k0_pay29 (F := Ideal) (vg2 m c t) (vdx2 m c t) (ix2 r k) = df (args m c) (bAt t r) (lAt t r) k := by
  pointwise [k0_pay29]; simp only [q_dx2, q_g2 m c t r]; rfl
theorem q_da : vda m c t (ix2 r j) = da (args m c) (bAt t r) (lAt t r) j := by
  pointwise [k0_pay30]; simp only [q_df, q_pos, ib8]; rfl
theorem q_dh : vdh m c t (ix2 r k) = dh (args m c) (bAt t r) (lAt t r) k := by
  pointwise [k0_pay31]; simp only [q_da, ib7]; rfl
theorem q_dxn : k0_pay35 (F := Ideal) (vsc m c t) (vdh m c t) (ix2 r k) = dxn (args m c) (bAt t r) (lAt t r) k := by
  pointwise [k0_pay35]; simp only [q_dh, q_sc m c t r]; rfl
theorem q_dx : k0_pay37 (F := Ideal) (vsc m c t) (iblk m c 5 t) (k0_pay10 (iblk m c 0 t)) (vxh m c t) (vdx2 m c t) (vdh m c t) (ix2 r k)
    = dx (args m c) (bAt t r) (lAt t r) k := by
  pointwise [k0_pay37]; simp only [q_dxn, q_xh, q_rms, q_dx2, ib5]; rfl

/-! ## What a grid point adds to each running sum -/

theorem s_loss (acc : FVec Ideal S1x1 .f32) (a d : Fin 1) : k0_pay22 (F := Ideal) (verr m c t) acc (ix2 a d)
    = acc (ix2 a d) + Ideal.ofBits .f32 0x3F000000#32 * ∑ r : Fin 256, mse (args m c) (bAt t r) (lAt t r) := by
  fin_cases a; fin_cases d; pointwise [k0_pay22]; simp only [q_err]; rfl
theorem s_fg (acc : FVec Ideal S1x1024 .f32) (a : Fin 1) : k0_pay24 (F := Ideal) (vyh m c t) (verr m c t) acc (ix2 a k)
    = acc (ix2 a k) + ∑ r : Fin 256, dy (args m c) (bAt t r) (lAt t r) k * yh (args m c) (bAt t r) (lAt t r) k := by
  fin_cases a; pointwise [k0_pay24]; simp only [q_dy, q_yh]
theorem s_g2 (acc : FVec Ideal S1x1x1024 .f32) (a d : Fin 1) :
    k0_pay28 (F := Ideal) (k0_pay26 acc) (k0_pay27 (vff m c t) (vr m c t) (vyh m c t) (verr m c t) (iblk m c 6 t)) (ix3 a d k)
    = acc (ix3 a d k) + ∑ r : Fin 256, dx2 (args m c) (bAt t r) (lAt t r) k * ff (args m c) (bAt t r) (lAt t r) k := by
  fin_cases a; fin_cases d; pointwise [k0_pay28, k0_pay26, k0_pay27]; simp only [q_dx2, q_ff]
theorem s_sh (acc : FVec Ideal S1x1x1024 .f32) (a d : Fin 1) :
    k0_pay32 (F := Ideal) (vg2 m c t) (vpos m c t) (vdx2 m c t) (iblk m c 8 t) (iblk m c 7 t) acc (ix3 a d k)
    = acc (ix3 a d k) + ∑ r : Fin 256, dh (args m c) (bAt t r) (lAt t r) k := by
  fin_cases a; fin_cases d; pointwise [k0_pay32]; simp only [q_dh]
theorem s_sc (acc : FVec Ideal S1x1x1024 .f32) (a d : Fin 1) :
    k0_pay34 (F := Ideal) (k0_pay33 (vg2 m c t) (k0_pay13 (vxh m c t) (vn m c t)) (vpos m c t) (vdx2 m c t) (iblk m c 8 t) (iblk m c 7 t) acc) (ix3 a d k)
    = acc (ix3 a d k) + ∑ r : Fin 256, dh (args m c) (bAt t r) (lAt t r) k * xn (args m c) (bAt t r) (lAt t r) k := by
  fin_cases a; fin_cases d; pointwise [k0_pay33, k0_pay34]; simp only [q_dh, q_xn]
theorem s_n (acc : FVec Ideal S1x1024 .f32) (a : Fin 1) :
    k0_pay36 (F := Ideal) (vsc m c t) (vxh m c t) (vdh m c t) acc (ix2 a k)
    = acc (ix2 a k) + ∑ r : Fin 256, dxn (args m c) (bAt t r) (lAt t r) k * xh (args m c) (bAt t r) (lAt t r) k := by
  fin_cases a; pointwise [k0_pay36]; simp only [q_dxn, q_xh]

end point

end Cert.Kernel4Ideal.Val

end
-- ==== Proof.MlpArrays.lean ====
/- Call 4, the version's side: the eleven result arrays after the run, from what one grid point leaves in each block. -/
module

public import proofs.«01_k».proof.Proof.MlpKernel

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen Cert.Steps Cert.Steps.Mlp

variable (m : (ℓ : Loc nD τ sig) → Buf (Elt Ideal) ℓ)

/-- A field over the tokens, laid out as the flattened rows. -/
def flat {n : Nat} (f : Fin 4 → Fin 2048 → Fin n → EReal) : (⟨2, ![8192, n]⟩ : Shape).Idx → EReal := fun i => f (bOf (i 0)) (lOf (i 0)) (i 1)

theorem flat_apply {n : Nat} (f : Fin 4 → Fin 2048 → Fin n → EReal) (t : Fin cfg0.N) (r : Fin 256) (k : Fin n)
    (i : (⟨2, ![8192, n]⟩ : Shape).Idx) (h0 : (i 0).val = t.val * 256 + r.val) (h1 : (i 1).val = k.val) :
    f (bAt t r) (lAt t r) k = flat f i := by
  have e1 : i 1 = k := Fin.ext h1
  unfold flat
  rw [e1, show bOf (i 0) = bAt t r from Fin.ext (by show (i 0).val / 2048 = _; rw [h0]),
    show lOf (i 0) = lAt t r from Fin.ext (by show (i 0).val % 2048 = _; rw [h0])]

/-- A run of eight points covers the positions of its batch. -/
theorem run8 (t : Fin cfg0.N) (ht : t.val % 8 = 7) (f : Fin 4 → Fin 2048 → EReal) (b : Fin 4) (hb : b.val = t.val / 8)
    (hlt : ∀ s : Fin 8, 8 * (t.val / 8) + s.val < cfg0.N) :
    ∑ s : Fin 8, ∑ r : Fin 256, f (bAt ⟨8 * (t.val / 8) + s.val, hlt s⟩ r) (lAt ⟨8 * (t.val / 8) + s.val, hlt s⟩ r) = ∑ l : Fin 2048, f b l := by
  refine Fin.sum_mul_add_congr fun s r hl => ?_
  congr 1
  · refine Fin.ext ?_; show ((8 * (t.val / 8) + s.val) * 256 + r.val) / 2048 = _; omega
  · refine Fin.ext ?_; show ((8 * (t.val / 8) + s.val) * 256 + r.val) % 2048 = s.val * 256 + r.val; omega

/-- All the points cover every token. -/
theorem run32 (f : Fin 4 → Fin 2048 → EReal) :
    ∑ t : Fin cfg0.N, ∑ r : Fin 256, f (bAt t r) (lAt t r) = ∑ b : Fin 4, ∑ l : Fin 2048, f b l := by
  refine Fin.sum_points_lanes_congr 8 (fun t r ha hl => ?_)
  congr 1
  · refine Fin.ext ?_; show (t.val * 256 + r.val) / 2048 = t.val / 8; omega
  · refine Fin.ext ?_; show (t.val * 256 + r.val) % 2048 = t.val % 8 * 256 + r.val; omega

/-- A factor that is a real number goes into a sum. -/
theorem mul_sum_coe {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (EReal.coe_nonneg.2 ha) (EReal.coe_ne_top a), ih]

/-- What array 14 holds after the run. -/
def K14 (c : Dev nD) : (⟨2, ![1, 1]⟩ : Shape).Idx → EReal := fun _ => Ideal.ofBits .f32 0x3F000000#32 * ∑ b : Fin 4, ∑ l : Fin 2048, mse (args m c) b l
/-- What array 15 holds after the run. -/
def K15 (c : Dev nD) : (⟨2, ![1, 1024]⟩ : Shape).Idx → EReal := fun y => ∑ b : Fin 4, ∑ l : Fin 2048, dy (args m c) b l (y 1) * yh (args m c) b l (y 1)
/-- What array 16 holds after the run. -/
def K16 (c : Dev nD) : (⟨2, ![1, 1024]⟩ : Shape).Idx → EReal := fun y => ∑ b : Fin 4, ∑ l : Fin 2048, dxn (args m c) b l (y 1) * xh (args m c) b l (y 1)
/-- What array 17 holds after the run. -/
def K17 (c : Dev nD) : (⟨3, ![4, 1, 1024]⟩ : Shape).Idx → EReal := fun y => ∑ l : Fin 2048, dh (args m c) (y 0) l (y 2)
/-- What array 18 holds after the run. -/
def K18 (c : Dev nD) : (⟨3, ![4, 1, 1024]⟩ : Shape).Idx → EReal := fun y => ∑ l : Fin 2048, dh (args m c) (y 0) l (y 2) * xn (args m c) (y 0) l (y 2)
/-- What array 19 holds after the run. -/
def K19 (c : Dev nD) : (⟨3, ![4, 1, 1024]⟩ : Shape).Idx → EReal := fun y => ∑ l : Fin 2048, dx2 (args m c) (y 0) l (y 2) * ff (args m c) (y 0) l (y 2)

theorem K17_at (c : Dev nD) (i : (⟨3, ![4, 1, 1024]⟩ : Shape).Idx) (k : Fin 1024) (h : i 2 = k) :
    ∑ l : Fin 2048, dh (args m c) (i 0) l k = K17 m c i := by subst h; rfl
theorem K18_at (c : Dev nD) (i : (⟨3, ![4, 1, 1024]⟩ : Shape).Idx) (k : Fin 1024) (h : i 2 = k) :
    ∑ l : Fin 2048, dh (args m c) (i 0) l k * xn (args m c) (i 0) l k = K18 m c i := by subst h; rfl
theorem K19_at (c : Dev nD) (i : (⟨3, ![4, 1, 1024]⟩ : Shape).Idx) (k : Fin 1024) (h : i 2 = k) :
    ∑ l : Fin 2048, dx2 (args m c) (i 0) l k * ff (args m c) (i 0) l k = K19 m c i := by subst h; rfl
/-- The last grid point. -/
def tEnd : Fin cfg0.N := ⟨31, by show 31 < grid0.N; rw [N_0]; decide⟩

/-- Every grid point writes its own rows of array 9. -/
theorem final9 (c : Dev nD) : (dats m 0 c).arrAt 9 cfg0.N = flat (dx (args m c)) := by
  refine (dats m 0 c).arrAt_eq_of_covers 9 _ (by decide +kernel) fun t hf y => ?_
  have h0 : ((((cfg0.win 9).blk t).view.emb y) 0).val = t.val * 256 + (y 0).val := by blk_simp [idx t]
  have h1 : ((((cfg0.win 9).blk t).view.emb y) 1).val = (y 1).val := by blk_simp [idx t]
  refine Eq.trans ?_ (flat_apply _ t (y 0) (y 1) _ h0 h1)
  clear h0 h1
  blk_simp
  rw [after0_9]
  by_cases h1 : t.val % 8 = 0
  · by_cases h0 : t.val % 32 = 0
    · rw [outsAt0_A m c t h0 h1]; frame_out; idx_vars y; exact q_dx m c t _ _
    · rw [outsAt0_C m c t h0 h1]; frame_out; idx_vars y; exact q_dx m c t _ _
  · rw [outsAt0_B m c t (fun h0 => h1 (by omega)) h1]; frame_out; idx_vars y; exact q_dx m c t _ _

/-- Every grid point writes its own rows of array 10. -/
theorem final10 (c : Dev nD) : (dats m 0 c).arrAt 10 cfg0.N = flat (hid (args m c)) := by
  refine (dats m 0 c).arrAt_eq_of_covers 10 _ (by decide +kernel) fun t hf y => ?_
  have h0 : ((((cfg0.win 10).blk t).view.emb y) 0).val = t.val * 256 + (y 0).val := by blk_simp [idx t]
  have h1 : ((((cfg0.win 10).blk t).view.emb y) 1).val = (y 1).val := by blk_simp [idx t]
  refine Eq.trans ?_ (flat_apply _ t (y 0) (y 1) _ h0 h1)
  clear h0 h1
  blk_simp
  rw [after0_10]
  by_cases h1 : t.val % 8 = 0
  · by_cases h0 : t.val % 32 = 0
    · rw [outsAt0_A m c t h0 h1]; frame_out; idx_vars y; exact q_hid m c t _ _
    · rw [outsAt0_C m c t h0 h1]; frame_out; idx_vars y; exact q_hid m c t _ _
  · rw [outsAt0_B m c t (fun h0 => h1 (by omega)) h1]; frame_out; idx_vars y; exact q_hid m c t _ _

/-- Every grid point writes its own rows of array 11. -/
theorem final11 (c : Dev nD) : (dats m 0 c).arrAt 11 cfg0.N = flat (da (args m c)) := by
  refine (dats m 0 c).arrAt_eq_of_covers 11 _ (by decide +kernel) fun t hf y => ?_
  have h0 : ((((cfg0.win 11).blk t).view.emb y) 0).val = t.val * 256 + (y 0).val := by blk_simp [idx t]
  have h1 : ((((cfg0.win 11).blk t).view.emb y) 1).val = (y 1).val := by blk_simp [idx t]
  refine Eq.trans ?_ (flat_apply _ t (y 0) (y 1) _ h0 h1)
  clear h0 h1
  blk_simp
  rw [after0_11]
  by_cases h1 : t.val % 8 = 0
  · by_cases h0 : t.val % 32 = 0
    · rw [outsAt0_A m c t h0 h1]; frame_out; idx_vars y; exact q_da m c t _ _
    · rw [outsAt0_C m c t h0 h1]; frame_out; idx_vars y; exact q_da m c t _ _
  · rw [outsAt0_B m c t (fun h0 => h1 (by omega)) h1]; frame_out; idx_vars y; exact q_da m c t _ _

/-- Every grid point writes its own rows of array 12. -/
theorem final12 (c : Dev nD) : (dats m 0 c).arrAt 12 cfg0.N = flat (sq (args m c)) := by
  refine (dats m 0 c).arrAt_eq_of_covers 12 _ (by decide +kernel) fun t hf y => ?_
  have h0 : ((((cfg0.win 12).blk t).view.emb y) 0).val = t.val * 256 + (y 0).val := by blk_simp [idx t]
  have h1 : ((((cfg0.win 12).blk t).view.emb y) 1).val = (y 1).val := by blk_simp [idx t]
  refine Eq.trans ?_ (flat_apply _ t (y 0) (y 1) _ h0 h1)
  clear h0 h1
  blk_simp
  rw [after0_12]
  by_cases h1 : t.val % 8 = 0
  · by_cases h0 : t.val % 32 = 0
    · rw [outsAt0_A m c t h0 h1]; frame_out; idx_vars y; exact q_sq m c t _ _
    · rw [outsAt0_C m c t h0 h1]; frame_out; idx_vars y; exact q_sq m c t _ _
  · rw [outsAt0_B m c t (fun h0 => h1 (by omega)) h1]; frame_out; idx_vars y; exact q_sq m c t _ _

/-- Every grid point writes its own rows of array 13. -/
theorem final13 (c : Dev nD) : (dats m 0 c).arrAt 13 cfg0.N = flat (df (args m c)) := by
  refine (dats m 0 c).arrAt_eq_of_covers 13 _ (by decide +kernel) fun t hf y => ?_
  have h0 : ((((cfg0.win 13).blk t).view.emb y) 0).val = t.val * 256 + (y 0).val := by blk_simp [idx t]
  have h1 : ((((cfg0.win 13).blk t).view.emb y) 1).val = (y 1).val := by blk_simp [idx t]
  refine Eq.trans ?_ (flat_apply _ t (y 0) (y 1) _ h0 h1)
  clear h0 h1
  blk_simp
  rw [after0_13]
  by_cases h1 : t.val % 8 = 0
  · by_cases h0 : t.val % 32 = 0
    · rw [outsAt0_A m c t h0 h1]; frame_out; idx_vars y; exact q_df m c t _ _
    · rw [outsAt0_C m c t h0 h1]; frame_out; idx_vars y; exact q_df m c t _ _
  · rw [outsAt0_B m c t (fun h0 => h1 (by omega)) h1]; frame_out; idx_vars y; exact q_df m c t _ _

/-- Array 14 is reset at the first point and written back after the last. -/
theorem final14 (c : Dev nD) : (dats m 0 c).arrAt 14 cfg0.N = K14 m c := by
  refine (dats m 0 c).arrAt_eq_of_after_last 14 tEnd (by decide +kernel) _ fun y => ?_
  blk_simp
  rw [after0_14]
  refine (Pipeline.eq_sum_fin_of_reset_step_apply_last (fun n h => (outsAt0 m c n h).2.2.2.2.2.1) 32 (fun _ => 0)
    (fun t y => (Ideal.ofBits .f32 0x3F000000#32 * ∑ r : Fin 256, mse (args m c) (bAt t r) (lAt t r) : EReal)) ?_ ?_ (le_of_eq N_0) tEnd rfl y).trans ?_
  · intro t h0 i
    rw [outsAt0_A m c t h0 (by omega)]; frame_out; idx_vars i
    rw [s_loss, show k0_pay1 (F := Ideal) _ = (0 : EReal) from by pointwise [k0_pay1]]
  · intro t h1 i
    by_cases h0 : t.val % 8 = 0
    · rw [outsAt0_C m c t h1 h0]; frame_out; idx_vars i; rw [s_loss]
    · rw [outsAt0_B m c t h1 h0]; frame_out; idx_vars i; rw [s_loss]
  rw [zero_add]
  show _ = Ideal.ofBits .f32 0x3F000000#32 * ∑ b : Fin 4, ∑ l : Fin 2048, mse (args m c) b l
  rw [← run32 fun b l => mse (args m c) b l, ofBits_half, mul_sum_coe _ _ (by norm_num)]

/-- Array 15 is reset at the first point and written back after the last. -/
theorem final15 (c : Dev nD) : (dats m 0 c).arrAt 15 cfg0.N = K15 m c := by
  refine (dats m 0 c).arrAt_eq_of_after_last 15 tEnd (by decide +kernel) _ fun y => ?_
  blk_simp
  rw [after0_15]
  refine (Pipeline.eq_sum_fin_of_reset_step_apply_last (fun n h => (outsAt0 m c n h).2.2.2.2.2.2.1) 32 (fun _ => 0)
    (fun t y => (∑ r : Fin 256, dy (args m c) (bAt t r) (lAt t r) (y 1) * yh (args m c) (bAt t r) (lAt t r) (y 1) : EReal)) ?_ ?_ (le_of_eq N_0) tEnd rfl y).trans ?_
  · intro t h0 i
    rw [outsAt0_A m c t h0 (by omega)]; frame_out; idx_vars i
    rw [s_fg, show k0_pay2 (F := Ideal) _ = (0 : EReal) from by pointwise [k0_pay2]]
  · intro t h1 i
    by_cases h0 : t.val % 8 = 0
    · rw [outsAt0_C m c t h1 h0]; frame_out; idx_vars i; rw [s_fg]
    · rw [outsAt0_B m c t h1 h0]; frame_out; idx_vars i; rw [s_fg]
  rw [zero_add]
  exact run32 fun b l => dy (args m c) b l (y 1) * yh (args m c) b l (y 1)

/-- Array 16 is reset at the first point and written back after the last. -/
theorem final16 (c : Dev nD) : (dats m 0 c).arrAt 16 cfg0.N = K16 m c := by
  refine (dats m 0 c).arrAt_eq_of_after_last 16 tEnd (by decide +kernel) _ fun y => ?_
  blk_simp
  rw [after0_16]
  refine (Pipeline.eq_sum_fin_of_reset_step_apply_last (fun n h => (outsAt0 m c n h).2.2.2.2.2.2.2.1) 32 (fun _ => 0)
    (fun t y => (∑ r : Fin 256, dxn (args m c) (bAt t r) (lAt t r) (y 1) * xh (args m c) (bAt t r) (lAt t r) (y 1) : EReal)) ?_ ?_ (le_of_eq N_0) tEnd rfl y).trans ?_
  · intro t h0 i
    rw [outsAt0_A m c t h0 (by omega)]; frame_out; idx_vars i
    rw [s_n, show k0_pay3 (F := Ideal) _ = (0 : EReal) from by pointwise [k0_pay3]]
  · intro t h1 i
    by_cases h0 : t.val % 8 = 0
    · rw [outsAt0_C m c t h1 h0]; frame_out; idx_vars i; rw [s_n]
    · rw [outsAt0_B m c t h1 h0]; frame_out; idx_vars i; rw [s_n]
  rw [zero_add]
  exact run32 fun b l => dxn (args m c) b l (y 1) * xh (args m c) b l (y 1)

/-- Array 17 is reset at the first of a batch's eight points and written back after the last. -/
theorem final17 (c : Dev nD) : (dats m 0 c).arrAt 17 cfg0.N = K17 m c := by
  refine (dats m 0 c).arrAt_eq_of_covers 17 _ (by decide +kernel) fun t hf y => ?_
  have h0 : ((((cfg0.win 17).blk t).view.emb y) 0).val = t.val / 8 := by blk_simp [idx t]
  have h1 : ((((cfg0.win 17).blk t).view.emb y) 2) = y 2 := Fin.ext (by blk_simp [idx t])
  blk_simp
  rw [after0_17]
  refine (Pipeline.eq_sum_fin_of_reset_step_apply_of_flush (fun n h => (outsAt0 m c n h).2.2.2.2.2.2.2.2.1) 8 (fun _ => 0)
    (fun t y => (∑ r : Fin 256, dh (args m c) (bAt t r) (lAt t r) (y 2) : EReal)) ?_ ?_ t ((flush0_17 t).mp hf) y).trans ?_
  · intro t h1 i
    by_cases h0 : t.val % 32 = 0
    · rw [outsAt0_A m c t h0 h1]; frame_out; idx_vars i
      rw [s_sh, show k0_pay4 (F := Ideal) _ = (0 : EReal) from by pointwise [k0_pay4]]
    · rw [outsAt0_C m c t h0 h1]; frame_out; idx_vars i
      rw [s_sh, show k0_pay4 (F := Ideal) _ = (0 : EReal) from by pointwise [k0_pay4]]
  · intro t h1 i
    rw [outsAt0_B m c t (fun h0 => h1 (by omega)) h1]; frame_out; idx_vars i; rw [s_sh]
  rw [zero_add]
  refine (run8 t ((flush0_17 t).mp hf) (fun b l => dh (args m c) b l (y 2)) _ h0 _).trans ?_
  exact K17_at m c _ _ h1

/-- Array 18 is reset at the first of a batch's eight points and written back after the last. -/
theorem final18 (c : Dev nD) : (dats m 0 c).arrAt 18 cfg0.N = K18 m c := by
  refine (dats m 0 c).arrAt_eq_of_covers 18 _ (by decide +kernel) fun t hf y => ?_
  have h0 : ((((cfg0.win 18).blk t).view.emb y) 0).val = t.val / 8 := by blk_simp [idx t]
  have h1 : ((((cfg0.win 18).blk t).view.emb y) 2) = y 2 := Fin.ext (by blk_simp [idx t])
  blk_simp
  rw [after0_18]
  refine (Pipeline.eq_sum_fin_of_reset_step_apply_of_flush (fun n h => (outsAt0 m c n h).2.2.2.2.2.2.2.2.2.1) 8 (fun _ => 0)
    (fun t y => (∑ r : Fin 256, dh (args m c) (bAt t r) (lAt t r) (y 2) * xn (args m c) (bAt t r) (lAt t r) (y 2) : EReal)) ?_ ?_ t ((flush0_18 t).mp hf) y).trans ?_
  · intro t h1 i
    by_cases h0 : t.val % 32 = 0
    · rw [outsAt0_A m c t h0 h1]; frame_out; idx_vars i
      rw [s_sc, show k0_pay5 (F := Ideal) _ = (0 : EReal) from by pointwise [k0_pay5]]
    · rw [outsAt0_C m c t h0 h1]; frame_out; idx_vars i
      rw [s_sc, show k0_pay5 (F := Ideal) _ = (0 : EReal) from by pointwise [k0_pay5]]
  · intro t h1 i
    rw [outsAt0_B m c t (fun h0 => h1 (by omega)) h1]; frame_out; idx_vars i; rw [s_sc]
  rw [zero_add]
  refine (run8 t ((flush0_18 t).mp hf) (fun b l => dh (args m c) b l (y 2) * xn (args m c) b l (y 2)) _ h0 _).trans ?_
  exact K18_at m c _ _ h1

/-- Array 19 is reset at the first of a batch's eight points and written back after the last. -/
theorem final19 (c : Dev nD) : (dats m 0 c).arrAt 19 cfg0.N = K19 m c := by
  refine (dats m 0 c).arrAt_eq_of_covers 19 _ (by decide +kernel) fun t hf y => ?_
  have h0 : ((((cfg0.win 19).blk t).view.emb y) 0).val = t.val / 8 := by blk_simp [idx t]
  have h1 : ((((cfg0.win 19).blk t).view.emb y) 2) = y 2 := Fin.ext (by blk_simp [idx t])
  blk_simp
  rw [after0_19]
  refine (Pipeline.eq_sum_fin_of_reset_step_apply_of_flush (fun n h => (outsAt0 m c n h).2.2.2.2.2.2.2.2.2.2) 8 (fun _ => 0)
    (fun t y => (∑ r : Fin 256, dx2 (args m c) (bAt t r) (lAt t r) (y 2) * ff (args m c) (bAt t r) (lAt t r) (y 2) : EReal)) ?_ ?_ t ((flush0_19 t).mp hf) y).trans ?_
  · intro t h1 i
    by_cases h0 : t.val % 32 = 0
    · rw [outsAt0_A m c t h0 h1]; frame_out; idx_vars i
      rw [s_g2, show k0_pay6 (F := Ideal) _ = (0 : EReal) from by pointwise [k0_pay6]]
    · rw [outsAt0_C m c t h0 h1]; frame_out; idx_vars i
      rw [s_g2, show k0_pay6 (F := Ideal) _ = (0 : EReal) from by pointwise [k0_pay6]]
  · intro t h1 i
    rw [outsAt0_B m c t (fun h0 => h1 (by omega)) h1]; frame_out; idx_vars i; rw [s_g2]
  rw [zero_add]
  refine (run8 t ((flush0_19 t).mp hf) (fun b l => dx2 (args m c) b l (y 2) * ff (args m c) b l (y 2)) _ h0 _).trans ?_
  exact K19_at m c _ _ h1

end Cert.Kernel4Ideal.Val

end
-- ==== Proof.MlpReference.lean ====
/- Call 4, the reference's side: each result read at an index, as the row functions of `MlpRows`. -/
module

public import proofs.«01_k».proof.Proof.Gen.Reference4Ideal.Read
public import proofs.«01_k».proof.Proof.MlpRows

@[expose] public section

set_option maxRecDepth 16384

noncomputable section

open Idealize.ShloMosaic Idealize.ShloMosaic.TcCoe Idealize.SL.Sem

namespace Cert.Reference4Ideal.Val

open Cert.Reference4Ideal Cert.Reference4Ideal.Gen Cert.Reference4Ideal.Read Cert.Steps Cert.Steps.Mlp

variable (u : Args) (b : Fin 4) (l : Fin 2048) (k : Fin 1024) (j : Fin 4096)

theorem r_rms (a : Fin 1) : val_main_v8 (F := Ideal) u.x (ix3 b l a) = rowRms (row u.x b l) := by
  fin_cases a
  pointwise [val_main_v0, val_main_v1, val_main_cst, val_main_v2, val_main_v3, val_main_cst_0, val_main_v4, val_main_v5, val_main_cst_1, val_main_v6, val_main_v7, val_main_v8]
  rfl

theorem r_xh : val_main_v13 (F := Ideal) u.x (ix3 b l k) = xh u b l k := by
  pointwise [val_main_v12, val_main_v13]
  simp only [r_rms]
  rfl

theorem r_xn : val_main_v16 (F := Ideal) u.x u.n (ix3 b l k) = xn u b l k := by
  pointwise [val_main_v0, val_main_v14, val_main_v15, val_main_v16]
  simp only [r_xh]
  rfl

theorem r_hid : val_main_v24 (F := Ideal) u.x u.sh u.sc u.n (ix3 b l k) = hid u b l k := by
  pointwise [val_main_v17, val_main_cst_3, val_main_v18, val_main_v19, val_main_v20, val_main_v21, val_main_v22, val_main_v23, val_main_v24]
  simp only [r_xn]
  rfl

theorem r_act : val_main_v26 (F := Ideal) u.x u.sh u.sc u.n u.w1 (ix3 b l j) = act u b l j := by
  pointwise [val_main_v25, val_main_v26]
  simp only [r_hid]
  rfl

theorem r_pos : val_main_v27 (F := Ideal) u.x u.sh u.sc u.n u.w1 (ix3 b l j) = pos u b l j := by
  pointwise [val_main_call0_cst, val_main_call0_v0, val_main_v27]
  simp only [r_act]
  rfl

theorem r_sq : val_main_v31 (F := Ideal) u.x u.sh u.sc u.n u.w1 (ix3 b l j) = sq u b l j := by
  pointwise [val_main_v31]
  simp only [r_pos]
  rfl

theorem r_ff : val_main_v35 (F := Ideal) u.x u.sh u.sc u.n u.w1 u.w2 (ix3 b l k) = ff u b l k := by
  pointwise [val_main_v34, val_main_v35]
  simp only [r_sq]
  rfl

theorem r_x2 : val_main_v39 (F := Ideal) u.x u.sh u.sc u.g2 u.n u.w1 u.w2 (ix3 b l k) = x2 u b l k := by
  pointwise [val_main_v36, val_main_v37, val_main_v38, val_main_v39]
  simp only [r_ff]
  rfl

theorem r_r (a : Fin 1) : val_main_v47 (F := Ideal) u.x u.sh u.sc u.g2 u.n u.w1 u.w2 (ix3 b l a) = rowRms (x2 u b l) := by
  fin_cases a
  pointwise [val_main_v40, val_main_cst_7, val_main_v41, val_main_v42, val_main_cst_8, val_main_v43, val_main_v44, val_main_cst_9, val_main_v45, val_main_v46, val_main_v47]
  simp only [r_x2]
  rfl

theorem r_yh : val_main_v52 (F := Ideal) u.x u.sh u.sc u.g2 u.n u.w1 u.w2 (ix3 b l k) = yh u b l k := by
  pointwise [val_main_v51, val_main_v52]
  simp only [r_x2, r_r]
  rfl

theorem r_err : val_main_v56 (F := Ideal) u.x u.t u.sh u.sc u.g2 u.n u.fg u.w1 u.w2 (ix3 b l k) = err u b l k := by
  pointwise [val_main_v53, val_main_v54, val_main_v55, val_main_v56]
  simp only [r_yh]
  rfl

theorem r_mse : val_main_v62 (F := Ideal) u.x u.t u.sh u.sc u.g2 u.n u.fg u.w1 u.w2 (ix2 b l) = mse u b l := by
  pointwise [val_main_v57, val_main_cst_12, val_main_v60, val_main_cst_13, val_main_v61, val_main_v62]
  simp only [r_err]
  rfl

theorem r_dy : val_main_v70 (F := Ideal) u.x u.t u.sh u.sc u.g2 u.n u.fg u.w1 u.w2 (ix3 b l k) = rdy u b l k := by
  pointwise [val_main_cst_11, val_main_v58, val_main_v59, val_main_cst_16, val_main_cst_17, val_main_v65, val_main_v66, val_main_cst_18, val_main_v67, val_main_v68, val_main_v69, val_main_v70]
  simp only [r_err]
  rfl

theorem r_dyh : val_main_v75 (F := Ideal) u.x u.t u.sh u.sc u.g2 u.n u.fg u.w1 u.w2 (ix3 b l k) = rdyh u b l k := by
  pointwise [val_main_v53, val_main_v74, val_main_v75]
  simp only [r_dy]
  rfl

theorem r_dx2 : val_main_v90 (F := Ideal) u.x u.t u.sh u.sc u.g2 u.n u.fg u.w1 u.w2 (ix3 b l k) = rdx2 u b l k := by
  pointwise [val_main_cst_7, val_main_cst_8, val_main_cst_9, val_main_cst_10, val_main_v43, val_main_v44, val_main_v45, val_main_v46, val_main_v41, val_main_v42, val_main_v40, val_main_v48, val_main_v49, val_main_v50, val_main_v77, val_main_cst_21, val_main_v78, val_main_v79, val_main_v80, val_main_v81, val_main_v82, val_main_cst_22, val_main_v83, val_main_v84, val_main_cst_23, val_main_v85, val_main_v86, val_main_v87, val_main_v88, val_main_v89, val_main_v90]
  simp only [r_x2, r_r, r_dyh, Finset.univ_unique, Finset.sum_singleton]
  rfl

theorem r_df : val_main_v92 (F := Ideal) u.x u.t u.sh u.sc u.g2 u.n u.fg u.w1 u.w2 (ix3 b l k) = rdf u b l k := by
  pointwise [val_main_v36, val_main_v91, val_main_v92]
  simp only [r_dx2]
  rfl

theorem r_dsq : val_main_v97 (F := Ideal) u.x u.t u.sh u.sc u.g2 u.n u.fg u.w1 u.w2 (ix3 b l j) = rdsq u b l j := by
  pointwise [val_main_v34, val_main_v97]
  simp only [r_df]
  rfl

theorem r_da : val_main_v100 (F := Ideal) u.x u.t u.sh u.sc u.g2 u.n u.fg u.w1 u.w2 (ix3 b l j) = rda u b l j := by
  pointwise [val_main_cst_4, val_main_v28, val_main_v29, val_main_cst_6, val_main_v32, val_main_v33, val_main_v98, val_main_cst_26, val_main_v99, val_main_v100]
  simp only [r_act, r_pos, r_dsq]
  rfl

theorem r_dh : val_main_v101 (F := Ideal) u.x u.t u.sh u.sc u.g2 u.n u.fg u.w1 u.w2 (ix3 b l k) = rdh u b l k := by
  pointwise [val_main_v25, val_main_v101]
  simp only [r_da]
  rfl

theorem r_dxn : val_main_v109 (F := Ideal) u.x u.t u.sh u.sc u.g2 u.n u.fg u.w1 u.w2 (ix3 b l k) = rdxn u b l k := by
  pointwise [val_main_v17, val_main_cst_3, val_main_v18, val_main_v19, val_main_v108, val_main_v109]
  simp only [r_dh]
  rfl

theorem r_dxh : val_main_v115 (F := Ideal) u.x u.t u.sh u.sc u.g2 u.n u.fg u.w1 u.w2 (ix3 b l k) = rdxh u b l k := by
  pointwise [val_main_v0, val_main_v14, val_main_v114, val_main_v115]
  simp only [r_dxn]
  rfl

theorem r_dx : val_main_v132 (F := Ideal) u.x u.t u.sh u.sc u.g2 u.n u.fg u.w1 u.w2 (ix3 b l k) = rdx u b l k := by
  pointwise [val_main_v1, val_main_cst, val_main_v2, val_main_v3, val_main_cst_0, val_main_v4, val_main_v5, val_main_cst_1, val_main_v6, val_main_v7, val_main_v9, val_main_cst_2, val_main_v10, val_main_v11, val_main_v117, val_main_cst_33, val_main_v118, val_main_v119, val_main_v120, val_main_v121, val_main_v122, val_main_cst_34, val_main_v123, val_main_v124, val_main_cst_35, val_main_v125, val_main_v126, val_main_v127, val_main_v128, val_main_v129, val_main_v130, val_main_v132]
  simp only [r_rms, r_dxh, r_dx2, Finset.univ_unique, Finset.sum_singleton]
  rfl

/-! ## The results -/

theorem o_dx (i : S8192x1024.Idx) : val_main_v133 (F := Ideal) u.x u.t u.sh u.sc u.g2 u.n u.fg u.w1 u.w2 i = rdx u (bOf (i 0)) (lOf (i 0)) (i 1) := by
  pointwise [val_main_v133]
  exact r_dx u _ _ _

theorem o_hid (i : S8192x1024.Idx) : val_main_v135 (F := Ideal) u.x u.sh u.sc u.n i = hid u (bOf (i 0)) (lOf (i 0)) (i 1) := by
  pointwise [val_main_v134, val_main_v135]
  exact r_hid u _ _ _

theorem o_da (i : S8192x4096.Idx) : val_main_v137 (F := Ideal) u.x u.t u.sh u.sc u.g2 u.n u.fg u.w1 u.w2 i = rda u (bOf (i 0)) (lOf (i 0)) (i 1) := by
  pointwise [val_main_v136, val_main_v137]
  exact r_da u _ _ _

theorem o_sq (i : S8192x4096.Idx) : val_main_v139 (F := Ideal) u.x u.sh u.sc u.n u.w1 i = sq u (bOf (i 0)) (lOf (i 0)) (i 1) := by
  pointwise [val_main_v138, val_main_v139]
  exact r_sq u _ _ _

theorem o_df (i : S8192x1024.Idx) : val_main_v141 (F := Ideal) u.x u.t u.sh u.sc u.g2 u.n u.fg u.w1 u.w2 i = rdf u (bOf (i 0)) (lOf (i 0)) (i 1) := by
  pointwise [val_main_v140, val_main_v141]
  exact r_df u _ _ _

theorem o_loss (i : S1x1.Idx) : val_main_v142 (F := Ideal) u.x u.t u.sh u.sc u.g2 u.n u.fg u.w1 u.w2 i = Ideal.ofBits .f32 0x3F000000#32 * ∑ b : Fin 4, ∑ l : Fin 2048, mse u b l := by
  refine Eq.trans (b := val_main_v64 (F := Ideal) u.x u.t u.sh u.sc u.g2 u.n u.fg u.w1 u.w2 ix0) ?_ ?_
  · unfold val_main_v142
    generalize val_main_v64 (F := Ideal) u.x u.t u.sh u.sc u.g2 u.n u.fg u.w1 u.w2 = q
    exact congrArg q (Subsingleton.elim _ _)
  pointwise [val_main_cst_14, val_main_v63, val_main_cst_15, val_main_v64]
  simp only [Fintype.sum_prod_type, r_mse]

theorem o_sh (i : S4x1x1024.Idx) : val_main_v144 (F := Ideal) u.x u.t u.sh u.sc u.g2 u.n u.fg u.w1 u.w2 i = ∑ l : Fin 2048, rdh u (i 0) l (i 2) := by
  pointwise [val_main_cst_27, val_main_v102, val_main_v103, val_main_cst_28, val_main_v104, val_main_v144]
  simp only [Finset.univ_unique, Finset.sum_singleton]
  exact Finset.sum_congr rfl fun l _ => r_dh u _ _ _

theorem o_sc (i : S4x1x1024.Idx) : val_main_v145 (F := Ideal) u.x u.t u.sh u.sc u.g2 u.n u.fg u.w1 u.w2 i = ∑ l : Fin 2048, xn u (i 0) l (i 2) * rdh u (i 0) l (i 2) := by
  pointwise [val_main_v105, val_main_cst_29, val_main_v106, val_main_v107, val_main_cst_30, val_main_v110, val_main_v145]
  simp only [Finset.univ_unique, Finset.sum_singleton]
  exact Finset.sum_congr rfl fun l _ => congrArg₂ (· * ·) (r_xn u _ _ _) (r_dh u _ _ _)

theorem o_g2 (i : S4x1x1024.Idx) : val_main_v146 (F := Ideal) u.x u.t u.sh u.sc u.g2 u.n u.fg u.w1 u.w2 i = ∑ l : Fin 2048, rdx2 u (i 0) l (i 2) * ff u (i 0) l (i 2) := by
  pointwise [val_main_v93, val_main_cst_24, val_main_v94, val_main_v95, val_main_cst_25, val_main_v96, val_main_v146]
  simp only [Finset.univ_unique, Finset.sum_singleton]
  exact Finset.sum_congr rfl fun l _ => congrArg₂ (· * ·) (r_dx2 u _ _ _) (r_ff u _ _ _)

theorem n_lead (k : Fin 1024) : val_main_v112 (F := Ideal) u.x u.t u.sh u.sc u.g2 u.n u.fg u.w1 u.w2 (ix1 k) = ∑ b : Fin 4, ∑ l : Fin 2048, xh u b l k * rdxn u b l k := by
  refine (hostReduceAdd_lead reducesTo_S4x2048x1024_S1024_d0_1 (val_main_v111 (F := Ideal) u.x u.t u.sh u.sc u.g2 u.n u.fg u.w1 u.w2) _ k).trans ?_
  have z : ∀ i, val_main_cst_31 (F := Ideal) i = (0 : EReal) := fun i => by pointwise [val_main_cst_31]
  rw [z, zero_add]
  refine Finset.sum_congr rfl fun b _ => Finset.sum_congr rfl fun l _ => ?_
  pointwise [val_main_v111]
  simp only [r_xh, r_dxn]

theorem o_n (i : S1x1024.Idx) : val_main_v131 (F := Ideal) u.x u.t u.sh u.sc u.g2 u.n u.fg u.w1 u.w2 i = ∑ b : Fin 4, ∑ l : Fin 2048, xh u b l (i 1) * rdxn u b l (i 1) := by
  refine Eq.trans (b := val_main_v116 (F := Ideal) u.x u.t u.sh u.sc u.g2 u.n u.fg u.w1 u.w2 (ix1 (i 1))) ?_ ?_
  · unfold val_main_v131
    generalize val_main_v116 (F := Ideal) u.x u.t u.sh u.sc u.g2 u.n u.fg u.w1 u.w2 = q
    pointwise []
  refine (hostReduceAdd_lead reducesTo_S1x1x1024_S1024_d0_1 (val_main_v113 (F := Ideal) u.x u.t u.sh u.sc u.g2 u.n u.fg u.w1 u.w2) _ (i 1)).trans ?_
  have z : ∀ i, val_main_cst_32 (F := Ideal) i = (0 : EReal) := fun i => by pointwise [val_main_cst_32]
  rw [z, zero_add]
  simp only [Finset.univ_unique, Finset.sum_singleton]
  refine Eq.trans (b := val_main_v112 (F := Ideal) u.x u.t u.sh u.sc u.g2 u.n u.fg u.w1 u.w2 (ix1 (i 1))) ?_ (n_lead u (i 1))
  unfold val_main_v113
  generalize val_main_v112 (F := Ideal) u.x u.t u.sh u.sc u.g2 u.n u.fg u.w1 u.w2 = q
  pointwise []

theorem fg_lead (k : Fin 1024) : val_main_v72 (F := Ideal) u.x u.t u.sh u.sc u.g2 u.n u.fg u.w1 u.w2 (ix1 k) = ∑ b : Fin 4, ∑ l : Fin 2048, yh u b l k * rdy u b l k := by
  refine (hostReduceAdd_lead reducesTo_S4x2048x1024_S1024_d0_1 (val_main_v71 (F := Ideal) u.x u.t u.sh u.sc u.g2 u.n u.fg u.w1 u.w2) _ k).trans ?_
  have z : ∀ i, val_main_cst_19 (F := Ideal) i = (0 : EReal) := fun i => by pointwise [val_main_cst_19]
  rw [z, zero_add]
  refine Finset.sum_congr rfl fun b _ => Finset.sum_congr rfl fun l _ => ?_
  pointwise [val_main_v71]
  simp only [r_yh, r_dy]

theorem o_fg (i : S1x1024.Idx) : val_main_v143 (F := Ideal) u.x u.t u.sh u.sc u.g2 u.n u.fg u.w1 u.w2 i = ∑ b : Fin 4, ∑ l : Fin 2048, yh u b l (i 1) * rdy u b l (i 1) := by
  refine Eq.trans (b := val_main_v76 (F := Ideal) u.x u.t u.sh u.sc u.g2 u.n u.fg u.w1 u.w2 (ix1 (i 1))) ?_ ?_
  · unfold val_main_v143
    generalize val_main_v76 (F := Ideal) u.x u.t u.sh u.sc u.g2 u.n u.fg u.w1 u.w2 = q
    pointwise []
  refine (hostReduceAdd_lead reducesTo_S1x1x1024_S1024_d0_1 (val_main_v73 (F := Ideal) u.x u.t u.sh u.sc u.g2 u.n u.fg u.w1 u.w2) _ (i 1)).trans ?_
  have z : ∀ i, val_main_cst_20 (F := Ideal) i = (0 : EReal) := fun i => by pointwise [val_main_cst_20]
  rw [z, zero_add]
  simp only [Finset.univ_unique, Finset.sum_singleton]
  refine Eq.trans (b := val_main_v72 (F := Ideal) u.x u.t u.sh u.sc u.g2 u.n u.fg u.w1 u.w2 (ix1 (i 1))) ?_ (fg_lead u (i 1))
  unfold val_main_v73
  generalize val_main_v72 (F := Ideal) u.x u.t u.sh u.sc u.g2 u.n u.fg u.w1 u.w2 = q
  pointwise []

end Cert.Reference4Ideal.Val

end
-- ==== Proof.Mlp.lean ====
/- Call 4: its claims. -/
module

public import proofs.«01_k».proof.Defs
public import proofs.«01_k».proof.Proof.Gen.Kernel4.Frame
public import proofs.«01_k».proof.Proof.Gen.Pre_finite_4
public import proofs.«01_k».proof.Proof.MlpArrays
public import proofs.«01_k».proof.Proof.MlpReference
public import Idealize.ShloMosaic.Lib.Quiescent

@[expose] public section

set_option maxRecDepth 16384

noncomputable section

open Idealize.ShloMosaic Idealize.ShloMosaic.TcCoe Idealize.SL.Sem
open Idealize.ShloMosaic.StableHlo (launchContents)

namespace Cert.Steps.Mlp

open Cert.Steps

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_ideal_pre : Cert.quiescent_Kernel4Ideal_pre_finite_4 := fun m ρ _ => Cert.Kernel4Ideal.Gen.frame m ρ

theorem frame_reference : Cert.quiescent_Reference4Ideal := fun m ρ _ =>
  (θ_run Cert.Reference4Ideal.defs _ _).mono
    (fun r h => ⟨fun c => (h c).2.2.2.2.2.2.2.2.2.2.2, sem_eq_zero_of_no_sems (by decide) r.2⟩)
    (Cert.Reference4Ideal.Value.run m ρ)
theorem frame_reference_pre : Cert.quiescent_Reference4Ideal_pre_finite_4 := fun m ρ _ => frame_reference m ρ trivial

/-- The precondition makes the nine arrays real. -/
theorem real_of_pre (u : Args) (h : Cert.Pre_finite_4.fn (F := Ideal) u.x u.t u.sh u.sc u.g2 u.n u.fg u.w1 u.w2 = fun _ => 1#1) : u.Real := by
  have h := congrFun h ix0
  unfold Cert.Pre_finite_4.fn Cert.Pre_finite_4.fn_part1 at h
  obtain ⟨h, h9⟩ := andi_bit _ _ _ h
  obtain ⟨h, h8⟩ := andi_bit _ _ _ h
  obtain ⟨h, h7⟩ := andi_bit _ _ _ h
  obtain ⟨h, h6⟩ := andi_bit _ _ _ h
  obtain ⟨h, h5⟩ := andi_bit _ _ _ h
  obtain ⟨h, h4⟩ := andi_bit _ _ _ h
  obtain ⟨h, h3⟩ := andi_bit _ _ _ h
  obtain ⟨h1, h2⟩ := andi_bit _ _ _ h
  exact ⟨exists_real u.x _ (fun _ => rfl) _ _ _ _ h1, exists_real u.t _ (fun _ => rfl) _ _ _ _ h2, exists_real u.sh _ (fun _ => rfl) _ _ _ _ h3,
    exists_real u.sc _ (fun _ => rfl) _ _ _ _ h4, exists_real u.g2 _ (fun _ => rfl) _ _ _ _ h5, exists_real u.n _ (fun _ => rfl) _ _ _ _ h6,
    exists_real u.fg _ (fun _ => rfl) _ _ _ _ h7, exists_real u.w1 _ (fun _ => rfl) _ _ _ _ h8, exists_real u.w2 _ (fun _ => rfl) _ _ _ _ h9⟩

open Cert.Kernel4Ideal.Val (args flat K14 K15 K16 K17 K18 K19) in
theorem value : Cert.algebraic_Kernel4Ideal_Reference4Ideal_pre_finite_4 := by
  intro m g m' g' hpre hagree
  refine ⟨fun c => flat (dx (args m c)), fun c => flat (hid (args m c)), fun c => flat (da (args m c)), fun c => flat (sq (args m c)),
    fun c => flat (df (args m c)), fun c => K14 m c, fun c => K15 m c, fun c => K16 m c, fun c => K17 m c, fun c => K18 m c, fun c => K19 m c, ?_, ?_⟩
  · exact (θ_run Cert.Kernel4Ideal.defs _ _).mono
      (fun r h c => by
        obtain ⟨h0, h1, h2, h3, h4, h5, h6, h7, h8, h9, h10, ha⟩ := h c
        exact ⟨h0.trans (Cert.Kernel4Ideal.Val.final9 m c), h1.trans (Cert.Kernel4Ideal.Val.final10 m c),
          h2.trans (Cert.Kernel4Ideal.Val.final11 m c), h3.trans (Cert.Kernel4Ideal.Val.final12 m c),
          h4.trans (Cert.Kernel4Ideal.Val.final13 m c), h5.trans (Cert.Kernel4Ideal.Val.final14 m c),
          h6.trans (Cert.Kernel4Ideal.Val.final15 m c), h7.trans (Cert.Kernel4Ideal.Val.final16 m c),
          h8.trans (Cert.Kernel4Ideal.Val.final17 m c), h9.trans (Cert.Kernel4Ideal.Val.final18 m c),
          h10.trans (Cert.Kernel4Ideal.Val.final19 m c), ha⟩)
      (Cert.Kernel4Ideal.Value.run_blocks m g)
  · refine (θ_run Cert.Reference4Ideal.defs _ _).mono (fun r h c => ?_) (Cert.Reference4Ideal.Value.run m' g')
    have hu := real_of_pre (args m c) (hpre c)
    obtain ⟨a0, a1, a2, a3, a4, a5, a6, a7, a8⟩ := hagree c
    have key : ∀ {β : Type} (f : A3 → A3 → FVec Ideal ⟨2, ![4, 1024]⟩ .f32 → FVec Ideal ⟨2, ![4, 1024]⟩ .f32 → FVec Ideal ⟨2, ![4, 1024]⟩ .f32 →
        FVec Ideal ⟨2, ![1, 1024]⟩ .f32 → FVec Ideal ⟨1, ![1024]⟩ .f32 → FVec Ideal ⟨3, ![1, 1024, 4096]⟩ .f32 →
        FVec Ideal ⟨3, ![1, 4096, 1024]⟩ .f32 → β),
        f (m' ((c.tc : Thread _ _).loc Cert.Reference4Ideal.main_arg0)) (m' ((c.tc : Thread _ _).loc Cert.Reference4Ideal.main_arg1))
          (m' ((c.tc : Thread _ _).loc Cert.Reference4Ideal.main_arg2)) (m' ((c.tc : Thread _ _).loc Cert.Reference4Ideal.main_arg3))
          (m' ((c.tc : Thread _ _).loc Cert.Reference4Ideal.main_arg4)) (m' ((c.tc : Thread _ _).loc Cert.Reference4Ideal.main_arg5))
          (m' ((c.tc : Thread _ _).loc Cert.Reference4Ideal.main_arg6)) (m' ((c.tc : Thread _ _).loc Cert.Reference4Ideal.main_arg7))
          (m' ((c.tc : Thread _ _).loc Cert.Reference4Ideal.main_arg8))
        = f (args m c).x (args m c).t (args m c).sh (args m c).sc (args m c).g2 (args m c).n (args m c).fg (args m c).w1 (args m c).w2 := by
      intro β f
      rw [a0, a1, a2, a3, a4, a5, a6, a7, a8]
      rfl
    obtain ⟨h0, h1, h2, h3, h4, h5, h6, h7, h8, h9, h10, ha⟩ := h c
    refine ⟨h0.trans ?_, h1.trans ?_, h2.trans ?_, h3.trans ?_, h4.trans ?_, h5.trans ?_, h6.trans ?_, h7.trans ?_, h8.trans ?_, h9.trans ?_,
      h10.trans ?_, ha⟩
    · refine (Cert.Reference4Ideal.Read.val_main_v133_eq (launchContents m' c)).trans ((key fun x t sh sc g2 n fg w1 w2 =>
        Cert.Reference4Ideal.Read.val_main_v133 (F := Ideal) x t sh sc g2 n fg w1 w2).trans (funext fun i => ?_))
      exact (Cert.Reference4Ideal.Val.o_dx (args m c) i).trans (congrFun (rdx_eq _ _ hu) _)
    · refine (Cert.Reference4Ideal.Read.val_main_v135_eq (launchContents m' c)).trans ((key fun x t sh sc g2 n fg w1 w2 =>
        Cert.Reference4Ideal.Read.val_main_v135 (F := Ideal) x sh sc n).trans (funext fun i => ?_))
      exact Cert.Reference4Ideal.Val.o_hid (args m c) i
    · refine (Cert.Reference4Ideal.Read.val_main_v137_eq (launchContents m' c)).trans ((key fun x t sh sc g2 n fg w1 w2 =>
        Cert.Reference4Ideal.Read.val_main_v137 (F := Ideal) x t sh sc g2 n fg w1 w2).trans (funext fun i => ?_))
      exact (Cert.Reference4Ideal.Val.o_da (args m c) i).trans (congrFun (rda_eq _ _ hu) _)
    · refine (Cert.Reference4Ideal.Read.val_main_v139_eq (launchContents m' c)).trans ((key fun x t sh sc g2 n fg w1 w2 =>
        Cert.Reference4Ideal.Read.val_main_v139 (F := Ideal) x sh sc n w1).trans (funext fun i => ?_))
      exact Cert.Reference4Ideal.Val.o_sq (args m c) i
    · refine (Cert.Reference4Ideal.Read.val_main_v141_eq (launchContents m' c)).trans ((key fun x t sh sc g2 n fg w1 w2 =>
        Cert.Reference4Ideal.Read.val_main_v141 (F := Ideal) x t sh sc g2 n fg w1 w2).trans (funext fun i => ?_))
      exact (Cert.Reference4Ideal.Val.o_df (args m c) i).trans (congrFun (rdf_eq _ _ hu) _)
    · refine (Cert.Reference4Ideal.Read.val_main_v142_eq (launchContents m' c)).trans ((key fun x t sh sc g2 n fg w1 w2 =>
        Cert.Reference4Ideal.Read.val_main_v142 (F := Ideal) x t sh sc g2 n fg w1 w2).trans (funext fun i => ?_))
      exact Cert.Reference4Ideal.Val.o_loss (args m c) i
    · refine (Cert.Reference4Ideal.Read.val_main_v143_eq (launchContents m' c)).trans ((key fun x t sh sc g2 n fg w1 w2 =>
        Cert.Reference4Ideal.Read.val_main_v143 (F := Ideal) x t sh sc g2 n fg w1 w2).trans (funext fun i => ?_))
      exact (Cert.Reference4Ideal.Val.o_fg (args m c) i).trans (Finset.sum_congr rfl fun b _ => Finset.sum_congr rfl fun l _ => by rw [rdy_eq]; exact mul_comm _ _)
    · refine (Cert.Reference4Ideal.Read.val_main_v131_eq (launchContents m' c)).trans ((key fun x t sh sc g2 n fg w1 w2 =>
        Cert.Reference4Ideal.Read.val_main_v131 (F := Ideal) x t sh sc g2 n fg w1 w2).trans (funext fun i => ?_))
      exact (Cert.Reference4Ideal.Val.o_n (args m c) i).trans (Finset.sum_congr rfl fun b _ => Finset.sum_congr rfl fun l _ => by rw [rdxn_eq b l hu]; exact mul_comm _ _)
    · refine (Cert.Reference4Ideal.Read.val_main_v144_eq (launchContents m' c)).trans ((key fun x t sh sc g2 n fg w1 w2 =>
        Cert.Reference4Ideal.Read.val_main_v144 (F := Ideal) x t sh sc g2 n fg w1 w2).trans (funext fun i => ?_))
      exact (Cert.Reference4Ideal.Val.o_sh (args m c) i).trans (Finset.sum_congr rfl fun l _ => congrFun (rdh_eq _ l hu) _)
    · refine (Cert.Reference4Ideal.Read.val_main_v145_eq (launchContents m' c)).trans ((key fun x t sh sc g2 n fg w1 w2 =>
        Cert.Reference4Ideal.Read.val_main_v145 (F := Ideal) x t sh sc g2 n fg w1 w2).trans (funext fun i => ?_))
      exact (Cert.Reference4Ideal.Val.o_sc (args m c) i).trans (Finset.sum_congr rfl fun l _ => (mul_comm _ _).trans (congrArg (· * _) (congrFun (rdh_eq _ l hu) _)))
    · refine (Cert.Reference4Ideal.Read.val_main_v146_eq (launchContents m' c)).trans ((key fun x t sh sc g2 n fg w1 w2 =>
        Cert.Reference4Ideal.Read.val_main_v146 (F := Ideal) x t sh sc g2 n fg w1 w2).trans (funext fun i => ?_))
      exact (Cert.Reference4Ideal.Val.o_g2 (args m c) i).trans (Finset.sum_congr rfl fun l _ => congrArg (· * _) (congrFun (rdx2_eq _ l hu) _))

end Cert.Steps.Mlp

end
-- ==== Proof.ScanBody.lean ====
/- Call 2: the backward of the scan on one device: its body runs from any contents of its buffers to its return. -/
module

public import proofs.«01_k».proof.Proof.Gen.Kernel2Ideal.Frame
public import proofs.«01_k».proof.Proof.Gen.Kernel2Ideal.Loops

@[expose] public section

set_option maxRecDepth 16384

noncomputable section

namespace Cert.Kernel2Ideal.Scan

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat cellOf)

variable {F : FTy → Type} [FloatOps F]

/-- The buffer behind a memref, held whole at some contents. -/
abbrev some' (F : FTy → Type) [FloatOps F] (c : Dev nD) {sp : Space} {S : Shape} {e : EltTy} (M : Memref sig .tc sp S e) :
    sProp (MT nD τ sig Unit (Elt F) ℕ (UR sig nD τ) ℕ) :=
  iprop(∃ f : Buf (Elt F) (M.view.loc (c : Thread nD τ)), M.view.loc (c : Thread nD τ) ↦{fullShare} f)

variable (c : Dev nD) (i : grid0.Coords) (arg1 : Memref sig .tc .vmem S4x64x512 .f32) (harg1 : arg1.IsWhole) (arg2 : Memref sig .tc .vmem S4x64x512 .bf16) (harg2 : arg2.IsWhole) (arg3 : Memref sig .tc .hbm S4x2048x4096 .bf16) (harg3 : arg3.IsWhole) (arg4 : Memref sig .tc .vmem S1x4352x128 .f32) (harg4 : arg4.IsWhole) (arg5 : Memref sig .tc .vmem S1x4352x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S2x256x1024 .bf16) (harg8 : arg8.IsWhole) (arg9 : Memref sig .tc .vmem S2x256x1024 .bf16) (harg9 : arg9.IsWhole) (arg10 : Memref sig .tc .vmem S2x256x1024 .bf16) (harg10 : arg10.IsWhole) (arg11 : Memref sig .tc .vmem S2x256x1024 .bf16) (harg11 : arg11.IsWhole) (arg12 : Memref sig .tc .vmem S16x128 .f32) (harg12 : arg12.IsWhole) (arg13 : Memref sig .tc .vmem S16x128 .f32) (harg13 : arg13.IsWhole) (arg14 : Memref sig .tc .vmem S1x512 .f32) (harg14 : arg14.IsWhole) (arg15 : Memref sig .tc .vmem S4x64x512 .bf16) (harg15 : arg15.IsWhole) (arg16 : Memref sig .tc .vmem S2x256x1024 .f32) (harg16 : arg16.IsWhole) (arg17 : Memref sig .tc .vmem S2x256x1024 .f32) (harg17 : arg17.IsWhole) (arg18 : Memref sig .tc .vmem S2x256x1024 .f32) (harg18 : arg18.IsWhole) (arg19 : Memref sig .tc .vmem S2x256x1024 .f32) (harg19 : arg19.IsWhole) (arg20 : Memref sig .tc .vmem S16x128 .f32) (harg20 : arg20.IsWhole) (arg21 : Memref sig .tc .vmem S16x128 .f32) (harg21 : arg21.IsWhole) (arg22 : Memref sig .tc .vmem S1x512 .f32) (harg22 : arg22.IsWhole) (arg23 : Memref sig .tc .vmem S4352x128 .f32) (harg23 : arg23.IsWhole) (arg24 : Memref sig .tc .vmem S4352x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S272x512 .f32) (harg29 : arg29.IsWhole) (arg30 : Memref sig .tc .vmem S272x512 .f32) (harg30 : arg30.IsWhole) (arg31 : Memref sig .tc .vmem S272x512 .f32) (harg31 : arg31.IsWhole) (arg32 : Memref sig .tc .vmem S4352x128 .f32) (harg32 : arg32.IsWhole) (arg33 : Memref sig .tc .vmem S4352x128 .f32) (harg33 : arg33.IsWhole)

/-- One trip of the scan over panels 0 to 3 needs nothing of what its buffers hold. -/
@[sl_loop, instance_reducible] def loop1 (v195 : FVec F S4x128 .f32) (v198 : FVec F S4x128 .f32) (v201 : FVec F S4x128 .f32) (v204 : FVec F S4x128 .f32) (v207 : FVec F S4x128 .f32) (v210 : FVec F S4x128 .f32) (v213 : FVec F S4x128 .f32) (v216 : FVec F S4x128 .f32) (v217 : Vec F S4x128 .f32) (v218 : Vec F S4x128 .f32) (v219 : Vec F S4x128 .f32) (v220 : Vec F S4x128 .f32) (v221 : Vec F S4x128 .f32) (v222 : Vec F S4x128 .f32) (init : Vec F S4x128 .f32 × Vec F S4x128 .f32 × Vec F S4x128 .f32 × Vec F S4x128 .f32 × Vec F S4x128 .f32 × Vec F S4x128 .f32 × Vec F S4x128 .f32 × Vec F S4x128 .f32) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v195 v198 v201 v204 v207 v210 v213 v216 v217 v218 v219 v220 v221 v222 init where
  inv _ _ := iprop(some' F c arg23 ∗ some' F c arg24 ∗ some' F c arg32 ∗ some' F c arg33)
  step k acc := by
    obtain ⟨a1, a2, a3, a4, a5, a6, a7, a8⟩ := acc
    unfold k0_t1_body
    iintro ⟨⟨%f1, H1⟩, ⟨%f2, H2⟩, ⟨%f3, H3⟩, ⟨%f4, H4⟩⟩
    sl_exec_parts
    sl_step
    isplitl [H1]; · iexists _; iexact H1
    isplitl [H2]; · iexists _; iexact H2
    isplitl [H3]; · iexists _; iexact H3
    iexists _; iexact H4

/-- One trip of the scan over panels 4 to 7 needs nothing of what its buffers hold. -/
@[sl_loop, instance_reducible] def loop2 (v253 : FVec F S4x128 .f32) (v256 : FVec F S4x128 .f32) (v259 : FVec F S4x128 .f32) (v262 : FVec F S4x128 .f32) (v265 : FVec F S4x128 .f32) (v268 : FVec F S4x128 .f32) (v271 : FVec F S4x128 .f32) (v274 : FVec F S4x128 .f32) (v275 : Vec F S4x128 .f32) (v276 : Vec F S4x128 .f32) (v277 : Vec F S4x128 .f32) (v278 : Vec F S4x128 .f32) (v279 : Vec F S4x128 .f32) (v280 : Vec F S4x128 .f32) (v281 : Vec F S4x128 .f32) (init : Vec F S4x128 .f32 × Vec F S4x128 .f32 × Vec F S4x128 .f32 × Vec F S4x128 .f32 × Vec F S4x128 .f32 × Vec F S4x128 .f32 × Vec F S4x128 .f32 × Vec F S4x128 .f32) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v253 v256 v259 v262 v265 v268 v271 v274 v275 v276 v277 v278 v279 v280 v281 init where
  inv _ _ := iprop(some' F c arg23 ∗ some' F c arg24 ∗ some' F c arg32 ∗ some' F c arg33)
  step k acc := by
    obtain ⟨a1, a2, a3, a4, a5, a6, a7, a8⟩ := acc
    unfold k0_t2_body
    iintro ⟨⟨%f1, H1⟩, ⟨%f2, H2⟩, ⟨%f3, H3⟩, ⟨%f4, H4⟩⟩
    sl_exec_parts
    sl_step
    isplitl [H1]; · iexists _; iexact H1
    isplitl [H2]; · iexists _; iexact H2
    isplitl [H3]; · iexists _; iexact H3
    iexists _; iexact H4

/-- One trip of the scan over panels 8 to 11 needs nothing of what its buffers hold. -/
@[sl_loop, instance_reducible] def loop3 (v311 : FVec F S4x128 .f32) (v314 : FVec F S4x128 .f32) (v317 : FVec F S4x128 .f32) (v320 : FVec F S4x128 .f32) (v323 : FVec F S4x128 .f32) (v326 : FVec F S4x128 .f32) (v329 : FVec F S4x128 .f32) (v332 : FVec F S4x128 .f32) (v333 : Vec F S4x128 .f32) (v334 : Vec F S4x128 .f32) (v335 : Vec F S4x128 .f32) (v336 : Vec F S4x128 .f32) (v337 : Vec F S4x128 .f32) (v338 : Vec F S4x128 .f32) (v339 : Vec F S4x128 .f32) (init : Vec F S4x128 .f32 × Vec F S4x128 .f32 × Vec F S4x128 .f32 × Vec F S4x128 .f32 × Vec F S4x128 .f32 × Vec F S4x128 .f32 × Vec F S4x128 .f32 × Vec F S4x128 .f32) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v311 v314 v317 v320 v323 v326 v329 v332 v333 v334 v335 v336 v337 v338 v339 init where
  inv _ _ := iprop(some' F c arg23 ∗ some' F c arg24 ∗ some' F c arg32 ∗ some' F c arg33)
  step k acc := by
    obtain ⟨a1, a2, a3, a4, a5, a6, a7, a8⟩ := acc
    unfold k0_t3_body
    iintro ⟨⟨%f1, H1⟩, ⟨%f2, H2⟩, ⟨%f3, H3⟩, ⟨%f4, H4⟩⟩
    sl_exec_parts
    sl_step
    isplitl [H1]; · iexists _; iexact H1
    isplitl [H2]; · iexists _; iexact H2
    isplitl [H3]; · iexists _; iexact H3
    iexists _; iexact H4

/-- One trip of the scan over panels 12 to 15 needs nothing of what its buffers hold. -/
@[sl_loop, instance_reducible] def loop4 (arg0 : BitVec 32) (v369 : FVec F S4x128 .f32) (v372 : FVec F S4x128 .f32) (v375 : FVec F S4x128 .f32) (v378 : FVec F S4x128 .f32) (v381 : FVec F S4x128 .f32) (v384 : FVec F S4x128 .f32) (v387 : FVec F S4x128 .f32) (v390 : FVec F S4x128 .f32) (v391 : Vec F S4x128 .f32) (v392 : Vec F S4x128 .f32) (v393 : Vec F S4x128 .f32) (v394 : Vec F S4x128 .f32) (v395 : Vec F S4x128 .f32) (v396 : Vec F S4x128 .f32) (v397 : Vec F S4x128 .f32) (v398 : Vec F S4x128 .f32) (c0_i32_262 : BitVec 32) (init : Vec F S4x128 .f32 × Vec F S4x128 .f32 × Vec F S4x128 .f32 × Vec F S4x128 .f32 × Vec F S4x128 .f32 × Vec F S4x128 .f32 × Vec F S4x128 .f32 × Vec F S4x128 .f32) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg0 v369 v372 v375 v378 v381 v384 v387 v390 v391 v392 v393 v394 v395 v396 v397 v398 c0_i32_262 init where
  inv _ _ := iprop(some' F c arg23 ∗ some' F c arg24 ∗ some' F c arg32 ∗ some' F c arg33)
  step k acc := by
    obtain ⟨a1, a2, a3, a4, a5, a6, a7, a8⟩ := acc
    unfold k0_t4_body
    iintro ⟨⟨%f1, H1⟩, ⟨%f2, H2⟩, ⟨%f3, H3⟩, ⟨%f4, H4⟩⟩
    sl_exec_parts
    sl_step
    isplitl [H1]; · iexists _; iexact H1
    isplitl [H2]; · iexists _; iexact H2
    isplitl [H3]; · iexists _; iexact H3
    iexists _; iexact H4

/-- The body, run once from any contents. -/
theorem run : iprop(some' F c arg1 ∗ some' F c arg2 ∗ some' F c arg4 ∗ some' F c arg5 ∗ some' F c arg6 ∗ some' F c arg7 ∗ some' F c arg8 ∗ some' F c arg9 ∗ some' F c arg10 ∗ some' F c arg11 ∗ some' F c arg12 ∗ some' F c arg13 ∗ some' F c arg14 ∗ some' F c arg15 ∗ some' F c arg16 ∗ some' F c arg17 ∗ some' F c arg18 ∗ some' F c arg19 ∗ some' F c arg20 ∗ some' F c arg21 ∗ some' F c arg22 ∗ some' F c arg23 ∗ some' F c arg24 ∗ some' F c arg25 ∗ some' F c arg26 ∗ some' F c arg27 ∗ some' F c arg28 ∗ some' F c arg29 ∗ some' F c arg30 ∗ some' F c arg31 ∗ some' F c arg32 ∗ some' F c arg33)
    ⊢ wp frame (wpE (defs₀ (F := F)) Variants.none c none) Set.univ (cc0_s5_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
        (fun _ => iprop(some' F c arg1 ∗ some' F c arg2 ∗ some' F c arg4 ∗ some' F c arg5 ∗ some' F c arg6 ∗ some' F c arg7 ∗ some' F c arg8 ∗ some' F c arg9 ∗ some' F c arg10 ∗ some' F c arg11 ∗ some' F c arg12 ∗ some' F c arg13 ∗ some' F c arg14 ∗ some' F c arg15 ∗ some' F c arg16 ∗ some' F c arg17 ∗ some' F c arg18 ∗ some' F c arg19 ∗ some' F c arg20 ∗ some' F c arg21 ∗ some' F c arg22 ∗ some' F c arg23 ∗ some' F c arg24 ∗ some' F c arg25 ∗ some' F c arg26 ∗ some' F c arg27 ∗ some' F c arg28 ∗ some' F c arg29 ∗ some' F c arg30 ∗ some' F c arg31 ∗ some' F c arg32 ∗ some' F c arg33)) := by
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩⟩
  sl_unfold [cc0_s5_bwd]
  sl_exec_parts!
  sl_step
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  iexists _; iexact H32

end Cert.Kernel2Ideal.Scan

end
-- ==== Proof.ScanFrame.lean ====
/- Call 2: the backward of the scan on one device: every run ends, with its argument arrays as they were. -/
module

public import proofs.«01_k».proof.Proof.Gen.Kernel2Ideal.Frame
public import proofs.«01_k».proof.Proof.ScanBody

@[expose] public section

set_option maxRecDepth 16384

noncomputable section

namespace Cert.Kernel2Ideal.Scan

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window RDat cellOf)

variable {F : FTy → Type} [FloatOps F]

variable (c : Dev nD)

/-- A buffer owned through a memref that names all of it is held whole at some contents, -/
theorem some_of_owns {sp : Space} {S : Shape} {e : EltTy} {M : Memref sig .tc sp S e} (h : M.IsWhole) (X : S.Idx → Elt F e) :
    (owns (c : Thread nD τ) M fullShare X : sProp (MT nD τ sig Unit (Elt F) ℕ (UR sig nD τ) ℕ)) ⊢ some' F c M := by
  unfold owns
  rw [h.set_eq_univ]
  iintro ⟨%f, -, H⟩
  iexists f
  iexact H

/-- and conversely. -/
theorem owns_of_some {sp : Space} {S : Shape} {e : EltTy} {M : Memref sig .tc sp S e} (h : M.IsWhole) :
    some' F c M ⊢ (iprop(∃ X, ⌜True⌝ ∗ owns (c : Thread nD τ) M fullShare X) : sProp (MT nD τ sig Unit (Elt F) ℕ (UR sig nD τ) ℕ)) := by
  iintro ⟨%f, H⟩
  iexists (M.view.read (Elt F) f)
  isplitr
  · ipureintro; trivial
  · unfold owns
    rw [h.set_eq_univ]
    iexists f
    isplitr
    · ipureintro; rfl
    · iexact H

variable (m : (ℓ : Loc nD τ sig) → Buf (Elt F) ℓ) (ρ : Dev nD → PrngReg)

/-- The pipeline's data: the arrays as launched, and nothing said of what a body leaves in its windows. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body's row of the table is the body at the point's own buffers. -/
theorem row (t : Fin cfg0.N) :
    defs₀ (F := F) .tc cfg0.body (cfg0.bodyArgs t (cfg0.slots t)) = bodyAt0 t := by
  unfold defs₀; rw [Defs.onTc_tc]

/-- What a body is handed at a point: its windows' buffers and the scratch buffers. -/
def bufs (F : FTy → Type) [FloatOps F] (c : Dev nD) (t : Fin cfg0.N) : sProp (MT nD τ sig Unit (Elt F) ℕ (UR sig nD τ) ℕ) :=
  iprop(some' F c (win0_0.stage (cfg0.slots t 0)) ∗ some' F c (win0_1.stage (cfg0.slots t 1)) ∗ some' F c (win0_2.stage (cfg0.slots t 2)) ∗ some' F c (win0_3.stage (cfg0.slots t 3)) ∗ some' F c (win0_4.stage (cfg0.slots t 4)) ∗ some' F c (win0_5.stage (cfg0.slots t 5)) ∗ some' F c (win0_6.stage (cfg0.slots t 6)) ∗ some' F c (win0_7.stage (cfg0.slots t 7)) ∗ some' F c (win0_8.stage (cfg0.slots t 8)) ∗ some' F c (win0_9.stage (cfg0.slots t 9)) ∗ some' F c (win0_10.stage (cfg0.slots t 10)) ∗ some' F c (win0_11.stage (cfg0.slots t 11)) ∗ some' F c (win0_12.stage (cfg0.slots t 12)) ∗ some' F c (win0_13.stage (cfg0.slots t 13)) ∗ some' F c (win0_14.stage (cfg0.slots t 14)) ∗ some' F c (win0_15.stage (cfg0.slots t 15)) ∗ some' F c (win0_16.stage (cfg0.slots t 16)) ∗ some' F c (win0_17.stage (cfg0.slots t 17)) ∗ some' F c (win0_18.stage (cfg0.slots t 18)) ∗ some' F c (win0_19.stage (cfg0.slots t 19)) ∗ some' F c (win0_20.stage (cfg0.slots t 20)) ∗ some' F c (Memref.whole cc0_scratch0) ∗ some' F c (Memref.whole cc0_scratch1) ∗ some' F c (Memref.whole cc0_scratch2) ∗ some' F c (Memref.whole cc0_scratch3) ∗ some' F c (Memref.whole cc0_scratch4) ∗ some' F c (Memref.whole cc0_scratch5) ∗ some' F c (Memref.whole cc0_scratch6) ∗ some' F c (Memref.whole cc0_scratch7) ∗ some' F c (Memref.whole cc0_scratch8) ∗ some' F c (Memref.whole cc0_scratch9) ∗ some' F c (Memref.whole cc0_scratch10))

set_option maxHeartbeats 1600000 in
theorem body_at (t : Fin cfg0.N) : bufs F c t ⊢ wp frame (wpE (defs₀ (F := F)) Variants.none c none) Set.univ (bodyAt0 t) (fun _ => bufs F c t) := by
  unfold bufs bodyAt0
  exact run c (grid0.coords t) (win0_0.stage (cfg0.slots t 0)) (hstage0_0 ((cfg0.slots t 0).cast nbuf0_0)) (win0_1.stage (cfg0.slots t 1)) (hstage0_1 ((cfg0.slots t 1).cast nbuf0_1)) (Memref.whole main_arg2) (Memref.isWhole_whole _) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

set_option maxHeartbeats 1600000 in
theorem obligation (c : Dev nD) : (rdat (F := F) m c).BodyObligation (defs₀ (F := F)) Variants.none () Set.univ := fun t Y _ => by
  rw [bigSep_W0, bigSep_W0, row]
  refine (?_ : _ ⊢ iprop(bufs F c t ∗ ((∃ r, prngReg c r) ∗ (rdat (F := F) m c).owesAt () t.castSucc))).trans (((sep_mono (body_at c t) .rfl).trans (wp_frame_r _ _ _)).trans (wp_mono _ _ _ fun _ => ?_))
  · show iprop(Pipeline.ΦA spec0 c ∗ _ ∗ _) ⊢ _
    unfold Pipeline.ΦA bufs
    rw [scopedRest0_eq]
    iintro ⟨⟨⟨S0, S1, S2, S3, S4, S5, S6, S7, S8, S9, S10⟩, P⟩, O, ⟨H0, H1, H2, H3, H4, H5, H6, H7, H8, H9, H10, H11, H12, H13, H14, H15, H16, H17, H18, H19, H20⟩⟩
    isplitr [P O]
    · isplitl [H0]; · iapply some_of_owns c (hstage0_0 ((cfg0.slots t 0).cast nbuf0_0)) (Y 0); iexact H0
      isplitl [H1]; · iapply some_of_owns c (hstage0_1 ((cfg0.slots t 1).cast nbuf0_1)) (Y 1); iexact H1
      isplitl [H2]; · iapply some_of_owns c (hstage0_2 ((cfg0.slots t 2).cast nbuf0_2)) (Y 2); iexact H2
      isplitl [H3]; · iapply some_of_owns c (hstage0_3 ((cfg0.slots t 3).cast nbuf0_3)) (Y 3); iexact H3
      isplitl [H4]; · iapply some_of_owns c (hstage0_4 ((cfg0.slots t 4).cast nbuf0_4)) (Y 4); iexact H4
      isplitl [H5]; · iapply some_of_owns c (hstage0_5 ((cfg0.slots t 5).cast nbuf0_5)) (Y 5); iexact H5
      isplitl [H6]; · iapply some_of_owns c (hstage0_6 ((cfg0.slots t 6).cast nbuf0_6)) (Y 6); iexact H6
      isplitl [H7]; · iapply some_of_owns c (hstage0_7 ((cfg0.slots t 7).cast nbuf0_7)) (Y 7); iexact H7
      isplitl [H8]; · iapply some_of_owns c (hstage0_8 ((cfg0.slots t 8).cast nbuf0_8)) (Y 8); iexact H8
      isplitl [H9]; · iapply some_of_owns c (hstage0_9 ((cfg0.slots t 9).cast nbuf0_9)) (Y 9); iexact H9
      isplitl [H10]; · iapply some_of_owns c (hstage0_10 ((cfg0.slots t 10).cast nbuf0_10)) (Y 10); iexact H10
      isplitl [H11]; · iapply some_of_owns c (hstage0_11 ((cfg0.slots t 11).cast nbuf0_11)) (Y 11); iexact H11
      isplitl [H12]; · iapply some_of_owns c (hstage0_12 ((cfg0.slots t 12).cast nbuf0_12)) (Y 12); iexact H12
      isplitl [H13]; · iapply some_of_owns c (hstage0_13 ((cfg0.slots t 13).cast nbuf0_13)) (Y 13); iexact H13
      isplitl [H14]; · iapply some_of_owns c (hstage0_14 ((cfg0.slots t 14).cast nbuf0_14)) (Y 14); iexact H14
      isplitl [H15]; · iapply some_of_owns c (hstage0_15 ((cfg0.slots t 15).cast nbuf0_15)) (Y 15); iexact H15
      isplitl [H16]; · iapply some_of_owns c (hstage0_16 ((cfg0.slots t 16).cast nbuf0_16)) (Y 16); iexact H16
      isplitl [H17]; · iapply some_of_owns c (hstage0_17 ((cfg0.slots t 17).cast nbuf0_17)) (Y 17); iexact H17
      isplitl [H18]; · iapply some_of_owns c (hstage0_18 ((cfg0.slots t 18).cast nbuf0_18)) (Y 18); iexact H18
      isplitl [H19]; · iapply some_of_owns c (hstage0_19 ((cfg0.slots t 19).cast nbuf0_19)) (Y 19); iexact H19
      isplitl [H20]; · iapply some_of_owns c (hstage0_20 ((cfg0.slots t 20).cast nbuf0_20)) (Y 20); iexact H20
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    · isplitl [P]; · iexact P
      iexact O
  · show _ ⊢ iprop(Pipeline.ΦA spec0 c ∗ _ ∗ _)
    unfold Pipeline.ΦA bufs
    rw [scopedRest0_eq]
    iintro ⟨⟨H0, H1, H2, H3, H4, H5, H6, H7, H8, H9, H10, H11, H12, H13, H14, H15, H16, H17, H18, H19, H20, S0, S1, S2, S3, S4, S5, S6, S7, S8, S9, S10⟩, P, O⟩
    isplitl [S0 S1 S2 S3 S4 S5 S6 S7 S8 S9 S10 P]
    · isplitr [P]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        iexact S10
      · iexact P
    isplitl [O]; · iexact O
    isplitl [H0]; · iapply owns_of_some c (hstage0_0 ((cfg0.slots t 0).cast nbuf0_0)); iexact H0
    isplitl [H1]; · iapply owns_of_some c (hstage0_1 ((cfg0.slots t 1).cast nbuf0_1)); iexact H1
    isplitl [H2]; · iapply owns_of_some c (hstage0_2 ((cfg0.slots t 2).cast nbuf0_2)); iexact H2
    isplitl [H3]; · iapply owns_of_some c (hstage0_3 ((cfg0.slots t 3).cast nbuf0_3)); iexact H3
    isplitl [H4]; · iapply owns_of_some c (hstage0_4 ((cfg0.slots t 4).cast nbuf0_4)); iexact H4
    isplitl [H5]; · iapply owns_of_some c (hstage0_5 ((cfg0.slots t 5).cast nbuf0_5)); iexact H5
    isplitl [H6]; · iapply owns_of_some c (hstage0_6 ((cfg0.slots t 6).cast nbuf0_6)); iexact H6
    isplitl [H7]; · iapply owns_of_some c (hstage0_7 ((cfg0.slots t 7).cast nbuf0_7)); iexact H7
    isplitl [H8]; · iapply owns_of_some c (hstage0_8 ((cfg0.slots t 8).cast nbuf0_8)); iexact H8
    isplitl [H9]; · iapply owns_of_some c (hstage0_9 ((cfg0.slots t 9).cast nbuf0_9)); iexact H9
    isplitl [H10]; · iapply owns_of_some c (hstage0_10 ((cfg0.slots t 10).cast nbuf0_10)); iexact H10
    isplitl [H11]; · iapply owns_of_some c (hstage0_11 ((cfg0.slots t 11).cast nbuf0_11)); iexact H11
    isplitl [H12]; · iapply owns_of_some c (hstage0_12 ((cfg0.slots t 12).cast nbuf0_12)); iexact H12
    isplitl [H13]; · iapply owns_of_some c (hstage0_13 ((cfg0.slots t 13).cast nbuf0_13)); iexact H13
    isplitl [H14]; · iapply owns_of_some c (hstage0_14 ((cfg0.slots t 14).cast nbuf0_14)); iexact H14
    isplitl [H15]; · iapply owns_of_some c (hstage0_15 ((cfg0.slots t 15).cast nbuf0_15)); iexact H15
    isplitl [H16]; · iapply owns_of_some c (hstage0_16 ((cfg0.slots t 16).cast nbuf0_16)); iexact H16
    isplitl [H17]; · iapply owns_of_some c (hstage0_17 ((cfg0.slots t 17).cast nbuf0_17)); iexact H17
    isplitl [H18]; · iapply owns_of_some c (hstage0_18 ((cfg0.slots t 18).cast nbuf0_18)); iexact H18
    isplitl [H19]; · iapply owns_of_some c (hstage0_19 ((cfg0.slots t 19).cast nbuf0_19)); iexact H19
    iapply owns_of_some c (hstage0_20 ((cfg0.slots t 20).cast nbuf0_20)); iexact H20

set_option backward.isDefEq.respectTransparency.types false in
theorem launch : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := obligation m) (hshare := fun c w => by unfold RDat.share; split <;> rfl)
    (howed := fun _ _ => rfl) (V := V m) (hmain := hmain m Variants.none) (hA := fun _ _ => rfl) (hΦ := fun _ _ => rfl)

/-- An input's array is as it was found. -/
theorem kept {c : Dev nD} {r : PUnit × MemSt nD τ sig (Elt F)} (h : Pipeline.RDat.FramePost cfg0 (rdat m) (V m) r) (w : Fin cfg0.W)
    (hin : (cfg0.win w).isOut = false) : r.2.mem ((cfg0.spec w).arr.view.loc (c.tc : Thread nD τ)) = V m c (Pipeline.arrRef spec0 w) := by
  have := (h c).1 w
  rw [(rdat m c).ArrAt_in w hin] at this
  exact this

/-- The run: every argument array ends as it began, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(kept m h.1 0 rfl).trans (V_main_arg0 m c),
      (kept m h.1 1 rfl).trans (V_main_arg1 m c),
      ((h.1 c).2 main_arg2 (Pipeline.mem_restRefs_of main_arg2 (by decide) (by decide))).trans (V_main_arg2 m c),
      (kept m h.1 2 rfl).trans (V_main_arg3 m c),
      (kept m h.1 3 rfl).trans (V_main_arg4 m c),
      (kept m h.1 4 rfl).trans (V_main_arg5 m c),
      (kept m h.1 5 rfl).trans (V_main_arg6 m c),
      (kept m h.1 6 rfl).trans (V_main_arg7 m c),
      (kept m h.1 7 rfl).trans (V_main_arg8 m c),
      (kept m h.1 8 rfl).trans (V_main_arg9 m c),
      (kept m h.1 9 rfl).trans (V_main_arg10 m c),
      (kept m h.1 10 rfl).trans (V_main_arg11 m c),
      (kept m h.1 11 rfl).trans (V_main_arg12 m c),
      (kept m h.1 12 rfl).trans (V_main_arg13 m c)⟩, h.2⟩) (launch m ρ)

end Cert.Kernel2Ideal.Scan

end
-- ==== Proof.Scan.lean ====
/- Call 2, the backward of the scan: its claims. -/
module

public import proofs.«01_k».proof.Defs
public import proofs.«01_k».proof.Proof.Gen.Kernel2
public import proofs.«01_k».proof.Proof.ScanFrame

@[expose] public section

set_option maxRecDepth 16384

noncomputable section

open Idealize.ShloMosaic Idealize.ShloMosaic.TcCoe Idealize.SL.Sem

namespace Cert.Steps.Scan

theorem frame_ideal : Cert.quiescent_Kernel2Ideal := fun m ρ _ => Cert.Kernel2Ideal.Scan.frame_run m ρ

open Cert.Kernel2Ideal in
/-- The run's statement over the floats' words. -/
def Ends : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13))
      ∧ r.2.sem = fun _ => 0)

/-- The program over floats is the same program, so one run serves both. -/
theorem same : Ends = Cert.quiescent_Kernel2 := by sl_kernel_rfl

theorem frame_kernel : Cert.quiescent_Kernel2 :=
  cast same fun m ρ _ => Cert.Kernel2Ideal.Scan.frame_run (F := Bits) m ρ

end Cert.Steps.Scan

end
-- ==== Proof.DiscRows.lean ====
/- S5's discretisation backward, entry by entry: what the version computes, as functions of the nine arrays. -/
module

public import proofs.«01_k».proof.Proof.Common

@[expose] public section

set_option maxRecDepth 16384

noncomputable section

open Idealize.ShloMosaic Idealize.ShloMosaic.TcCoe Idealize.SL.Sem

namespace Cert.Steps.Disc

/-- The nine arrays of the call: the parameters, and the cotangents of what they are discretised to. -/
structure Args where
  lr : FVec Ideal ⟨3, ![1, 32, 64]⟩ .f32
  li : FVec Ideal ⟨3, ![1, 32, 64]⟩ .f32
  ldt : FVec Ideal ⟨2, ![1, 32]⟩ .f32
  br : FVec Ideal ⟨4, ![1, 32, 64, 16]⟩ .f32
  bi : FVec Ideal ⟨4, ![1, 32, 64, 16]⟩ .f32
  dlr : FVec Ideal ⟨2, ![32, 64]⟩ .f32
  dli : FVec Ideal ⟨2, ![32, 64]⟩ .f32
  dr : FVec Ideal ⟨3, ![32, 64, 16]⟩ .f32
  di : FVec Ideal ⟨3, ![32, 64, 16]⟩ .f32

variable (u : Args) (g : Fin 32) (p : Fin 64)

/-! ## The forward lines -/

/-- The two parts of a state's eigenvalue, and its group's step. -/
def lr : EReal := u.lr (ix3 0 g p)
def li : EReal := u.li (ix3 0 g p)
def dt : EReal := Ideal.exp (u.ldt (ix2 0 g))
/-- The size, the cosine and the sine of the eigenvalue's exponential, and its two parts. -/
def sz : EReal := Ideal.exp (lr u g p * dt u g)
def cs : EReal := Ideal.cos (li u g p * dt u g)
def sn : EReal := Ideal.sin (li u g p * dt u g)
def bre : EReal := sz u g p * cs u g p
def bim : EReal := sz u g p * sn u g p
/-- The square of the eigenvalue's size, what is divided by it, and the quotient's two parts. -/
def den : EReal := lr u g p * lr u g p + li u g p * li u g p
def am : EReal := bre u g p - 1
def nr : EReal := am u g p * lr u g p + bim u g p * li u g p
def ni : EReal := bim u g p * lr u g p - am u g p * li u g p
def qr : EReal := Ideal.div (nr u g p) (den u g p)
def qi : EReal := Ideal.div (ni u g p) (den u g p)
def wt : EReal := Ideal.div 1 (den u g p * den u g p)

/-! ## The backward lines -/

/-- The cotangents of the quotient's two parts, and these divided by the square. -/
def cr : EReal := (∑ h, u.di (ix3 g p h) * u.bi (ix4 0 g p h)) + ∑ h, u.dr (ix3 g p h) * u.br (ix4 0 g p h)
def ci : EReal := (∑ h, u.di (ix3 g p h) * u.br (ix4 0 g p h)) + ∑ h, -u.dr (ix3 g p h) * u.bi (ix4 0 g p h)
def fr : EReal := Ideal.div (cr u g p) (den u g p)
def fi : EReal := Ideal.div (ci u g p) (den u g p)
/-- The cotangent of the square. -/
def ed : EReal := -(ci u g p * wt u g p * ni u g p) + -(cr u g p * wt u g p * nr u g p)
/-- The cotangents of the exponential's two parts. -/
def zr : EReal := u.dlr (ix2 g p) + -fi u g p * li u g p + fr u g p * lr u g p
def zi : EReal := u.dli (ix2 g p) + fi u g p * lr u g p + fr u g p * li u g p
/-- What reaches the eigenvalue's two parts through the quotient. -/
def ur : EReal := bim u g p * fi u g p + am u g p * fr u g p + lr u g p * ed u g p + ed u g p * lr u g p
def ui : EReal := am u g p * -fi u g p + bim u g p * fr u g p + li u g p * ed u g p + ed u g p * li u g p
/-- The cotangents of the sine's and the cosine's argument, of the size and of its argument. -/
def ks : EReal := sz u g p * zi u g p * cs u g p
def kc : EReal := -(sz u g p * zr u g p) * sn u g p
def ds : EReal := zi u g p * sn u g p + zr u g p * cs u g p
def kr : EReal := ds u g p * sz u g p

/-! ## The results -/

def glr : EReal := ur u g p + kr u g p * dt u g
def gli : EReal := ui u g p + ks u g p * dt u g + kc u g p * dt u g
def gldt : EReal := ((∑ p, li u g p * ks u g p) + (∑ p, li u g p * kc u g p) + ∑ p, lr u g p * kr u g p) * dt u g
def gbr (h : Fin 16) : EReal := qi u g p * u.di (ix3 g p h) + qr u g p * u.dr (ix3 g p h)
def gbi (h : Fin 16) : EReal := qr u g p * u.di (ix3 g p h) + qi u g p * -u.dr (ix3 g p h)

end Cert.Steps.Disc

end
-- ==== Proof.DiscKernel.lean ====
/- Call 5, the version's side: the blocks of the one grid point, what is computed from them, and the five arrays it leaves. -/
module

public import proofs.«01_k».proof.Proof.DiscRows
public import Idealize.ShloMosaic.Lib.KernelVsHost
public import proofs.«01_k».proof.Proof.Gen.Kernel5Ideal.Frame
public import proofs.«01_k».proof.Proof.Gen.Kernel5Ideal.Points

@[expose] public section

set_option maxRecDepth 16384

noncomputable section

open Idealize.ShloMosaic Idealize.ShloMosaic.TcCoe Idealize.SL.Sem

open Idealize.ShloMosaic.Pipeline (Dat)

namespace Cert.Kernel5Ideal.Val

open Cert.Kernel5Ideal Cert.Kernel5Ideal.Gen Cert.Steps Cert.Steps.Disc

variable (m : (ℓ : Loc nD τ sig) → Buf (Elt Ideal) ℓ) (c : Dev nD)

/-- The nine arrays at the launch. -/
def args : Args where
  lr := m ((c : Thread nD τ).loc main_arg0)
  li := m ((c : Thread nD τ).loc main_arg1)
  ldt := m ((c : Thread nD τ).loc main_arg2)
  br := m ((c : Thread nD τ).loc main_arg3)
  bi := m ((c : Thread nD τ).loc main_arg4)
  dlr := m ((c : Thread nD τ).loc main_arg5)
  dli := m ((c : Thread nD τ).loc main_arg6)
  dr := m ((c : Thread nD τ).loc main_arg7)
  di := m ((c : Thread nD τ).loc main_arg8)

/-! ## The arrays the region reads -/

variable (g : Fin 32) (p : Fin 64) (h : Fin 16)

theorem e0 (i : S32x64.Idx) (h0 : i 0 = g) (h1 : i 1 = p) : V m c main_v0 i = lr (args m c) g p := by
  subst h0 h1
  simp only [V, V0, hostOps0, List.flatten_cons, List.flatten_nil, List.append_nil, List.cons_append, List.nil_append]
  entry_read; pointwise []; rfl
theorem e1 (i : S32x64.Idx) (h0 : i 0 = g) (h1 : i 1 = p) : V m c main_v1 i = li (args m c) g p := by
  subst h0 h1
  simp only [V, V0, hostOps0, List.flatten_cons, List.flatten_nil, List.append_nil, List.cons_append, List.nil_append]
  entry_read; pointwise []; rfl
theorem e3 (i : S32x1.Idx) (h0 : i 0 = g) : V m c main_v3 i = (args m c).ldt (ix2 0 g) := by
  subst h0
  simp only [V, V0, hostOps0, List.flatten_cons, List.flatten_nil, List.append_nil, List.cons_append, List.nil_append]
  entry_read; pointwise []; rfl
theorem e5 (i : S16x32x64.Idx) (h0 : i 0 = h) (h1 : i 1 = g) (h2 : i 2 = p) : V m c main_v5 i = (args m c).br (ix4 0 g p h) := by
  subst h0 h1 h2
  simp only [V, V0, hostOps0, List.flatten_cons, List.flatten_nil, List.append_nil, List.cons_append, List.nil_append]
  entry_read; pointwise []; rfl
theorem e7 (i : S16x32x64.Idx) (h0 : i 0 = h) (h1 : i 1 = g) (h2 : i 2 = p) : V m c main_v7 i = (args m c).bi (ix4 0 g p h) := by
  subst h0 h1 h2
  simp only [V, V0, hostOps0, List.flatten_cons, List.flatten_nil, List.append_nil, List.cons_append, List.nil_append]
  entry_read; pointwise []; rfl
theorem e8 (i : S16x32x64.Idx) (h0 : i 0 = h) (h1 : i 1 = g) (h2 : i 2 = p) : V m c main_v8 i = (args m c).dr (ix3 g p h) := by
  subst h0 h1 h2
  simp only [V, V0, hostOps0, List.flatten_cons, List.flatten_nil, List.append_nil, List.cons_append, List.nil_append]
  entry_read; pointwise []; rfl
theorem e9 (i : S16x32x64.Idx) (h0 : i 0 = h) (h1 : i 1 = g) (h2 : i 2 = p) : V m c main_v9 i = (args m c).di (ix3 g p h) := by
  subst h0 h1 h2
  simp only [V, V0, hostOps0, List.flatten_cons, List.flatten_nil, List.append_nil, List.cons_append, List.nil_append]
  entry_read; pointwise []; rfl

/-! ## The blocks of the one grid point -/

theorem idx : ∀ t : Fin cfg0.N, win0_0.index t = ![0, 0] ∧ win0_1.index t = ![0, 0] ∧ win0_2.index t = ![0, 0] ∧ win0_3.index t = ![0, 0, 0] ∧ win0_4.index t = ![0, 0, 0] ∧ win0_5.index t = ![0, 0] ∧ win0_6.index t = ![0, 0] ∧ win0_7.index t = ![0, 0, 0] ∧ win0_8.index t = ![0, 0, 0] ∧ win0_9.index t = ![0, 0] ∧ win0_10.index t = ![0, 0] ∧ win0_11.index t = ![0, 0] ∧ win0_12.index t = ![0, 0, 0] ∧ win0_13.index t = ![0, 0, 0] :=
  (by decide +kernel : ∀ t : Fin grid0.N, _)

variable (t : Fin cfg0.N)

theorem b0 : (iblk m c 0 t : FVec Ideal S32x64 .f32) (ix2 g p) = lr (args m c) g p := by
  blk_simp [iblk]
  exact e0 m c g p _ (Fin.ext (by blk_simp [idx t])) (Fin.ext (by blk_simp [idx t]))
theorem b1 : (iblk m c 1 t : FVec Ideal S32x64 .f32) (ix2 g p) = li (args m c) g p := by
  blk_simp [iblk]
  exact e1 m c g p _ (Fin.ext (by blk_simp [idx t])) (Fin.ext (by blk_simp [idx t]))
theorem b2 : (iblk m c 2 t : FVec Ideal S32x1 .f32) (ix2 g 0) = (args m c).ldt (ix2 0 g) := by
  blk_simp [iblk]
  exact e3 m c g _ (Fin.ext (by blk_simp [idx t]))
theorem b3 : (iblk m c 3 t : FVec Ideal S16x32x64 .f32) (ix3 h g p) = (args m c).br (ix4 0 g p h) := by
  blk_simp [iblk]
  exact e5 m c g p h _ (Fin.ext (by blk_simp [idx t])) (Fin.ext (by blk_simp [idx t])) (Fin.ext (by blk_simp [idx t]))
theorem b4 : (iblk m c 4 t : FVec Ideal S16x32x64 .f32) (ix3 h g p) = (args m c).bi (ix4 0 g p h) := by
  blk_simp [iblk]
  exact e7 m c g p h _ (Fin.ext (by blk_simp [idx t])) (Fin.ext (by blk_simp [idx t])) (Fin.ext (by blk_simp [idx t]))
theorem b5 : (iblk m c 5 t : FVec Ideal S32x64 .f32) (ix2 g p) = (args m c).dlr (ix2 g p) := by
  blk_simp [iblk]
  rw [V_main_arg5]
  refine congrArg (m ((c : Thread nD τ).loc main_arg5)) (?_ : _ = ix2 g p)
  blk_ext [idx t]
theorem b6 : (iblk m c 6 t : FVec Ideal S32x64 .f32) (ix2 g p) = (args m c).dli (ix2 g p) := by
  blk_simp [iblk]
  rw [V_main_arg6]
  refine congrArg (m ((c : Thread nD τ).loc main_arg6)) (?_ : _ = ix2 g p)
  blk_ext [idx t]
theorem b7 : (iblk m c 7 t : FVec Ideal S16x32x64 .f32) (ix3 h g p) = (args m c).dr (ix3 g p h) := by
  blk_simp [iblk]
  exact e8 m c g p h _ (Fin.ext (by blk_simp [idx t])) (Fin.ext (by blk_simp [idx t])) (Fin.ext (by blk_simp [idx t]))
theorem b8 : (iblk m c 8 t : FVec Ideal S16x32x64 .f32) (ix3 h g p) = (args m c).di (ix3 g p h) := by
  blk_simp [iblk]
  exact e9 m c g p h _ (Fin.ext (by blk_simp [idx t])) (Fin.ext (by blk_simp [idx t])) (Fin.ext (by blk_simp [idx t]))

/-! ## The values of the point -/

/-- Nine blocks that hold the arrays' entries. -/
structure Reads (u : Args) (x0 x1 : FVec Ideal S32x64 .f32) (x2 : FVec Ideal S32x1 .f32) (x3 x4 : FVec Ideal S16x32x64 .f32)
    (x5 x6 : FVec Ideal S32x64 .f32) (x7 x8 : FVec Ideal S16x32x64 .f32) : Prop where
  h0 : ∀ g p, x0 (ix2 g p) = lr u g p
  h1 : ∀ g p, x1 (ix2 g p) = li u g p
  h2 : ∀ g, x2 (ix2 g 0) = u.ldt (ix2 0 g)
  h3 : ∀ h g p, x3 (ix3 h g p) = u.br (ix4 0 g p h)
  h4 : ∀ h g p, x4 (ix3 h g p) = u.bi (ix4 0 g p h)
  h5 : ∀ g p, x5 (ix2 g p) = u.dlr (ix2 g p)
  h6 : ∀ g p, x6 (ix2 g p) = u.dli (ix2 g p)
  h7 : ∀ h g p, x7 (ix3 h g p) = u.dr (ix3 g p h)
  h8 : ∀ h g p, x8 (ix3 h g p) = u.di (ix3 g p h)

theorem reads : Reads (args m c) (iblk m c 0 t) (iblk m c 1 t) (iblk m c 2 t) (iblk m c 3 t) (iblk m c 4 t) (iblk m c 5 t) (iblk m c 6 t)
    (iblk m c 7 t) (iblk m c 8 t) where
  h0 g p := b0 m c g p t
  h1 g p := b1 m c g p t
  h2 g := b2 m c g t
  h3 h g p := b3 m c g p h t
  h4 h g p := b4 m c g p h t
  h5 g p := b5 m c g p t
  h6 g p := b6 m c g p t
  h7 h g p := b7 m c g p h t
  h8 h g p := b8 m c g p h t

section values
variable {u : Args} {x0 x1 x5 x6 : FVec Ideal S32x64 .f32} {x2 : FVec Ideal S32x1 .f32} {x3 x4 x7 x8 : FVec Ideal S16x32x64 .f32}

theorem n49 : k0_pay49 (F := Ideal) x0 x1 x2 x3 x4 x5 x6 x7 x8 = k0_pay5 x0 := by
  unfold k0_pay49; frame_out
theorem n50 : k0_pay50 (F := Ideal) x0 x1 x2 x3 x4 x5 x6 x7 x8 = k0_pay6 x1 := by
  unfold k0_pay50; frame_out
theorem n51 : k0_pay51 (F := Ideal) x0 x1 x2 x3 x4 x5 x6 x7 x8 = k0_pay7 x3 := by
  unfold k0_pay51; frame_out
theorem n52 : k0_pay52 (F := Ideal) x0 x1 x2 x3 x4 x5 x6 x7 x8 = k0_pay8 x4 := by
  unfold k0_pay52; frame_out
theorem n53 : k0_pay53 (F := Ideal) x0 x1 x2 x3 x4 x5 x6 x7 x8 = k0_pay9 x2 := by
  unfold k0_pay53; frame_out
theorem n54 : k0_pay54 (F := Ideal) x0 x1 x2 x3 x4 x5 x6 x7 x8 = k0_pay10 x0 x2 := by
  unfold k0_pay54; frame_out
theorem n55 : k0_pay55 (F := Ideal) x0 x1 x2 x3 x4 x5 x6 x7 x8 = k0_pay13 x1 x2 := by
  unfold k0_pay55; frame_out
theorem n56 : k0_pay56 (F := Ideal) x0 x1 x2 x3 x4 x5 x6 x7 x8 = k0_pay17 x1 x2 := by
  unfold k0_pay56; frame_out
theorem n57 : k0_pay57 (F := Ideal) x0 x1 x2 x3 x4 x5 x6 x7 x8 = k0_pay18 x0 x1 x2 := by
  unfold k0_pay57; frame_out
theorem n58 : k0_pay58 (F := Ideal) x0 x1 x2 x3 x4 x5 x6 x7 x8 = k0_pay19 x0 x1 := by
  unfold k0_pay58; frame_out
theorem n59 : k0_pay59 (F := Ideal) x0 x1 x2 x3 x4 x5 x6 x7 x8 = k0_pay21 x0 x1 x2 := by
  unfold k0_pay59; frame_out
theorem n60 : k0_pay60 (F := Ideal) x0 x1 x2 x3 x4 x5 x6 x7 x8 = k0_pay22 x0 x1 x2 := by
  unfold k0_pay60; frame_out
theorem n61 : k0_pay61 (F := Ideal) x0 x1 x2 x3 x4 x5 x6 x7 x8 = k0_pay23 x0 x1 := by
  unfold k0_pay61; frame_out
theorem n62 : k0_pay62 (F := Ideal) x0 x1 x2 x3 x4 x5 x6 x7 x8 = k0_pay25 x0 x1 x2 := by
  unfold k0_pay62; frame_out
theorem n63 : k0_pay63 (F := Ideal) x0 x1 x2 x3 x4 x5 x6 x7 x8 = k0_pay26 x0 x1 x2 := by
  unfold k0_pay63; frame_out
theorem n64 : k0_pay64 (F := Ideal) x0 x1 x2 x3 x4 x5 x6 x7 x8 = k0_pay29 (k0_pay27 x0 x1) k0_pay28 := by
  unfold k0_pay64; frame_out
theorem n65 : k0_pay65 (F := Ideal) x0 x1 x2 x3 x4 x5 x6 x7 x8 = k0_pay34 (k0_pay7 x3) (k0_pay8 x4) x7 x8 := by
  unfold k0_pay65; frame_out;  rw [n51, n52]
theorem n66 : k0_pay66 (F := Ideal) x0 x1 x2 x3 x4 x5 x6 x7 x8 = k0_pay36 (k0_pay7 x3) (k0_pay8 x4) x7 x8 := by
  unfold k0_pay66; frame_out;  rw [n51, n52]
theorem n67 : k0_pay67 (F := Ideal) x0 x1 x2 x3 x4 x5 x6 x7 x8 = k0_pay46 (k0_pay5 x0) (k0_pay6 x1) (k0_pay12 x1 x2) (k0_pay16 x1 x2) (k0_pay19 x0 x1) x5 x6 (k0_pay34 (k0_pay7 x3) (k0_pay8 x4) x7 x8) (k0_pay36 (k0_pay7 x3) (k0_pay8 x4) x7 x8) := by
  unfold k0_pay67; frame_out; rw [n49, n50, n58, n65, n66]

variable (H : Reads u x0 x1 x2 x3 x4 x5 x6 x7 x8)
include H

theorem q_lr (g : Fin 32) (p : Fin 64) : k0_pay5 (F := Ideal) x0 (ix2 g p) = lr u g p := by
  pointwise [k0_pay5]
  simp only [H.h0]
theorem q_li (g : Fin 32) (p : Fin 64) : k0_pay6 (F := Ideal) x1 (ix2 g p) = li u g p := by
  pointwise [k0_pay6]
  simp only [H.h1]
theorem q_dt (g : Fin 32) : k0_pay9 (F := Ideal) x2 (ix2 g 0) = dt u g := by
  pointwise [k0_pay9]
  simp only [H.h2]
  rfl
theorem q_sz (g : Fin 32) (p : Fin 64) : k0_pay10 (F := Ideal) x0 x2 (ix2 g p) = sz u g p := by
  pointwise [k0_pay10]
  simp only [q_lr H, q_dt H]
  rfl
theorem q_th (g : Fin 32) (p : Fin 64) : k0_pay11 (F := Ideal) x1 x2 (ix2 g p) = li u g p * dt u g := by
  pointwise [k0_pay11]
  simp only [q_li H, q_dt H]
theorem q_th1 (g : Fin 32) (p : Fin 64) : k0_pay15 (F := Ideal) x1 x2 (ix2 g p) = li u g p * dt u g := by
  pointwise [k0_pay15]
  simp only [q_li H, q_dt H]
theorem q_cs (g : Fin 32) (p : Fin 64) : k0_pay12 (F := Ideal) x1 x2 (ix2 g p) = cs u g p := by
  pointwise [k0_pay12]
  simp only [q_th H]
  rfl
theorem q_sn (g : Fin 32) (p : Fin 64) : k0_pay13 (F := Ideal) x1 x2 (ix2 g p) = sn u g p := by
  pointwise [k0_pay13]
  simp only [q_th H]
  rfl
theorem q_sn1 (g : Fin 32) (p : Fin 64) : k0_pay16 (F := Ideal) x1 x2 (ix2 g p) = sn u g p := by
  pointwise [k0_pay16]
  simp only [q_th1 H]
  rfl
theorem q_cs1 (g : Fin 32) (p : Fin 64) : k0_pay17 (F := Ideal) x1 x2 (ix2 g p) = cs u g p := by
  pointwise [k0_pay17]
  simp only [q_th1 H]
  rfl
theorem q_bre (g : Fin 32) (p : Fin 64) : k0_pay14 (F := Ideal) x0 x1 x2 (ix2 g p) = bre u g p := by
  pointwise [k0_pay14]
  simp only [q_sz H, q_cs H]
  rfl
theorem q_bim (g : Fin 32) (p : Fin 64) : k0_pay18 (F := Ideal) x0 x1 x2 (ix2 g p) = bim u g p := by
  pointwise [k0_pay18]
  simp only [q_sz H, q_sn1 H]
  rfl
theorem q_den (g : Fin 32) (p : Fin 64) : k0_pay19 (F := Ideal) x0 x1 (ix2 g p) = den u g p := by
  pointwise [k0_pay19]
  simp only [q_lr H, q_li H]
  rfl
theorem q_am (g : Fin 32) (p : Fin 64) : k0_pay20 (F := Ideal) x0 x1 x2 (ix2 g p) = am u g p := by
  pointwise [k0_pay20]
  simp only [q_bre H]
  rfl
theorem q_am1 (g : Fin 32) (p : Fin 64) : k0_pay24 (F := Ideal) x0 x1 x2 (ix2 g p) = am u g p := by
  pointwise [k0_pay24]
  simp only [q_bre H]
  rfl
theorem q_nr (g : Fin 32) (p : Fin 64) : k0_pay21 (F := Ideal) x0 x1 x2 (ix2 g p) = nr u g p := by
  pointwise [k0_pay21]
  simp only [q_am H, q_bim H, q_lr H, q_li H]
  rfl
theorem q_ni (g : Fin 32) (p : Fin 64) : k0_pay25 (F := Ideal) x0 x1 x2 (ix2 g p) = ni u g p := by
  pointwise [k0_pay25]
  simp only [q_am1 H, q_bim H, q_lr H, q_li H]
  rfl
theorem q_qr (g : Fin 32) (p : Fin 64) : k0_pay22 (F := Ideal) x0 x1 x2 (ix2 g p) = qr u g p := by
  pointwise [k0_pay22]
  simp only [q_nr H, q_den H]
  rfl
theorem q_qi (g : Fin 32) (p : Fin 64) : k0_pay26 (F := Ideal) x0 x1 x2 (ix2 g p) = qi u g p := by
  pointwise [k0_pay26]
  simp only [q_ni H, q_den H]
  rfl
theorem q_wt (g : Fin 32) (p : Fin 64) : k0_pay23 (F := Ideal) x0 x1 (ix2 g p) = wt u g p := by
  pointwise [k0_pay23]
  simp only [q_den H]
  rfl
theorem q_wt1 (g : Fin 32) (p : Fin 64) : k0_pay29 (F := Ideal) (k0_pay27 x0 x1) k0_pay28 (ix2 g p) = wt u g p := by
  pointwise [k0_pay29, k0_pay28, k0_pay27]
  simp only [q_den H]
  rfl
theorem q_ci (g : Fin 32) (p : Fin 64) : k0_pay34 (F := Ideal) (k0_pay7 x3) (k0_pay8 x4) x7 x8 (ix2 g p) = ci u g p := by
  pointwise [k0_pay34, k0_pay32, k0_pay31, k0_pay30, k0_pay7, k0_pay8]
  simp only [H.h3, H.h4, H.h7, H.h8, Finset.univ_unique, Finset.sum_singleton, zero_sub]
  rfl
theorem q_cr (g : Fin 32) (p : Fin 64) : k0_pay36 (F := Ideal) (k0_pay7 x3) (k0_pay8 x4) x7 x8 (ix2 g p) = cr u g p := by
  pointwise [k0_pay36, k0_pay31, k0_pay30, k0_pay7, k0_pay8]
  simp only [H.h3, H.h4, H.h7, H.h8, Finset.univ_unique, Finset.sum_singleton]
  rfl
theorem q_fi (g : Fin 32) (p : Fin 64) : k0_pay37 (F := Ideal) (k0_pay19 x0 x1) (k0_pay34 (k0_pay7 x3) (k0_pay8 x4) x7 x8) (ix2 g p) = fi u g p := by
  pointwise [k0_pay37]
  simp only [q_ci H, q_den H]
  rfl
theorem q_nfi (g : Fin 32) (p : Fin 64) : k0_pay38 (F := Ideal) (k0_pay19 x0 x1) (k0_pay34 (k0_pay7 x3) (k0_pay8 x4) x7 x8) (ix2 g p) = -fi u g p := by
  pointwise [k0_pay38]
  simp only [q_fi H, zero_sub]
theorem q_fr (g : Fin 32) (p : Fin 64) : k0_pay40 (F := Ideal) (k0_pay19 x0 x1) (k0_pay36 (k0_pay7 x3) (k0_pay8 x4) x7 x8) (ix2 g p) = fr u g p := by
  pointwise [k0_pay40]
  simp only [q_cr H, q_den H]
  rfl
theorem q_ed (g : Fin 32) (p : Fin 64) : k0_pay39 (F := Ideal) (k0_pay21 x0 x1 x2) (k0_pay23 x0 x1) (k0_pay25 x0 x1 x2) (k0_pay29 (k0_pay27 x0 x1) k0_pay28) (k0_pay34 (k0_pay7 x3) (k0_pay8 x4) x7 x8) (k0_pay36 (k0_pay7 x3) (k0_pay8 x4) x7 x8) (ix2 g p) = ed u g p := by
  pointwise [k0_pay39]
  simp only [q_ci H, q_cr H, q_wt H, q_wt1 H, q_nr H, q_ni H, zero_sub]
  rfl
theorem q_zi (g : Fin 32) (p : Fin 64) : k0_pay41 (F := Ideal) (k0_pay5 x0) (k0_pay6 x1) (k0_pay19 x0 x1) x6 (k0_pay34 (k0_pay7 x3) (k0_pay8 x4) x7 x8) (k0_pay36 (k0_pay7 x3) (k0_pay8 x4) x7 x8) (ix2 g p) = zi u g p := by
  pointwise [k0_pay41]
  simp only [q_fi H, q_fr H, q_lr H, q_li H, H.h6]
  rfl
theorem q_zr (g : Fin 32) (p : Fin 64) : k0_pay42 (F := Ideal) (k0_pay5 x0) (k0_pay6 x1) (k0_pay19 x0 x1) x5 (k0_pay34 (k0_pay7 x3) (k0_pay8 x4) x7 x8) (k0_pay36 (k0_pay7 x3) (k0_pay8 x4) x7 x8) (ix2 g p) = zr u g p := by
  pointwise [k0_pay42]
  simp only [q_nfi H, q_fr H, q_lr H, q_li H, H.h5]
  rfl
theorem q_ur (g : Fin 32) (p : Fin 64) : k0_pay43 (F := Ideal) (k0_pay5 x0) (k0_pay18 x0 x1 x2) (k0_pay19 x0 x1) (k0_pay20 x0 x1 x2) (k0_pay21 x0 x1 x2) (k0_pay23 x0 x1) (k0_pay25 x0 x1 x2) (k0_pay29 (k0_pay27 x0 x1) k0_pay28) (k0_pay34 (k0_pay7 x3) (k0_pay8 x4) x7 x8) (k0_pay36 (k0_pay7 x3) (k0_pay8 x4) x7 x8) (ix2 g p) = ur u g p := by
  pointwise [k0_pay43]
  simp only [q_fi H, q_fr H, q_ed H, q_am H, q_bim H, q_lr H]
  rfl
theorem q_ks (g : Fin 32) (p : Fin 64) : k0_pay44 (F := Ideal) (k0_pay5 x0) (k0_pay6 x1) (k0_pay10 x0 x2) (k0_pay17 x1 x2) (k0_pay19 x0 x1) x6 (k0_pay34 (k0_pay7 x3) (k0_pay8 x4) x7 x8) (k0_pay36 (k0_pay7 x3) (k0_pay8 x4) x7 x8) (ix2 g p) = ks u g p := by
  pointwise [k0_pay44]
  simp only [q_sz H, q_zi H, q_cs1 H]
  rfl
theorem q_uk (g : Fin 32) (p : Fin 64) : k0_pay45 (F := Ideal) (k0_pay5 x0) (k0_pay6 x1) (k0_pay9 x2) (k0_pay10 x0 x2) (k0_pay17 x1 x2) (k0_pay18 x0 x1 x2) (k0_pay19 x0 x1) (k0_pay21 x0 x1 x2) (k0_pay23 x0 x1) (k0_pay24 x0 x1 x2) (k0_pay25 x0 x1 x2) (k0_pay29 (k0_pay27 x0 x1) k0_pay28) x6 (k0_pay34 (k0_pay7 x3) (k0_pay8 x4) x7 x8) (k0_pay36 (k0_pay7 x3) (k0_pay8 x4) x7 x8) (ix2 g p) = ui u g p + ks u g p * dt u g := by
  pointwise [k0_pay45]
  simp only [q_nfi H, q_fr H, q_ed H, q_am1 H, q_bim H, q_li H, q_ks H, q_dt H]
  rfl
theorem q_ds (g : Fin 32) (p : Fin 64) : k0_pay46 (F := Ideal) (k0_pay5 x0) (k0_pay6 x1) (k0_pay12 x1 x2) (k0_pay16 x1 x2) (k0_pay19 x0 x1) x5 x6 (k0_pay34 (k0_pay7 x3) (k0_pay8 x4) x7 x8) (k0_pay36 (k0_pay7 x3) (k0_pay8 x4) x7 x8) (ix2 g p) = ds u g p := by
  pointwise [k0_pay46]
  simp only [q_zi H, q_zr H, q_sn1 H, q_cs H]
  rfl
theorem q_kc (g : Fin 32) (p : Fin 64) : k0_pay47 (F := Ideal) (k0_pay5 x0) (k0_pay6 x1) (k0_pay10 x0 x2) (k0_pay13 x1 x2) (k0_pay19 x0 x1) x5 (k0_pay34 (k0_pay7 x3) (k0_pay8 x4) x7 x8) (k0_pay36 (k0_pay7 x3) (k0_pay8 x4) x7 x8) (ix2 g p) = kc u g p := by
  pointwise [k0_pay47]
  simp only [q_sz H, q_zr H, q_sn H, zero_sub]
  rfl
theorem q_kr (g : Fin 32) (p : Fin 64) : k0_pay2 (F := Ideal) (k0_pay10 x0 x2) (k0_pay46 (k0_pay5 x0) (k0_pay6 x1) (k0_pay12 x1 x2) (k0_pay16 x1 x2) (k0_pay19 x0 x1) x5 x6 (k0_pay34 (k0_pay7 x3) (k0_pay8 x4) x7 x8) (k0_pay36 (k0_pay7 x3) (k0_pay8 x4) x7 x8)) (ix2 g p) = kr u g p := by
  pointwise [k0_pay2]
  simp only [q_ds H, q_sz H]
  rfl
theorem q_sm (g : Fin 32) : k0_pay48 (F := Ideal) (k0_pay5 x0) (k0_pay6 x1) (k0_pay10 x0 x2) (k0_pay13 x1 x2) (k0_pay17 x1 x2) (k0_pay19 x0 x1) x5 x6 (k0_pay34 (k0_pay7 x3) (k0_pay8 x4) x7 x8) (k0_pay36 (k0_pay7 x3) (k0_pay8 x4) x7 x8) (ix2 g 0) = (∑ p, li u g p * ks u g p) + ∑ p, li u g p * kc u g p := by
  pointwise [k0_pay48]
  simp only [q_li H, q_ks H, q_kc H]
theorem q_glr (g : Fin 32) (p : Fin 64) : k0_pay3 (F := Ideal) (k0_pay9 x2) (k0_pay10 x0 x2) (k0_pay43 (k0_pay5 x0) (k0_pay18 x0 x1 x2) (k0_pay19 x0 x1) (k0_pay20 x0 x1 x2) (k0_pay21 x0 x1 x2) (k0_pay23 x0 x1) (k0_pay25 x0 x1 x2) (k0_pay29 (k0_pay27 x0 x1) k0_pay28) (k0_pay34 (k0_pay7 x3) (k0_pay8 x4) x7 x8) (k0_pay36 (k0_pay7 x3) (k0_pay8 x4) x7 x8)) (k0_pay46 (k0_pay5 x0) (k0_pay6 x1) (k0_pay12 x1 x2) (k0_pay16 x1 x2) (k0_pay19 x0 x1) x5 x6 (k0_pay34 (k0_pay7 x3) (k0_pay8 x4) x7 x8) (k0_pay36 (k0_pay7 x3) (k0_pay8 x4) x7 x8)) (ix2 g p) = glr u g p := by
  pointwise [k0_pay3]
  simp only [q_ur H, q_kr H, q_dt H]
  rfl
theorem q_gli (g : Fin 32) (p : Fin 64) : k0_pay1 (F := Ideal) (k0_pay9 x2) (k0_pay45 (k0_pay5 x0) (k0_pay6 x1) (k0_pay9 x2) (k0_pay10 x0 x2) (k0_pay17 x1 x2) (k0_pay18 x0 x1 x2) (k0_pay19 x0 x1) (k0_pay21 x0 x1 x2) (k0_pay23 x0 x1) (k0_pay24 x0 x1 x2) (k0_pay25 x0 x1 x2) (k0_pay29 (k0_pay27 x0 x1) k0_pay28) x6 (k0_pay34 (k0_pay7 x3) (k0_pay8 x4) x7 x8) (k0_pay36 (k0_pay7 x3) (k0_pay8 x4) x7 x8)) (k0_pay47 (k0_pay5 x0) (k0_pay6 x1) (k0_pay10 x0 x2) (k0_pay13 x1 x2) (k0_pay19 x0 x1) x5 (k0_pay34 (k0_pay7 x3) (k0_pay8 x4) x7 x8) (k0_pay36 (k0_pay7 x3) (k0_pay8 x4) x7 x8)) (ix2 g p) = gli u g p := by
  pointwise [k0_pay1]
  simp only [q_uk H, q_kc H, q_dt H]
  rfl
theorem q_gldt (g : Fin 32) : k0_pay4 (F := Ideal) (k0_pay5 x0) (k0_pay9 x2) (k0_pay10 x0 x2) (k0_pay46 (k0_pay5 x0) (k0_pay6 x1) (k0_pay12 x1 x2) (k0_pay16 x1 x2) (k0_pay19 x0 x1) x5 x6 (k0_pay34 (k0_pay7 x3) (k0_pay8 x4) x7 x8) (k0_pay36 (k0_pay7 x3) (k0_pay8 x4) x7 x8)) (k0_pay48 (k0_pay5 x0) (k0_pay6 x1) (k0_pay10 x0 x2) (k0_pay13 x1 x2) (k0_pay17 x1 x2) (k0_pay19 x0 x1) x5 x6 (k0_pay34 (k0_pay7 x3) (k0_pay8 x4) x7 x8) (k0_pay36 (k0_pay7 x3) (k0_pay8 x4) x7 x8)) (ix2 g 0) = gldt u g := by
  pointwise [k0_pay4]
  simp only [q_sm H, q_kr H, q_lr H, q_dt H]
  rfl
theorem q_gbr (h : Fin 16) (g : Fin 32) (p : Fin 64) : k0_pay35 (F := Ideal) (k0_pay22 x0 x1 x2) (k0_pay26 x0 x1 x2) x7 x8 (ix3 h g p) = gbr u g p h := by
  pointwise [k0_pay35, k0_pay30, k0_pay31]
  simp only [q_qr H, q_qi H, H.h7, H.h8]
  rfl
theorem q_gbi (h : Fin 16) (g : Fin 32) (p : Fin 64) : k0_pay33 (F := Ideal) (k0_pay22 x0 x1 x2) (k0_pay26 x0 x1 x2) x7 x8 (ix3 h g p) = gbi u g p h := by
  pointwise [k0_pay33, k0_pay32, k0_pay30, k0_pay31]
  simp only [q_qr H, q_qi H, H.h7, H.h8, zero_sub]
  rfl
end values

/-! ## The arrays after the region -/

theorem final9 : (dats m 0 c).arrAt 9 cfg0.N = fun i => glr (args m c) (i 0) (i 1) := by
  refine (dats m 0 c).arrAt_eq_of_covers 9 _ (by decide +kernel) fun t hf y => ?_
  blk_simp
  rw [after0_9]
  frame_out
  simp only [n49, n50, n51, n52, n53, n54, n55, n56, n57, n58, n59, n60, n61, n62, n63, n64, n65, n66, n67]
  rw [show (win0_9.blk t).view.emb y = y from by blk_ext [idx t]]
  idx_vars y
  exact q_glr (reads m c t) _ _
theorem final10 : (dats m 0 c).arrAt 10 cfg0.N = fun i => gli (args m c) (i 0) (i 1) := by
  refine (dats m 0 c).arrAt_eq_of_covers 10 _ (by decide +kernel) fun t hf y => ?_
  blk_simp
  rw [after0_10]
  frame_out
  simp only [n49, n50, n51, n52, n53, n54, n55, n56, n57, n58, n59, n60, n61, n62, n63, n64, n65, n66, n67]
  rw [show (win0_10.blk t).view.emb y = y from by blk_ext [idx t]]
  idx_vars y
  exact q_gli (reads m c t) _ _
theorem final11 : (dats m 0 c).arrAt 11 cfg0.N = fun i => gldt (args m c) (i 0) := by
  refine (dats m 0 c).arrAt_eq_of_covers 11 _ (by decide +kernel) fun t hf y => ?_
  blk_simp
  rw [after0_11]
  frame_out
  simp only [n49, n50, n51, n52, n53, n54, n55, n56, n57, n58, n59, n60, n61, n62, n63, n64, n65, n66, n67]
  rw [show (win0_11.blk t).view.emb y = y from by blk_ext [idx t]]
  idx_vars y
  rw [Subsingleton.elim y1 0]
  exact q_gldt (reads m c t) _
theorem final12 : (dats m 0 c).arrAt 12 cfg0.N = fun i => gbr (args m c) (i 1) (i 2) (i 0) := by
  refine (dats m 0 c).arrAt_eq_of_covers 12 _ (by decide +kernel) fun t hf y => ?_
  blk_simp
  rw [after0_12]
  frame_out
  simp only [n49, n50, n51, n52, n53, n54, n55, n56, n57, n58, n59, n60, n61, n62, n63, n64, n65, n66, n67]
  rw [show (win0_12.blk t).view.emb y = y from by blk_ext [idx t]]
  idx_vars y
  exact q_gbr (reads m c t) _ _ _
theorem final13 : (dats m 0 c).arrAt 13 cfg0.N = fun i => gbi (args m c) (i 1) (i 2) (i 0) := by
  refine (dats m 0 c).arrAt_eq_of_covers 13 _ (by decide +kernel) fun t hf y => ?_
  blk_simp
  rw [after0_13]
  frame_out
  simp only [n49, n50, n51, n52, n53, n54, n55, n56, n57, n58, n59, n60, n61, n62, n63, n64, n65, n66, n67]
  rw [show (win0_13.blk t).view.emb y = y from by blk_ext [idx t]]
  idx_vars y
  exact q_gbi (reads m c t) _ _ _

end Cert.Kernel5Ideal.Val

end
-- ==== Proof.DiscReference.lean ====
/- Call 5, the reference's side: each result read at an index, as the functions of `DiscRows`. -/
module

public import proofs.«01_k».proof.Proof.Gen.Reference5Ideal.Read
public import proofs.«01_k».proof.Proof.DiscRows

@[expose] public section

set_option maxRecDepth 16384

noncomputable section

open Idealize.ShloMosaic Idealize.ShloMosaic.TcCoe Idealize.SL.Sem

namespace Cert.Reference5Ideal.Val

open Cert.Reference5Ideal Cert.Reference5Ideal.Gen Cert.Reference5Ideal.Read Cert.Steps Cert.Steps.Disc

variable (u : Args) (g : Fin 32) (p : Fin 64) (h : Fin 16)

theorem r_lr : val_main_v0 (F := Ideal) u.lr (ix2 g p) = lr u g p := by
  pointwise [val_main_v0]
  rfl

theorem r_li : val_main_v1 (F := Ideal) u.li (ix2 g p) = li u g p := by
  pointwise [val_main_v1]
  rfl

theorem r_dt1 : val_main_v5 (F := Ideal) u.ldt (ix1 g) = dt u g := by
  pointwise [val_main_v2, val_main_v5]
  rfl

theorem r_sz : val_main_v9 (F := Ideal) u.lr u.ldt (ix2 g p) = sz u g p := by
  pointwise [val_main_v6, val_main_v7, val_main_v8, val_main_v9]
  simp only [r_lr, r_dt1]
  rfl

theorem r_cs : val_main_v12 (F := Ideal) u.li u.ldt (ix2 g p) = cs u g p := by
  pointwise [val_main_v6, val_main_v10, val_main_v11, val_main_v12]
  simp only [r_li, r_dt1]
  rfl

theorem r_sn : val_main_v13 (F := Ideal) u.li u.ldt (ix2 g p) = sn u g p := by
  pointwise [val_main_v6, val_main_v10, val_main_v11, val_main_v13]
  simp only [r_li, r_dt1]
  rfl

theorem r_sn1 : val_main_v17 (F := Ideal) u.li u.ldt (ix2 g p) = sn u g p := by
  pointwise [val_main_v6, val_main_v15, val_main_v16, val_main_v17]
  simp only [r_li, r_dt1]
  rfl

theorem r_cs1 : val_main_v18 (F := Ideal) u.li u.ldt (ix2 g p) = cs u g p := by
  pointwise [val_main_v6, val_main_v15, val_main_v16, val_main_v18]
  simp only [r_li, r_dt1]
  rfl

theorem r_bre : val_main_v14 (F := Ideal) u.lr u.li u.ldt (ix2 g p) = bre u g p := by
  pointwise [val_main_v14]
  simp only [r_sz, r_cs]
  rfl

theorem r_bim : val_main_v19 (F := Ideal) u.lr u.li u.ldt (ix2 g p) = bim u g p := by
  pointwise [val_main_v19]
  simp only [r_sz, r_sn1]
  rfl

theorem r_den : val_main_v22 (F := Ideal) u.lr u.li (ix2 g p) = den u g p := by
  pointwise [val_main_v20, val_main_v21, val_main_v22]
  simp only [r_lr, r_li]
  rfl

theorem r_am : val_main_v24 (F := Ideal) u.lr u.li u.ldt (ix2 g p) = am u g p := by
  pointwise [val_main_cst, val_main_v23, val_main_v24]
  simp only [r_bre]
  rfl

theorem r_am1 : val_main_v35 (F := Ideal) u.lr u.li u.ldt (ix2 g p) = am u g p := by
  pointwise [val_main_cst_1, val_main_v34, val_main_v35]
  simp only [r_bre]
  rfl

theorem r_nr : val_main_v27 (F := Ideal) u.lr u.li u.ldt (ix2 g p) = nr u g p := by
  pointwise [val_main_v25, val_main_v26, val_main_v27]
  simp only [r_am, r_lr, r_bim, r_li]
  rfl

theorem r_ni : val_main_v37 (F := Ideal) u.lr u.li u.ldt (ix2 g p) = ni u g p := by
  pointwise [val_main_v33, val_main_v36, val_main_v37]
  simp only [r_bim, r_lr, r_am1, r_li]
  rfl

theorem r_qr : val_main_v28 (F := Ideal) u.lr u.li u.ldt (ix2 g p) = qr u g p := by
  pointwise [val_main_v28]
  simp only [r_nr, r_den]
  rfl

theorem r_qi : val_main_v38 (F := Ideal) u.lr u.li u.ldt (ix2 g p) = qi u g p := by
  pointwise [val_main_v38]
  simp only [r_ni, r_den]
  rfl

theorem r_wt : val_main_v31 (F := Ideal) u.lr u.li (ix2 g p) = wt u g p := by
  pointwise [val_main_cst_0, val_main_v30, val_main_v29, val_main_v31]
  simp only [r_den]
  rfl

theorem r_wt1 : val_main_v41 (F := Ideal) u.lr u.li (ix2 g p) = wt u g p := by
  pointwise [val_main_cst_2, val_main_v40, val_main_v39, val_main_v41]
  simp only [r_den]
  rfl

theorem r_ci : val_main_v81 (F := Ideal) u.br u.bi u.dr u.di (ix2 g p) = ci u g p := by
  pointwise [val_main_v54, val_main_v3, val_main_v57, val_main_cst_3, val_main_v58, val_main_v59, val_main_v66, val_main_v4, val_main_v70, val_main_cst_5, val_main_v71, val_main_v72, val_main_v73, val_main_cst_7, val_main_v81]
  simp only [Finset.univ_unique, Finset.sum_singleton]
  rfl

theorem r_cr : val_main_v93 (F := Ideal) u.br u.bi u.dr u.di (ix2 g p) = cr u g p := by
  pointwise [val_main_v53, val_main_v4, val_main_v62, val_main_cst_4, val_main_v63, val_main_v64, val_main_v65, val_main_v3, val_main_v77, val_main_cst_6, val_main_v78, val_main_v79, val_main_v80, val_main_cst_8, val_main_v93]
  simp only [Finset.univ_unique, Finset.sum_singleton]
  rfl

theorem r_gbr : val_main_v76 (F := Ideal) u.lr u.li u.ldt u.dr u.di (ix3 g p h) = gbr u g p h := by
  pointwise [val_main_v42, val_main_v55, val_main_v54, val_main_v56, val_main_v32, val_main_v74, val_main_v65, val_main_v75, val_main_v76]
  simp only [r_qi, r_qr]
  rfl

theorem r_gbi : val_main_v69 (F := Ideal) u.lr u.li u.ldt u.dr u.di (ix3 g p h) = gbi u g p h := by
  pointwise [val_main_v32, val_main_v60, val_main_v53, val_main_v61, val_main_v42, val_main_v67, val_main_v66, val_main_v68, val_main_v69]
  simp only [r_qr, r_qi]
  rfl

theorem r_fi : val_main_v85 (F := Ideal) u.lr u.li u.br u.bi u.dr u.di (ix2 g p) = fi u g p := by
  pointwise [val_main_v85]
  simp only [r_ci, r_den]
  rfl

theorem r_fr : val_main_v98 (F := Ideal) u.lr u.li u.br u.bi u.dr u.di (ix2 g p) = fr u g p := by
  pointwise [val_main_v98]
  simp only [r_cr, r_den]
  rfl

theorem r_ed : val_main_v97 (F := Ideal) u.lr u.li u.ldt u.br u.bi u.dr u.di (ix2 g p) = ed u g p := by
  pointwise [val_main_v82, val_main_v83, val_main_v84, val_main_v94, val_main_v95, val_main_v96, val_main_v97]
  simp only [r_ci, r_wt1, r_ni, r_cr, r_wt, r_nr]
  rfl

theorem r_zr : val_main_v106 (F := Ideal) u.lr u.li u.br u.bi u.dlr u.dr u.di (ix2 g p) = zr u g p := by
  pointwise [val_main_v86, val_main_v88, val_main_v89, val_main_v105, val_main_v106]
  simp only [r_fi, r_li, r_fr, r_lr]
  rfl

theorem r_zi : val_main_v102 (F := Ideal) u.lr u.li u.br u.bi u.dli u.dr u.di (ix2 g p) = zi u g p := by
  pointwise [val_main_v91, val_main_v92, val_main_v101, val_main_v102]
  simp only [r_fi, r_lr, r_fr, r_li]
  rfl

theorem r_ur : val_main_v114 (F := Ideal) u.lr u.li u.ldt u.br u.bi u.dr u.di (ix2 g p) = ur u g p := by
  pointwise [val_main_v90, val_main_v103, val_main_v104, val_main_v111, val_main_v112, val_main_v113, val_main_v114]
  simp only [r_bim, r_fi, r_am, r_fr, r_lr, r_ed]
  rfl

theorem r_ui : val_main_v110 (F := Ideal) u.lr u.li u.ldt u.br u.bi u.dr u.di (ix2 g p) = ui u g p := by
  pointwise [val_main_v86, val_main_v87, val_main_v99, val_main_v100, val_main_v107, val_main_v108, val_main_v109, val_main_v110]
  simp only [r_am1, r_fi, r_bim, r_fr, r_li, r_ed]
  rfl

theorem r_ks : val_main_v117 (F := Ideal) u.lr u.li u.ldt u.br u.bi u.dli u.dr u.di (ix2 g p) = ks u g p := by
  pointwise [val_main_v115, val_main_v117]
  simp only [r_sz, r_zi, r_cs1]
  rfl

theorem r_kc : val_main_v128 (F := Ideal) u.lr u.li u.ldt u.br u.bi u.dlr u.dr u.di (ix2 g p) = kc u g p := by
  pointwise [val_main_v124, val_main_v127, val_main_v128]
  simp only [r_sz, r_zr, r_sn]
  rfl

theorem r_ds : val_main_v126 (F := Ideal) u.lr u.li u.ldt u.br u.bi u.dlr u.dli u.dr u.di (ix2 g p) = ds u g p := by
  pointwise [val_main_v116, val_main_v125, val_main_v126]
  simp only [r_zi, r_sn1, r_zr, r_cs]
  rfl

theorem r_kr : val_main_v136 (F := Ideal) u.lr u.li u.ldt u.br u.bi u.dlr u.dli u.dr u.di (ix2 g p) = kr u g p := by
  pointwise [val_main_v136]
  simp only [r_ds, r_sz]
  rfl

theorem r_glr : val_main_v143 (F := Ideal) u.lr u.li u.ldt u.br u.bi u.dlr u.dli u.dr u.di (ix2 g p) = glr u g p := by
  pointwise [val_main_v6, val_main_v141, val_main_v142, val_main_v143]
  simp only [r_ur, r_kr, r_dt1]
  rfl

theorem r_gli : val_main_v135 (F := Ideal) u.lr u.li u.ldt u.br u.bi u.dlr u.dli u.dr u.di (ix2 g p) = gli u g p := by
  pointwise [val_main_v6, val_main_v121, val_main_v122, val_main_v123, val_main_v133, val_main_v134, val_main_v135]
  simp only [r_ui, r_ks, r_dt1, r_kc]
  rfl

theorem r_gldt : val_main_v146 (F := Ideal) u.lr u.li u.ldt u.br u.bi u.dlr u.dli u.dr u.di (ix2 0 g) = gldt u g := by
  pointwise [val_main_v118, val_main_cst_9, val_main_v119, val_main_v120, val_main_v129, val_main_cst_10, val_main_v130, val_main_v131, val_main_v132, val_main_v137, val_main_cst_11, val_main_v138, val_main_v139, val_main_v140, val_main_cst_12, val_main_v144, val_main_v145, val_main_v146]
  simp only [r_li, r_ks, r_kc, r_lr, r_kr, r_dt1]
  simp only [Finset.univ_unique, Finset.sum_singleton]
  rfl

end Cert.Reference5Ideal.Val

end
-- ==== Proof.Disc.lean ====
/- Call 5: its claims. -/
module

public import proofs.«01_k».proof.Defs
public import proofs.«01_k».proof.Proof.Gen.Kernel5
public import proofs.«01_k».proof.Proof.Gen.Kernel5.Frame
public import proofs.«01_k».proof.Proof.DiscKernel
public import proofs.«01_k».proof.Proof.DiscReference
public import Idealize.ShloMosaic.Lib.Quiescent

@[expose] public section

set_option maxRecDepth 16384

noncomputable section

open Idealize.ShloMosaic Idealize.ShloMosaic.TcCoe Idealize.SL.Sem

open Idealize.ShloMosaic.Pipeline (Dat)

namespace Cert.Steps.Disc

open Cert.Steps

/-! ## The five results, as functions of the arguments -/

def Glr (u : Args) : FVec Ideal ⟨2, ![32, 64]⟩ .f32 := fun i => glr u (i 0) (i 1)
def Gli (u : Args) : FVec Ideal ⟨2, ![32, 64]⟩ .f32 := fun i => gli u (i 0) (i 1)
def Gldt (u : Args) : FVec Ideal ⟨2, ![1, 32]⟩ .f32 := fun i => gldt u (i 1)
def Gbr (u : Args) : FVec Ideal ⟨3, ![32, 64, 16]⟩ .f32 := fun i => gbr u (i 0) (i 1) (i 2)
def Gbi (u : Args) : FVec Ideal ⟨3, ![32, 64, 16]⟩ .f32 := fun i => gbi u (i 0) (i 1) (i 2)

section reference
open Cert.Reference5Ideal Cert.Reference5Ideal.Read Cert.Reference5Ideal.Val

variable (u : Args)

theorem o_glr : val_main_v143 (F := Ideal) u.lr u.li u.ldt u.br u.bi u.dlr u.dli u.dr u.di = Glr u := funext fun i => by
  idx_vars i; exact r_glr u _ _
theorem o_gli : val_main_v135 (F := Ideal) u.lr u.li u.ldt u.br u.bi u.dlr u.dli u.dr u.di = Gli u := funext fun i => by
  idx_vars i; exact r_gli u _ _
theorem o_gldt : val_main_v146 (F := Ideal) u.lr u.li u.ldt u.br u.bi u.dlr u.dli u.dr u.di = Gldt u := funext fun i => by
  obtain ⟨a, k, rfl⟩ : ∃ (a : Fin 1) (k : Fin 32), i = ix2 a k := ⟨i 0, i 1, (ix2_eta i).symm⟩
  rw [Subsingleton.elim a 0]; exact r_gldt u _
theorem o_gbr : val_main_v76 (F := Ideal) u.lr u.li u.ldt u.dr u.di = Gbr u := funext fun i => by
  idx_vars i; exact r_gbr u _ _ _
theorem o_gbi : val_main_v69 (F := Ideal) u.lr u.li u.ldt u.dr u.di = Gbi u := funext fun i => by
  idx_vars i; exact r_gbi u _ _ _

end reference

section kernel
open Cert.Kernel5Ideal Cert.Kernel5Ideal.Gen Cert.Kernel5Ideal.Val

variable (m : (ℓ : Loc nD τ sig) → Buf (Elt Ideal) ℓ) (c : Dev nD)

/-- The arrays of the region are in the valuation that the lines after it read. -/
theorem arr_in (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 launch0.win.arr_inj c (V0 m c) _ w

theorem end11 : Pipeline.afterTail₀ cfgs (dats m) 0 (V0 m) [hostOps1] c main_v11 = Gldt (args m c) := by
  unfold Pipeline.afterTail₀
  simp only [hostOps1, List.flatten_cons, List.flatten_nil, List.append_nil]
  entry_read
  refine (congrArg (shapeCast S1x32 · shapeCasts_S32x1_S1x32) ((arr_in m c 11).trans (final11 m c))).trans ?_
  refine funext fun i => ?_
  pointwise []
  rfl
theorem end12 : Pipeline.afterTail₀ cfgs (dats m) 0 (V0 m) [hostOps1] c main_v12 = Gbr (args m c) := by
  unfold Pipeline.afterTail₀
  simp only [hostOps1, List.flatten_cons, List.flatten_nil, List.append_nil]
  entry_read
  refine (congrArg (transpose S32x64x16 [1, 2, 0] · transposes_S16x32x64_S32x64x16_1_2_0) ((arr_in m c 12).trans (final12 m c))).trans ?_
  refine funext fun i => ?_
  pointwise []
  rfl
theorem end13 : Pipeline.afterTail₀ cfgs (dats m) 0 (V0 m) [hostOps1] c main_v13 = Gbi (args m c) := by
  unfold Pipeline.afterTail₀
  simp only [hostOps1, List.flatten_cons, List.flatten_nil, List.append_nil]
  entry_read
  refine (congrArg (transpose S32x64x16 [1, 2, 0] · transposes_S16x32x64_S32x64x16_1_2_0) ((arr_in m c 13).trans (final13 m c))).trans ?_
  refine funext fun i => ?_
  pointwise []
  rfl

end kernel

/-! ## The claims -/

theorem frame_kernel : Cert.quiescent_Kernel5 := fun m ρ _ => Cert.Kernel5.Gen.frame m ρ
theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono
    (fun r h => ⟨fun c => (h c).2.2.2.2.2, sem_eq_zero_of_no_sems (by decide) r.2⟩)
    (Cert.Reference5Ideal.Value.run m ρ)

open Cert.Kernel5Ideal.Val Cert.Reference5Ideal.Read in
theorem value : Cert.algebraic_Kernel5Ideal_Reference5Ideal := by
  intro m g m' g' _ hagree
  refine ⟨fun c => Glr (args m c), fun c => Gli (args m c), fun c => Gldt (args m c), fun c => Gbr (args m c), fun c => Gbi (args m c), ?_, ?_⟩
  · refine (θ_run Cert.Kernel5Ideal.defs _ _).mono (fun r h c => ?_) (θ_run_and (Cert.Kernel5Ideal.Gen.unchanged m g) (Cert.Kernel5Ideal.Gen.run_main m g))
    exact ⟨((h.2 c).1 9).trans (final9 m c), ((h.2 c).1 10).trans (final10 m c),
      ((h.2 c).2 Cert.Kernel5Ideal.main_v11 (Pipeline.mem_restRefs_of Cert.Kernel5Ideal.main_v11 (by decide) (by decide))).trans (end11 m c),
      ((h.2 c).2 Cert.Kernel5Ideal.main_v12 (Pipeline.mem_restRefs_of Cert.Kernel5Ideal.main_v12 (by decide) (by decide))).trans (end12 m c),
      ((h.2 c).2 Cert.Kernel5Ideal.main_v13 (Pipeline.mem_restRefs_of Cert.Kernel5Ideal.main_v13 (by decide) (by decide))).trans (end13 m c), h.1 c⟩
  · refine (θ_run Cert.Reference5Ideal.defs _ _).mono (fun r h c => ?_) (Cert.Reference5Ideal.Value.run m' g')
    obtain ⟨a0, a1, a2, a3, a4, a5, a6, a7, a8⟩ := hagree c
    have key : ∀ {β : Type} (f : FVec Ideal ⟨3, ![1, 32, 64]⟩ .f32 → FVec Ideal ⟨3, ![1, 32, 64]⟩ .f32 → FVec Ideal ⟨2, ![1, 32]⟩ .f32 → FVec Ideal ⟨4, ![1, 32, 64, 16]⟩ .f32 → FVec Ideal ⟨4, ![1, 32, 64, 16]⟩ .f32 → FVec Ideal ⟨2, ![32, 64]⟩ .f32 → FVec Ideal ⟨2, ![32, 64]⟩ .f32 → FVec Ideal ⟨3, ![32, 64, 16]⟩ .f32 → FVec Ideal ⟨3, ![32, 64, 16]⟩ .f32 → β),
        f (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) (m' ((c.tc : Thread _ _).loc Cert.Reference5Ideal.main_arg4)) (m' ((c.tc : Thread _ _).loc Cert.Reference5Ideal.main_arg5)) (m' ((c.tc : Thread _ _).loc Cert.Reference5Ideal.main_arg6)) (m' ((c.tc : Thread _ _).loc Cert.Reference5Ideal.main_arg7)) (m' ((c.tc : Thread _ _).loc Cert.Reference5Ideal.main_arg8))
        = f (args m c).lr (args m c).li (args m c).ldt (args m c).br (args m c).bi (args m c).dlr (args m c).dli (args m c).dr (args m c).di := by
      intro β f
      rw [a0, a1, a2, a3, a4, a5, a6, a7, a8]
      rfl
    obtain ⟨h0, h1, h2, h3, h4, ha⟩ := h c
    refine ⟨h0.trans ?_, h1.trans ?_, h2.trans ?_, h3.trans ?_, h4.trans ?_, ha⟩
    · exact (val_main_v143_eq m' c).trans ((key fun lr li ldt br bi dlr dli dr di => val_main_v143 (F := Ideal) lr li ldt br bi dlr dli dr di).trans (o_glr (args m c)))
    · exact (val_main_v135_eq m' c).trans ((key fun lr li ldt br bi dlr dli dr di => val_main_v135 (F := Ideal) lr li ldt br bi dlr dli dr di).trans (o_gli (args m c)))
    · exact (val_main_v146_eq m' c).trans ((key fun lr li ldt br bi dlr dli dr di => val_main_v146 (F := Ideal) lr li ldt br bi dlr dli dr di).trans (o_gldt (args m c)))
    · exact (val_main_v76_eq m' c).trans ((key fun lr li ldt br bi dlr dli dr di => val_main_v76 (F := Ideal) lr li ldt dr di).trans (o_gbr (args m c)))
    · exact (val_main_v69_eq m' c).trans ((key fun lr li ldt br bi dlr dli dr di => val_main_v69 (F := Ideal) lr li ldt dr di).trans (o_gbi (args m c)))

end Cert.Steps.Disc

end
-- ==== Proof.Ada.lean ====
/- Call 6: the backward of the adaLN product, what it computes and its claims. -/
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.Steps.Ada

variable (c : FVec Ideal ⟨2, ![32, 1024]⟩ .f32) (d : FVec Ideal ⟨2, ![32, 1536]⟩ .f32) (e : FVec Ideal ⟨2, ![32, 6144]⟩ .f32)

/-- The gradient of the weight: the transposed activation of the conditioning times the cotangent. -/
def Gw : FVec Ideal ⟨2, ![1024, 1536]⟩ .f32 := fun i =>
  ∑ s : Fin 32, c (ix2 s (i 0)) * Ideal.logistic (c (ix2 s (i 0))) * d (ix2 s (i 1))

/-- The gradient of the bias: the cotangent summed over the sequences. -/
def Gb : FVec Ideal ⟨2, ![1, 6144]⟩ .f32 := fun i => ∑ s : Fin 32, e (ix2 s (i 1))

section kernel
open Cert.Kernel6Ideal Cert.Kernel6Ideal.Gen

theorem k_gw : k0_pay1 (F := Ideal) c d = Gw c d := funext fun i => by
  idx_vars i
  pointwise [k0_pay1]
  rfl

theorem k_gb : k0_pay2 (F := Ideal) e = Gb e := funext fun i => by
  obtain ⟨a, k, rfl⟩ : ∃ (a : Fin 1) (k : Fin 6144), i = ix2 a k := ⟨i 0, i 1, (ix2_eta i).symm⟩
  rw [Subsingleton.elim a 0]
  pointwise [k0_pay2]
  rfl

end kernel

section reference
open Cert.Reference6Ideal Cert.Reference6Ideal.Read

theorem r_act (i : S32x1024.Idx) : val_main_v0 (F := Ideal) c i = c i * Ideal.logistic (c i) := by
  pointwise [val_main_v0, val_main_call0_v5, val_main_call0_v4, val_main_call0_v3, val_main_call0_v2, val_main_call0_v1, val_main_call0_v0,
    val_main_call0_cst, val_main_call0_cst_0]
  rfl

theorem r_gw : val_main_v17 (F := Ideal) c d = Gw c d := funext fun i => by
  idx_vars i
  pointwise [val_main_v17, val_main_v6, val_main_v5, val_main_v4]
  simp only [r_act]
  exact Finset.sum_congr rfl fun s _ => mul_comm _ _

theorem r_gb : val_main_v16 (F := Ideal) e = Gb e := funext fun i => by
  obtain ⟨a, k, rfl⟩ : ∃ (a : Fin 1) (k : Fin 6144), i = ix2 a k := ⟨i 0, i 1, (ix2_eta i).symm⟩
  rw [Subsingleton.elim a 0]
  pointwise [val_main_v16, val_main_v15, val_main_v14, val_main_v13, val_main_cst_2, val_main_cst_3]
  simp only [Finset.univ_unique, Finset.sum_singleton]
  rfl

end reference

/-! ## The claims -/

theorem frame_kernel : Cert.quiescent_Kernel6 := fun m ρ _ => Cert.Kernel6.Gen.frame m ρ
theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run m ρ)

theorem value : Cert.algebraic_Kernel6Ideal_Reference6Ideal := by
  intro m g m' g' _ hagree
  refine ⟨fun c => Gw (m ((c.tc : Thread _ _).loc Cert.Kernel6Ideal.main_arg0)) (m ((c.tc : Thread _ _).loc Cert.Kernel6Ideal.main_arg1)),
    fun c => Gb (m ((c.tc : Thread _ _).loc Cert.Kernel6Ideal.main_arg2)), ?_, ?_⟩
  · exact (θ_run Cert.Kernel6Ideal.defs _ _).mono
      (fun r h c => ⟨(h c).1.trans (k_gw _ _), (h c).2.1.trans (k_gb _), (h c).2.2⟩) (Cert.Kernel6Ideal.Value.run m g)
  · refine (θ_run Cert.Reference6Ideal.defs _ _).mono (fun r h c => ?_) (Cert.Reference6Ideal.Value.run m' g')
    obtain ⟨a0, a1, a2⟩ := hagree c
    refine ⟨(h c).1.trans ?_, (h c).2.1.trans ?_, (h c).2.2⟩
    · rw [a0, a1]
      exact (Cert.Reference6Ideal.Read.val_main_v17_eq _ _).trans (r_gw _ _)
    · rw [a2]
      exact (Cert.Reference6Ideal.Read.val_main_v16_eq _).trans (r_gb _)

end Cert.Steps.Ada

end
-- ==== Proof.MixFwdKernel.lean ====
/- Call 7, the version's side: the blocks of a grid point and what is computed from them, read at an index, as functions of the arguments,
   and the result array. -/
module

public import proofs.«01_k».proof.Proof.Gen.Kernel7Ideal.Value
public import proofs.«01_k».proof.Proof.MixRows
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Kernel7Ideal.Val

open Cert.Kernel7Ideal Cert.Kernel7Ideal.Gen Cert.Steps Cert.Steps.Mix

variable (m : (ℓ : Loc nD τ sig) → Buf (Elt Ideal) ℓ)

/-- The ten arrays at the launch. The third is what the mixer's output is added to. -/
def args (c : Dev nD) : Args where
  p := m ((c : Thread nD τ).loc main_arg0)
  y := m ((c : Thread nD τ).loc main_arg1)
  dx := m ((c : Thread nD τ).loc main_arg2)
  g1 := m ((c : Thread nD τ).loc main_arg3)
  wg := m ((c : Thread nD τ).loc main_arg4)
  bg := m ((c : Thread nD τ).loc main_arg5)
  cw := m ((c : Thread nD τ).loc main_arg6)
  ws := m ((c : Thread nD τ).loc main_arg7)
  wc := m ((c : Thread nD τ).loc main_arg8)
  wo := m ((c : Thread nD τ).loc main_arg9)

/-! ## The arrays the region reads -/

theorem e3 (c : Dev nD) (i : S8192x4096.Idx) (b : Fin 4) (l : Fin 2048) (k : Fin 4096) (h0 : (i 0).val = b.val * 2048 + l.val)
    (h1 : (i 1).val = k.val) : V m c main_v3 i = (args m c).p (ix3 b l k) := by
  simp only [V, hostOps0, hostOps0_1, hostOps0_2, List.flatten_cons, List.flatten_nil, List.append_nil, List.cons_append, List.nil_append]
  entry_read; pointwise []; refine congrArg _ ?_; blk_ext []
theorem e4 (c : Dev nD) (i : S8192x512.Idx) (b : Fin 4) (l : Fin 2048) (k : Fin 512) (h0 : (i 0).val = b.val * 2048 + l.val)
    (h1 : (i 1).val = k.val) : V m c main_v4 i = (args m c).y (ix3 b l k) := by
  simp only [V, hostOps0, hostOps0_1, hostOps0_2, List.flatten_cons, List.flatten_nil, List.append_nil, List.cons_append, List.nil_append]
  entry_read; pointwise []; refine congrArg _ ?_; blk_ext []
theorem e5 (c : Dev nD) (i : S8192x1024.Idx) (b : Fin 4) (l : Fin 2048) (k : Fin 1024) (h0 : (i 0).val = b.val * 2048 + l.val)
    (h1 : (i 1).val = k.val) : V m c main_v5 i = (args m c).dx (ix3 b l k) := by
  simp only [V, hostOps0, hostOps0_1, hostOps0_2, List.flatten_cons, List.flatten_nil, List.append_nil, List.cons_append, List.nil_append]
  entry_read; pointwise []; refine congrArg _ ?_; blk_ext []
theorem e6 (c : Dev nD) (i : S4x1x1024.Idx) : V m c main_v6 i = (args m c).g1 (ix2 (i 0) (i 2)) := by
  simp only [V, hostOps0, hostOps0_1, hostOps0_2, List.flatten_cons, List.flatten_nil, List.append_nil, List.cons_append, List.nil_append]
  entry_read; pointwise []; rfl
theorem e8 (c : Dev nD) (i : S512x512.Idx) : V m c main_v8 i = (args m c).wg (ix3 0 (i 0) (i 1)) := by
  simp only [V, hostOps0, hostOps0_1, hostOps0_2, List.flatten_cons, List.flatten_nil, List.append_nil, List.cons_append, List.nil_append]
  entry_read; pointwise []; rfl
theorem row_of (x : FVec Ideal S1x3x512 .f32) (g : Fin 3) (k : Fin 512) : shapeCast S3x512 x shapeCasts_S1x3x512_S3x512 (ix2 g k) = x (ix3 0 g k) := by
  pointwise []
theorem e1 (c : Dev nD) (i : S8x512.Idx) (g : Fin 3) (h : (i 0).val = g.val) : V m c main_v1 i = (args m c).cw (ix3 0 g (i 1)) := by
  simp only [V, hostOps0, hostOps0_1, hostOps0_2, List.flatten_cons, List.flatten_nil, List.append_nil, List.cons_append, List.nil_append]
  entry_read
  refine (pad_apply_of_inside (s := S3x512) (t := S8x512) ![0, 0] ![5, 0] ![0, 0] (shapeCast S3x512 (m ((c : Thread nD τ).loc main_arg6)) shapeCasts_S1x3x512_S3x512) _ pads_S3x512_S8x512_050_000 h_S_ i (ix2 g (i 1)) fun a => ?_).trans ?_
  · fin_cases a
    · show (i 0).val = 0 + g.val * 1; omega
    · show (i 1).val = 0 + (i 1).val * 1; omega
  · exact row_of _ g (i 1)
theorem e10 (c : Dev nD) (i : S512x1024.Idx) : V m c main_v10 i = (args m c).ws (ix3 0 (i 0) (i 1)) := by
  simp only [V, hostOps0, hostOps0_1, hostOps0_2, List.flatten_cons, List.flatten_nil, List.append_nil, List.cons_append, List.nil_append]
  entry_read; pointwise []; rfl
theorem e12 (c : Dev nD) (i : S512x1024.Idx) : V m c main_v12 i = (args m c).wc (ix3 0 (i 0) (i 1)) := by
  simp only [V, hostOps0, hostOps0_1, hostOps0_2, List.flatten_cons, List.flatten_nil, List.append_nil, List.cons_append, List.nil_append]
  entry_read; pointwise []; rfl
theorem e14 (c : Dev nD) (i : S1024x1024.Idx) : V m c main_v14 i = (args m c).wo (ix3 0 (i 0) (i 1)) := by
  simp only [V, hostOps0, hostOps0_1, hostOps0_2, List.flatten_cons, List.flatten_nil, List.append_nil, List.cons_append, List.nil_append]
  entry_read; pointwise []; rfl

theorem idx : ∀ t : Fin cfg0.N, win0_0.index t = ![t.val, 1] ∧ win0_1.index t = ![t.val, 2] ∧ win0_2.index t = ![t.val, 3]
    ∧ win0_3.index t = ![t.val, 2] ∧ win0_4.index t = ![t.val, 3] ∧ win0_5.index t = ![t.val * 32 - 1, 2]
    ∧ win0_6.index t = ![t.val * 32 - 1, 3] ∧ win0_7.index t = ![t.val, 0] ∧ win0_8.index t = ![t.val, 0]
    ∧ win0_9.index t = ![t.val / 4, 0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![t.val, 0] :=
  (by decide +kernel : ∀ t : Fin grid0.N, _)

theorem pts (t : Fin cfg0.N) : t.val < 16 := lt_of_lt_of_eq t.isLt (show cfg0.N = 16 from N_0)

/-- The sequence of grid point `t`, and the position of row `r` of its block. -/
abbrev bAt (t : Fin cfg0.N) : Fin 4 := ⟨t.val / 4, by have := pts t; omega⟩
abbrev lAt (t : Fin cfg0.N) (r : Fin 512) : Fin 2048 := ⟨t.val % 4 * 512 + r.val, by omega⟩

section point
variable (c : Dev nD) (t : Fin cfg0.N) (r : Fin 512)

theorem b0 (k : Fin 512) : iblk m c 0 t (ix2 r k) = cb (args m c) (bAt t) (lAt t r) k := by
  blk_simp [iblk]
  exact e3 m c _ (bAt t) (lAt t r) ⟨512 + k.val, by omega⟩ (by blk_simp [idx t]; show _ = t.val / 4 * 2048 + (t.val % 4 * 512 + r.val); omega) (by blk_simp [idx t])
theorem b1 (k : Fin 512) : iblk m c 1 t (ix2 r k) = cc (args m c) (bAt t) (lAt t r) k := by
  blk_simp [iblk]
  exact e3 m c _ (bAt t) (lAt t r) ⟨1024 + k.val, by omega⟩ (by blk_simp [idx t]; show _ = t.val / 4 * 2048 + (t.val % 4 * 512 + r.val); omega) (by blk_simp [idx t])
theorem b2 (k : Fin 512) : iblk m c 2 t (ix2 r k) = cx (args m c) (bAt t) (lAt t r) k := by
  blk_simp [iblk]
  exact e3 m c _ (bAt t) (lAt t r) ⟨1536 + k.val, by omega⟩ (by blk_simp [idx t]; show _ = t.val / 4 * 2048 + (t.val % 4 * 512 + r.val); omega) (by blk_simp [idx t])
theorem b3 (k : Fin 1024) : iblk m c 3 t (ix2 r k) = gs (args m c) (bAt t) (lAt t r) k := by
  blk_simp [iblk]
  exact e3 m c _ (bAt t) (lAt t r) ⟨2048 + k.val, by omega⟩ (by blk_simp [idx t]; show _ = t.val / 4 * 2048 + (t.val % 4 * 512 + r.val); omega) (by blk_simp [idx t])
theorem b4 (k : Fin 1024) : iblk m c 4 t (ix2 r k) = gc (args m c) (bAt t) (lAt t r) k := by
  blk_simp [iblk]
  exact e3 m c _ (bAt t) (lAt t r) ⟨3072 + k.val, by omega⟩ (by blk_simp [idx t]; show _ = t.val / 4 * 2048 + (t.val % 4 * 512 + r.val); omega) (by blk_simp [idx t])
/-- The rows before the block, where the block isn't a sequence's first. -/
theorem b5 (q : Fin 16) (k : Fin 512) (l : Fin 2048) (h : t.val % 4 * 512 + q.val = l.val + 16) :
    iblk m c 5 t (ix2 q k) = cc (args m c) (bAt t) l k := by
  blk_simp [iblk]
  exact e3 m c _ (bAt t) l ⟨1024 + k.val, by omega⟩ (by blk_simp [idx t]; show _ = t.val / 4 * 2048 + l.val; omega) (by blk_simp [idx t])
theorem b6 (q : Fin 16) (k : Fin 512) (l : Fin 2048) (h : t.val % 4 * 512 + q.val = l.val + 16) :
    iblk m c 6 t (ix2 q k) = cx (args m c) (bAt t) l k := by
  blk_simp [iblk]
  exact e3 m c _ (bAt t) l ⟨1536 + k.val, by omega⟩ (by blk_simp [idx t]; show _ = t.val / 4 * 2048 + l.val; omega) (by blk_simp [idx t])
theorem b7 (k : Fin 512) : iblk m c 7 t (ix2 r k) = (args m c).y (ix3 (bAt t) (lAt t r) k) := by
  blk_simp [iblk]
  exact e4 m c _ (bAt t) (lAt t r) k (by blk_simp [idx t]; show _ = t.val / 4 * 2048 + (t.val % 4 * 512 + r.val); omega) (by blk_simp [idx t])
theorem b8 (k : Fin 1024) : iblk m c 8 t (ix2 r k) = (args m c).dx (ix3 (bAt t) (lAt t r) k) := by
  blk_simp [iblk]
  exact e5 m c _ (bAt t) (lAt t r) k (by blk_simp [idx t]; show _ = t.val / 4 * 2048 + (t.val % 4 * 512 + r.val); omega) (by blk_simp [idx t])
theorem b9 (a d : Fin 1) (k : Fin 1024) : iblk m c 9 t (ix3 a d k) = (args m c).g1 (ix2 (bAt t) k) := by
  blk_simp [iblk]; rw [e6]; blk_ext [idx t]
theorem b10 (j k : Fin 512) : iblk m c 10 t (ix2 j k) = (args m c).wg (ix3 0 j k) := by
  blk_simp [iblk]; rw [e8]; blk_ext [idx t]
theorem b11 (a : Fin 1) (k : Fin 512) : iblk m c 11 t (ix2 a k) = (args m c).bg (ix2 0 k) := by
  show iblk m c 11 t (ix2 a k) = m ((c : Thread nD τ).loc main_arg5) (ix2 0 k)
  blk_ext [iblk, V, idx t]
theorem b12 (j : Fin 8) (g : Fin 3) (k : Fin 512) (h : j.val = g.val) : iblk m c 12 t (ix2 j k) = (args m c).cw (ix3 0 g k) := by
  blk_simp [iblk]; rw [e1 m c _ g (by blk_simp [idx t]; exact h)]; blk_ext [idx t]
theorem b13 (j : Fin 512) (k : Fin 1024) : iblk m c 13 t (ix2 j k) = (args m c).ws (ix3 0 j k) := by
  blk_simp [iblk]; rw [e10]; blk_ext [idx t]
theorem b14 (j : Fin 512) (k : Fin 1024) : iblk m c 14 t (ix2 j k) = (args m c).wc (ix3 0 j k) := by
  blk_simp [iblk]; rw [e12]; blk_ext [idx t]
theorem b15 (j k : Fin 1024) : iblk m c 15 t (ix2 j k) = (args m c).wo (ix3 0 j k) := by
  blk_simp [iblk]; rw [e14]; blk_ext [idx t]

end point

section point
variable (c : Dev nD) (t : Fin cfg0.N) (r : Fin 512)

theorem halo_at : ∀ t : Fin cfg0.N, (Scalar.cmpi .eq (Scalar.select (Scalar.andi (Scalar.xori (Scalar.cmpi .slt (Scalar.remsi (BitVec.ofNat 32 (grid0.coords t 0).val) 4#32) 0#32) 0#1) (Scalar.cmpi .ne (Scalar.remsi (BitVec.ofNat 32 (grid0.coords t 0).val) 4#32) 0#32)) (Scalar.addi (Scalar.remsi (BitVec.ofNat 32 (grid0.coords t 0).val) 4#32) 4#32) (Scalar.remsi (BitVec.ofNat 32 (grid0.coords t 0).val) 4#32)) 0#32)
    = if t.val % 4 = 0 then 1#1 else 0#1 :=
  (by decide +kernel : ∀ t : Fin grid0.N, _)

/-- A choice by a row's number. -/
theorem pick (r : Fin 512) (n : ℕ) (hn : n < 512) (a b : EReal) :
    Scalar.select (IntOp.cmpi .eq (BitVec.ofNat 32 r.val) (BitVec.ofNat 32 n)) a b = if r.val = n then a else b := by
  unfold Scalar.select
  by_cases h : r.val = n
  · rw [if_pos h, if_pos (show IntOp.cmpi .eq (BitVec.ofNat 32 r.val) (BitVec.ofNat 32 n) = 1 from (WordCmp.cmpi_eq_ofNat_eq_one_iff (w := 32) (by omega) (by omega)).2 h)]
  · rw [if_neg h, if_neg (show ¬ IntOp.cmpi .eq (BitVec.ofNat 32 r.val) (BitVec.ofNat 32 n) = 1 from fun e => h ((WordCmp.cmpi_eq_ofNat_eq_one_iff (w := 32) (by omega) (by omega)).1 e))]

/-- The values of the point, in the order it computes them. -/
abbrev kcb : FVec Ideal S512x512 .f32 := k0_pay5 (iblk m c 0 t)
abbrev kcc : FVec Ideal S512x512 .f32 := k0_pay6 (iblk m c 1 t)
abbrev kcx : FVec Ideal S512x512 .f32 := k0_pay7 (iblk m c 2 t)
abbrev kgs : FVec Ideal S512x1024 .f32 := k0_pay8 (iblk m c 3 t)
abbrev kgc : FVec Ideal S512x1024 .f32 := k0_pay9 (iblk m c 4 t)
abbrev kcw : FVec Ideal S8x512 .f32 := k0_pay10 (iblk m c 12 t)
abbrev kws : FVec Ideal S512x1024 .bf16 := k0_pay11 (iblk m c 13 t)
abbrev kwc : FVec Ideal S512x1024 .bf16 := k0_pay12 (iblk m c 14 t)
abbrev kwo : FVec Ideal S1024x1024 .bf16 := k0_pay13 (iblk m c 15 t)
abbrev khalo : FVec Ideal S16x512 .f32 := k0_pay3 (grid0.coords t) (iblk m c 5 t) (iblk m c 6 t)
abbrev kys : FVec Ideal S512x512 .f32 := k0_pay14 (k0_pay4 (iblk m c 7 t)) (iblk m c 10 t) (iblk m c 11 t)
abbrev kvv : FVec Ideal S512x512 .f32 := k0_pay15 (kcc m c t) (kcx m c t)
/-- The first two of the convolution's three terms. -/
abbrev kc2 : FVec Ideal S512x512 .f32 :=
  k0_pay1 (kcw m c t) (kvv m c t) (iota .tc S512x512 32 [0] iota_S512x512_d0_w32) (k0_pay16 (khalo m c t)) (k0_pay17 (khalo m c t)) k0_pay18
    (k0_pay19 (kcc m c t) (kcx m c t)) (k0_pay20 (khalo m c t))

theorem q_cb (k : Fin 512) : kcb m c t (ix2 r k) = cb (args m c) (bAt t) (lAt t r) k := by
  pointwise [k0_pay5]; exact b0 m c t r k
theorem q_cc (k : Fin 512) : kcc m c t (ix2 r k) = cc (args m c) (bAt t) (lAt t r) k := by
  pointwise [k0_pay6]; exact b1 m c t r k
theorem q_cx (k : Fin 512) : kcx m c t (ix2 r k) = cx (args m c) (bAt t) (lAt t r) k := by
  pointwise [k0_pay7]; exact b2 m c t r k
theorem q_gs (k : Fin 1024) : kgs m c t (ix2 r k) = gs (args m c) (bAt t) (lAt t r) k := by
  pointwise [k0_pay8]; exact b3 m c t r k
theorem q_gc (k : Fin 1024) : kgc m c t (ix2 r k) = gc (args m c) (bAt t) (lAt t r) k := by
  pointwise [k0_pay9]; exact b4 m c t r k
theorem q_ws (j : Fin 512) (k : Fin 1024) : kws m c t (ix2 j k) = (args m c).ws (ix3 0 j k) := by
  pointwise [k0_pay11]; exact b13 m c t j k
theorem q_wc (j : Fin 512) (k : Fin 1024) : kwc m c t (ix2 j k) = (args m c).wc (ix3 0 j k) := by
  pointwise [k0_pay12]; exact b14 m c t j k
theorem q_wo (j k : Fin 1024) : kwo m c t (ix2 j k) = (args m c).wo (ix3 0 j k) := by
  pointwise [k0_pay13]; exact b15 m c t j k
theorem q_cw (j : Fin 8) (g : Fin 3) (h : j.val = g.val) (k : Fin 512) : kcw m c t (ix2 j k) = (args m c).cw (ix3 0 g k) := by
  pointwise [k0_pay10]; exact b12 m c t j g k h
/-- The two factors of the rows before the block. -/
abbrev hc : FVec Ideal S16x512 .bf16 := iblk m c 5 t
abbrev hx : FVec Ideal S16x512 .bf16 := iblk m c 6 t
/-- The rows before the block: zeros before a sequence's first row. -/
theorem q_halo (q : Fin 16) (k : Fin 512) : khalo m c t (ix2 q k)
    = Scalar.select (if t.val % 4 = 0 then 1#1 else 0#1) 0 (hc m c t (ix2 q k) * hx m c t (ix2 q k)) := by
  rw [← halo_at t]
  pointwise [k0_pay3]
  rfl
theorem q_halo0 (h : t.val % 4 = 0) (q : Fin 16) (k : Fin 512) : khalo m c t (ix2 q k) = (0 : EReal) := by
  rw [q_halo, if_pos h]; rfl
theorem q_halo1 (h : t.val % 4 ≠ 0) (q : Fin 16) (k : Fin 512) (l : Fin 2048) (hl : t.val % 4 * 512 + q.val = l.val + 16) :
    khalo m c t (ix2 q k) = vv (args m c) (bAt t) l k := by
  rw [q_halo, if_neg h, show hc m c t (ix2 q k) = _ from b5 m c t q k l hl, show hx m c t (ix2 q k) = _ from b6 m c t q k l hl]; rfl
theorem q_ys (k : Fin 512) : kys m c t (ix2 r k) = ys (args m c) (bAt t) (lAt t r) k := by
  pointwise [k0_pay14, k0_pay4]
  simp only [b7 m c t, b10 m c t, b11 m c t]
  rfl
theorem q_vv (k : Fin 512) : kvv m c t (ix2 r k) = vv (args m c) (bAt t) (lAt t r) k := by
  pointwise [k0_pay15]; simp only [q_cc, q_cx]; rfl
theorem q_rot (n : Fin 512) (k : Fin 512) : kcc m c t (ix2 n k) * kcx m c t (ix2 n k) = vv (args m c) (bAt t) (lAt t n) k := by
  rw [q_cc, q_cx]; rfl
/-- The row before, as the point picks it. -/
theorem q_s1 (k : Fin 512) (h : (r.val + 512 - 1) % 512 < 512) : (if r.val = 0 then khalo m c t (ix2 15 k) else vv (args m c) (bAt t) (lAt t ⟨(r.val + 512 - 1) % 512, h⟩) k)
    = s1 (args m c) (bAt t) (lAt t r) k := by
  have ht := pts t
  unfold Mix.s1
  by_cases hr : r.val = 0
  · rw [if_pos hr]
    by_cases h : t.val % 4 = 0
    · rw [q_halo0 m c t h, dif_neg (by show ¬ 1 ≤ t.val % 4 * 512 + r.val; omega)]
    · rw [dif_pos (by show 1 ≤ t.val % 4 * 512 + r.val; omega)]
      exact q_halo1 m c t h _ k _ (by show t.val % 4 * 512 + 15 = t.val % 4 * 512 + r.val - 1 + 16; omega)
  · rw [if_neg hr, dif_pos (by show 1 ≤ t.val % 4 * 512 + r.val; omega)]
    congr 1; refine Fin.ext ?_
    show t.val % 4 * 512 + (r.val + 512 - 1) % 512 = t.val % 4 * 512 + r.val - 1; omega
/-- The row two before. -/
theorem q_s2 (k : Fin 512) (h : (r.val + 512 - 2) % 512 < 512) : (if r.val = 0 then khalo m c t (ix2 14 k) else if r.val = 1 then khalo m c t (ix2 15 k)
      else vv (args m c) (bAt t) (lAt t ⟨(r.val + 512 - 2) % 512, h⟩) k)
    = s2 (args m c) (bAt t) (lAt t r) k := by
  have ht := pts t
  unfold Mix.s2
  by_cases hr : r.val < 2
  · by_cases h : t.val % 4 = 0
    · rw [q_halo0 m c t h, q_halo0 m c t h, dif_neg (by show ¬ 2 ≤ t.val % 4 * 512 + r.val; omega)]
      split
      · rfl
      · rw [if_pos (by omega)]
    · rw [dif_pos (by show 2 ≤ t.val % 4 * 512 + r.val; omega)]
      split
      · exact q_halo1 m c t h _ k _ (by show t.val % 4 * 512 + 14 = t.val % 4 * 512 + r.val - 2 + 16; omega)
      · rw [if_pos (by omega)]
        exact q_halo1 m c t h _ k _ (by show t.val % 4 * 512 + 15 = t.val % 4 * 512 + r.val - 2 + 16; omega)
  · rw [if_neg (by omega), if_neg (by omega), dif_pos (by show 2 ≤ t.val % 4 * 512 + r.val; omega)]
    congr 1; refine Fin.ext ?_
    show t.val % 4 * 512 + (r.val + 512 - 2) % 512 = t.val % 4 * 512 + r.val - 2; omega
theorem q_c2 (k : Fin 512) : kc2 m c t (ix2 r k)
    = (args m c).cw (ix3 0 0 k) * s2 (args m c) (bAt t) (lAt t r) k + (args m c).cw (ix3 0 1 k) * s1 (args m c) (bAt t) (lAt t r) k := by
  rw [← q_s1 m c t r k (Nat.mod_lt _ (by omega)), ← q_s2 m c t r k (Nat.mod_lt _ (by omega))]
  pointwise [k0_pay1, k0_pay15, k0_pay16, k0_pay17, k0_pay18, k0_pay19, k0_pay20]
  simp only [q_rot, q_cw m c t 0 0 rfl, q_cw m c t 1 1 rfl]
  rw [pick r 0 (by omega), pick r 1 (by omega), pick r 0 (by omega)]

/-- The block that the point leaves. -/
theorem q_out (k : Fin 1024) :
    k0_pay2 (F := Ideal) (kcb m c t) (kgs m c t) (kgc m c t) (kcw m c t) (kws m c t) (kwc m c t) (kwo m c t) (kys m c t) (kvv m c t) (kc2 m c t)
      (iblk m c 8 t) (iblk m c 9 t) (ix2 r k)
    = (args m c).dx (ix3 (bAt t) (lAt t r) k) + (args m c).g1 (ix2 (bAt t) k) * mo (args m c) (bAt t) (lAt t r) k := by
  pointwise [k0_pay2]
  simp only [q_cb m c t, q_gs m c t, q_gc m c t, q_cw m c t 2 2 rfl, q_ws m c t, q_wc m c t, q_wo m c t, q_ys m c t, q_vv m c t, q_c2 m c t, b8 m c t, b9 m c t]
  rfl

end point

/-- The result array. -/
def K (c : Dev nD) : FVec Ideal S8192x1024 .f32 := fun i =>
  (args m c).dx (ix3 (bOf (i 0)) (lOf (i 0)) (i 1)) + (args m c).g1 (ix2 (bOf (i 0)) (i 1)) * mo (args m c) (bOf (i 0)) (lOf (i 0)) (i 1)

theorem final16 (c : Dev nD) : (dats m 0 c).arrAt 16 cfg0.N = K m c := by
  refine (dats m 0 c).arrAt_eq_of_covers 16 _ (by decide +kernel) fun t hf y => ?_
  have h0 : ((((cfg0.win 16).blk t).view.emb y) 0).val = t.val * 512 + (y 0).val := by blk_simp [idx t]
  have h1 : ((((cfg0.win 16).blk t).view.emb y) 1) = y 1 := Fin.ext (by blk_simp [idx t])
  unfold K
  rw [h1, show bOf ((((cfg0.win 16).blk t).view.emb y) 0) = bAt t from Fin.ext (by show _ / 2048 = _; rw [h0]; show _ = t.val / 4; have := (y 0).isLt; have : (y 0).val < 512 := this; omega),
    show lOf ((((cfg0.win 16).blk t).view.emb y) 0) = lAt t (y 0) from Fin.ext (by show _ % 2048 = _; rw [h0]; show _ = t.val % 4 * 512 + (y 0).val; have := (y 0).isLt; have : (y 0).val < 512 := this; omega)]
  clear h0 h1
  blk_simp
  rw [after0_16]
  unfold_out out0_16
  frame_out
  idx_vars y
  exact q_out m c t _ _

end Cert.Kernel7Ideal.Val

end
-- ==== Proof.MixFwdReference.lean ====
/- Call 7, the reference's side: the result read at an index, by the row functions of `MixRows`. -/
module

public import proofs.«01_k».proof.Proof.Gen.Reference7Ideal.Read
public import proofs.«01_k».proof.Proof.MixRows

@[expose] public section

set_option maxRecDepth 16384

noncomputable section

open Idealize.ShloMosaic Idealize.ShloMosaic.TcCoe Idealize.SL.Sem
open Idealize.ShloMosaic.Pipeline (Dat)

namespace Cert.Reference7Ideal.Val

open Cert.Reference7Ideal Cert.Reference7Ideal.Gen Cert.Reference7Ideal.Read Cert.Steps Cert.Steps.Mix

variable (u : Args) (b : Fin 4) (l : Fin 2048) (k : Fin 512) (i : Fin 1024) (p : Fin 2050)

theorem r_cb : val_main_v1 (F := Ideal) u.p (ix3 b l k) = cb u b l k := by
  pointwise [val_main_v1]
  rfl

theorem r_vv : val_main_v33 (F := Ideal) u.p (ix3 b l k) = vv u b l k := by
  pointwise [val_main_v2, val_main_v3, val_main_v33]
  rfl

theorem r_th : val_main_v13 (F := Ideal) u.y (ix3 b l k) = th u b l k := by
  pointwise [val_main_v6, val_main_v7, val_main_v8, val_main_v9, val_main_v10, val_main_v11, val_main_v12, val_main_v13, val_main_cst, val_main_cst_0]
  rw [EReal.mul_comm (u.y (ix3 b l k) * u.y (ix3 b l k))]; rfl

theorem r_ge : val_main_v18 (F := Ideal) u.y (ix3 b l k) = ge u b l k := by
  pointwise [val_main_v14, val_main_v15, val_main_v16, val_main_v17, val_main_v18, val_main_cst_1, val_main_cst_2]
  simp only [r_th]
  rfl

theorem r_ys : val_main_v31 (F := Ideal) u.y u.wg u.bg (ix3 b l k) = ys u b l k := by
  pointwise [val_main_v19, val_main_v20, val_main_v21, val_main_v22, val_main_v23, val_main_v24, val_main_v25, val_main_v26, val_main_v27, val_main_v28, val_main_v29, val_main_v30, val_main_v31, val_main_cst_3, val_main_cst_4]
  simp only [r_ge]
  rfl

theorem r_cat : val_main_v35 (F := Ideal) u.p (ix3 b p k) = if h : 2 ≤ p.val then vv u b ⟨p.val - 2, by omega⟩ k else 0 := by
  pointwise [val_main_cst_5, val_main_v34, val_main_v35]
  simp only [r_vv]
  by_cases h : p.val < 2
  · rw [dif_pos h, dif_neg (by omega)]
  · rw [dif_neg h, dif_pos (by omega)]

theorem r_s2 : val_main_v38 (F := Ideal) u.p (ix3 b l k) = s2 u b l k := by
  pointwise [val_main_v38]
  simp only [r_cat]
  rfl

theorem r_s1 : val_main_v44 (F := Ideal) u.p (ix3 b l k) = s1 u b l k := by
  pointwise [val_main_v44]
  simp only [r_cat]
  unfold s1
  by_cases h : 1 ≤ l.val
  · rw [dif_pos (by omega), dif_pos h]
    exact congrArg (fun x => vv u b x k) (Fin.ext (by show 1 + l.val - 2 = l.val - 1; omega))
  · rw [dif_neg (by omega), dif_neg h]

theorem r_s0 : val_main_v51 (F := Ideal) u.p (ix3 b l k) = vv u b l k := by
  pointwise [val_main_v51]
  simp only [r_cat]
  rw [dif_pos (by omega)]
  exact congrArg (fun x => vv u b x k) (Fin.ext (by show 2 + l.val - 2 = l.val; omega))

theorem r_yc : val_main_v56 (F := Ideal) u.p u.cw (ix3 b l k) = yc u b l k := by
  pointwise [val_main_v32, val_main_v36, val_main_v37, val_main_v39, val_main_v40, val_main_v41, val_main_v42, val_main_v43, val_main_v45, val_main_v46, val_main_v47, val_main_v48, val_main_v49, val_main_v50, val_main_v52, val_main_v53, val_main_v54, val_main_v55, val_main_v56]
  simp only [r_s0, r_s1, r_s2, r_cb]
  rfl

theorem r_mg : val_main_v75 (F := Ideal) u.p u.y u.wg u.bg u.cw u.ws u.wc (ix3 b l i) = mg u b l i := by
  pointwise [val_main_v4, val_main_v5, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_cst_6, val_main_cst_7, val_main_cst_8, val_main_cst_9]
  simp only [r_ys, r_yc]
  rfl

theorem out_apply (j : S8192x1024.Idx) : val_main_v82 (F := Ideal) u.p u.y u.dx u.g1 u.wg u.bg u.cw u.ws u.wc u.wo j
    = u.dx (ix3 (bOf (j 0)) (lOf (j 0)) (j 1)) + u.g1 (ix2 (bOf (j 0)) (j 1)) * mo u (bOf (j 0)) (lOf (j 0)) (j 1) := by
  pointwise [val_main_v76, val_main_v77, val_main_v78, val_main_v79, val_main_v80, val_main_v81, val_main_v82]
  simp only [r_mg]
  rfl

end Cert.Reference7Ideal.Val

end
-- ==== Proof.MixFwd.lean ====
/- Call 7: the token mixer forward, its claims. -/
module

public import proofs.«01_k».proof.Defs
public import proofs.«01_k».proof.Proof.Gen.Kernel7
public import proofs.«01_k».proof.Proof.Gen.Kernel7.Frame
public import proofs.«01_k».proof.Proof.Gen.Reference7Ideal
public import proofs.«01_k».proof.Proof.Gen.Reference7Ideal.Run
public import proofs.«01_k».proof.Proof.MixFwdKernel
public import proofs.«01_k».proof.Proof.Gen.Reference7Ideal.Read
public import proofs.«01_k».proof.Proof.MixFwdReference
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.Steps.MixFwd

theorem frame_kernel : Cert.quiescent_Kernel7 := fun m ρ _ => Cert.Kernel7.Gen.frame m ρ
theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run m ρ)

theorem value : Cert.algebraic_Kernel7Ideal_Reference7Ideal := by
  intro m g m' g' _ hagree
  refine ⟨fun c => Cert.Kernel7Ideal.Val.K m c, ?_, ?_⟩
  · exact (θ_run Cert.Kernel7Ideal.defs _ _).mono
      (fun r h c => ⟨(h c).1.trans (Cert.Kernel7Ideal.Val.final16 m c), (h c).2⟩) (Cert.Kernel7Ideal.Value.run_blocks m g)
  · refine (θ_run Cert.Reference7Ideal.defs _ _).mono (fun r h c => ?_) (Cert.Reference7Ideal.Value.run m' g')
    obtain ⟨a0, a1, a2, a3, a4, a5, a6, a7, a8, a9⟩ := hagree c
    refine ⟨(h c).1.trans ?_, (h c).2⟩
    refine (Cert.Reference7Ideal.Read.val_main_v82_eq m' c).trans ?_
    rw [a0, a1, a2, a3, a4, a5, a6, a7, a8, a9]
    exact funext fun i => Cert.Reference7Ideal.Val.out_apply (Cert.Kernel7Ideal.Val.args m c) i

end Cert.Steps.MixFwd

end
-- ==== Proof.InprojFwdKernel.lean ====
/- Call 8, the version's side: the blocks of a grid point, what it computes from them, and the result array. -/
module

public import proofs.«01_k».proof.Proof.Gen.Kernel8Ideal.Value
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.Steps

/-- A row of the modulated norm. -/
def hRow (x : A3) (sh sc : FVec Ideal ⟨2, ![4, 1024]⟩ .f32) (g : FVec Ideal ⟨2, ![1, 1024]⟩ .f32) (b : Fin 4) (l : Fin 2048) : Fin 1024 → EReal :=
  fun k => row x b l k * rowRms (row x b l) * g (ix2 0 k) * (1 + sc (ix2 b k)) + sh (ix2 b k)

end Cert.Steps

namespace Cert.Kernel8Ideal.Val

open Cert.Kernel8Ideal Cert.Kernel8Ideal.Gen Cert.Steps

variable (m : (ℓ : Loc nD τ sig) → Buf (Elt Ideal) ℓ)

abbrev aX (c : Dev nD) : A3 := m ((c : Thread nD τ).loc main_arg0)
abbrev aSh (c : Dev nD) : FVec Ideal ⟨2, ![4, 1024]⟩ .f32 := m ((c : Thread nD τ).loc main_arg1)
abbrev aSc (c : Dev nD) : FVec Ideal ⟨2, ![4, 1024]⟩ .f32 := m ((c : Thread nD τ).loc main_arg2)
abbrev aN (c : Dev nD) : FVec Ideal ⟨2, ![1, 1024]⟩ .f32 := m ((c : Thread nD τ).loc main_arg3)
abbrev aW (c : Dev nD) : FVec Ideal ⟨3, ![1, 1024, 4096]⟩ .f32 := m ((c : Thread nD τ).loc main_arg4)

theorem e0 (c : Dev nD) (i : S8192x1024.Idx) (b : Fin 4) (l : Fin 2048) (k : Fin 1024) (h0 : (i 0).val = b.val * 2048 + l.val)
    (h1 : (i 1).val = k.val) : V m c main_v0 i = aX m c (ix3 b l k) := by
  entry_read; pointwise []; refine congrArg _ ?_; blk_ext []
theorem e1 (c : Dev nD) (i : S4x1x1024.Idx) : V m c main_v1 i = aSh m c (ix2 (i 0) (i 2)) := by
  entry_read; pointwise []
theorem e2 (c : Dev nD) (i : S4x1x1024.Idx) : V m c main_v2 i = aSc m c (ix2 (i 0) (i 2)) := by
  entry_read; pointwise []
theorem e4 (c : Dev nD) (i : S1024x4096.Idx) : V m c main_v4 i = aW m c (ix3 0 (i 0) (i 1)) := by
  entry_read; pointwise []

theorem idx : ∀ t : Fin cfg0.N, win0_0.index t = ![t.val, 0] ∧ win0_1.index t = ![t.val / 2, 0, 0] ∧ win0_2.index t = ![t.val / 2, 0, 0]
    ∧ win0_3.index t = ![0, 0] ∧ win0_4.index t = ![0, 0] ∧ win0_5.index t = ![t.val, 0] ∧ t.val < 8 :=
  (by decide +kernel : ∀ t : Fin grid0.N, _)

/-- The batch and position of row `r` of the block of grid point `t`. -/
abbrev bAt (t : Fin cfg0.N) (r : Fin 1024) : Fin 4 := ⟨(t.val * 1024 + r.val) / 2048, by have := (idx t).2.2.2.2.2.2; omega⟩
abbrev lAt (t : Fin cfg0.N) (r : Fin 1024) : Fin 2048 := ⟨(t.val * 1024 + r.val) % 2048, by omega⟩

theorem ib0 (c : Dev nD) (t : Fin cfg0.N) (r : Fin 1024) (k : Fin 1024) :
    iblk m c 0 t (ix2 r k) = row (aX m c) (bAt t r) (lAt t r) k := by
  blk_simp [iblk]; rw [e0 m c _ (bAt t r) (lAt t r) k (by blk_simp [idx t]; show _ = (t.val * 1024 + r.val) / 2048 * 2048 + (t.val * 1024 + r.val) % 2048; omega) (by blk_simp [idx t])]; rfl
theorem ib1 (c : Dev nD) (t : Fin cfg0.N) (r : Fin 1024) (a b : Fin 1) (k : Fin 1024) :
    iblk m c 1 t (ix3 a b k) = aSh m c (ix2 (bAt t r) k) := by
  blk_simp [iblk]; rw [e1]; blk_ext [idx t]
theorem ib2 (c : Dev nD) (t : Fin cfg0.N) (r : Fin 1024) (a b : Fin 1) (k : Fin 1024) :
    iblk m c 2 t (ix3 a b k) = aSc m c (ix2 (bAt t r) k) := by
  blk_simp [iblk]; rw [e2]; blk_ext [idx t]
theorem ib3 (c : Dev nD) (t : Fin cfg0.N) (a : Fin 1) (k : Fin 1024) :
    iblk m c 3 t (ix2 a k) = aN m c (ix2 0 k) := by
  blk_ext [iblk, V, idx t]
theorem ib4 (c : Dev nD) (t : Fin cfg0.N) (k : Fin 1024) (j : Fin 4096) :
    iblk m c 4 t (ix2 k j) = aW m c (ix3 0 k j) := by
  blk_simp [iblk]; rw [e4]; blk_ext [idx t]

theorem p5 (c : Dev nD) (t : Fin cfg0.N) (r : Fin 1024) (j : Fin 4096) :
    k0_pay1 (F := Ideal) (iblk m c 0 t) (iblk m c 3 t) (iblk m c 2 t) (iblk m c 1 t) (iblk m c 4 t) (ix2 r j)
      = ∑ k, hRow (aX m c) (aSh m c) (aSc m c) (aN m c) (bAt t r) (lAt t r) k * aW m c (ix3 0 k j) := by
  pointwise [k0_pay1]
  simp only [ib0, ib1 m c t r, ib2 m c t r, ib3, ib4]
  unfold hRow rowRms
  rfl

/-- The result array. -/
def K (c : Dev nD) : FVec Ideal S8192x4096 .bf16 := fun i =>
  ∑ k, hRow (aX m c) (aSh m c) (aSc m c) (aN m c) (bOf (i 0)) (lOf (i 0)) k * aW m c (ix3 0 k (i 1))

theorem final5 (c : Dev nD) : (dats m 0 c).arrAt 5 cfg0.N = K m c := by
  refine (dats m 0 c).arrAt_eq_of_covers 5 _ (by decide +kernel) fun t hf y => ?_
  have h0 : ((((cfg0.win 5).blk t).view.emb y) 0).val = t.val * 1024 + (y 0).val := by blk_simp [idx t]
  have h1 : ((((cfg0.win 5).blk t).view.emb y) 1) = y 1 := Fin.ext (by blk_simp [idx t])
  unfold K
  rw [h1, show bOf ((((cfg0.win 5).blk t).view.emb y) 0) = bAt t (y 0) from Fin.ext (by show _ / 2048 = _; rw [h0]),
    show lOf ((((cfg0.win 5).blk t).view.emb y) 0) = lAt t (y 0) from Fin.ext (by show _ % 2048 = _; rw [h0])]
  clear h0 h1
  blk_simp
  rw [after0_5]
  unfold out0_5
  frame_out
  idx_vars y
  exact p5 m c t _ _

end Cert.Kernel8Ideal.Val

end
-- ==== Proof.InprojFwd.lean ====
/- Call 8: the input norm, its modulation and the input product: what the reference computes, and the claims. -/
module

public import proofs.«01_k».proof.Defs
public import proofs.«01_k».proof.Proof.Gen.Kernel8
public import proofs.«01_k».proof.Proof.Gen.Kernel8.Frame
public import proofs.«01_k».proof.Proof.Gen.Reference8Ideal
public import proofs.«01_k».proof.Proof.Gen.Reference8Ideal.Run
public import proofs.«01_k».proof.Proof.InprojFwdKernel
public import proofs.«01_k».proof.Proof.Gen.Reference8Ideal.Read
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.Reference8Ideal.Val

open Cert.Reference8Ideal Cert.Reference8Ideal.Gen Cert.Reference8Ideal.Read Cert.Steps

theorem out_apply (x : A3) (sh sc : FVec Ideal ⟨2, ![4, 1024]⟩ .f32) (g : FVec Ideal ⟨2, ![1, 1024]⟩ .f32)
    (w : FVec Ideal ⟨3, ![1, 1024, 4096]⟩ .f32) (i : S8192x4096.Idx) : val_main_v25 (F := Ideal) x sh sc g w i
    = ∑ k, hRow x sh sc g (bOf (i 0)) (lOf (i 0)) k * w (ix3 0 k (i 1)) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_cst_2, val_main_v15, val_main_v16, val_main_v17, val_main_v18, val_main_v19, val_main_v20, val_main_v21, val_main_v22, val_main_v23, val_main_v24, val_main_v25]
  rfl

end Cert.Reference8Ideal.Val

namespace Cert.Steps.InprojFwd

theorem frame_kernel : Cert.quiescent_Kernel8 := fun m ρ _ => Cert.Kernel8.Gen.frame m ρ
theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run m ρ)

theorem value : Cert.algebraic_Kernel8Ideal_Reference8Ideal := by
  intro m g m' g' _ hagree
  refine ⟨fun c => Cert.Kernel8Ideal.Val.K m c, ?_, ?_⟩
  · exact (θ_run Cert.Kernel8Ideal.defs _ _).mono
      (fun r h c => ⟨(h c).1.trans (Cert.Kernel8Ideal.Val.final5 m c), (h c).2⟩) (Cert.Kernel8Ideal.Value.run_blocks m g)
  · refine (θ_run Cert.Reference8Ideal.defs _ _).mono (fun r h c => ?_) (Cert.Reference8Ideal.Value.run m' g')
    obtain ⟨a0, a1, a2, a3, a4⟩ := hagree c
    refine ⟨(h c).1.trans ?_, (h c).2⟩
    rw [a0, a1, a2, a3, a4]
    exact (Cert.Reference8Ideal.Read.val_main_v25_eq _ _ _ _ _).trans (funext fun i => Cert.Reference8Ideal.Val.out_apply _ _ _ _ _ i)

end Cert.Steps.InprojFwd

end
-- ==== Proof.lean ====
/- The claims of all calls together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_1
public import proofs.«01_k».proof.Proof.Gen.Kernel2
public import proofs.«01_k».proof.Proof.Gen.Kernel3
public import proofs.«01_k».proof.Proof.Gen.Kernel3Ideal.Frame
public import proofs.«01_k».proof.Proof.Gen.Kernel3Ideal.Skeleton
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite_4
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Points
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Inproj
public import proofs.«01_k».proof.Proof.Mix
public import proofs.«01_k».proof.Proof.Mlp
public import proofs.«01_k».proof.Proof.Scan
public import proofs.«01_k».proof.Proof.Disc
public import proofs.«01_k».proof.Proof.Ada
public import proofs.«01_k».proof.Proof.MixFwd
public import proofs.«01_k».proof.Proof.InprojFwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.Kernel2.Gen.facts, Cert.Kernel2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Pre_finite_1.Gen.facts, Cert.Pre_finite_4.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact Cert.Steps.Inproj.frame_kernel
  · exact Cert.Steps.Inproj.frame_ideal
  · exact Cert.Steps.Inproj.frame_ideal_pre
  · exact Cert.Steps.Inproj.frame_reference
  · exact Cert.Steps.Inproj.frame_reference_pre
  · exact Cert.Steps.Scan.frame_kernel
  · exact Cert.Steps.Scan.frame_ideal
  · exact Cert.Steps.Mix.frame_kernel
  · exact Cert.Steps.Mix.frame_ideal
  · exact Cert.Steps.Mix.frame_reference
  · exact Cert.Steps.Mlp.frame_kernel
  · exact Cert.Steps.Mlp.frame_ideal
  · exact Cert.Steps.Mlp.frame_ideal_pre
  · exact Cert.Steps.Mlp.frame_reference
  · exact Cert.Steps.Mlp.frame_reference_pre
  · exact Cert.Steps.Disc.frame_kernel
  · exact Cert.Steps.Disc.frame_ideal
  · exact Cert.Steps.Disc.frame_reference
  · exact Cert.Steps.Ada.frame_kernel
  · exact Cert.Steps.Ada.frame_ideal
  · exact Cert.Steps.Ada.frame_reference
  · exact Cert.Steps.MixFwd.frame_kernel
  · exact Cert.Steps.MixFwd.frame_ideal
  · exact Cert.Steps.MixFwd.frame_reference
  · exact Cert.Steps.InprojFwd.frame_kernel
  · exact Cert.Steps.InprojFwd.frame_ideal
  · exact Cert.Steps.InprojFwd.frame_reference
  · trivial
  · exact Cert.Steps.Inproj.value
  · trivial
  · trivial
  · exact Cert.Steps.Mix.value
  · trivial
  · exact Cert.Steps.Mlp.value
  · trivial
  · exact Cert.Steps.Disc.value
  · trivial
  · exact Cert.Steps.Ada.value
  · trivial
  · exact Cert.Steps.MixFwd.value
  · trivial
  · exact Cert.Steps.InprojFwd.value⟩

end Cert.Proof

end
